-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))).1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))).2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))).2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))).2.2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))).2.2.2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))).2.2.2.2.2 = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2 = (fun _ => 1#1)

def Pre_CombineCtx (m : (ℓ : Loc Cert.CombineCtx.nD Cert.CombineCtx.τ Cert.CombineCtx.sig) → Buf (Elt Bits) ℓ) : Prop :=
  True

def Pre_CombineCtxIdeal (m : (ℓ : Loc Cert.CombineCtxIdeal.nD Cert.CombineCtxIdeal.τ Cert.CombineCtxIdeal.sig) → Buf (Elt Ideal) ℓ) : Prop :=
  True

def Pre_FinalCtxIdeal (m : (ℓ : Loc Cert.FinalCtxIdeal.nD Cert.FinalCtxIdeal.τ Cert.FinalCtxIdeal.sig) → Buf (Elt Ideal) ℓ) : Prop :=
  True

def Pre_CombineLat (m : (ℓ : Loc Cert.CombineLat.nD Cert.CombineLat.τ Cert.CombineLat.sig) → Buf (Elt Bits) ℓ) : Prop :=
  True

def Pre_CombineLatIdeal (m : (ℓ : Loc Cert.CombineLatIdeal.nD Cert.CombineLatIdeal.τ Cert.CombineLatIdeal.sig) → Buf (Elt Ideal) ℓ) : Prop :=
  True

def Pre_FinalLatIdeal (m : (ℓ : Loc Cert.FinalLatIdeal.nD Cert.FinalLatIdeal.τ Cert.FinalLatIdeal.sig) → Buf (Elt Ideal) ℓ) : Prop :=
  True

def Pre_CombineMid (m : (ℓ : Loc Cert.CombineMid.nD Cert.CombineMid.τ Cert.CombineMid.sig) → Buf (Elt Bits) ℓ) : Prop :=
  True

def Pre_CombineMidIdeal (m : (ℓ : Loc Cert.CombineMidIdeal.nD Cert.CombineMidIdeal.τ Cert.CombineMidIdeal.sig) → Buf (Elt Ideal) ℓ) : Prop :=
  True

def Pre_MidIdeal (m : (ℓ : Loc Cert.MidIdeal.nD Cert.MidIdeal.τ Cert.MidIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ChunksIdeal (m : (ℓ : Loc Cert.ChunksIdeal.nD Cert.ChunksIdeal.τ Cert.ChunksIdeal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_CombineCtx [hCombineCtx : Cert.CombineCtx.Facts] : Prop :=
  ∀ (m : (ℓ : Loc Cert.CombineCtx.nD Cert.CombineCtx.τ Cert.CombineCtx.sig) → Buf (Elt Bits) ℓ) (g : Dev Cert.CombineCtx.nD → PrngReg), Pre_CombineCtx m →
    θ_run (Cert.CombineCtx.defs (F := Bits)) (onTc (τ := Cert.CombineCtx.τ) (Cert.CombineCtx.main (F := Bits))) ⟨m, fun _ => 0, g⟩ (fun r => (∀ c : Dev Cert.CombineCtx.nD,
      r.2.mem ((c.tc : Thread Cert.CombineCtx.nD Cert.CombineCtx.τ).loc Cert.CombineCtx.main_arg0) = m ((c.tc : Thread Cert.CombineCtx.nD Cert.CombineCtx.τ).loc Cert.CombineCtx.main_arg0)
      ∧ r.2.mem ((c.tc : Thread Cert.CombineCtx.nD Cert.CombineCtx.τ).loc Cert.CombineCtx.main_arg1) = m ((c.tc : Thread Cert.CombineCtx.nD Cert.CombineCtx.τ).loc Cert.CombineCtx.main_arg1)
      ∧ r.2.mem ((c.tc : Thread Cert.CombineCtx.nD Cert.CombineCtx.τ).loc Cert.CombineCtx.main_arg2) = m ((c.tc : Thread Cert.CombineCtx.nD Cert.CombineCtx.τ).loc Cert.CombineCtx.main_arg2)
      ∧ r.2.mem ((c.tc : Thread Cert.CombineCtx.nD Cert.CombineCtx.τ).loc Cert.CombineCtx.main_arg3) = m ((c.tc : Thread Cert.CombineCtx.nD Cert.CombineCtx.τ).loc Cert.CombineCtx.main_arg3)
      ∧ r.2.mem ((c.tc : Thread Cert.CombineCtx.nD Cert.CombineCtx.τ).loc Cert.CombineCtx.main_arg4) = m ((c.tc : Thread Cert.CombineCtx.nD Cert.CombineCtx.τ).loc Cert.CombineCtx.main_arg4))
      ∧ r.2.sem = fun _ => 0)

def quiescent_CombineCtxIdeal [hCombineCtxIdeal : Cert.CombineCtxIdeal.Facts] : Prop :=
  ∀ (m : (ℓ : Loc Cert.CombineCtxIdeal.nD Cert.CombineCtxIdeal.τ Cert.CombineCtxIdeal.sig) → Buf (Elt Ideal) ℓ) (g : Dev Cert.CombineCtxIdeal.nD → PrngReg), Pre_CombineCtxIdeal m →
    θ_run (Cert.CombineCtxIdeal.defs (F := Ideal)) (onTc (τ := Cert.CombineCtxIdeal.τ) (Cert.CombineCtxIdeal.main (F := Ideal))) ⟨m, fun _ => 0, g⟩ (fun r => (∀ c : Dev Cert.CombineCtxIdeal.nD,
      r.2.mem ((c.tc : Thread Cert.CombineCtxIdeal.nD Cert.CombineCtxIdeal.τ).loc Cert.CombineCtxIdeal.main_arg0) = m ((c.tc : Thread Cert.CombineCtxIdeal.nD Cert.CombineCtxIdeal.τ).loc Cert.CombineCtxIdeal.main_arg0)
      ∧ r.2.mem ((c.tc : Thread Cert.CombineCtxIdeal.nD Cert.CombineCtxIdeal.τ).loc Cert.CombineCtxIdeal.main_arg1) = m ((c.tc : Thread Cert.CombineCtxIdeal.nD Cert.CombineCtxIdeal.τ).loc Cert.CombineCtxIdeal.main_arg1)
      ∧ r.2.mem ((c.tc : Thread Cert.CombineCtxIdeal.nD Cert.CombineCtxIdeal.τ).loc Cert.CombineCtxIdeal.main_arg2) = m ((c.tc : Thread Cert.CombineCtxIdeal.nD Cert.CombineCtxIdeal.τ).loc Cert.CombineCtxIdeal.main_arg2)
      ∧ r.2.mem ((c.tc : Thread Cert.CombineCtxIdeal.nD Cert.CombineCtxIdeal.τ).loc Cert.CombineCtxIdeal.main_arg3) = m ((c.tc : Thread Cert.CombineCtxIdeal.nD Cert.CombineCtxIdeal.τ).loc Cert.CombineCtxIdeal.main_arg3)
      ∧ r.2.mem ((c.tc : Thread Cert.CombineCtxIdeal.nD Cert.CombineCtxIdeal.τ).loc Cert.CombineCtxIdeal.main_arg4) = m ((c.tc : Thread Cert.CombineCtxIdeal.nD Cert.CombineCtxIdeal.τ).loc Cert.CombineCtxIdeal.main_arg4))
      ∧ r.2.sem = fun _ => 0)

def quiescent_FinalCtxIdeal [hFinalCtxIdeal : Cert.FinalCtxIdeal.Facts] : Prop :=
  ∀ (m : (ℓ : Loc Cert.FinalCtxIdeal.nD Cert.FinalCtxIdeal.τ Cert.FinalCtxIdeal.sig) → Buf (Elt Ideal) ℓ) (g : Dev Cert.FinalCtxIdeal.nD → PrngReg), Pre_FinalCtxIdeal m →
    θ_run (Cert.FinalCtxIdeal.defs (F := Ideal)) (onTc (τ := Cert.FinalCtxIdeal.τ) (Cert.FinalCtxIdeal.main (F := Ideal))) ⟨m, fun _ => 0, g⟩ (fun r => (∀ c : Dev Cert.FinalCtxIdeal.nD,
      r.2.mem ((c.tc : Thread Cert.FinalCtxIdeal.nD Cert.FinalCtxIdeal.τ).loc Cert.FinalCtxIdeal.main_arg0) = m ((c.tc : Thread Cert.FinalCtxIdeal.nD Cert.FinalCtxIdeal.τ).loc Cert.FinalCtxIdeal.main_arg0)
      ∧ r.2.mem ((c.tc : Thread Cert.FinalCtxIdeal.nD Cert.FinalCtxIdeal.τ).loc Cert.FinalCtxIdeal.main_arg1) = m ((c.tc : Thread Cert.FinalCtxIdeal.nD Cert.FinalCtxIdeal.τ).loc Cert.FinalCtxIdeal.main_arg1)
      ∧ r.2.mem ((c.tc : Thread Cert.FinalCtxIdeal.nD Cert.FinalCtxIdeal.τ).loc Cert.FinalCtxIdeal.main_arg2) = m ((c.tc : Thread Cert.FinalCtxIdeal.nD Cert.FinalCtxIdeal.τ).loc Cert.FinalCtxIdeal.main_arg2)
      ∧ r.2.mem ((c.tc : Thread Cert.FinalCtxIdeal.nD Cert.FinalCtxIdeal.τ).loc Cert.FinalCtxIdeal.main_arg3) = m ((c.tc : Thread Cert.FinalCtxIdeal.nD Cert.FinalCtxIdeal.τ).loc Cert.FinalCtxIdeal.main_arg3)
      ∧ r.2.mem ((c.tc : Thread Cert.FinalCtxIdeal.nD Cert.FinalCtxIdeal.τ).loc Cert.FinalCtxIdeal.main_arg4) = m ((c.tc : Thread Cert.FinalCtxIdeal.nD Cert.FinalCtxIdeal.τ).loc Cert.FinalCtxIdeal.main_arg4))
      ∧ r.2.sem = fun _ => 0)

def quiescent_CombineLat [hCombineLat : Cert.CombineLat.Facts] : Prop :=
  ∀ (m : (ℓ : Loc Cert.CombineLat.nD Cert.CombineLat.τ Cert.CombineLat.sig) → Buf (Elt Bits) ℓ) (g : Dev Cert.CombineLat.nD → PrngReg), Pre_CombineLat m →
    θ_run (Cert.CombineLat.defs (F := Bits)) (onTc (τ := Cert.CombineLat.τ) (Cert.CombineLat.main (F := Bits))) ⟨m, fun _ => 0, g⟩ (fun r => (∀ c : Dev Cert.CombineLat.nD,
      r.2.mem ((c.tc : Thread Cert.CombineLat.nD Cert.CombineLat.τ).loc Cert.CombineLat.main_arg0) = m ((c.tc : Thread Cert.CombineLat.nD Cert.CombineLat.τ).loc Cert.CombineLat.main_arg0)
      ∧ r.2.mem ((c.tc : Thread Cert.CombineLat.nD Cert.CombineLat.τ).loc Cert.CombineLat.main_arg1) = m ((c.tc : Thread Cert.CombineLat.nD Cert.CombineLat.τ).loc Cert.CombineLat.main_arg1)
      ∧ r.2.mem ((c.tc : Thread Cert.CombineLat.nD Cert.CombineLat.τ).loc Cert.CombineLat.main_arg2) = m ((c.tc : Thread Cert.CombineLat.nD Cert.CombineLat.τ).loc Cert.CombineLat.main_arg2)
      ∧ r.2.mem ((c.tc : Thread Cert.CombineLat.nD Cert.CombineLat.τ).loc Cert.CombineLat.main_arg3) = m ((c.tc : Thread Cert.CombineLat.nD Cert.CombineLat.τ).loc Cert.CombineLat.main_arg3)
      ∧ r.2.mem ((c.tc : Thread Cert.CombineLat.nD Cert.CombineLat.τ).loc Cert.CombineLat.main_arg4) = m ((c.tc : Thread Cert.CombineLat.nD Cert.CombineLat.τ).loc Cert.CombineLat.main_arg4))
      ∧ r.2.sem = fun _ => 0)

def quiescent_CombineLatIdeal [hCombineLatIdeal : Cert.CombineLatIdeal.Facts] : Prop :=
  ∀ (m : (ℓ : Loc Cert.CombineLatIdeal.nD Cert.CombineLatIdeal.τ Cert.CombineLatIdeal.sig) → Buf (Elt Ideal) ℓ) (g : Dev Cert.CombineLatIdeal.nD → PrngReg), Pre_CombineLatIdeal m →
    θ_run (Cert.CombineLatIdeal.defs (F := Ideal)) (onTc (τ := Cert.CombineLatIdeal.τ) (Cert.CombineLatIdeal.main (F := Ideal))) ⟨m, fun _ => 0, g⟩ (fun r => (∀ c : Dev Cert.CombineLatIdeal.nD,
      r.2.mem ((c.tc : Thread Cert.CombineLatIdeal.nD Cert.CombineLatIdeal.τ).loc Cert.CombineLatIdeal.main_arg0) = m ((c.tc : Thread Cert.CombineLatIdeal.nD Cert.CombineLatIdeal.τ).loc Cert.CombineLatIdeal.main_arg0)
      ∧ r.2.mem ((c.tc : Thread Cert.CombineLatIdeal.nD Cert.CombineLatIdeal.τ).loc Cert.CombineLatIdeal.main_arg1) = m ((c.tc : Thread Cert.CombineLatIdeal.nD Cert.CombineLatIdeal.τ).loc Cert.CombineLatIdeal.main_arg1)
      ∧ r.2.mem ((c.tc : Thread Cert.CombineLatIdeal.nD Cert.CombineLatIdeal.τ).loc Cert.CombineLatIdeal.main_arg2) = m ((c.tc : Thread Cert.CombineLatIdeal.nD Cert.CombineLatIdeal.τ).loc Cert.CombineLatIdeal.main_arg2)
      ∧ r.2.mem ((c.tc : Thread Cert.CombineLatIdeal.nD Cert.CombineLatIdeal.τ).loc Cert.CombineLatIdeal.main_arg3) = m ((c.tc : Thread Cert.CombineLatIdeal.nD Cert.CombineLatIdeal.τ).loc Cert.CombineLatIdeal.main_arg3)
      ∧ r.2.mem ((c.tc : Thread Cert.CombineLatIdeal.nD Cert.CombineLatIdeal.τ).loc Cert.CombineLatIdeal.main_arg4) = m ((c.tc : Thread Cert.CombineLatIdeal.nD Cert.CombineLatIdeal.τ).loc Cert.CombineLatIdeal.main_arg4))
      ∧ r.2.sem = fun _ => 0)

def quiescent_FinalLatIdeal [hFinalLatIdeal : Cert.FinalLatIdeal.Facts] : Prop :=
  ∀ (m : (ℓ : Loc Cert.FinalLatIdeal.nD Cert.FinalLatIdeal.τ Cert.FinalLatIdeal.sig) → Buf (Elt Ideal) ℓ) (g : Dev Cert.FinalLatIdeal.nD → PrngReg), Pre_FinalLatIdeal m →
    θ_run (Cert.FinalLatIdeal.defs (F := Ideal)) (onTc (τ := Cert.FinalLatIdeal.τ) (Cert.FinalLatIdeal.main (F := Ideal))) ⟨m, fun _ => 0, g⟩ (fun r => (∀ c : Dev Cert.FinalLatIdeal.nD,
      r.2.mem ((c.tc : Thread Cert.FinalLatIdeal.nD Cert.FinalLatIdeal.τ).loc Cert.FinalLatIdeal.main_arg0) = m ((c.tc : Thread Cert.FinalLatIdeal.nD Cert.FinalLatIdeal.τ).loc Cert.FinalLatIdeal.main_arg0)
      ∧ r.2.mem ((c.tc : Thread Cert.FinalLatIdeal.nD Cert.FinalLatIdeal.τ).loc Cert.FinalLatIdeal.main_arg1) = m ((c.tc : Thread Cert.FinalLatIdeal.nD Cert.FinalLatIdeal.τ).loc Cert.FinalLatIdeal.main_arg1)
      ∧ r.2.mem ((c.tc : Thread Cert.FinalLatIdeal.nD Cert.FinalLatIdeal.τ).loc Cert.FinalLatIdeal.main_arg2) = m ((c.tc : Thread Cert.FinalLatIdeal.nD Cert.FinalLatIdeal.τ).loc Cert.FinalLatIdeal.main_arg2)
      ∧ r.2.mem ((c.tc : Thread Cert.FinalLatIdeal.nD Cert.FinalLatIdeal.τ).loc Cert.FinalLatIdeal.main_arg3) = m ((c.tc : Thread Cert.FinalLatIdeal.nD Cert.FinalLatIdeal.τ).loc Cert.FinalLatIdeal.main_arg3)
      ∧ r.2.mem ((c.tc : Thread Cert.FinalLatIdeal.nD Cert.FinalLatIdeal.τ).loc Cert.FinalLatIdeal.main_arg4) = m ((c.tc : Thread Cert.FinalLatIdeal.nD Cert.FinalLatIdeal.τ).loc Cert.FinalLatIdeal.main_arg4))
      ∧ r.2.sem = fun _ => 0)

def quiescent_CombineMid [hCombineMid : Cert.CombineMid.Facts] : Prop :=
  ∀ (m : (ℓ : Loc Cert.CombineMid.nD Cert.CombineMid.τ Cert.CombineMid.sig) → Buf (Elt Bits) ℓ) (g : Dev Cert.CombineMid.nD → PrngReg), Pre_CombineMid m →
    θ_run (Cert.CombineMid.defs (F := Bits)) (onTc (τ := Cert.CombineMid.τ) (Cert.CombineMid.main (F := Bits))) ⟨m, fun _ => 0, g⟩ (fun r => (∀ c : Dev Cert.CombineMid.nD,
      r.2.mem ((c.tc : Thread Cert.CombineMid.nD Cert.CombineMid.τ).loc Cert.CombineMid.main_arg0) = m ((c.tc : Thread Cert.CombineMid.nD Cert.CombineMid.τ).loc Cert.CombineMid.main_arg0)
      ∧ r.2.mem ((c.tc : Thread Cert.CombineMid.nD Cert.CombineMid.τ).loc Cert.CombineMid.main_arg1) = m ((c.tc : Thread Cert.CombineMid.nD Cert.CombineMid.τ).loc Cert.CombineMid.main_arg1)
      ∧ r.2.mem ((c.tc : Thread Cert.CombineMid.nD Cert.CombineMid.τ).loc Cert.CombineMid.main_arg2) = m ((c.tc : Thread Cert.CombineMid.nD Cert.CombineMid.τ).loc Cert.CombineMid.main_arg2)
      ∧ r.2.mem ((c.tc : Thread Cert.CombineMid.nD Cert.CombineMid.τ).loc Cert.CombineMid.main_arg3) = m ((c.tc : Thread Cert.CombineMid.nD Cert.CombineMid.τ).loc Cert.CombineMid.main_arg3))
      ∧ r.2.sem = fun _ => 0)

def quiescent_CombineMidIdeal [hCombineMidIdeal : Cert.CombineMidIdeal.Facts] : Prop :=
  ∀ (m : (ℓ : Loc Cert.CombineMidIdeal.nD Cert.CombineMidIdeal.τ Cert.CombineMidIdeal.sig) → Buf (Elt Ideal) ℓ) (g : Dev Cert.CombineMidIdeal.nD → PrngReg), Pre_CombineMidIdeal m →
    θ_run (Cert.CombineMidIdeal.defs (F := Ideal)) (onTc (τ := Cert.CombineMidIdeal.τ) (Cert.CombineMidIdeal.main (F := Ideal))) ⟨m, fun _ => 0, g⟩ (fun r => (∀ c : Dev Cert.CombineMidIdeal.nD,
      r.2.mem ((c.tc : Thread Cert.CombineMidIdeal.nD Cert.CombineMidIdeal.τ).loc Cert.CombineMidIdeal.main_arg0) = m ((c.tc : Thread Cert.CombineMidIdeal.nD Cert.CombineMidIdeal.τ).loc Cert.CombineMidIdeal.main_arg0)
      ∧ r.2.mem ((c.tc : Thread Cert.CombineMidIdeal.nD Cert.CombineMidIdeal.τ).loc Cert.CombineMidIdeal.main_arg1) = m ((c.tc : Thread Cert.CombineMidIdeal.nD Cert.CombineMidIdeal.τ).loc Cert.CombineMidIdeal.main_arg1)
      ∧ r.2.mem ((c.tc : Thread Cert.CombineMidIdeal.nD Cert.CombineMidIdeal.τ).loc Cert.CombineMidIdeal.main_arg2) = m ((c.tc : Thread Cert.CombineMidIdeal.nD Cert.CombineMidIdeal.τ).loc Cert.CombineMidIdeal.main_arg2)
      ∧ r.2.mem ((c.tc : Thread Cert.CombineMidIdeal.nD Cert.CombineMidIdeal.τ).loc Cert.CombineMidIdeal.main_arg3) = m ((c.tc : Thread Cert.CombineMidIdeal.nD Cert.CombineMidIdeal.τ).loc Cert.CombineMidIdeal.main_arg3))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2)
      ∧ r.2.mem ((c.tc : Thread Cert.Modulation.nD Cert.Modulation.τ).loc Cert.Modulation.main_arg3) = m ((c.tc : Thread Cert.Modulation.nD Cert.Modulation.τ).loc Cert.Modulation.main_arg3))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
      ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ r.2.sem = fun _ => 0)

def quiescent_ChunksIdeal [hChunksIdeal : Cert.ChunksIdeal.Facts] : Prop :=
  ∀ (m : (ℓ : Loc Cert.ChunksIdeal.nD Cert.ChunksIdeal.τ Cert.ChunksIdeal.sig) → Buf (Elt Ideal) ℓ) (g : Dev Cert.ChunksIdeal.nD → PrngReg), Pre_ChunksIdeal m →
    θ_run (Cert.ChunksIdeal.defs (F := Ideal)) (onTc (τ := Cert.ChunksIdeal.τ) (Cert.ChunksIdeal.main (F := Ideal))) ⟨m, fun _ => 0, g⟩ (fun r => (∀ c : Dev Cert.ChunksIdeal.nD,
      r.2.mem ((c.tc : Thread Cert.ChunksIdeal.nD Cert.ChunksIdeal.τ).loc Cert.ChunksIdeal.main_arg0) = m ((c.tc : Thread Cert.ChunksIdeal.nD Cert.ChunksIdeal.τ).loc Cert.ChunksIdeal.main_arg0)
      ∧ r.2.mem ((c.tc : Thread Cert.ChunksIdeal.nD Cert.ChunksIdeal.τ).loc Cert.ChunksIdeal.main_arg1) = m ((c.tc : Thread Cert.ChunksIdeal.nD Cert.ChunksIdeal.τ).loc Cert.ChunksIdeal.main_arg1)
      ∧ r.2.mem ((c.tc : Thread Cert.ChunksIdeal.nD Cert.ChunksIdeal.τ).loc Cert.ChunksIdeal.main_arg2) = m ((c.tc : Thread Cert.ChunksIdeal.nD Cert.ChunksIdeal.τ).loc Cert.ChunksIdeal.main_arg2)
      ∧ r.2.mem ((c.tc : Thread Cert.ChunksIdeal.nD Cert.ChunksIdeal.τ).loc Cert.ChunksIdeal.main_arg3) = m ((c.tc : Thread Cert.ChunksIdeal.nD Cert.ChunksIdeal.τ).loc Cert.ChunksIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_CombineCtx_CombineCtxIdeal : Prop :=
  True

def algebraic_CombineCtxIdeal_FinalCtxIdeal [hCombineCtxIdeal : Cert.CombineCtxIdeal.Facts] [hFinalCtxIdeal : Cert.FinalCtxIdeal.Facts] : Prop :=
  ∀ (m : (ℓ : Loc Cert.CombineCtxIdeal.nD Cert.CombineCtxIdeal.τ Cert.CombineCtxIdeal.sig) → Buf (Elt Ideal) ℓ) (g : Dev Cert.CombineCtxIdeal.nD → PrngReg)
    (m' : (ℓ : Loc Cert.FinalCtxIdeal.nD Cert.FinalCtxIdeal.τ Cert.FinalCtxIdeal.sig) → Buf (Elt Ideal) ℓ) (g' : Dev Cert.FinalCtxIdeal.nD → PrngReg), Pre_CombineCtxIdeal m →
    (∀ c : Dev Cert.CombineCtxIdeal.nD,
      m' ((c.tc : Thread Cert.FinalCtxIdeal.nD Cert.FinalCtxIdeal.τ).loc Cert.FinalCtxIdeal.main_arg0) = m ((c.tc : Thread Cert.CombineCtxIdeal.nD Cert.CombineCtxIdeal.τ).loc Cert.CombineCtxIdeal.main_arg0)
      ∧ m' ((c.tc : Thread Cert.FinalCtxIdeal.nD Cert.FinalCtxIdeal.τ).loc Cert.FinalCtxIdeal.main_arg1) = m ((c.tc : Thread Cert.CombineCtxIdeal.nD Cert.CombineCtxIdeal.τ).loc Cert.CombineCtxIdeal.main_arg1)
      ∧ m' ((c.tc : Thread Cert.FinalCtxIdeal.nD Cert.FinalCtxIdeal.τ).loc Cert.FinalCtxIdeal.main_arg2) = m ((c.tc : Thread Cert.CombineCtxIdeal.nD Cert.CombineCtxIdeal.τ).loc Cert.CombineCtxIdeal.main_arg2)
      ∧ m' ((c.tc : Thread Cert.FinalCtxIdeal.nD Cert.FinalCtxIdeal.τ).loc Cert.FinalCtxIdeal.main_arg3) = m ((c.tc : Thread Cert.CombineCtxIdeal.nD Cert.CombineCtxIdeal.τ).loc Cert.CombineCtxIdeal.main_arg3)
      ∧ m' ((c.tc : Thread Cert.FinalCtxIdeal.nD Cert.FinalCtxIdeal.τ).loc Cert.FinalCtxIdeal.main_arg4) = m ((c.tc : Thread Cert.CombineCtxIdeal.nD Cert.CombineCtxIdeal.τ).loc Cert.CombineCtxIdeal.main_arg4)) →
    ∃ (v0 : (c : Dev Cert.CombineCtxIdeal.nD) → Buf (Elt Ideal) ((c.tc : Thread Cert.CombineCtxIdeal.nD Cert.CombineCtxIdeal.τ).loc Cert.CombineCtxIdeal.main_v3)),
      θ_run (Cert.CombineCtxIdeal.defs (F := Ideal)) (onTc (τ := Cert.CombineCtxIdeal.τ) (Cert.CombineCtxIdeal.main (F := Ideal))) ⟨m, fun _ => 0, g⟩ (fun r => ∀ c : Dev Cert.CombineCtxIdeal.nD,
          r.2.mem ((c.tc : Thread Cert.CombineCtxIdeal.nD Cert.CombineCtxIdeal.τ).loc Cert.CombineCtxIdeal.main_v3) = v0 c
          ∧ r.2.mem ((c.tc : Thread Cert.CombineCtxIdeal.nD Cert.CombineCtxIdeal.τ).loc Cert.CombineCtxIdeal.main_arg0) = m ((c.tc : Thread Cert.CombineCtxIdeal.nD Cert.CombineCtxIdeal.τ).loc Cert.CombineCtxIdeal.main_arg0)
          ∧ r.2.mem ((c.tc : Thread Cert.CombineCtxIdeal.nD Cert.CombineCtxIdeal.τ).loc Cert.CombineCtxIdeal.main_arg1) = m ((c.tc : Thread Cert.CombineCtxIdeal.nD Cert.CombineCtxIdeal.τ).loc Cert.CombineCtxIdeal.main_arg1)
          ∧ r.2.mem ((c.tc : Thread Cert.CombineCtxIdeal.nD Cert.CombineCtxIdeal.τ).loc Cert.CombineCtxIdeal.main_arg2) = m ((c.tc : Thread Cert.CombineCtxIdeal.nD Cert.CombineCtxIdeal.τ).loc Cert.CombineCtxIdeal.main_arg2)
          ∧ r.2.mem ((c.tc : Thread Cert.CombineCtxIdeal.nD Cert.CombineCtxIdeal.τ).loc Cert.CombineCtxIdeal.main_arg3) = m ((c.tc : Thread Cert.CombineCtxIdeal.nD Cert.CombineCtxIdeal.τ).loc Cert.CombineCtxIdeal.main_arg3)
          ∧ r.2.mem ((c.tc : Thread Cert.CombineCtxIdeal.nD Cert.CombineCtxIdeal.τ).loc Cert.CombineCtxIdeal.main_arg4) = m ((c.tc : Thread Cert.CombineCtxIdeal.nD Cert.CombineCtxIdeal.τ).loc Cert.CombineCtxIdeal.main_arg4))
      ∧ θ_run (Cert.FinalCtxIdeal.defs (F := Ideal)) (onTc (τ := Cert.FinalCtxIdeal.τ) (Cert.FinalCtxIdeal.main (F := Ideal))) ⟨m', fun _ => 0, g'⟩ (fun r => ∀ c : Dev Cert.FinalCtxIdeal.nD,
          r.2.mem ((c.tc : Thread Cert.FinalCtxIdeal.nD Cert.FinalCtxIdeal.τ).loc Cert.FinalCtxIdeal.main_v26) = v0 c
          ∧ r.2.mem ((c.tc : Thread Cert.FinalCtxIdeal.nD Cert.FinalCtxIdeal.τ).loc Cert.FinalCtxIdeal.main_arg0) = m' ((c.tc : Thread Cert.FinalCtxIdeal.nD Cert.FinalCtxIdeal.τ).loc Cert.FinalCtxIdeal.main_arg0)
          ∧ r.2.mem ((c.tc : Thread Cert.FinalCtxIdeal.nD Cert.FinalCtxIdeal.τ).loc Cert.FinalCtxIdeal.main_arg1) = m' ((c.tc : Thread Cert.FinalCtxIdeal.nD Cert.FinalCtxIdeal.τ).loc Cert.FinalCtxIdeal.main_arg1)
          ∧ r.2.mem ((c.tc : Thread Cert.FinalCtxIdeal.nD Cert.FinalCtxIdeal.τ).loc Cert.FinalCtxIdeal.main_arg2) = m' ((c.tc : Thread Cert.FinalCtxIdeal.nD Cert.FinalCtxIdeal.τ).loc Cert.FinalCtxIdeal.main_arg2)
          ∧ r.2.mem ((c.tc : Thread Cert.FinalCtxIdeal.nD Cert.FinalCtxIdeal.τ).loc Cert.FinalCtxIdeal.main_arg3) = m' ((c.tc : Thread Cert.FinalCtxIdeal.nD Cert.FinalCtxIdeal.τ).loc Cert.FinalCtxIdeal.main_arg3)
          ∧ r.2.mem ((c.tc : Thread Cert.FinalCtxIdeal.nD Cert.FinalCtxIdeal.τ).loc Cert.FinalCtxIdeal.main_arg4) = m' ((c.tc : Thread Cert.FinalCtxIdeal.nD Cert.FinalCtxIdeal.τ).loc Cert.FinalCtxIdeal.main_arg4))

def preserves_CombineLat_CombineLatIdeal : Prop :=
  True

def algebraic_CombineLatIdeal_FinalLatIdeal [hCombineLatIdeal : Cert.CombineLatIdeal.Facts] [hFinalLatIdeal : Cert.FinalLatIdeal.Facts] : Prop :=
  ∀ (m : (ℓ : Loc Cert.CombineLatIdeal.nD Cert.CombineLatIdeal.τ Cert.CombineLatIdeal.sig) → Buf (Elt Ideal) ℓ) (g : Dev Cert.CombineLatIdeal.nD → PrngReg)
    (m' : (ℓ : Loc Cert.FinalLatIdeal.nD Cert.FinalLatIdeal.τ Cert.FinalLatIdeal.sig) → Buf (Elt Ideal) ℓ) (g' : Dev Cert.FinalLatIdeal.nD → PrngReg), Pre_CombineLatIdeal m →
    (∀ c : Dev Cert.CombineLatIdeal.nD,
      m' ((c.tc : Thread Cert.FinalLatIdeal.nD Cert.FinalLatIdeal.τ).loc Cert.FinalLatIdeal.main_arg0) = m ((c.tc : Thread Cert.CombineLatIdeal.nD Cert.CombineLatIdeal.τ).loc Cert.CombineLatIdeal.main_arg0)
      ∧ m' ((c.tc : Thread Cert.FinalLatIdeal.nD Cert.FinalLatIdeal.τ).loc Cert.FinalLatIdeal.main_arg1) = m ((c.tc : Thread Cert.CombineLatIdeal.nD Cert.CombineLatIdeal.τ).loc Cert.CombineLatIdeal.main_arg1)
      ∧ m' ((c.tc : Thread Cert.FinalLatIdeal.nD Cert.FinalLatIdeal.τ).loc Cert.FinalLatIdeal.main_arg2) = m ((c.tc : Thread Cert.CombineLatIdeal.nD Cert.CombineLatIdeal.τ).loc Cert.CombineLatIdeal.main_arg2)
      ∧ m' ((c.tc : Thread Cert.FinalLatIdeal.nD Cert.FinalLatIdeal.τ).loc Cert.FinalLatIdeal.main_arg3) = m ((c.tc : Thread Cert.CombineLatIdeal.nD Cert.CombineLatIdeal.τ).loc Cert.CombineLatIdeal.main_arg3)
      ∧ m' ((c.tc : Thread Cert.FinalLatIdeal.nD Cert.FinalLatIdeal.τ).loc Cert.FinalLatIdeal.main_arg4) = m ((c.tc : Thread Cert.CombineLatIdeal.nD Cert.CombineLatIdeal.τ).loc Cert.CombineLatIdeal.main_arg4)) →
    ∃ (v0 : (c : Dev Cert.CombineLatIdeal.nD) → Buf (Elt Ideal) ((c.tc : Thread Cert.CombineLatIdeal.nD Cert.CombineLatIdeal.τ).loc Cert.CombineLatIdeal.main_v3)),
      θ_run (Cert.CombineLatIdeal.defs (F := Ideal)) (onTc (τ := Cert.CombineLatIdeal.τ) (Cert.CombineLatIdeal.main (F := Ideal))) ⟨m, fun _ => 0, g⟩ (fun r => ∀ c : Dev Cert.CombineLatIdeal.nD,
          r.2.mem ((c.tc : Thread Cert.CombineLatIdeal.nD Cert.CombineLatIdeal.τ).loc Cert.CombineLatIdeal.main_v3) = v0 c
          ∧ r.2.mem ((c.tc : Thread Cert.CombineLatIdeal.nD Cert.CombineLatIdeal.τ).loc Cert.CombineLatIdeal.main_arg0) = m ((c.tc : Thread Cert.CombineLatIdeal.nD Cert.CombineLatIdeal.τ).loc Cert.CombineLatIdeal.main_arg0)
          ∧ r.2.mem ((c.tc : Thread Cert.CombineLatIdeal.nD Cert.CombineLatIdeal.τ).loc Cert.CombineLatIdeal.main_arg1) = m ((c.tc : Thread Cert.CombineLatIdeal.nD Cert.CombineLatIdeal.τ).loc Cert.CombineLatIdeal.main_arg1)
          ∧ r.2.mem ((c.tc : Thread Cert.CombineLatIdeal.nD Cert.CombineLatIdeal.τ).loc Cert.CombineLatIdeal.main_arg2) = m ((c.tc : Thread Cert.CombineLatIdeal.nD Cert.CombineLatIdeal.τ).loc Cert.CombineLatIdeal.main_arg2)
          ∧ r.2.mem ((c.tc : Thread Cert.CombineLatIdeal.nD Cert.CombineLatIdeal.τ).loc Cert.CombineLatIdeal.main_arg3) = m ((c.tc : Thread Cert.CombineLatIdeal.nD Cert.CombineLatIdeal.τ).loc Cert.CombineLatIdeal.main_arg3)
          ∧ r.2.mem ((c.tc : Thread Cert.CombineLatIdeal.nD Cert.CombineLatIdeal.τ).loc Cert.CombineLatIdeal.main_arg4) = m ((c.tc : Thread Cert.CombineLatIdeal.nD Cert.CombineLatIdeal.τ).loc Cert.CombineLatIdeal.main_arg4))
      ∧ θ_run (Cert.FinalLatIdeal.defs (F := Ideal)) (onTc (τ := Cert.FinalLatIdeal.τ) (Cert.FinalLatIdeal.main (F := Ideal))) ⟨m', fun _ => 0, g'⟩ (fun r => ∀ c : Dev Cert.FinalLatIdeal.nD,
          r.2.mem ((c.tc : Thread Cert.FinalLatIdeal.nD Cert.FinalLatIdeal.τ).loc Cert.FinalLatIdeal.main_v26) = v0 c
          ∧ r.2.mem ((c.tc : Thread Cert.FinalLatIdeal.nD Cert.FinalLatIdeal.τ).loc Cert.FinalLatIdeal.main_arg0) = m' ((c.tc : Thread Cert.FinalLatIdeal.nD Cert.FinalLatIdeal.τ).loc Cert.FinalLatIdeal.main_arg0)
          ∧ r.2.mem ((c.tc : Thread Cert.FinalLatIdeal.nD Cert.FinalLatIdeal.τ).loc Cert.FinalLatIdeal.main_arg1) = m' ((c.tc : Thread Cert.FinalLatIdeal.nD Cert.FinalLatIdeal.τ).loc Cert.FinalLatIdeal.main_arg1)
          ∧ r.2.mem ((c.tc : Thread Cert.FinalLatIdeal.nD Cert.FinalLatIdeal.τ).loc Cert.FinalLatIdeal.main_arg2) = m' ((c.tc : Thread Cert.FinalLatIdeal.nD Cert.FinalLatIdeal.τ).loc Cert.FinalLatIdeal.main_arg2)
          ∧ r.2.mem ((c.tc : Thread Cert.FinalLatIdeal.nD Cert.FinalLatIdeal.τ).loc Cert.FinalLatIdeal.main_arg3) = m' ((c.tc : Thread Cert.FinalLatIdeal.nD Cert.FinalLatIdeal.τ).loc Cert.FinalLatIdeal.main_arg3)
          ∧ r.2.mem ((c.tc : Thread Cert.FinalLatIdeal.nD Cert.FinalLatIdeal.τ).loc Cert.FinalLatIdeal.main_arg4) = m' ((c.tc : Thread Cert.FinalLatIdeal.nD Cert.FinalLatIdeal.τ).loc Cert.FinalLatIdeal.main_arg4))

def preserves_CombineMid_CombineMidIdeal : Prop :=
  True

def algebraic_CombineMidIdeal_MidIdeal [hCombineMidIdeal : Cert.CombineMidIdeal.Facts] [hMidIdeal : Cert.MidIdeal.Facts] : Prop :=
  ∀ (m : (ℓ : Loc Cert.CombineMidIdeal.nD Cert.CombineMidIdeal.τ Cert.CombineMidIdeal.sig) → Buf (Elt Ideal) ℓ) (g : Dev Cert.CombineMidIdeal.nD → PrngReg)
    (m' : (ℓ : Loc Cert.MidIdeal.nD Cert.MidIdeal.τ Cert.MidIdeal.sig) → Buf (Elt Ideal) ℓ) (g' : Dev Cert.MidIdeal.nD → PrngReg), Pre_CombineMidIdeal m →
    (∀ c : Dev Cert.CombineMidIdeal.nD,
      m' ((c.tc : Thread Cert.MidIdeal.nD Cert.MidIdeal.τ).loc Cert.MidIdeal.main_arg0) = m ((c.tc : Thread Cert.CombineMidIdeal.nD Cert.CombineMidIdeal.τ).loc Cert.CombineMidIdeal.main_arg0)
      ∧ m' ((c.tc : Thread Cert.MidIdeal.nD Cert.MidIdeal.τ).loc Cert.MidIdeal.main_arg1) = m ((c.tc : Thread Cert.CombineMidIdeal.nD Cert.CombineMidIdeal.τ).loc Cert.CombineMidIdeal.main_arg1)
      ∧ m' ((c.tc : Thread Cert.MidIdeal.nD Cert.MidIdeal.τ).loc Cert.MidIdeal.main_arg2) = m ((c.tc : Thread Cert.CombineMidIdeal.nD Cert.CombineMidIdeal.τ).loc Cert.CombineMidIdeal.main_arg2)
      ∧ m' ((c.tc : Thread Cert.MidIdeal.nD Cert.MidIdeal.τ).loc Cert.MidIdeal.main_arg3) = m ((c.tc : Thread Cert.CombineMidIdeal.nD Cert.CombineMidIdeal.τ).loc Cert.CombineMidIdeal.main_arg3)) →
    ∃ (v0 : (c : Dev Cert.CombineMidIdeal.nD) → Buf (Elt Ideal) ((c.tc : Thread Cert.CombineMidIdeal.nD Cert.CombineMidIdeal.τ).loc Cert.CombineMidIdeal.main_v2)),
      θ_run (Cert.CombineMidIdeal.defs (F := Ideal)) (onTc (τ := Cert.CombineMidIdeal.τ) (Cert.CombineMidIdeal.main (F := Ideal))) ⟨m, fun _ => 0, g⟩ (fun r => ∀ c : Dev Cert.CombineMidIdeal.nD,
          r.2.mem ((c.tc : Thread Cert.CombineMidIdeal.nD Cert.CombineMidIdeal.τ).loc Cert.CombineMidIdeal.main_v2) = v0 c
          ∧ r.2.mem ((c.tc : Thread Cert.CombineMidIdeal.nD Cert.CombineMidIdeal.τ).loc Cert.CombineMidIdeal.main_arg0) = m ((c.tc : Thread Cert.CombineMidIdeal.nD Cert.CombineMidIdeal.τ).loc Cert.CombineMidIdeal.main_arg0)
          ∧ r.2.mem ((c.tc : Thread Cert.CombineMidIdeal.nD Cert.CombineMidIdeal.τ).loc Cert.CombineMidIdeal.main_arg1) = m ((c.tc : Thread Cert.CombineMidIdeal.nD Cert.CombineMidIdeal.τ).loc Cert.CombineMidIdeal.main_arg1)
          ∧ r.2.mem ((c.tc : Thread Cert.CombineMidIdeal.nD Cert.CombineMidIdeal.τ).loc Cert.CombineMidIdeal.main_arg2) = m ((c.tc : Thread Cert.CombineMidIdeal.nD Cert.CombineMidIdeal.τ).loc Cert.CombineMidIdeal.main_arg2)
          ∧ r.2.mem ((c.tc : Thread Cert.CombineMidIdeal.nD Cert.CombineMidIdeal.τ).loc Cert.CombineMidIdeal.main_arg3) = m ((c.tc : Thread Cert.CombineMidIdeal.nD Cert.CombineMidIdeal.τ).loc Cert.CombineMidIdeal.main_arg3))
      ∧ θ_run (Cert.MidIdeal.defs (F := Ideal)) (onTc (τ := Cert.MidIdeal.τ) (Cert.MidIdeal.main (F := Ideal))) ⟨m', fun _ => 0, g'⟩ (fun r => ∀ c : Dev Cert.MidIdeal.nD,
          r.2.mem ((c.tc : Thread Cert.MidIdeal.nD Cert.MidIdeal.τ).loc Cert.MidIdeal.main_v14) = v0 c
          ∧ r.2.mem ((c.tc : Thread Cert.MidIdeal.nD Cert.MidIdeal.τ).loc Cert.MidIdeal.main_arg0) = m' ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m' ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m' ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m' ((c.tc : Thread Cert.MidIdeal.nD Cert.MidIdeal.τ).loc Cert.MidIdeal.main_arg3))

def preserves_Modulation_ModulationIdeal : Prop :=
  True

def algebraic_ModulationIdeal_ChunksIdeal [hModulationIdeal : Cert.ModulationIdeal.Facts] [hChunksIdeal : Cert.ChunksIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ChunksIdeal.nD Cert.ChunksIdeal.τ Cert.ChunksIdeal.sig) → Buf (Elt Ideal) ℓ) (g' : Dev Cert.ChunksIdeal.nD → PrngReg), Pre_ModulationIdeal m →
    (∀ c : Dev Cert.ModulationIdeal.nD,
      m' ((c.tc : Thread Cert.ChunksIdeal.nD Cert.ChunksIdeal.τ).loc Cert.ChunksIdeal.main_arg0) = m ((c.tc : Thread Cert.ModulationIdeal.nD Cert.ModulationIdeal.τ).loc Cert.ModulationIdeal.main_arg0)
      ∧ m' ((c.tc : Thread Cert.ChunksIdeal.nD Cert.ChunksIdeal.τ).loc Cert.ChunksIdeal.main_arg1) = m ((c.tc : Thread Cert.ModulationIdeal.nD Cert.ModulationIdeal.τ).loc Cert.ModulationIdeal.main_arg1)
      ∧ m' ((c.tc : Thread Cert.ChunksIdeal.nD Cert.ChunksIdeal.τ).loc Cert.ChunksIdeal.main_arg2) = m ((c.tc : Thread Cert.ModulationIdeal.nD Cert.ModulationIdeal.τ).loc Cert.ModulationIdeal.main_arg2)
      ∧ m' ((c.tc : Thread Cert.ChunksIdeal.nD Cert.ChunksIdeal.τ).loc Cert.ChunksIdeal.main_arg3) = m ((c.tc : Thread Cert.ModulationIdeal.nD Cert.ModulationIdeal.τ).loc Cert.ModulationIdeal.main_arg3)) →
    ∃ (v0 : (c : Dev Cert.ModulationIdeal.nD) → Buf (Elt Ideal) ((c.tc : Thread Cert.ModulationIdeal.nD Cert.ModulationIdeal.τ).loc Cert.ModulationIdeal.main_v4)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v4) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2)
          ∧ r.2.mem ((c.tc : Thread Cert.ModulationIdeal.nD Cert.ModulationIdeal.τ).loc Cert.ModulationIdeal.main_arg3) = m ((c.tc : Thread Cert.ModulationIdeal.nD Cert.ModulationIdeal.τ).loc Cert.ModulationIdeal.main_arg3))
      ∧ θ_run (Cert.ChunksIdeal.defs (F := Ideal)) (onTc (τ := Cert.ChunksIdeal.τ) (Cert.ChunksIdeal.main (F := Ideal))) ⟨m', fun _ => 0, g'⟩ (fun r => ∀ c : Dev Cert.ChunksIdeal.nD,
          r.2.mem ((c.tc : Thread Cert.ChunksIdeal.nD Cert.ChunksIdeal.τ).loc Cert.ChunksIdeal.main_v7) = v0 c
          ∧ r.2.mem ((c.tc : Thread Cert.ChunksIdeal.nD Cert.ChunksIdeal.τ).loc Cert.ChunksIdeal.main_arg0) = m' ((c.tc : Thread Cert.ChunksIdeal.nD Cert.ChunksIdeal.τ).loc Cert.ChunksIdeal.main_arg0)
          ∧ r.2.mem ((c.tc : Thread Cert.ChunksIdeal.nD Cert.ChunksIdeal.τ).loc Cert.ChunksIdeal.main_arg1) = m' ((c.tc : Thread Cert.ChunksIdeal.nD Cert.ChunksIdeal.τ).loc Cert.ChunksIdeal.main_arg1)
          ∧ r.2.mem ((c.tc : Thread Cert.ChunksIdeal.nD Cert.ChunksIdeal.τ).loc Cert.ChunksIdeal.main_arg2) = m' ((c.tc : Thread Cert.ChunksIdeal.nD Cert.ChunksIdeal.τ).loc Cert.ChunksIdeal.main_arg2)
          ∧ r.2.mem ((c.tc : Thread Cert.ChunksIdeal.nD Cert.ChunksIdeal.τ).loc Cert.ChunksIdeal.main_arg3) = m' ((c.tc : Thread Cert.ChunksIdeal.nD Cert.ChunksIdeal.τ).loc Cert.ChunksIdeal.main_arg3))

def Claim : Prop :=
  ∃ (hKernel : Cert.Kernel.Facts) (hKernelIdeal : Cert.KernelIdeal.Facts) (hReferenceIdeal : Cert.ReferenceIdeal.Facts) (hCombineCtx : Cert.CombineCtx.Facts) (hCombineCtxIdeal : Cert.CombineCtxIdeal.Facts) (hFinalCtxIdeal : Cert.FinalCtxIdeal.Facts) (hCombineLat : Cert.CombineLat.Facts) (hCombineLatIdeal : Cert.CombineLatIdeal.Facts) (hFinalLatIdeal : Cert.FinalLatIdeal.Facts) (hCombineMid : Cert.CombineMid.Facts) (hCombineMidIdeal : Cert.CombineMidIdeal.Facts) (hMidIdeal : Cert.MidIdeal.Facts) (hModulation : Cert.Modulation.Facts) (hModulationIdeal : Cert.ModulationIdeal.Facts) (hChunksIdeal : Cert.ChunksIdeal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_CombineCtx (hCombineCtx := hCombineCtx)
    ∧ quiescent_CombineCtxIdeal (hCombineCtxIdeal := hCombineCtxIdeal)
    ∧ quiescent_FinalCtxIdeal (hFinalCtxIdeal := hFinalCtxIdeal)
    ∧ quiescent_CombineLat (hCombineLat := hCombineLat)
    ∧ quiescent_CombineLatIdeal (hCombineLatIdeal := hCombineLatIdeal)
    ∧ quiescent_FinalLatIdeal (hFinalLatIdeal := hFinalLatIdeal)
    ∧ quiescent_CombineMid (hCombineMid := hCombineMid)
    ∧ quiescent_CombineMidIdeal (hCombineMidIdeal := hCombineMidIdeal)
    ∧ quiescent_MidIdeal (hMidIdeal := hMidIdeal)
    ∧ quiescent_Modulation (hModulation := hModulation)
    ∧ quiescent_ModulationIdeal (hModulationIdeal := hModulationIdeal)
    ∧ quiescent_ChunksIdeal (hChunksIdeal := hChunksIdeal)
    ∧ preserves_Kernel_KernelIdeal
    ∧ algebraic_KernelIdeal_ReferenceIdeal (hKernelIdeal := hKernelIdeal) (hReferenceIdeal := hReferenceIdeal) (hPre_routed := hPre_routed)
    ∧ preserves_CombineCtx_CombineCtxIdeal
    ∧ algebraic_CombineCtxIdeal_FinalCtxIdeal (hCombineCtxIdeal := hCombineCtxIdeal) (hFinalCtxIdeal := hFinalCtxIdeal)
    ∧ preserves_CombineLat_CombineLatIdeal
    ∧ algebraic_CombineLatIdeal_FinalLatIdeal (hCombineLatIdeal := hCombineLatIdeal) (hFinalLatIdeal := hFinalLatIdeal)
    ∧ preserves_CombineMid_CombineMidIdeal
    ∧ algebraic_CombineMidIdeal_MidIdeal (hCombineMidIdeal := hCombineMidIdeal) (hMidIdeal := hMidIdeal)
    ∧ preserves_Modulation_ModulationIdeal
    ∧ algebraic_ModulationIdeal_ChunksIdeal (hModulationIdeal := hModulationIdeal) (hChunksIdeal := hChunksIdeal)
-- ==== Pre_routed.lean ====
abbrev S16384x1024 : Shape := ⟨2, ![16384, 1024]⟩
abbrev S4x16384 : Shape := ⟨2, ![4, 16384]⟩
abbrev S65536 : Shape := ⟨1, ![65536]⟩
abbrev S73984 : Shape := ⟨1, ![73984]⟩
abbrev S289 : Shape := ⟨1, ![289]⟩
abbrev S1 : Shape := ⟨1, ![1]⟩
abbrev S32x1024x1024 : Shape := ⟨3, ![32, 1024, 1024]⟩
abbrev S32x1024 : Shape := ⟨2, ![32, 1024]⟩
abbrev S289x256 : Shape := ⟨2, ![289, 256]⟩
abbrev S_ : Shape := ⟨0, ![]⟩
abbrev S73984x1 : Shape := ⟨2, ![73984, 1]⟩
abbrev S289x1 : Shape := ⟨2, ![289, 1]⟩
abbrev S65536x1 : Shape := ⟨2, ![65536, 1]⟩
abbrev S288 : Shape := ⟨1, ![288]⟩

class Facts : Prop where
  shapeCasts_S73984_S289x256 : S73984.ShapeCasts S289x256
  bcast_S_S73984 : S_.BroadcastsInDim S73984 (![] : Fin 0 → Fin S73984.rank)
  bcast_S73984_S73984x1_0 : S73984.BroadcastsInDim S73984x1 (![0] : Fin 1 → Fin S73984x1.rank)
  shapeCasts_S4x16384_S65536 : S4x16384.ShapeCasts S65536
  bcast_S_S289x256 : S_.BroadcastsInDim S289x256 (![] : Fin 0 → Fin S289x256.rank)
  bcast_S289_S289x1_0 : S289.BroadcastsInDim S289x1 (![0] : Fin 1 → Fin S289x1.rank)
  bcast_S289x1_S289x256_0_1 : S289x1.BroadcastsInDim S289x256 (![0, 1] : Fin 2 → Fin S289x256.rank)
  bcast_S_S65536 : S_.BroadcastsInDim S65536 (![] : Fin 0 → Fin S65536.rank)
  bcast_S_S1 : S_.BroadcastsInDim S1 (![] : Fin 0 → Fin S1.rank)
  bcast_S1_S65536_0 : S1.BroadcastsInDim S65536 (![0] : Fin 1 → Fin S65536.rank)
  bcast_S65536_S65536x1_0 : S65536.BroadcastsInDim S65536x1 (![0] : Fin 1 → Fin S65536x1.rank)
  slices_S289_S1_0 : S289.Slices ![0] S1
  slices_S289_S288_0 : S289.Slices ![0] S288
  concatenates_S1_S288_S289_d0 : Shape.Concatenates [S1, S288] S289 0
  bcast_S_S289 : S_.BroadcastsInDim S289 (![] : Fin 0 → Fin S289.rank)
  bcast_S1_S289_0 : S1.BroadcastsInDim S289 (![0] : Fin 1 → Fin S289.rank)
  gather_S65536_S73984x1_S73984_n_0_n_n_0_1_1_wf : GatherDims.WF S65536 S73984x1 S73984 [] [0] [] [0] [] 1 ![1]
  gather_S73984_S65536x1_S65536_n_0_n_n_0_1_1_wf : GatherDims.WF S73984 S65536x1 S65536 [] [0] [] [0] [] 1 ![1]

variable [Facts]

def gather_S65536_S73984x1_S73984_n_0_n_n_0_1_1 : GatherDims S65536 S73984x1 S73984 where
  offsetDims := []
  collapsedSliceDims := [0]
  operandBatchingDims := []
  startIndicesBatchingDims := []
  startIndexMap := [0]
  indexVectorDim := 1
  sliceSizes := ![1]
  wf := gather_S65536_S73984x1_S73984_n_0_n_n_0_1_1_wf
def gather_S73984_S65536x1_S65536_n_0_n_n_0_1_1 : GatherDims S73984 S65536x1 S65536 where
  offsetDims := []
  collapsedSliceDims := [0]
  operandBatchingDims := []
  startIndicesBatchingDims := []
  startIndexMap := [0]
  indexVectorDim := 1
  sliceSizes := ![1]
  wf := gather_S73984_S65536x1_S65536_n_0_n_n_0_1_1_wf
def fn_where {F : FTy → Type} [FloatOps F] (arg0 : IVec S289x256 1) (arg1 : IVec S_ 32) (arg2 : IVec S_ 32) : IVec S289x256 32 :=
  let v0 : IVec S289x256 32 := broadcastInDim S289x256 ![] bcast_S_S289x256 arg1
  let v1 : IVec S289x256 32 := broadcastInDim S289x256 ![] bcast_S_S289x256 arg2
  let v2 : IVec S289x256 32 := select arg0 v0 v1
  v2

def fn_part5 {F : FTy → Type} [FloatOps F] (main_arg4 : IVec S289 32) (main_arg5 : IVec S289 32) (main_arg6 : IVec S289 32) (main_arg7 : IVec S1 32) (main_v33 : IVec S289x256 1) (main_v41 : IVec S289x256 1) (main_v58 : IVec S65536 1) (main_v85 : IVec S289 1) (main_v97 : IVec S289 1) : IVec S289x256 1 × IVec S65536 1 × IVec S289 1 × IVec S289 1 × IVec S289 1 × IVec S1 1 :=
  let main_v98 : IVec S289 32 := iotaInDim S289 32 0
  let main_v99 : IVec S289 32 := broadcastInDim S289 ![0] bcast_S1_S289_0 main_arg7
  let main_v100 : IVec S289 1 := cmpi .ne main_v98 main_v99
  let main_v101 : IVec S289 1 := cmpi .eq main_arg5 main_arg4
  let main_v102 : IVec S289 1 := ori main_v100 main_v101
  let main_v103 : IVec S1 32 := (extractStridedSlice S1 ![0] · slices_S289_S1_0) main_arg6
  let main_c_21 : IVec S_ 32 := constantI S_ 32 0#32
  let main_v104 : IVec S1 32 := broadcastInDim S1 ![] bcast_S_S1 main_c_21
  let main_v105 : IVec S1 1 := cmpi .eq main_v103 main_v104
  let main_c_22 : IVec S_ 32 := constantI S_ 32 0#32
  let main_v106 : IVec S1 32 := broadcastInDim S1 ![] bcast_S_S1 main_c_22
  let main_v107 : IVec S1 1 := cmpi .sge main_arg7 main_v106
  let main_v108 : IVec S1 1 := andi main_v105 main_v107
  let main_c_23 : IVec S_ 32 := constantI S_ 32 288#32
  let main_v109 : IVec S1 32 := broadcastInDim S1 ![] bcast_S_S1 main_c_23
  let main_v110 : IVec S1 1 := cmpi .sle main_arg7 main_v109
  let main_v111 : IVec S1 1 := andi main_v108 main_v110
  let main_v112 : IVec S289x256 1 := ori main_v33 main_v41
  (main_v112, main_v58, main_v85, main_v97, main_v102, main_v111)

def fn_part4 {F : FTy → Type} [FloatOps F] (main_arg4 : IVec S289 32) (main_arg5 : IVec S289 32) (main_arg6 : IVec S289 32) (main_arg7 : IVec S1 32) (main_v33 : IVec S289x256 1) (main_v41 : IVec S289x256 1) (main_v58 : IVec S65536 1) (main_v64 : IVec S289 32) (main_v67 : IVec S289 32) (main_v68 : IVec S289 1) (main_v76 : IVec S289 1) (main_c_17 : IVec S_ 32) : IVec S289x256 1 × IVec S65536 1 × IVec S289 1 × IVec S289 1 × IVec S289 1 × IVec S1 1 :=
  let main_v77 : IVec S289 32 := broadcastInDim S289 ![] bcast_S_S289 main_c_17
  let main_v78 : IVec S289 1 := cmpi .slt main_arg5 main_v77
  let main_v79 : IVec S289 1 := andi main_v76 main_v78
  let main_c_18 : IVec S_ 32 := constantI S_ 32 0#32
  let main_v80 : IVec S289 32 := broadcastInDim S289 ![] bcast_S_S289 main_c_18
  let main_v81 : IVec S289 1 := cmpi .sge main_arg6 main_v80
  let main_v82 : IVec S289 1 := andi main_v79 main_v81
  let main_c_19 : IVec S_ 32 := constantI S_ 32 2#32
  let main_v83 : IVec S289 32 := broadcastInDim S289 ![] bcast_S_S289 main_c_19
  let main_v84 : IVec S289 1 := cmpi .slt main_arg6 main_v83
  let main_v85 : IVec S289 1 := andi main_v82 main_v84
  let main_v86 : IVec S289 1 := noti main_v68
  let main_v87 : IVec S289 1 := cmpi .eq main_arg5 main_v64
  let main_v88 : IVec S289 1 := cmpi .eq main_arg6 main_v67
  let main_v89 : IVec S289 1 := andi main_v87 main_v88
  let main_v90 : IVec S289 1 := ori main_v86 main_v89
  let main_v91 : IVec S289 1 := cmpi .eq main_arg4 main_v64
  let main_c_20 : IVec S_ 32 := constantI S_ 32 1#32
  let main_v92 : IVec S289 32 := broadcastInDim S289 ![] bcast_S_S289 main_c_20
  let main_v93 : IVec S289 32 := subi main_v92 main_v67
  let main_v94 : IVec S289 1 := cmpi .eq main_arg6 main_v93
  let main_v95 : IVec S289 1 := andi main_v91 main_v94
  let main_v96 : IVec S289 1 := ori main_v68 main_v95
  let main_v97 : IVec S289 1 := andi main_v90 main_v96
  fn_part5 (F := F) main_arg4 main_arg5 main_arg6 main_arg7 main_v33 main_v41 main_v58 main_v85 main_v97

def fn_part3 {F : FTy → Type} [FloatOps F] (main_arg4 : IVec S289 32) (main_arg5 : IVec S289 32) (main_arg6 : IVec S289 32) (main_arg7 : IVec S1 32) (main_v33 : IVec S289x256 1) (main_v41 : IVec S289x256 1) (main_v48 : IVec S65536 1) (main_v55 : IVec S65536 32) (main_v56 : IVec S65536 32) : IVec S289x256 1 × IVec S65536 1 × IVec S289 1 × IVec S289 1 × IVec S289 1 × IVec S1 1 :=
  let main_v57 : IVec S65536 1 := cmpi .eq main_v55 main_v56
  let main_v58 : IVec S65536 1 := andi main_v48 main_v57
  let main_v59 : IVec S1 32 := (extractStridedSlice S1 ![0] · slices_S289_S1_0) main_arg4
  let main_v60 : IVec S288 32 := (extractStridedSlice S288 ![0] · slices_S289_S288_0) main_arg4
  let main_v61 : IVec S289 32 := (fun a b => concatenate S289 0 [⟨S1, a⟩, ⟨S288, b⟩] concatenates_S1_S288_S289_d0) main_v59 main_v60
  let main_v62 : IVec S1 32 := (extractStridedSlice S1 ![0] · slices_S289_S1_0) main_arg5
  let main_v63 : IVec S288 32 := (extractStridedSlice S288 ![0] · slices_S289_S288_0) main_arg5
  let main_v64 : IVec S289 32 := (fun a b => concatenate S289 0 [⟨S1, a⟩, ⟨S288, b⟩] concatenates_S1_S288_S289_d0) main_v62 main_v63
  let main_v65 : IVec S1 32 := (extractStridedSlice S1 ![0] · slices_S289_S1_0) main_arg6
  let main_v66 : IVec S288 32 := (extractStridedSlice S288 ![0] · slices_S289_S288_0) main_arg6
  let main_v67 : IVec S289 32 := (fun a b => concatenate S289 0 [⟨S1, a⟩, ⟨S288, b⟩] concatenates_S1_S288_S289_d0) main_v65 main_v66
  let main_v68 : IVec S289 1 := cmpi .eq main_arg4 main_v61
  let main_c_14 : IVec S_ 32 := constantI S_ 32 0#32
  let main_v69 : IVec S289 32 := broadcastInDim S289 ![] bcast_S_S289 main_c_14
  let main_v70 : IVec S289 1 := cmpi .sge main_arg4 main_v69
  let main_c_15 : IVec S_ 32 := constantI S_ 32 32#32
  let main_v71 : IVec S289 32 := broadcastInDim S289 ![] bcast_S_S289 main_c_15
  let main_v72 : IVec S289 1 := cmpi .slt main_arg4 main_v71
  let main_v73 : IVec S289 1 := andi main_v70 main_v72
  let main_c_16 : IVec S_ 32 := constantI S_ 32 0#32
  let main_v74 : IVec S289 32 := broadcastInDim S289 ![] bcast_S_S289 main_c_16
  let main_v75 : IVec S289 1 := cmpi .sge main_arg5 main_v74
  let main_v76 : IVec S289 1 := andi main_v73 main_v75
  let main_c_17 : IVec S_ 32 := constantI S_ 32 32#32
  fn_part4 (F := F) main_arg4 main_arg5 main_arg6 main_arg7 main_v33 main_v41 main_v58 main_v64 main_v67 main_v68 main_v76 main_c_17

def fn_part2 {F : FTy → Type} [FloatOps F] (main_arg2 : IVec S65536 32) (main_arg3 : IVec S73984 32) (main_arg4 : IVec S289 32) (main_arg5 : IVec S289 32) (main_arg6 : IVec S289 32) (main_arg7 : IVec S1 32) (main_v2 : IVec S289x256 32) (main_v33 : IVec S289x256 1) (main_v35 : IVec S289x256 32) (main_v37 : IVec S289x256 1) (main_c_8 : IVec S_ 32) : IVec S289x256 1 × IVec S65536 1 × IVec S289 1 × IVec S289 1 × IVec S289 1 × IVec S1 1 :=
  let main_c_9 : IVec S_ 32 := constantI S_ 32 0#32
  let main_v38 : IVec S289x256 32 := fn_where (F := F) main_v37 main_c_8 main_c_9
  let main_v39 : IVec S289x256 32 := id main_v38
  let main_v40 : IVec S289x256 32 := addi main_v35 main_v39
  let main_v41 : IVec S289x256 1 := cmpi .eq main_v2 main_v40
  let main_c_10 : IVec S_ 32 := constantI S_ 32 0#32
  let main_v42 : IVec S65536 32 := broadcastInDim S65536 ![] bcast_S_S65536 main_c_10
  let main_v43 : IVec S65536 1 := cmpi .sge main_arg2 main_v42
  let main_c_11 : IVec S_ 32 := constantI S_ 32 256#32
  let main_v44 : IVec S1 32 := broadcastInDim S1 ![] bcast_S_S1 main_c_11
  let main_v45 : IVec S1 32 := muli main_arg7 main_v44
  let main_v46 : IVec S65536 32 := broadcastInDim S65536 ![0] bcast_S1_S65536_0 main_v45
  let main_v47 : IVec S65536 1 := cmpi .slt main_arg2 main_v46
  let main_v48 : IVec S65536 1 := andi main_v43 main_v47
  let main_c_12 : IVec S_ 32 := constantI S_ 32 0#32
  let main_v49 : IVec S65536 32 := broadcastInDim S65536 ![] bcast_S_S65536 main_c_12
  let main_v50 : IVec S65536 1 := cmpi .slt main_arg2 main_v49
  let main_c_13 : IVec S_ 32 := constantI S_ 32 73984#32
  let main_v51 : IVec S65536 32 := broadcastInDim S65536 ![] bcast_S_S65536 main_c_13
  let main_v52 : IVec S65536 32 := addi main_arg2 main_v51
  let main_v53 : IVec S65536 32 := select main_v50 main_v52 main_arg2
  let main_v54 : IVec S65536x1 32 := broadcastInDim S65536x1 ![0] bcast_S65536_S65536x1_0 main_v53
  let main_v55 : IVec S65536 32 := (fun x i => Host.gather gather_S73984_S65536x1_S65536_n_0_n_n_0_1_1 x i) main_arg3 main_v54
  let main_v56 : IVec S65536 32 := iotaInDim S65536 32 0
  fn_part3 (F := F) main_arg4 main_arg5 main_arg6 main_arg7 main_v33 main_v41 main_v48 main_v55 main_v56

def fn_part1 {F : FTy → Type} [FloatOps F] (main_arg2 : IVec S65536 32) (main_arg3 : IVec S73984 32) (main_arg4 : IVec S289 32) (main_arg5 : IVec S289 32) (main_arg6 : IVec S289 32) (main_arg7 : IVec S1 32) (main_v0 : IVec S289x256 32) (main_v1 : IVec S289x256 32) (main_v2 : IVec S289x256 32) (main_v10 : IVec S289x256 32) (main_v19 : IVec S289x256 32) : IVec S289x256 1 × IVec S65536 1 × IVec S289 1 × IVec S289 1 × IVec S289 1 × IVec S1 1 :=
  let main_c_3 : IVec S_ 32 := constantI S_ 32 0#32
  let main_v20 : IVec S289x256 32 := broadcastInDim S289x256 ![] bcast_S_S289x256 main_c_3
  let main_v21 : IVec S289x256 1 := cmpi .sge main_v2 main_v20
  let main_c_4 : IVec S_ 32 := constantI S_ 32 65536#32
  let main_v22 : IVec S289x256 32 := broadcastInDim S289x256 ![] bcast_S_S289x256 main_c_4
  let main_v23 : IVec S289x256 1 := cmpi .slt main_v2 main_v22
  let main_v24 : IVec S289x256 1 := andi main_v21 main_v23
  let main_c_5 : IVec S_ 32 := constantI S_ 32 256#32
  let main_v25 : IVec S289x256 32 := broadcastInDim S289x256 ![] bcast_S_S289x256 main_c_5
  let main_v26 : IVec S289x256 32 := muli main_v0 main_v25
  let main_v27 : IVec S289x256 32 := addi main_v26 main_v1
  let main_v28 : IVec S289x256 1 := cmpi .eq main_v10 main_v27
  let main_v29 : IVec S289x256 1 := andi main_v24 main_v28
  let main_v30 : IVec S289x1 32 := broadcastInDim S289x1 ![0] bcast_S289_S289x1_0 main_arg4
  let main_v31 : IVec S289x256 32 := broadcastInDim S289x256 ![0, 1] bcast_S289x1_S289x256_0_1 main_v30
  let main_v32 : IVec S289x256 1 := cmpi .eq main_v19 main_v31
  let main_v33 : IVec S289x256 1 := andi main_v29 main_v32
  let main_c_6 : IVec S_ 32 := constantI S_ 32 65536#32
  let main_v34 : IVec S289x256 32 := broadcastInDim S289x256 ![] bcast_S_S289x256 main_c_6
  let main_v35 : IVec S289x256 32 := addi main_v34 main_v1
  let main_c_7 : IVec S_ 32 := constantI S_ 32 288#32
  let main_v36 : IVec S289x256 32 := broadcastInDim S289x256 ![] bcast_S_S289x256 main_c_7
  let main_v37 : IVec S289x256 1 := cmpi .eq main_v0 main_v36
  let main_c_8 : IVec S_ 32 := constantI S_ 32 256#32
  fn_part2 (F := F) main_arg2 main_arg3 main_arg4 main_arg5 main_arg6 main_arg7 main_v2 main_v33 main_v35 main_v37 main_c_8

def fn {F : FTy → Type} [FloatOps F] (main_arg0 : FVec F S16384x1024 .f32) (main_arg1 : IVec S4x16384 32) (main_arg2 : IVec S65536 32) (main_arg3 : IVec S73984 32) (main_arg4 : IVec S289 32) (main_arg5 : IVec S289 32) (main_arg6 : IVec S289 32) (main_arg7 : IVec S1 32) (main_arg8 : FVec F S32x1024x1024 .f32) (main_arg9 : FVec F S32x1024 .f32) (main_arg10 : FVec F S32x1024x1024 .f32) (main_arg11 : FVec F S32x1024 .f32) (main_arg12 : FVec F S32x1024x1024 .f32) (main_arg13 : FVec F S32x1024 .f32) : IVec S289x256 1 × IVec S65536 1 × IVec S289 1 × IVec S289 1 × IVec S289 1 × IVec S1 1 :=
  let main_v0 : IVec S289x256 32 := iotaInDim S289x256 32 0
  let main_v1 : IVec S289x256 32 := iotaInDim S289x256 32 1
  let main_v2 : IVec S289x256 32 := shapeCast S289x256 main_arg3 shapeCasts_S73984_S289x256
  let main_c : IVec S_ 32 := constantI S_ 32 0#32
  let main_v3 : IVec S73984 32 := broadcastInDim S73984 ![] bcast_S_S73984 main_c
  let main_v4 : IVec S73984 1 := cmpi .slt main_arg3 main_v3
  let main_c_0 : IVec S_ 32 := constantI S_ 32 65536#32
  let main_v5 : IVec S73984 32 := broadcastInDim S73984 ![] bcast_S_S73984 main_c_0
  let main_v6 : IVec S73984 32 := addi main_arg3 main_v5
  let main_v7 : IVec S73984 32 := select main_v4 main_v6 main_arg3
  let main_v8 : IVec S73984x1 32 := broadcastInDim S73984x1 ![0] bcast_S73984_S73984x1_0 main_v7
  let main_v9 : IVec S73984 32 := (fun x i => Host.gather gather_S65536_S73984x1_S73984_n_0_n_n_0_1_1 x i) main_arg2 main_v8
  let main_v10 : IVec S289x256 32 := shapeCast S289x256 main_v9 shapeCasts_S73984_S289x256
  let main_v11 : IVec S65536 32 := shapeCast S65536 main_arg1 shapeCasts_S4x16384_S65536
  let main_c_1 : IVec S_ 32 := constantI S_ 32 0#32
  let main_v12 : IVec S73984 32 := broadcastInDim S73984 ![] bcast_S_S73984 main_c_1
  let main_v13 : IVec S73984 1 := cmpi .slt main_arg3 main_v12
  let main_c_2 : IVec S_ 32 := constantI S_ 32 65536#32
  let main_v14 : IVec S73984 32 := broadcastInDim S73984 ![] bcast_S_S73984 main_c_2
  let main_v15 : IVec S73984 32 := addi main_arg3 main_v14
  let main_v16 : IVec S73984 32 := select main_v13 main_v15 main_arg3
  let main_v17 : IVec S73984x1 32 := broadcastInDim S73984x1 ![0] bcast_S73984_S73984x1_0 main_v16
  let main_v18 : IVec S73984 32 := (fun x i => Host.gather gather_S65536_S73984x1_S73984_n_0_n_n_0_1_1 x i) main_v11 main_v17
  let main_v19 : IVec S289x256 32 := shapeCast S289x256 main_v18 shapeCasts_S73984_S289x256
  fn_part1 (F := F) main_arg2 main_arg3 main_arg4 main_arg5 main_arg6 main_arg7 main_v0 main_v1 main_v2 main_v10 main_v19
-- ==== Kernel.lean ====
abbrev S16384x1024 : Shape := ⟨2, ![16384, 1024]⟩
abbrev S4x16384 : Shape := ⟨2, ![4, 16384]⟩
abbrev S65536 : Shape := ⟨1, ![65536]⟩
abbrev S73984 : Shape := ⟨1, ![73984]⟩
abbrev S289 : Shape := ⟨1, ![289]⟩
abbrev S1 : Shape := ⟨1, ![1]⟩
abbrev S32x1024x1024 : Shape := ⟨3, ![32, 1024, 1024]⟩
abbrev S32x1024 : Shape := ⟨2, ![32, 1024]⟩
abbrev S131072x128 : Shape := ⟨2, ![131072, 128]⟩
abbrev S289x1x256 : Shape := ⟨3, ![289, 1, 256]⟩
abbrev S32x1x1024 : Shape := ⟨3, ![32, 1, 1024]⟩
abbrev S528384x128 : Shape := ⟨2, ![528384, 128]⟩
abbrev S1x1x256 : Shape := ⟨3, ![1, 1, 256]⟩
abbrev S1x1x1024 : Shape := ⟨3, ![1, 1, 1024]⟩
abbrev S4x2048x128 : Shape := ⟨3, ![4, 2048, 128]⟩
abbrev S2x2048x128 : Shape := ⟨3, ![2, 2048, 128]⟩
abbrev S256x1024 : Shape := ⟨2, ![256, 1024]⟩
abbrev S2x1024x1024 : Shape := ⟨3, ![2, 1024, 1024]⟩
abbrev S1024x2048 : Shape := ⟨2, ![1024, 2048]⟩
abbrev S1024x1024 : Shape := ⟨2, ![1024, 1024]⟩
abbrev S3 : Shape := ⟨1, ![3]⟩
abbrev S2 : Shape := ⟨1, ![2]⟩
abbrev S_ : Shape := ⟨0, ![]⟩
abbrev S1x1024x1024 : Shape := ⟨3, ![1, 1024, 1024]⟩
abbrev S1x1x1 : Shape := ⟨3, ![1, 1, 1]⟩
abbrev S1x8x128 : Shape := ⟨3, ![1, 8, 128]⟩
abbrev S8x128 : Shape := ⟨2, ![8, 128]⟩
abbrev S2048x128 : Shape := ⟨2, ![2048, 128]⟩
abbrev S1x2048x128 : Shape := ⟨3, ![1, 2048, 128]⟩
abbrev S1x1024x256 : Shape := ⟨3, ![1, 1024, 256]⟩
abbrev S1024x256 : Shape := ⟨2, ![1024, 256]⟩
abbrev S256x128 : Shape := ⟨2, ![256, 128]⟩
abbrev S1024x512 : Shape := ⟨2, ![1024, 512]⟩
abbrev S256x512 : Shape := ⟨2, ![256, 512]⟩
abbrev S256x256 : Shape := ⟨2, ![256, 256]⟩
abbrev S1x256 : Shape := ⟨2, ![1, 256]⟩
abbrev S1x256x128 : Shape := ⟨3, ![1, 256, 128]⟩
abbrev S1x1x512 : Shape := ⟨3, ![1, 1, 512]⟩
abbrev S1x512 : Shape := ⟨2, ![1, 512]⟩
abbrev S524288x128 : Shape := ⟨2, ![524288, 128]⟩
abbrev S4x16384x1024 : Shape := ⟨3, ![4, 16384, 1024]⟩

abbrev nBuf : Space → Nat
  | .hbm => 18
  | .vmem => 14
  | .smem => 12
  | _ => 0

abbrev bufTy : (tb : Table) → Fin (tcTables nBuf tb) → BufTy
  | .hbm, ⟨0, _⟩ => ⟨S16384x1024, .f32⟩
  | .hbm, ⟨1, _⟩ => ⟨S4x16384, .i32⟩
  | .hbm, ⟨2, _⟩ => ⟨S65536, .i32⟩
  | .hbm, ⟨3, _⟩ => ⟨S73984, .i32⟩
  | .hbm, ⟨4, _⟩ => ⟨S32x1024x1024, .f32⟩
  | .hbm, ⟨5, _⟩ => ⟨S32x1024, .f32⟩
  | .hbm, ⟨6, _⟩ => ⟨S32x1024x1024, .f32⟩
  | .hbm, ⟨7, _⟩ => ⟨S32x1024, .f32⟩
  | .hbm, ⟨8, _⟩ => ⟨S32x1024x1024, .f32⟩
  | .hbm, ⟨9, _⟩ => ⟨S32x1024, .f32⟩
  | .hbm, ⟨10, _⟩ => ⟨S131072x128, .f32⟩
  | .hbm, ⟨11, _⟩ => ⟨S289x1x256, .i32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S528384x128, .f32⟩
  | .hbm, ⟨16, _⟩ => ⟨S524288x128, .f32⟩
  | .hbm, ⟨17, _⟩ => ⟨S4x16384x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S4x2048x128, .f32⟩
  | .local _ .vmem, ⟨7, _⟩ => ⟨S2x2048x128, .f32⟩
  | .local _ .vmem, ⟨8, _⟩ => ⟨S256x1024, .bf16⟩
  | .local _ .vmem, ⟨9, _⟩ => ⟨S2x1024x1024, .f32⟩
  | .local _ .vmem, ⟨10, _⟩ => ⟨S2x1024x1024, .f32⟩
  | .local _ .vmem, ⟨11, _⟩ => ⟨S2x1024x1024, .f32⟩
  | .local _ .vmem, ⟨12, _⟩ => ⟨S1024x2048, .bf16⟩
  | .local _ .vmem, ⟨13, _⟩ => ⟨S1024x1024, .bf16⟩
  | .local _ .smem, ⟨0, _⟩ => ⟨S289, .i32⟩
  | .local _ .smem, ⟨1, _⟩ => ⟨S289, .i32⟩
  | .local _ .smem, ⟨2, _⟩ => ⟨S289, .i32⟩
  | .local _ .smem, ⟨3, _⟩ => ⟨S1, .i32⟩
  | .local _ .smem, ⟨4, _⟩ => ⟨S1x1x256, .i32⟩
  | .local _ .smem, ⟨5, _⟩ => ⟨S1x1x256, .i32⟩
  | .local _ .smem, ⟨6, _⟩ => ⟨S1x1x256, .i32⟩
  | .local _ .smem, ⟨7, _⟩ => ⟨S1x1x256, .i32⟩
  | .local _ .smem, ⟨8, _⟩ => ⟨S1x1x256, .i32⟩
  | .local _ .smem, ⟨9, _⟩ => ⟨S1x1x256, .i32⟩
  | .local _ .smem, ⟨10, _⟩ => ⟨S1x1x256, .i32⟩
  | .local _ .smem, ⟨11, _⟩ => ⟨S1x1x256, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | .smem, ⟨10, _⟩ => true
  | .smem, ⟨11, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg8 : Ref sig .tc := ⟨.hbm, 4, rfl⟩
abbrev main_arg9 : Ref sig .tc := ⟨.hbm, 5, rfl⟩
abbrev main_arg10 : Ref sig .tc := ⟨.hbm, 6, rfl⟩
abbrev main_arg11 : Ref sig .tc := ⟨.hbm, 7, rfl⟩
abbrev main_arg12 : Ref sig .tc := ⟨.hbm, 8, rfl⟩
abbrev main_arg13 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_arg4 : Ref sig .tc := ⟨.smem, 0, rfl⟩
abbrev main_arg5 : Ref sig .tc := ⟨.smem, 1, rfl⟩
abbrev main_arg6 : Ref sig .tc := ⟨.smem, 2, rfl⟩
abbrev main_arg7 : Ref sig .tc := ⟨.smem, 3, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_stg0_0 : Ref sig .tc := ⟨.smem, 4, rfl⟩
abbrev cc0_stg0_1 : Ref sig .tc := ⟨.smem, 5, rfl⟩
abbrev cc0_stg1_0 : Ref sig .tc := ⟨.smem, 6, rfl⟩
abbrev cc0_stg1_1 : Ref sig .tc := ⟨.smem, 7, rfl⟩
abbrev cc0_stg2_0 : Ref sig .tc := ⟨.smem, 8, rfl⟩
abbrev cc0_stg2_1 : Ref sig .tc := ⟨.smem, 9, rfl⟩
abbrev cc0_stg3_0 : Ref sig .tc := ⟨.smem, 10, rfl⟩
abbrev cc0_stg3_1 : Ref sig .tc := ⟨.smem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![289], ![false]⟩

abbrev pre0 : Pipeline.Prefetch sig := ⟨4, ![main_arg4.idx, main_arg5.idx, main_arg6.idx, main_arg7.idx], fun | 0 => main_arg4.names | 1 => main_arg5.names | 2 => main_arg6.names | 3 => main_arg7.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_8 : BitVec 32 := 0#32
  let v17 : BitVec 1 := Scalar.cmpi .eq arg0 c0_i32_8
  let v18 : BitVec 32 := Scalar.extui v17
  let c0_i32_9 : BitVec 32 := 0#32
  let v19 : BitVec 1 := Scalar.cmpi .ne v18 c0_i32_9
  v19

def k0_off2 (v26 : BitVec 32) : Fin 3 → Nat :=
  let c0_i32_17 : BitVec 32 := 0#32
  let c0_i32_18 : BitVec 32 := 0#32
  ![v26.toNat, 0, 0]

def k0_chk1 (i : grid0.Coords) (v26 : BitVec 32) : Prop :=
  (∀ (k0_h1 : k0_cond1 i = 1#1), ∀ a, (k0_off2 v26) a + S1x1024x1024.size a ≤ S32x1024x1024.size a)
theorem k0_off2_inb : ∀ (i : grid0.Coords) (v26 : BitVec 32) (k0_hw1 : k0_chk1 i v26), ∀ (k0_h1 : k0_cond1 i = 1#1), ∀ a, (k0_off2 v26) a + S1x1024x1024.size a ≤ S32x1024x1024.size a := fun i v26 k0_hw1 k0_h1 => k0_hw1 k0_h1

@[reducible] def k0_t1_loop : Scf.Loop 32 :=
  let c0_i32_31 : BitVec 32 := 0#32
  let c256_i32 : BitVec 32 := 256#32
  let v45 : BitVec 32 := Scalar.addi c0_i32_31 c256_i32
  let c1_i32_32 : BitVec 32 := 1#32
  ⟨c0_i32_31, v45, c1_i32_32⟩
def k0_off3 (k0_t1 : Fin k0_t1_loop.trips) : Fin 3 → Nat :=
  let c0_46 : Index := 0#32
  let c0_47 : Index := 0#32
  let c0_i32_31 : BitVec 32 := 0#32
  let c1_i32_32 : BitVec 32 := 1#32
  let arg28 : BitVec 32 := Scf.iv c0_i32_31 c1_i32_32 k0_t1
  let v56 : Index := Scalar.indexCast arg28
  ![0, 0, v56.toNat]
def k0_off4 (k0_t1 : Fin k0_t1_loop.trips) : Fin 3 → Nat :=
  let c0_i32_49 : BitVec 32 := 0#32
  let c0_i32_31 : BitVec 32 := 0#32
  let c1_i32_32 : BitVec 32 := 1#32
  let arg28 : BitVec 32 := Scf.iv c0_i32_31 c1_i32_32 k0_t1
  let c8_i32_48 : BitVec 32 := 8#32
  let v60 : BitVec 32 := Scalar.muli arg28 c8_i32_48
  let c0_i32_51 : BitVec 32 := 0#32
  ![0, v60.toNat, 0]
def k0_off5 (v57 : BitVec 32) : Fin 2 → Nat :=
  let c16383_i32 : BitVec 32 := 16383#32
  let v58 : BitVec 32 := Scalar.andi v57 c16383_i32
  let c8_i32 : BitVec 32 := 8#32
  let v59 : BitVec 32 := Scalar.muli v58 c8_i32
  let c0_i32_52 : BitVec 32 := 0#32
  ![v59.toNat, 0]

def k0_chk2 (i : grid0.Coords) (v57 : BitVec 32) : Prop :=
  (∀ (k0_h1 : k0_cond1 i = 1#1), ∀ a, (k0_off5 v57) a + S8x128.size a ≤ S131072x128.size a)
theorem k0_off5_inb : ∀ (i : grid0.Coords) (v57 : BitVec 32) (k0_hw2 : k0_chk2 i v57), ∀ (k0_h1 : k0_cond1 i = 1#1), ∀ a, (k0_off5 v57) a + S8x128.size a ≤ S131072x128.size a := fun i v57 k0_hw2 k0_h1 => k0_hw2 k0_h1

@[reducible] def k0_t2_loop : Scf.Loop 32 :=
  let c0_i32_34 : BitVec 32 := 0#32
  let c256_i32_35 : BitVec 32 := 256#32
  let v46 : BitVec 32 := Scalar.addi c0_i32_34 c256_i32_35
  let c1_i32_36 : BitVec 32 := 1#32
  ⟨c0_i32_34, v46, c1_i32_36⟩
def k0_off6 (k0_t2 : Fin k0_t2_loop.trips) : Fin 3 → Nat :=
  let c0_46 : Index := 0#32
  let c0_47 : Index := 0#32
  let c0_i32_34 : BitVec 32 := 0#32
  let c1_i32_36 : BitVec 32 := 1#32
  let arg28 : BitVec 32 := Scf.iv c0_i32_34 c1_i32_36 k0_t2
  let v56 : Index := Scalar.indexCast arg28
  ![0, 0, v56.toNat]
def k0_off7 (k0_t2 : Fin k0_t2_loop.trips) : Fin 3 → Nat :=
  let c1_i32_49 : BitVec 32 := 1#32
  let c0_i32_34 : BitVec 32 := 0#32
  let c1_i32_36 : BitVec 32 := 1#32
  let arg28 : BitVec 32 := Scf.iv c0_i32_34 c1_i32_36 k0_t2
  let c8_i32_48 : BitVec 32 := 8#32
  let v60 : BitVec 32 := Scalar.muli arg28 c8_i32_48
  let c0_i32_51 : BitVec 32 := 0#32
  ![1, v60.toNat, 0]
def k0_off8 (v57 : BitVec 32) : Fin 2 → Nat :=
  let c16383_i32 : BitVec 32 := 16383#32
  let v58 : BitVec 32 := Scalar.andi v57 c16383_i32
  let c8_i32 : BitVec 32 := 8#32
  let v59 : BitVec 32 := Scalar.muli v58 c8_i32
  let c0_i32_52 : BitVec 32 := 0#32
  ![v59.toNat, 0]

def k0_chk3 (i : grid0.Coords) (v57 : BitVec 32) : Prop :=
  (∀ (k0_h1 : k0_cond1 i = 1#1), ∀ a, (k0_off8 v57) a + S8x128.size a ≤ S131072x128.size a)
theorem k0_off8_inb : ∀ (i : grid0.Coords) (v57 : BitVec 32) (k0_hw3 : k0_chk3 i v57), ∀ (k0_h1 : k0_cond1 i = 1#1), ∀ a, (k0_off8 v57) a + S8x128.size a ≤ S131072x128.size a := fun i v57 k0_hw3 k0_h1 => k0_hw3 k0_h1

def k0_off9 (i : grid0.Coords) : Fin 1 → Nat :=
  let arg0 : BitVec 32 := BitVec.ofNat 32 (i 0).val
  let v26 : Index := Scalar.indexCast arg0
  ![v26.toNat]
def k0_off10 (i : grid0.Coords) : Fin 1 → Nat :=
  let arg0 : BitVec 32 := BitVec.ofNat 32 (i 0).val
  let c1_i32_13 : BitVec 32 := 1#32
  let v29 : BitVec 32 := Scalar.subi arg0 c1_i32_13
  let c0_i32_14 : BitVec 32 := 0#32
  let v30 : BitVec 32 := Scalar.maxsi v29 c0_i32_14
  let v31 : Index := Scalar.indexCast v30
  ![v31.toNat]
def k0_off11 (i : grid0.Coords) : Fin 1 → Nat :=
  let arg0 : BitVec 32 := BitVec.ofNat 32 (i 0).val
  let v319 : Index := Scalar.indexCast arg0
  ![v319.toNat]
def k0_off12 (v320 : BitVec 32) : Fin 1 → Nat :=
  ![v320.toNat]
def k0_cond2 (i : grid0.Coords) (v0 : BitVec 32) : BitVec 1 :=
  let arg0 : BitVec 32 := BitVec.ofNat 32 (i 0).val
  let v20 : BitVec 1 := Scalar.cmpi .sle arg0 v0
  let v21 : BitVec 32 := Scalar.extui v20
  let c0_i32_10 : BitVec 32 := 0#32
  let v22 : BitVec 1 := Scalar.cmpi .ne v21 c0_i32_10
  v22

def k0_cond3 (i : grid0.Coords) (v27 : BitVec 32) (v32 : BitVec 32) : BitVec 1 :=
  let arg0 : BitVec 32 := BitVec.ofNat 32 (i 0).val
  let c0_i32_12 : BitVec 32 := 0#32
  let v28 : BitVec 1 := Scalar.cmpi .eq arg0 c0_i32_12
  let v33 : BitVec 1 := Scalar.cmpi .ne v27 v32
  let v34 : BitVec 1 := Scalar.ori v28 v33
  let v35 : BitVec 32 := Scalar.extui v34
  let c0_i32_15 : BitVec 32 := 0#32
  let v36 : BitVec 1 := Scalar.cmpi .ne v35 c0_i32_15
  v36

def k0_off13 (v320 : BitVec 32) : Fin 3 → Nat :=
  let c0_i32_227 : BitVec 32 := 0#32
  let c0_i32_228 : BitVec 32 := 0#32
  ![v320.toNat, 0, 0]
def k0_off14 (v27 : BitVec 32) : Fin 3 → Nat :=
  let c0_i32_229 : BitVec 32 := 0#32
  let c0_i32_230 : BitVec 32 := 0#32
  ![v27.toNat, 0, 0]

def k0_chk5 (i : grid0.Coords) (v0 : BitVec 32) (v27 : BitVec 32) (v32 : BitVec 32) : Prop :=
  (∀ (k0_h2 : k0_cond2 i v0 = 1#1), ∀ (k0_h3 : k0_cond3 i v27 v32 = 1#1), ∀ a, (k0_off14 v27) a + S1x1024x1024.size a ≤ S32x1024x1024.size a)
theorem k0_off14_inb : ∀ (i : grid0.Coords) (v0 : BitVec 32) (v27 : BitVec 32) (v32 : BitVec 32) (k0_hw5 : k0_chk5 i v0 v27 v32), ∀ (k0_h2 : k0_cond2 i v0 = 1#1), ∀ (k0_h3 : k0_cond3 i v27 v32 = 1#1), ∀ a, (k0_off14 v27) a + S1x1024x1024.size a ≤ S32x1024x1024.size a := fun i v0 v27 v32 k0_hw5 k0_h2 k0_h3 => k0_hw5 k0_h2 k0_h3

def k0_off15 (v320 : BitVec 32) : Fin 3 → Nat :=
  let v339 : Index := Scalar.indexCast v320
  let c0_239 : Index := 0#32
  let c0_240 : Index := 0#32
  ![v339.toNat, 0, 0]
def k0_off16 (v320 : BitVec 32) : Fin 3 → Nat :=
  let v353 : Index := Scalar.indexCast v320
  let c0_247 : Index := 0#32
  let c256_248 : Index := 256#32
  ![v353.toNat, 0, 256]
def k0_off17 (v320 : BitVec 32) : Fin 3 → Nat :=
  let v367 : Index := Scalar.indexCast v320
  let c0_255 : Index := 0#32
  let c512_256 : Index := 512#32
  ![v367.toNat, 0, 512]
def k0_off18 (v320 : BitVec 32) : Fin 3 → Nat :=
  let v381 : Index := Scalar.indexCast v320
  let c0_263 : Index := 0#32
  let c768_264 : Index := 768#32
  ![v381.toNat, 0, 768]
def k0_off19 (v320 : BitVec 32) : Fin 3 → Nat :=
  let v395 : Index := Scalar.indexCast v320
  let c0_271 : Index := 0#32
  let c0_272 : Index := 0#32
  ![v395.toNat, 0, 0]

def k0_chk4 (i : grid0.Coords) (v0 : BitVec 32) (v27 : BitVec 32) (v32 : BitVec 32) (v320 : BitVec 32) : Prop :=
  (∀ (k0_h2 : k0_cond2 i v0 = 1#1), ∀ (k0_h3 : k0_cond3 i v27 v32 = 1#1), ∀ a, (k0_off12 v320) a + S1.size a ≤ S2.size a) ∧
  (∀ (k0_h2 : k0_cond2 i v0 = 1#1), ∀ (k0_h3 : k0_cond3 i v27 v32 = 1#1), ∀ a, (k0_off13 v320) a + S1x1024x1024.size a ≤ S2x1024x1024.size a) ∧
  (∀ (k0_h2 : k0_cond2 i v0 = 1#1), ∀ (k0_h3 : k0_cond3 i v27 v32 = 1#1), ∀ a, (k0_off15 v320) a + S1x1024x256.size a ≤ S2x1024x1024.size a) ∧
  (∀ (k0_h2 : k0_cond2 i v0 = 1#1), ∀ (k0_h3 : k0_cond3 i v27 v32 = 1#1), ∀ a, (k0_off16 v320) a + S1x1024x256.size a ≤ S2x1024x1024.size a) ∧
  (∀ (k0_h2 : k0_cond2 i v0 = 1#1), ∀ (k0_h3 : k0_cond3 i v27 v32 = 1#1), ∀ a, (k0_off17 v320) a + S1x1024x256.size a ≤ S2x1024x1024.size a) ∧
  (∀ (k0_h2 : k0_cond2 i v0 = 1#1), ∀ (k0_h3 : k0_cond3 i v27 v32 = 1#1), ∀ a, (k0_off18 v320) a + S1x1024x256.size a ≤ S2x1024x1024.size a) ∧
  (∀ (k0_h2 : k0_cond2 i v0 = 1#1), ∀ (k0_h3 : k0_cond3 i v27 v32 = 1#1), ∀ a, (k0_off19 v320) a + S1x1024x1024.size a ≤ S2x1024x1024.size a)
theorem k0_off12_inb : ∀ (i : grid0.Coords) (v0 : BitVec 32) (v27 : BitVec 32) (v32 : BitVec 32) (v320 : BitVec 32) (k0_hw4 : k0_chk4 i v0 v27 v32 v320), ∀ (k0_h2 : k0_cond2 i v0 = 1#1), ∀ (k0_h3 : k0_cond3 i v27 v32 = 1#1), ∀ a, (k0_off12 v320) a + S1.size a ≤ S2.size a := fun i v0 v27 v32 v320 k0_hw4 k0_h2 k0_h3 => k0_hw4.1 k0_h2 k0_h3
theorem k0_off13_inb : ∀ (i : grid0.Coords) (v0 : BitVec 32) (v27 : BitVec 32) (v32 : BitVec 32) (v320 : BitVec 32) (k0_hw4 : k0_chk4 i v0 v27 v32 v320), ∀ (k0_h2 : k0_cond2 i v0 = 1#1), ∀ (k0_h3 : k0_cond3 i v27 v32 = 1#1), ∀ a, (k0_off13 v320) a + S1x1024x1024.size a ≤ S2x1024x1024.size a := fun i v0 v27 v32 v320 k0_hw4 k0_h2 k0_h3 => k0_hw4.2.1 k0_h2 k0_h3
theorem k0_off15_inb : ∀ (i : grid0.Coords) (v0 : BitVec 32) (v27 : BitVec 32) (v32 : BitVec 32) (v320 : BitVec 32) (k0_hw4 : k0_chk4 i v0 v27 v32 v320), ∀ (k0_h2 : k0_cond2 i v0 = 1#1), ∀ (k0_h3 : k0_cond3 i v27 v32 = 1#1), ∀ a, (k0_off15 v320) a + S1x1024x256.size a ≤ S2x1024x1024.size a := fun i v0 v27 v32 v320 k0_hw4 k0_h2 k0_h3 => k0_hw4.2.2.1 k0_h2 k0_h3
theorem k0_off16_inb : ∀ (i : grid0.Coords) (v0 : BitVec 32) (v27 : BitVec 32) (v32 : BitVec 32) (v320 : BitVec 32) (k0_hw4 : k0_chk4 i v0 v27 v32 v320), ∀ (k0_h2 : k0_cond2 i v0 = 1#1), ∀ (k0_h3 : k0_cond3 i v27 v32 = 1#1), ∀ a, (k0_off16 v320) a + S1x1024x256.size a ≤ S2x1024x1024.size a := fun i v0 v27 v32 v320 k0_hw4 k0_h2 k0_h3 => k0_hw4.2.2.2.1 k0_h2 k0_h3
theorem k0_off17_inb : ∀ (i : grid0.Coords) (v0 : BitVec 32) (v27 : BitVec 32) (v32 : BitVec 32) (v320 : BitVec 32) (k0_hw4 : k0_chk4 i v0 v27 v32 v320), ∀ (k0_h2 : k0_cond2 i v0 = 1#1), ∀ (k0_h3 : k0_cond3 i v27 v32 = 1#1), ∀ a, (k0_off17 v320) a + S1x1024x256.size a ≤ S2x1024x1024.size a := fun i v0 v27 v32 v320 k0_hw4 k0_h2 k0_h3 => k0_hw4.2.2.2.2.1 k0_h2 k0_h3
theorem k0_off18_inb : ∀ (i : grid0.Coords) (v0 : BitVec 32) (v27 : BitVec 32) (v32 : BitVec 32) (v320 : BitVec 32) (k0_hw4 : k0_chk4 i v0 v27 v32 v320), ∀ (k0_h2 : k0_cond2 i v0 = 1#1), ∀ (k0_h3 : k0_cond3 i v27 v32 = 1#1), ∀ a, (k0_off18 v320) a + S1x1024x256.size a ≤ S2x1024x1024.size a := fun i v0 v27 v32 v320 k0_hw4 k0_h2 k0_h3 => k0_hw4.2.2.2.2.2.1 k0_h2 k0_h3
theorem k0_off19_inb : ∀ (i : grid0.Coords) (v0 : BitVec 32) (v27 : BitVec 32) (v32 : BitVec 32) (v320 : BitVec 32) (k0_hw4 : k0_chk4 i v0 v27 v32 v320), ∀ (k0_h2 : k0_cond2 i v0 = 1#1), ∀ (k0_h3 : k0_cond3 i v27 v32 = 1#1), ∀ a, (k0_off19 v320) a + S1x1024x1024.size a ≤ S2x1024x1024.size a := fun i v0 v27 v32 v320 k0_hw4 k0_h2 k0_h3 => k0_hw4.2.2.2.2.2.2 k0_h2 k0_h3

def k0_off20 (i : grid0.Coords) : Fin 1 → Nat :=
  let arg0 : BitVec 32 := BitVec.ofNat 32 (i 0).val
  let v402 : Index := Scalar.indexCast arg0
  ![v402.toNat]
def k0_off21 (i : grid0.Coords) : Fin 1 → Nat :=
  let arg0 : BitVec 32 := BitVec.ofNat 32 (i 0).val
  let v407 : Index := Scalar.indexCast arg0
  ![v407.toNat]
def k0_off22 (v320 : BitVec 32) : Fin 1 → Nat :=
  let c1_i32_276 : BitVec 32 := 1#32
  let v409 : BitVec 32 := Scalar.subi c1_i32_276 v320
  ![v409.toNat]
def k0_cond4 (v27 : BitVec 32) (v403 : BitVec 32) : BitVec 1 :=
  let v404 : BitVec 1 := Scalar.cmpi .ne v403 v27
  let v405 : BitVec 32 := Scalar.extui v404
  let c0_i32_275 : BitVec 32 := 0#32
  let v406 : BitVec 1 := Scalar.cmpi .ne v405 c0_i32_275
  v406

def k0_off23 (v320 : BitVec 32) : Fin 3 → Nat :=
  let c1_i32_276 : BitVec 32 := 1#32
  let v409 : BitVec 32 := Scalar.subi c1_i32_276 v320
  let c0_i32_277 : BitVec 32 := 0#32
  let c0_i32_278 : BitVec 32 := 0#32
  ![v409.toNat, 0, 0]
def k0_off24 (v408 : BitVec 32) : Fin 3 → Nat :=
  let c0_i32_279 : BitVec 32 := 0#32
  let c0_i32_280 : BitVec 32 := 0#32
  ![v408.toNat, 0, 0]

def k0_chk7 (i : grid0.Coords) (v0 : BitVec 32) (v27 : BitVec 32) (v32 : BitVec 32) (v403 : BitVec 32) (v408 : BitVec 32) : Prop :=
  (∀ (k0_h2 : k0_cond2 i v0 = 1#1), ∀ (k0_h3 : k0_cond3 i v27 v32 = 1#1), ∀ (k0_h4 : k0_cond4 v27 v403 = 1#1), ∀ a, (k0_off24 v408) a + S1x1024x1024.size a ≤ S32x1024x1024.size a)
theorem k0_off24_inb : ∀ (i : grid0.Coords) (v0 : BitVec 32) (v27 : BitVec 32) (v32 : BitVec 32) (v403 : BitVec 32) (v408 : BitVec 32) (k0_hw7 : k0_chk7 i v0 v27 v32 v403 v408), ∀ (k0_h2 : k0_cond2 i v0 = 1#1), ∀ (k0_h3 : k0_cond3 i v27 v32 = 1#1), ∀ (k0_h4 : k0_cond4 v27 v403 = 1#1), ∀ a, (k0_off24 v408) a + S1x1024x1024.size a ≤ S32x1024x1024.size a := fun i v0 v27 v32 v403 v408 k0_hw7 k0_h2 k0_h3 k0_h4 => k0_hw7 k0_h2 k0_h3 k0_h4

def k0_off25 (v320 : BitVec 32) : Fin 1 → Nat :=
  let c1_i32_276 : BitVec 32 := 1#32
  let v409 : BitVec 32 := Scalar.subi c1_i32_276 v320
  ![v409.toNat]
def k0_off26 (v320 : BitVec 32) : Fin 3 → Nat :=
  let c1_i32_276 : BitVec 32 := 1#32
  let v409 : BitVec 32 := Scalar.subi c1_i32_276 v320
  let c0_i32_281 : BitVec 32 := 0#32
  let c0_i32_282 : BitVec 32 := 0#32
  ![v409.toNat, 0, 0]

def k0_chk6 (i : grid0.Coords) (v0 : BitVec 32) (v27 : BitVec 32) (v32 : BitVec 32) (v320 : BitVec 32) (v403 : BitVec 32) : Prop :=
  (∀ (k0_h2 : k0_cond2 i v0 = 1#1), ∀ (k0_h3 : k0_cond3 i v27 v32 = 1#1), ∀ (k0_h4 : k0_cond4 v27 v403 = 1#1), ∀ a, (k0_off22 v320) a + S1.size a ≤ S2.size a) ∧
  (∀ (k0_h2 : k0_cond2 i v0 = 1#1), ∀ (k0_h3 : k0_cond3 i v27 v32 = 1#1), ∀ (k0_h4 : k0_cond4 v27 v403 = 1#1), ∀ a, (k0_off23 v320) a + S1x1024x1024.size a ≤ S2x1024x1024.size a) ∧
  (∀ (k0_h2 : k0_cond2 i v0 = 1#1), ∀ (k0_h3 : k0_cond3 i v27 v32 = 1#1), ∀ (k0_h4 : k0_cond4 v27 v403 = 1#1), ∀ a, (k0_off25 v320) a + S1.size a ≤ S2.size a) ∧
  (∀ (k0_h2 : k0_cond2 i v0 = 1#1), ∀ (k0_h3 : k0_cond3 i v27 v32 = 1#1), ∀ (k0_h4 : k0_cond4 v27 v403 = 1#1), ∀ a, (k0_off26 v320) a + S1x1024x1024.size a ≤ S2x1024x1024.size a)
theorem k0_off22_inb : ∀ (i : grid0.Coords) (v0 : BitVec 32) (v27 : BitVec 32) (v32 : BitVec 32) (v320 : BitVec 32) (v403 : BitVec 32) (k0_hw6 : k0_chk6 i v0 v27 v32 v320 v403), ∀ (k0_h2 : k0_cond2 i v0 = 1#1), ∀ (k0_h3 : k0_cond3 i v27 v32 = 1#1), ∀ (k0_h4 : k0_cond4 v27 v403 = 1#1), ∀ a, (k0_off22 v320) a + S1.size a ≤ S2.size a := fun i v0 v27 v32 v320 v403 k0_hw6 k0_h2 k0_h3 k0_h4 => k0_hw6.1 k0_h2 k0_h3 k0_h4
theorem k0_off23_inb : ∀ (i : grid0.Coords) (v0 : BitVec 32) (v27 : BitVec 32) (v32 : BitVec 32) (v320 : BitVec 32) (v403 : BitVec 32) (k0_hw6 : k0_chk6 i v0 v27 v32 v320 v403), ∀ (k0_h2 : k0_cond2 i v0 = 1#1), ∀ (k0_h3 : k0_cond3 i v27 v32 = 1#1), ∀ (k0_h4 : k0_cond4 v27 v403 = 1#1), ∀ a, (k0_off23 v320) a + S1x1024x1024.size a ≤ S2x1024x1024.size a := fun i v0 v27 v32 v320 v403 k0_hw6 k0_h2 k0_h3 k0_h4 => k0_hw6.2.1 k0_h2 k0_h3 k0_h4
theorem k0_off25_inb : ∀ (i : grid0.Coords) (v0 : BitVec 32) (v27 : BitVec 32) (v32 : BitVec 32) (v320 : BitVec 32) (v403 : BitVec 32) (k0_hw6 : k0_chk6 i v0 v27 v32 v320 v403), ∀ (k0_h2 : k0_cond2 i v0 = 1#1), ∀ (k0_h3 : k0_cond3 i v27 v32 = 1#1), ∀ (k0_h4 : k0_cond4 v27 v403 = 1#1), ∀ a, (k0_off25 v320) a + S1.size a ≤ S2.size a := fun i v0 v27 v32 v320 v403 k0_hw6 k0_h2 k0_h3 k0_h4 => k0_hw6.2.2.1 k0_h2 k0_h3 k0_h4
theorem k0_off26_inb : ∀ (i : grid0.Coords) (v0 : BitVec 32) (v27 : BitVec 32) (v32 : BitVec 32) (v320 : BitVec 32) (v403 : BitVec 32) (k0_hw6 : k0_chk6 i v0 v27 v32 v320 v403), ∀ (k0_h2 : k0_cond2 i v0 = 1#1), ∀ (k0_h3 : k0_cond3 i v27 v32 = 1#1), ∀ (k0_h4 : k0_cond4 v27 v403 = 1#1), ∀ a, (k0_off26 v320) a + S1x1024x1024.size a ≤ S2x1024x1024.size a := fun i v0 v27 v32 v320 v403 k0_hw6 k0_h2 k0_h3 k0_h4 => k0_hw6.2.2.2 k0_h2 k0_h3 k0_h4

def k0_off27 (i : grid0.Coords) : Fin 1 → Nat :=
  let arg0 : BitVec 32 := BitVec.ofNat 32 (i 0).val
  let c3_i32 : BitVec 32 := 3#32
  let v12 : BitVec 32 := Scalar.remsi arg0 c3_i32
  ![v12.toNat]
def k0_off28 (i : grid0.Coords) : Fin 3 → Nat :=
  let arg0 : BitVec 32 := BitVec.ofNat 32 (i 0).val
  let c3_i32 : BitVec 32 := 3#32
  let v12 : BitVec 32 := Scalar.remsi arg0 c3_i32
  let c0_i32_16 : BitVec 32 := 0#32
  let c0_i32_17 : BitVec 32 := 0#32
  ![v12.toNat, 0, 0]
@[reducible] def k0_t3_loop : Scf.Loop 32 :=
  let c0_i32_47 : BitVec 32 := 0#32
  let c64_i32 : BitVec 32 := 64#32
  let v71 : BitVec 32 := Scalar.addi c0_i32_47 c64_i32
  let c1_i32_48 : BitVec 32 := 1#32
  ⟨c0_i32_47, v71, c1_i32_48⟩
def k0_off29 (k0_t3 : Fin k0_t3_loop.trips) : Fin 3 → Nat :=
  let c0_227 : Index := 0#32
  let c0_228 : Index := 0#32
  let c0_i32_47 : BitVec 32 := 0#32
  let c1_i32_48 : BitVec 32 := 1#32
  let arg28 : BitVec 32 := Scf.iv c0_i32_47 c1_i32_48 k0_t3
  let v319 : Index := Scalar.indexCast arg28
  ![0, 0, v319.toNat]
def k0_off30 (i : grid0.Coords) : Fin 1 → Nat :=
  let arg0 : BitVec 32 := BitVec.ofNat 32 (i 0).val
  let c2_i32_6 : BitVec 32 := 2#32
  let v15 : BitVec 32 := Scalar.addi arg0 c2_i32_6
  let c3_i32_7 : BitVec 32 := 3#32
  let v16 : BitVec 32 := Scalar.remsi v15 c3_i32_7
  ![v16.toNat]
def k0_off31 (i : grid0.Coords) (k0_t3 : Fin k0_t3_loop.trips) : Fin 3 → Nat :=
  let arg0 : BitVec 32 := BitVec.ofNat 32 (i 0).val
  let c2_i32_6 : BitVec 32 := 2#32
  let v15 : BitVec 32 := Scalar.addi arg0 c2_i32_6
  let c3_i32_7 : BitVec 32 := 3#32
  let v16 : BitVec 32 := Scalar.remsi v15 c3_i32_7
  let c0_i32_47 : BitVec 32 := 0#32
  let c1_i32_48 : BitVec 32 := 1#32
  let arg28 : BitVec 32 := Scf.iv c0_i32_47 c1_i32_48 k0_t3
  let c8_i32_229 : BitVec 32 := 8#32
  let v323 : BitVec 32 := Scalar.muli arg28 c8_i32_229
  let c0_i32_230 : BitVec 32 := 0#32
  ![v16.toNat, v323.toNat, 0]
def k0_off32 (v320 : BitVec 32) : Fin 2 → Nat :=
  let c16383_i32 : BitVec 32 := 16383#32
  let v321 : BitVec 32 := Scalar.andi v320 c16383_i32
  let c8_i32 : BitVec 32 := 8#32
  let v322 : BitVec 32 := Scalar.muli v321 c8_i32
  let c0_i32_231 : BitVec 32 := 0#32
  ![v322.toNat, 0]

def k0_chk8 (i : grid0.Coords) (v0 : BitVec 32) (v320 : BitVec 32) : Prop :=
  (∀ (k0_h2 : k0_cond2 i v0 = 1#1), ∀ a, (k0_off32 v320) a + S8x128.size a ≤ S131072x128.size a)
theorem k0_off32_inb : ∀ (i : grid0.Coords) (v0 : BitVec 32) (v320 : BitVec 32) (k0_hw8 : k0_chk8 i v0 v320), ∀ (k0_h2 : k0_cond2 i v0 = 1#1), ∀ a, (k0_off32 v320) a + S8x128.size a ≤ S131072x128.size a := fun i v0 v320 k0_hw8 k0_h2 => k0_hw8 k0_h2

@[reducible] def k0_t4_loop : Scf.Loop 32 :=
  let c64_i32_73 : BitVec 32 := 64#32
  let c64_i32_74 : BitVec 32 := 64#32
  let v112 : BitVec 32 := Scalar.addi c64_i32_73 c64_i32_74
  let c1_i32_75 : BitVec 32 := 1#32
  ⟨c64_i32_73, v112, c1_i32_75⟩
def k0_off33 (k0_t4 : Fin k0_t4_loop.trips) : Fin 3 → Nat :=
  let c0_227 : Index := 0#32
  let c0_228 : Index := 0#32
  let c64_i32_73 : BitVec 32 := 64#32
  let c1_i32_75 : BitVec 32 := 1#32
  let arg28 : BitVec 32 := Scf.iv c64_i32_73 c1_i32_75 k0_t4
  let v319 : Index := Scalar.indexCast arg28
  ![0, 0, v319.toNat]
def k0_off34 (i : grid0.Coords) : Fin 1 → Nat :=
  let arg0 : BitVec 32 := BitVec.ofNat 32 (i 0).val
  let c2_i32_6 : BitVec 32 := 2#32
  let v15 : BitVec 32 := Scalar.addi arg0 c2_i32_6
  let c3_i32_7 : BitVec 32 := 3#32
  let v16 : BitVec 32 := Scalar.remsi v15 c3_i32_7
  ![v16.toNat]
def k0_off35 (i : grid0.Coords) (k0_t4 : Fin k0_t4_loop.trips) : Fin 3 → Nat :=
  let arg0 : BitVec 32 := BitVec.ofNat 32 (i 0).val
  let c2_i32_6 : BitVec 32 := 2#32
  let v15 : BitVec 32 := Scalar.addi arg0 c2_i32_6
  let c3_i32_7 : BitVec 32 := 3#32
  let v16 : BitVec 32 := Scalar.remsi v15 c3_i32_7
  let c64_i32_73 : BitVec 32 := 64#32
  let c1_i32_75 : BitVec 32 := 1#32
  let arg28 : BitVec 32 := Scf.iv c64_i32_73 c1_i32_75 k0_t4
  let c8_i32_229 : BitVec 32 := 8#32
  let v323 : BitVec 32 := Scalar.muli arg28 c8_i32_229
  let c0_i32_230 : BitVec 32 := 0#32
  ![v16.toNat, v323.toNat, 0]
def k0_off36 (v320 : BitVec 32) : Fin 2 → Nat :=
  let c16383_i32 : BitVec 32 := 16383#32
  let v321 : BitVec 32 := Scalar.andi v320 c16383_i32
  let c8_i32 : BitVec 32 := 8#32
  let v322 : BitVec 32 := Scalar.muli v321 c8_i32
  let c0_i32_231 : BitVec 32 := 0#32
  ![v322.toNat, 0]

def k0_chk9 (i : grid0.Coords) (v0 : BitVec 32) (v320 : BitVec 32) : Prop :=
  (∀ (k0_h2 : k0_cond2 i v0 = 1#1), ∀ a, (k0_off36 v320) a + S8x128.size a ≤ S131072x128.size a)
theorem k0_off36_inb : ∀ (i : grid0.Coords) (v0 : BitVec 32) (v320 : BitVec 32) (k0_hw9 : k0_chk9 i v0 v320), ∀ (k0_h2 : k0_cond2 i v0 = 1#1), ∀ a, (k0_off36 v320) a + S8x128.size a ≤ S131072x128.size a := fun i v0 v320 k0_hw9 k0_h2 => k0_hw9 k0_h2

@[reducible] def k0_t5_loop : Scf.Loop 32 :=
  let c128_i32 : BitVec 32 := 128#32
  let c64_i32_100 : BitVec 32 := 64#32
  let v153 : BitVec 32 := Scalar.addi c128_i32 c64_i32_100
  let c1_i32_101 : BitVec 32 := 1#32
  ⟨c128_i32, v153, c1_i32_101⟩
def k0_off37 (k0_t5 : Fin k0_t5_loop.trips) : Fin 3 → Nat :=
  let c0_227 : Index := 0#32
  let c0_228 : Index := 0#32
  let c128_i32 : BitVec 32 := 128#32
  let c1_i32_101 : BitVec 32 := 1#32
  let arg28 : BitVec 32 := Scf.iv c128_i32 c1_i32_101 k0_t5
  let v319 : Index := Scalar.indexCast arg28
  ![0, 0, v319.toNat]
def k0_off38 (i : grid0.Coords) : Fin 1 → Nat :=
  let arg0 : BitVec 32 := BitVec.ofNat 32 (i 0).val
  let c2_i32_6 : BitVec 32 := 2#32
  let v15 : BitVec 32 := Scalar.addi arg0 c2_i32_6
  let c3_i32_7 : BitVec 32 := 3#32
  let v16 : BitVec 32 := Scalar.remsi v15 c3_i32_7
  ![v16.toNat]
def k0_off39 (i : grid0.Coords) (k0_t5 : Fin k0_t5_loop.trips) : Fin 3 → Nat :=
  let arg0 : BitVec 32 := BitVec.ofNat 32 (i 0).val
  let c2_i32_6 : BitVec 32 := 2#32
  let v15 : BitVec 32 := Scalar.addi arg0 c2_i32_6
  let c3_i32_7 : BitVec 32 := 3#32
  let v16 : BitVec 32 := Scalar.remsi v15 c3_i32_7
  let c128_i32 : BitVec 32 := 128#32
  let c1_i32_101 : BitVec 32 := 1#32
  let arg28 : BitVec 32 := Scf.iv c128_i32 c1_i32_101 k0_t5
  let c8_i32_229 : BitVec 32 := 8#32
  let v323 : BitVec 32 := Scalar.muli arg28 c8_i32_229
  let c0_i32_230 : BitVec 32 := 0#32
  ![v16.toNat, v323.toNat, 0]
def k0_off40 (v320 : BitVec 32) : Fin 2 → Nat :=
  let c16383_i32 : BitVec 32 := 16383#32
  let v321 : BitVec 32 := Scalar.andi v320 c16383_i32
  let c8_i32 : BitVec 32 := 8#32
  let v322 : BitVec 32 := Scalar.muli v321 c8_i32
  let c0_i32_231 : BitVec 32 := 0#32
  ![v322.toNat, 0]

def k0_chk10 (i : grid0.Coords) (v0 : BitVec 32) (v320 : BitVec 32) : Prop :=
  (∀ (k0_h2 : k0_cond2 i v0 = 1#1), ∀ a, (k0_off40 v320) a + S8x128.size a ≤ S131072x128.size a)
theorem k0_off40_inb : ∀ (i : grid0.Coords) (v0 : BitVec 32) (v320 : BitVec 32) (k0_hw10 : k0_chk10 i v0 v320), ∀ (k0_h2 : k0_cond2 i v0 = 1#1), ∀ a, (k0_off40 v320) a + S8x128.size a ≤ S131072x128.size a := fun i v0 v320 k0_hw10 k0_h2 => k0_hw10 k0_h2

@[reducible] def k0_t6_loop : Scf.Loop 32 :=
  let c192_i32 : BitVec 32 := 192#32
  let c64_i32_126 : BitVec 32 := 64#32
  let v194 : BitVec 32 := Scalar.addi c192_i32 c64_i32_126
  let c1_i32_127 : BitVec 32 := 1#32
  ⟨c192_i32, v194, c1_i32_127⟩
def k0_off41 (k0_t6 : Fin k0_t6_loop.trips) : Fin 3 → Nat :=
  let c0_227 : Index := 0#32
  let c0_228 : Index := 0#32
  let c192_i32 : BitVec 32 := 192#32
  let c1_i32_127 : BitVec 32 := 1#32
  let arg28 : BitVec 32 := Scf.iv c192_i32 c1_i32_127 k0_t6
  let v319 : Index := Scalar.indexCast arg28
  ![0, 0, v319.toNat]
def k0_off42 (i : grid0.Coords) : Fin 1 → Nat :=
  let arg0 : BitVec 32 := BitVec.ofNat 32 (i 0).val
  let c2_i32_6 : BitVec 32 := 2#32
  let v15 : BitVec 32 := Scalar.addi arg0 c2_i32_6
  let c3_i32_7 : BitVec 32 := 3#32
  let v16 : BitVec 32 := Scalar.remsi v15 c3_i32_7
  ![v16.toNat]
def k0_off43 (i : grid0.Coords) (k0_t6 : Fin k0_t6_loop.trips) : Fin 3 → Nat :=
  let arg0 : BitVec 32 := BitVec.ofNat 32 (i 0).val
  let c2_i32_6 : BitVec 32 := 2#32
  let v15 : BitVec 32 := Scalar.addi arg0 c2_i32_6
  let c3_i32_7 : BitVec 32 := 3#32
  let v16 : BitVec 32 := Scalar.remsi v15 c3_i32_7
  let c192_i32 : BitVec 32 := 192#32
  let c1_i32_127 : BitVec 32 := 1#32
  let arg28 : BitVec 32 := Scf.iv c192_i32 c1_i32_127 k0_t6
  let c8_i32_229 : BitVec 32 := 8#32
  let v323 : BitVec 32 := Scalar.muli arg28 c8_i32_229
  let c0_i32_230 : BitVec 32 := 0#32
  ![v16.toNat, v323.toNat, 0]
def k0_off44 (v320 : BitVec 32) : Fin 2 → Nat :=
  let c16383_i32 : BitVec 32 := 16383#32
  let v321 : BitVec 32 := Scalar.andi v320 c16383_i32
  let c8_i32 : BitVec 32 := 8#32
  let v322 : BitVec 32 := Scalar.muli v321 c8_i32
  let c0_i32_231 : BitVec 32 := 0#32
  ![v322.toNat, 0]

def k0_chk11 (i : grid0.Coords) (v0 : BitVec 32) (v320 : BitVec 32) : Prop :=
  (∀ (k0_h2 : k0_cond2 i v0 = 1#1), ∀ a, (k0_off44 v320) a + S8x128.size a ≤ S131072x128.size a)
theorem k0_off44_inb : ∀ (i : grid0.Coords) (v0 : BitVec 32) (v320 : BitVec 32) (k0_hw11 : k0_chk11 i v0 v320), ∀ (k0_h2 : k0_cond2 i v0 = 1#1), ∀ a, (k0_off44 v320) a + S8x128.size a ≤ S131072x128.size a := fun i v0 v320 k0_hw11 k0_h2 => k0_hw11 k0_h2

def k0_off45 (i : grid0.Coords) : Fin 1 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  ![v10.toNat]
def k0_off46 (i : grid0.Coords) : Fin 3 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_154 : BitVec 32 := 0#32
  let c0_i32_155 : BitVec 32 := 0#32
  ![v10.toNat, 0, 0]
@[reducible] def k0_t7_loop : Scf.Loop 32 :=
  let c0_i32_156 : BitVec 32 := 0#32
  let c256_i32 : BitVec 32 := 256#32
  let v240 : BitVec 32 := Scalar.addi c0_i32_156 c256_i32
  let c1_i32_157 : BitVec 32 := 1#32
  ⟨c0_i32_156, v240, c1_i32_157⟩
def k0_off47 (k0_t7 : Fin k0_t7_loop.trips) : Fin 3 → Nat :=
  let c0_227 : Index := 0#32
  let c0_228 : Index := 0#32
  let c0_i32_156 : BitVec 32 := 0#32
  let c1_i32_157 : BitVec 32 := 1#32
  let arg28 : BitVec 32 := Scf.iv c0_i32_156 c1_i32_157 k0_t7
  let v320 : Index := Scalar.indexCast arg28
  ![0, 0, v320.toNat]
def k0_off48 (i : grid0.Coords) : Fin 1 → Nat :=
  let c1_i32_3 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v11 : BitVec 32 := Scalar.subi c1_i32_3 v10
  ![v11.toNat]
def k0_off49 (v321 : BitVec 32) : Fin 2 → Nat :=
  let c8_i32_229 : BitVec 32 := 8#32
  let v322 : BitVec 32 := Scalar.muli v321 c8_i32_229
  let c0_i32_230 : BitVec 32 := 0#32
  ![v322.toNat, 0]

def k0_chk12 (i : grid0.Coords) (v0 : BitVec 32) (v321 : BitVec 32) : Prop :=
  (∀ (k0_h2 : k0_cond2 i v0 = 1#1), ∀ a, (k0_off49 v321) a + S8x128.size a ≤ S528384x128.size a)
theorem k0_off49_inb : ∀ (i : grid0.Coords) (v0 : BitVec 32) (v321 : BitVec 32) (k0_hw12 : k0_chk12 i v0 v321), ∀ (k0_h2 : k0_cond2 i v0 = 1#1), ∀ a, (k0_off49 v321) a + S8x128.size a ≤ S528384x128.size a := fun i v0 v321 k0_hw12 k0_h2 => k0_hw12 k0_h2

def k0_off50 (i : grid0.Coords) (k0_t7 : Fin k0_t7_loop.trips) : Fin 3 → Nat :=
  let c1_i32_3 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v11 : BitVec 32 := Scalar.subi c1_i32_3 v10
  let c0_i32_156 : BitVec 32 := 0#32
  let c1_i32_157 : BitVec 32 := 1#32
  let arg28 : BitVec 32 := Scf.iv c0_i32_156 c1_i32_157 k0_t7
  let c8_i32 : BitVec 32 := 8#32
  let v319 : BitVec 32 := Scalar.muli arg28 c8_i32
  let c0_i32_231 : BitVec 32 := 0#32
  ![v11.toNat, v319.toNat, 0]
def k0_off51 (i : grid0.Coords) (c1_i32_4 : BitVec 32) : Fin 1 → Nat :=
  let arg0 : BitVec 32 := BitVec.ofNat 32 (i 0).val
  let v13 : BitVec 32 := Scalar.addi arg0 c1_i32_4
  let c3_i32_5 : BitVec 32 := 3#32
  let v14 : BitVec 32 := Scalar.remsi v13 c3_i32_5
  ![v14.toNat]
def k0_off52 (i : grid0.Coords) (c1_i32_4 : BitVec 32) : Fin 3 → Nat :=
  let arg0 : BitVec 32 := BitVec.ofNat 32 (i 0).val
  let v13 : BitVec 32 := Scalar.addi arg0 c1_i32_4
  let c3_i32_5 : BitVec 32 := 3#32
  let v14 : BitVec 32 := Scalar.remsi v13 c3_i32_5
  let c0_i32_12 : BitVec 32 := 0#32
  let c0_i32_13 : BitVec 32 := 0#32
  ![v14.toNat, 0, 0]
def k0_off53 (i : grid0.Coords) : Fin 1 → Nat :=
  let c1_i32_3 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v11 : BitVec 32 := Scalar.subi c1_i32_3 v10
  ![v11.toNat]
def k0_off54 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v11 : BitVec 32 := Scalar.subi c1_i32_3 v10
  let c0_i32_22 : BitVec 32 := 0#32
  let c0_i32_23 : BitVec 32 := 0#32
  ![v11.toNat, 0, 0]
def cc0_transform_0 (i : grid0.Coords) : Fin 3 → Nat :=
  let arg0 : BitVec 32 := BitVec.ofNat 32 (i 0).val
  let c0_i32 : BitVec 32 := 0#32
  let v0 : BitVec 1 := Scalar.cmpi .eq arg0 c0_i32
  let c1_i32 : BitVec 32 := 1#32
  let v1 : BitVec 32 := Scalar.subi arg0 c1_i32
  let c288_i32 : BitVec 32 := 288#32
  let v2 : BitVec 32 := Scalar.select v0 c288_i32 v1
  let c0_i32_0 : BitVec 32 := 0#32
  let c0_i32_1 : BitVec 32 := 0#32
  let c0_i32_2 : BitVec 32 := 0#32
  ![v2.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c288_i32 : BitVec 32 := 288#32
  let v1 : BitVec 32 := Scalar.minsi v0 c288_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c2_i32 : BitVec 32 := 2#32
  let v0 : BitVec 32 := Scalar.addi arg0 c2_i32
  let c288_i32 : BitVec 32 := 288#32
  let v1 : BitVec 32 := Scalar.minsi v0 c288_i32
  let c0_i32 : BitVec 32 := 0#32
  let c0_i32_0 : BitVec 32 := 0#32
  let c0_i32_1 : BitVec 32 := 0#32
  ![v1.toNat, c0_i32.toNat, c0_i32_0.toNat]

def cc0_transform_8 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_9 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_10 (k0_off1_inb : ∀ i : grid0.Coords, ∀ a, (k0_off1 i) a + S1.size a ≤ S289.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .smem S1x1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16384x1024 : Shape := ⟨2, ![16384, 1024]⟩
abbrev S4x16384 : Shape := ⟨2, ![4, 16384]⟩
abbrev S65536 : Shape := ⟨1, ![65536]⟩
abbrev S73984 : Shape := ⟨1, ![73984]⟩
abbrev S289 : Shape := ⟨1, ![289]⟩
abbrev S1 : Shape := ⟨1, ![1]⟩
abbrev S32x1024x1024 : Shape := ⟨3, ![32, 1024, 1024]⟩
abbrev S32x1024 : Shape := ⟨2, ![32, 1024]⟩
abbrev S32x1024x16384 : Shape := ⟨3, ![32, 1024, 16384]⟩
abbrev S32x16384x1024 : Shape := ⟨3, ![32, 16384, 1024]⟩
abbrev S32x1x1024 : Shape := ⟨3, ![32, 1, 1024]⟩
abbrev S_ : Shape := ⟨0, ![]⟩
abbrev S4x1x16384 : Shape := ⟨3, ![4, 1, 16384]⟩
abbrev S32 : Shape := ⟨1, ![32]⟩
abbrev S1x32x1 : Shape := ⟨3, ![1, 32, 1]⟩
abbrev S4x32x16384 : Shape := ⟨3, ![4, 32, 16384]⟩
abbrev S4x32x16384x1 : Shape := ⟨4, ![4, 32, 16384, 1]⟩
abbrev S1x32x16384x1024 : Shape := ⟨4, ![1, 32, 16384, 1024]⟩
abbrev S4x32x16384x1024 : Shape := ⟨4, ![4, 32, 16384, 1024]⟩
abbrev S4x16384x1024 : Shape := ⟨3, ![4, 16384, 1024]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x16384, .i32⟩
  | .hbm, ⟨2, _⟩ => ⟨S65536, .i32⟩
  | .hbm, ⟨3, _⟩ => ⟨S73984, .i32⟩
  | .hbm, ⟨4, _⟩ => ⟨S289, .i32⟩
  | .hbm, ⟨5, _⟩ => ⟨S289, .i32⟩
  | .hbm, ⟨6, _⟩ => ⟨S289, .i32⟩
  | .hbm, ⟨7, _⟩ => ⟨S1, .i32⟩
  | .hbm, ⟨8, _⟩ => ⟨S32x1024x1024, .f32⟩
  | .hbm, ⟨9, _⟩ => ⟨S32x1024, .f32⟩
  | .hbm, ⟨10, _⟩ => ⟨S32x1024x1024, .f32⟩
  | .hbm, ⟨11, _⟩ => ⟨S32x1024, .f32⟩
  | .hbm, ⟨12, _⟩ => ⟨S32x1024x1024, .f32⟩
  | .hbm, ⟨13, _⟩ => ⟨S32x1024, .f32⟩
  | .hbm, ⟨14, _⟩ => ⟨S32x1024x16384, .f32⟩
  | .hbm, ⟨15, _⟩ => ⟨S32x16384x1024, .f32⟩
  | .hbm, ⟨16, _⟩ => ⟨S32x1x1024, .f32⟩
  | .hbm, ⟨17, _⟩ => ⟨S32x16384x1024, .f32⟩
  | .hbm, ⟨18, _⟩ => ⟨S32x16384x1024, .f32⟩
  | .hbm, ⟨19, _⟩ => ⟨S32x1024x16384, .f32⟩
  | .hbm, ⟨20, _⟩ => ⟨S32x16384x1024, .f32⟩
  | .hbm, ⟨21, _⟩ => ⟨S32x1x1024, .f32⟩
  | .hbm, ⟨22, _⟩ => ⟨S32x16384x1024, .f32⟩
  | .hbm, ⟨23, _⟩ => ⟨S32x16384x1024, .f32⟩
  | .hbm, ⟨24, _⟩ => ⟨S_, .f32⟩
  | .hbm, ⟨25, _⟩ => ⟨S32x16384x1024, .f32⟩
  | .hbm, ⟨26, _⟩ => ⟨S32x16384x1024, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S32x16384x1024, .f32⟩
  | .hbm, ⟨31, _⟩ => ⟨S32x16384x1024, .f32⟩
  | .hbm, ⟨32, _⟩ => ⟨S_, .f32⟩
  | .hbm, ⟨33, _⟩ => ⟨S32x16384x1024, .f32⟩
  | .hbm, ⟨34, _⟩ => ⟨S32x16384x1024, .f32⟩
  | .hbm, ⟨35, _⟩ => ⟨S_, .f32⟩
  | .hbm, ⟨36, _⟩ => ⟨S32x16384x1024, .f32⟩
  | .hbm, ⟨37, _⟩ => ⟨S32x16384x1024, .f32⟩
  | .hbm, ⟨38, _⟩ => ⟨S_, .f32⟩
  | .hbm, ⟨39, _⟩ => ⟨S32x16384x1024, .f32⟩
  | .hbm, ⟨40, _⟩ => ⟨S32x16384x1024, .f32⟩
  | .hbm, ⟨41, _⟩ => ⟨S32x16384x1024, .f32⟩
  | .hbm, ⟨42, _⟩ => ⟨S32x16384x1024, .f32⟩
  | .hbm, ⟨43, _⟩ => ⟨S_, .f32⟩
  | .hbm, ⟨44, _⟩ => ⟨S32x16384x1024, .f32⟩
  | .hbm, ⟨45, _⟩ => ⟨S32x16384x1024, .f32⟩
  | .hbm, ⟨46, _⟩ => ⟨S_, .f32⟩
  | .hbm, ⟨47, _⟩ => ⟨S32x16384x1024, .f32⟩
  | .hbm, ⟨48, _⟩ => ⟨S32x16384x1024, .f32⟩
  | .hbm, ⟨49, _⟩ => ⟨S32x16384x1024, .f32⟩
  | .hbm, ⟨50, _⟩ => ⟨S32x16384x1024, .f32⟩
  | .hbm, ⟨51, _⟩ => ⟨S32x16384x1024, .f32⟩
  | .hbm, ⟨52, _⟩ => ⟨S32x1x1024, .f32⟩
  | .hbm, ⟨53, _⟩ => ⟨S32x16384x1024, .f32⟩
  | .hbm, ⟨54, _⟩ => ⟨S32x16384x1024, .f32⟩
  | .hbm, ⟨55, _⟩ => ⟨S4x1x16384, .i32⟩
  | .hbm, ⟨56, _⟩ => ⟨S32, .i32⟩
  | .hbm, ⟨57, _⟩ => ⟨S1x32x1, .i32⟩
  | .hbm, ⟨58, _⟩ => ⟨S4x32x16384, .i32⟩
  | .hbm, ⟨59, _⟩ => ⟨S4x32x16384, .i32⟩
  | .hbm, ⟨60, _⟩ => ⟨S4x32x16384, .i1⟩
  | .hbm, ⟨61, _⟩ => ⟨S4x32x16384x1, .i1⟩
  | .hbm, ⟨62, _⟩ => ⟨S1x32x16384x1024, .f32⟩
  | .hbm, ⟨63, _⟩ => ⟨S_, .f32⟩
  | .hbm, ⟨64, _⟩ => ⟨S_, .f32⟩
  | .hbm, ⟨65, _⟩ => ⟨S4x32x16384x1024, .i1⟩
  | .hbm, ⟨66, _⟩ => ⟨S4x32x16384x1024, .f32⟩
  | .hbm, ⟨67, _⟩ => ⟨S4x32x16384x1024, .f32⟩
  | .hbm, ⟨68, _⟩ => ⟨S4x32x16384x1024, .f32⟩
  | .hbm, ⟨69, _⟩ => ⟨S_, .f32⟩
  | .hbm, ⟨70, _⟩ => ⟨S4x16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_cst_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_4 : Ref sig .tc := ⟨.hbm, 43, rfl⟩
abbrev main_v19 : Ref sig .tc := ⟨.hbm, 44, rfl⟩
abbrev main_v20 : Ref sig .tc := ⟨.hbm, 45, rfl⟩
abbrev main_cst_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_v37 : Ref sig .tc := ⟨.hbm, 68, rfl⟩
abbrev main_cst_7 : Ref sig .tc := ⟨.hbm, 69, rfl⟩
abbrev main_v38 : Ref sig .tc := ⟨.hbm, 70, rfl⟩

abbrev nD : Nat := 1
abbrev τ : Topo := Topo.v7x

variable {F : FTy → Type} [FloatOps F]
-- ==== CombineCtx.lean ====
abbrev S16384x1024 : Shape := ⟨2, ![16384, 1024]⟩
abbrev S4x16384x1024 : Shape := ⟨3, ![4, 16384, 1024]⟩
abbrev S16384x4 : Shape := ⟨2, ![16384, 4]⟩
abbrev S8x6x1024 : Shape := ⟨3, ![8, 6, 1024]⟩
abbrev S1024 : Shape := ⟨1, ![1024]⟩
abbrev S524288x128 : Shape := ⟨2, ![524288, 128]⟩
abbrev S_ : Shape := ⟨0, ![]⟩
abbrev S528384x128 : Shape := ⟨2, ![528384, 128]⟩
abbrev S1x1024 : Shape := ⟨2, ![1, 1024]⟩
abbrev S8192x1024 : Shape := ⟨2, ![8192, 1024]⟩
abbrev S512x1024 : Shape := ⟨2, ![512, 1024]⟩
abbrev S4096x128 : Shape := ⟨2, ![4096, 128]⟩
abbrev S512x4 : Shape := ⟨2, ![512, 4]⟩
abbrev S1x6x1024 : Shape := ⟨3, ![1, 6, 1024]⟩
abbrev S6x1024 : Shape := ⟨2, ![6, 1024]⟩
abbrev S512x1 : Shape := ⟨2, ![512, 1]⟩
abbrev S512x128 : Shape := ⟨2, ![512, 128]⟩
abbrev S1x128 : Shape := ⟨2, ![1, 128]⟩
abbrev S512 : Shape := ⟨1, ![512]⟩

abbrev nBuf : Space → Nat
  | .hbm => 11
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S4x16384x1024, .f32⟩
  | .hbm, ⟨2, _⟩ => ⟨S16384x4, .f32⟩
  | .hbm, ⟨3, _⟩ => ⟨S8x6x1024, .f32⟩
  | .hbm, ⟨4, _⟩ => ⟨S1024, .f32⟩
  | .hbm, ⟨5, _⟩ => ⟨S524288x128, .f32⟩
  | .hbm, ⟨6, _⟩ => ⟨S_, .i32⟩
  | .hbm, ⟨7, _⟩ => ⟨S_, .f32⟩
  | .hbm, ⟨8, _⟩ => ⟨S528384x128, .f32⟩
  | .hbm, ⟨9, _⟩ => ⟨S1x1024, .f32⟩
  | .hbm, ⟨10, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S512x4, .f32⟩
  | .local _ .vmem, ⟨11, _⟩ => ⟨S512x4, .f32⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let v1 : BitVec 32 := Scalar.addi v0 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 3 → Nat :=
  let arg0 : BitVec 32 := BitVec.ofNat 32 (i 0).val
  let c0_i32 : BitVec 32 := 0#32
  let v0 : BitVec 32 := Scalar.addi arg0 c0_i32
  let c512_i32 : BitVec 32 := 512#32
  let v1 : BitVec 32 := Scalar.muli v0 c512_i32
  let c8192_i32 : BitVec 32 := 8192#32
  let v2 : BitVec 1 := Scalar.cmpi .slt v1 c8192_i32
  let c8192_i32_0 : BitVec 32 := 8192#32
  let v3 : BitVec 32 := Scalar.subi v1 c8192_i32_0
  let c2048_i32 : BitVec 32 := 2048#32
  let v4 : BitVec 32 := Scalar.divsi v3 c2048_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c2048_i32 c0_i32_3
  let v11 : BitVec 32 := Scalar.extui v10
  let c0_i32_4 : BitVec 32 := 0#32
  let v12 : BitVec 1 := Scalar.cmpi .slt c2048_i32 c0_i32_4
  let v13 : BitVec 32 := Scalar.extui v12
  let v14 : BitVec 32 := Scalar.subi v11 v13
  let v15 : BitVec 1 := Scalar.cmpi .ne v9 v14
  let v16 : BitVec 32 := Scalar.remsi v3 c2048_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c4_i32 : BitVec 32 := 4#32
  let v21 : BitVec 32 := Scalar.select v2 c4_i32 v20
  let c0_i32_6 : BitVec 32 := 0#32
  let c0_i32_7 : BitVec 32 := 0#32
  let c0_i32_8 : BitVec 32 := 0#32
  ![v21.toNat, c0_i32_6.toNat, c0_i32_7.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FinalCtxIdeal.lean ====
abbrev S16384x1024 : Shape := ⟨2, ![16384, 1024]⟩
abbrev S4x16384x1024 : Shape := ⟨3, ![4, 16384, 1024]⟩
abbrev S16384x4 : Shape := ⟨2, ![16384, 4]⟩
abbrev S8x6x1024 : Shape := ⟨3, ![8, 6, 1024]⟩
abbrev S1024 : Shape := ⟨1, ![1024]⟩
abbrev S4x8192x1024 : Shape := ⟨3, ![4, 8192, 1024]⟩
abbrev S8192x4 : Shape := ⟨2, ![8192, 4]⟩
abbrev S4x8192 : Shape := ⟨2, ![4, 8192]⟩
abbrev S4x8192x1 : Shape := ⟨3, ![4, 8192, 1]⟩
abbrev S_ : Shape := ⟨0, ![]⟩
abbrev S8192x1024 : Shape := ⟨2, ![8192, 1024]⟩
abbrev S1x1x1024 : Shape := ⟨3, ![1, 1, 1024]⟩
abbrev S1x1024 : Shape := ⟨2, ![1, 1024]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x16384x1024, .f32⟩
  | .hbm, ⟨2, _⟩ => ⟨S16384x4, .f32⟩
  | .hbm, ⟨3, _⟩ => ⟨S8x6x1024, .f32⟩
  | .hbm, ⟨4, _⟩ => ⟨S1024, .f32⟩
  | .hbm, ⟨5, _⟩ => ⟨S4x8192x1024, .f32⟩
  | .hbm, ⟨6, _⟩ => ⟨S8192x4, .f32⟩
  | .hbm, ⟨7, _⟩ => ⟨S4x8192, .f32⟩
  | .hbm, ⟨8, _⟩ => ⟨S4x8192x1, .f32⟩
  | .hbm, ⟨9, _⟩ => ⟨S4x8192x1024, .f32⟩
  | .hbm, ⟨10, _⟩ => ⟨S4x8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== CombineLat.lean ====
abbrev S16384x1024 : Shape := ⟨2, ![16384, 1024]⟩
abbrev S4x16384x1024 : Shape := ⟨3, ![4, 16384, 1024]⟩
abbrev S16384x4 : Shape := ⟨2, ![16384, 4]⟩
abbrev S8x6x1024 : Shape := ⟨3, ![8, 6, 1024]⟩
abbrev S1024 : Shape := ⟨1, ![1024]⟩
abbrev S524288x128 : Shape := ⟨2, ![524288, 128]⟩
abbrev S_ : Shape := ⟨0, ![]⟩
abbrev S528384x128 : Shape := ⟨2, ![528384, 128]⟩
abbrev S1x1024 : Shape := ⟨2, ![1, 1024]⟩
abbrev S8192x1024 : Shape := ⟨2, ![8192, 1024]⟩
abbrev S512x1024 : Shape := ⟨2, ![512, 1024]⟩
abbrev S4096x128 : Shape := ⟨2, ![4096, 128]⟩
abbrev S512x4 : Shape := ⟨2, ![512, 4]⟩
abbrev S1x6x1024 : Shape := ⟨3, ![1, 6, 1024]⟩
abbrev S6x1024 : Shape := ⟨2, ![6, 1024]⟩
abbrev S512x1 : Shape := ⟨2, ![512, 1]⟩
abbrev S512x128 : Shape := ⟨2, ![512, 128]⟩
abbrev S1x128 : Shape := ⟨2, ![1, 128]⟩
abbrev S512 : Shape := ⟨1, ![512]⟩

abbrev nBuf : Space → Nat
  | .hbm => 11
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S4x16384x1024, .f32⟩
  | .hbm, ⟨2, _⟩ => ⟨S16384x4, .f32⟩
  | .hbm, ⟨3, _⟩ => ⟨S8x6x1024, .f32⟩
  | .hbm, ⟨4, _⟩ => ⟨S1024, .f32⟩
  | .hbm, ⟨5, _⟩ => ⟨S524288x128, .f32⟩
  | .hbm, ⟨6, _⟩ => ⟨S_, .i32⟩
  | .hbm, ⟨7, _⟩ => ⟨S_, .f32⟩
  | .hbm, ⟨8, _⟩ => ⟨S528384x128, .f32⟩
  | .hbm, ⟨9, _⟩ => ⟨S1x1024, .f32⟩
  | .hbm, ⟨10, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S512x4, .f32⟩
  | .local _ .vmem, ⟨11, _⟩ => ⟨S512x4, .f32⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c16_i32 : BitVec 32 := 16#32
  let v1 : BitVec 32 := Scalar.addi v0 c16_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c16_i32 : BitVec 32 := 16#32
  let v1 : BitVec 32 := Scalar.addi v0 c16_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.addi c64_i32 arg0
  let c16_i32 : BitVec 32 := 16#32
  let v1 : BitVec 32 := Scalar.addi v0 c16_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c96_i32 : BitVec 32 := 96#32
  let v0 : BitVec 32 := Scalar.addi c96_i32 arg0
  let c16_i32 : BitVec 32 := 16#32
  let v1 : BitVec 32 := Scalar.addi v0 c16_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c16_i32 : BitVec 32 := 16#32
  let v0 : BitVec 32 := Scalar.addi arg0 c16_i32
  let c512_i32 : BitVec 32 := 512#32
  let v1 : BitVec 32 := Scalar.muli v0 c512_i32
  let c8192_i32 : BitVec 32 := 8192#32
  let v2 : BitVec 1 := Scalar.cmpi .slt v1 c8192_i32
  let c8192_i32_0 : BitVec 32 := 8192#32
  let v3 : BitVec 32 := Scalar.subi v1 c8192_i32_0
  let c2048_i32 : BitVec 32 := 2048#32
  let v4 : BitVec 32 := Scalar.divsi v3 c2048_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c4_i32 : BitVec 32 := 4#32
  let v21 : BitVec 32 := Scalar.select v2 c4_i32 v20
  let c0_i32_5 : BitVec 32 := 0#32
  let c0_i32_6 : BitVec 32 := 0#32
  let c0_i32_7 : BitVec 32 := 0#32
  ![v21.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FinalLatIdeal.lean ====
abbrev S16384x1024 : Shape := ⟨2, ![16384, 1024]⟩
abbrev S4x16384x1024 : Shape := ⟨3, ![4, 16384, 1024]⟩
abbrev S16384x4 : Shape := ⟨2, ![16384, 4]⟩
abbrev S8x6x1024 : Shape := ⟨3, ![8, 6, 1024]⟩
abbrev S1024 : Shape := ⟨1, ![1024]⟩
abbrev S4x8192x1024 : Shape := ⟨3, ![4, 8192, 1024]⟩
abbrev S8192x4 : Shape := ⟨2, ![8192, 4]⟩
abbrev S4x8192 : Shape := ⟨2, ![4, 8192]⟩
abbrev S4x8192x1 : Shape := ⟨3, ![4, 8192, 1]⟩
abbrev S_ : Shape := ⟨0, ![]⟩
abbrev S8192x1024 : Shape := ⟨2, ![8192, 1024]⟩
abbrev S4x1x1024 : Shape := ⟨3, ![4, 1, 1024]⟩
abbrev S4x1024 : Shape := ⟨2, ![4, 1024]⟩
abbrev S4x2048x1024 : Shape := ⟨3, ![4, 2048, 1024]⟩
abbrev S8192 : Shape := ⟨1, ![8192]⟩
abbrev S8192x1 : Shape := ⟨2, ![8192, 1]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x16384x1024, .f32⟩
  | .hbm, ⟨2, _⟩ => ⟨S16384x4, .f32⟩
  | .hbm, ⟨3, _⟩ => ⟨S8x6x1024, .f32⟩
  | .hbm, ⟨4, _⟩ => ⟨S1024, .f32⟩
  | .hbm, ⟨5, _⟩ => ⟨S4x8192x1024, .f32⟩
  | .hbm, ⟨6, _⟩ => ⟨S8192x4, .f32⟩
  | .hbm, ⟨7, _⟩ => ⟨S4x8192, .f32⟩
  | .hbm, ⟨8, _⟩ => ⟨S4x8192x1, .f32⟩
  | .hbm, ⟨9, _⟩ => ⟨S4x8192x1024, .f32⟩
  | .hbm, ⟨10, _⟩ => ⟨S4x8192x1024, .f32⟩
  | .hbm, ⟨11, _⟩ => ⟨S_, .f32⟩
  | .hbm, ⟨12, _⟩ => ⟨S8192x1024, .f32⟩
  | .hbm, ⟨13, _⟩ => ⟨S4x1x1024, .f32⟩
  | .hbm, ⟨14, _⟩ => ⟨S4x1024, .f32⟩
  | .hbm, ⟨15, _⟩ => ⟨S4x2048x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== CombineMid.lean ====
abbrev S16384x1024 : Shape := ⟨2, ![16384, 1024]⟩
abbrev S4x16384x1024 : Shape := ⟨3, ![4, 16384, 1024]⟩
abbrev S16384x4 : Shape := ⟨2, ![16384, 4]⟩
abbrev S8x6x1024 : Shape := ⟨3, ![8, 6, 1024]⟩
abbrev S524288x128 : Shape := ⟨2, ![524288, 128]⟩
abbrev S_ : Shape := ⟨0, ![]⟩
abbrev S528384x128 : Shape := ⟨2, ![528384, 128]⟩
abbrev S512x1024 : Shape := ⟨2, ![512, 1024]⟩
abbrev S4096x128 : Shape := ⟨2, ![4096, 128]⟩
abbrev S512x4 : Shape := ⟨2, ![512, 4]⟩
abbrev S1x6x1024 : Shape := ⟨3, ![1, 6, 1024]⟩
abbrev S6x1024 : Shape := ⟨2, ![6, 1024]⟩
abbrev S1x1024 : Shape := ⟨2, ![1, 1024]⟩
abbrev S512x128 : Shape := ⟨2, ![512, 128]⟩
abbrev S512x1 : Shape := ⟨2, ![512, 1]⟩
abbrev S1x128 : Shape := ⟨2, ![1, 128]⟩

abbrev nBuf : Space → Nat
  | .hbm => 9
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S4x16384x1024, .f32⟩
  | .hbm, ⟨2, _⟩ => ⟨S16384x4, .f32⟩
  | .hbm, ⟨3, _⟩ => ⟨S8x6x1024, .f32⟩
  | .hbm, ⟨4, _⟩ => ⟨S524288x128, .f32⟩
  | .hbm, ⟨5, _⟩ => ⟨S_, .i32⟩
  | .hbm, ⟨6, _⟩ => ⟨S_, .f32⟩
  | .hbm, ⟨7, _⟩ => ⟨S528384x128, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S512x4, .f32⟩
  | .local _ .vmem, ⟨11, _⟩ => ⟨S512x4, .f32⟩
  | .local _ .vmem, ⟨12, _⟩ => ⟨S1x6x1024, .f32⟩
  | .local _ .vmem, ⟨13, _⟩ => ⟨S1x6x1024, .f32⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let v1 : BitVec 32 := Scalar.addi v0 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c96_i32 : BitVec 32 := 96#32
  let v0 : BitVec 32 := Scalar.addi c96_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 3 → Nat :=
  let arg0 : BitVec 32 := BitVec.ofNat 32 (i 0).val
  let c0_i32 : BitVec 32 := 0#32
  let v0 : BitVec 32 := Scalar.addi arg0 c0_i32
  let c512_i32 : BitVec 32 := 512#32
  let v1 : BitVec 32 := Scalar.muli v0 c512_i32
  let c8192_i32 : BitVec 32 := 8192#32
  let v2 : BitVec 1 := Scalar.cmpi .slt v1 c8192_i32
  let c8192_i32_0 : BitVec 32 := 8192#32
  let v3 : BitVec 32 := Scalar.subi v1 c8192_i32_0
  let c2048_i32 : BitVec 32 := 2048#32
  let v4 : BitVec 32 := Scalar.divsi v3 c2048_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c2048_i32 c0_i32_3
  let v11 : BitVec 32 := Scalar.extui v10
  let c0_i32_4 : BitVec 32 := 0#32
  let v12 : BitVec 1 := Scalar.cmpi .slt c2048_i32 c0_i32_4
  let v13 : BitVec 32 := Scalar.extui v12
  let v14 : BitVec 32 := Scalar.subi v11 v13
  let v15 : BitVec 1 := Scalar.cmpi .ne v9 v14
  let v16 : BitVec 32 := Scalar.remsi v3 c2048_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c4_i32 : BitVec 32 := 4#32
  let v21 : BitVec 32 := Scalar.select v2 c4_i32 v20
  let c0_i32_6 : BitVec 32 := 0#32
  let c0_i32_7 : BitVec 32 := 0#32
  let c0_i32_8 : BitVec 32 := 0#32
  ![v21.toNat, c0_i32_6.toNat, c0_i32_7.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MidIdeal.lean ====
abbrev S16384x1024 : Shape := ⟨2, ![16384, 1024]⟩
abbrev S4x16384x1024 : Shape := ⟨3, ![4, 16384, 1024]⟩
abbrev S16384x4 : Shape := ⟨2, ![16384, 4]⟩
abbrev S8x6x1024 : Shape := ⟨3, ![8, 6, 1024]⟩
abbrev S4x16384 : Shape := ⟨2, ![4, 16384]⟩
abbrev S4x16384x1 : Shape := ⟨3, ![4, 16384, 1]⟩
abbrev S_ : Shape := ⟨0, ![]⟩
abbrev S1x1x1024 : Shape := ⟨3, ![1, 1, 1024]⟩
abbrev S1024 : Shape := ⟨1, ![1024]⟩
abbrev S8192x1024 : Shape := ⟨2, ![8192, 1024]⟩
abbrev S4x1x1024 : Shape := ⟨3, ![4, 1, 1024]⟩
abbrev S4x1024 : Shape := ⟨2, ![4, 1024]⟩
abbrev S4x2048x1024 : Shape := ⟨3, ![4, 2048, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x16384x1024, .f32⟩
  | .hbm, ⟨2, _⟩ => ⟨S16384x4, .f32⟩
  | .hbm, ⟨3, _⟩ => ⟨S8x6x1024, .f32⟩
  | .hbm, ⟨4, _⟩ => ⟨S4x16384, .f32⟩
  | .hbm, ⟨5, _⟩ => ⟨S4x16384x1, .f32⟩
  | .hbm, ⟨6, _⟩ => ⟨S4x16384x1024, .f32⟩
  | .hbm, ⟨7, _⟩ => ⟨S4x16384x1024, .f32⟩
  | .hbm, ⟨8, _⟩ => ⟨S_, .f32⟩
  | .hbm, ⟨9, _⟩ => ⟨S16384x1024, .f32⟩
  | .hbm, ⟨10, _⟩ => ⟨S1x1x1024, .f32⟩
  | .hbm, ⟨11, _⟩ => ⟨S1024, .f32⟩
  | .hbm, ⟨12, _⟩ => ⟨S8192x1024, .f32⟩
  | .hbm, ⟨13, _⟩ => ⟨S4x1x1024, .f32⟩
  | .hbm, ⟨14, _⟩ => ⟨S4x1024, .f32⟩
  | .hbm, ⟨15, _⟩ => ⟨S4x2048x1024, .f32⟩
  | .hbm, ⟨16, _⟩ => ⟨S8192x1024, .f32⟩
  | .hbm, ⟨17, _⟩ => ⟨S16384x1024, .f32⟩
  | .hbm, ⟨18, _⟩ => ⟨S16384x1024, .f32⟩
  | .hbm, ⟨19, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Modulation.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S1x6144, .f32⟩
  | .hbm, ⟨9, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ChunksIdeal.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S8x6144 : Shape := ⟨2, ![8, 6144]⟩
abbrev S1x6144 : Shape := ⟨2, ![1, 6144]⟩

abbrev nBuf : Space → Nat
  | .hbm => 21
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x6144, .f32⟩
  | .hbm, ⟨18, _⟩ => ⟨S1x6144, .f32⟩
  | .hbm, ⟨19, _⟩ => ⟨S8x6144, .f32⟩
  | .hbm, ⟨20, _⟩ => ⟨S8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Proof.Rows.lean ====
/-
  Where the rows of the kernel's buffers lie: the token rows of the gathered buffer, of the result buffer, of the
  tokens in HBM and of the result in HBM, as sets of elements, and what a copy of one row into another leaves there.
-/
module

public import proofs.«01_k».proof.Proof.Gen.KernelIdeal.Launch
public import Idealize.ShloMosaic.Lib.ValueIdx
public import Idealize.ShloMosaic.Lib.ValueLayout
public import Idealize.ShloMosaic.Lib.Batch
public import Idealize.ShloMosaic.Lib.Ring
public import Idealize.ShloMosaic.Lib.ShareLeaves

@[expose] public section

set_option maxRecDepth 16384

noncomputable section

namespace Cert.KernelIdeal.Moe

open Cert.KernelIdeal Cert.KernelIdeal.Gen
open Idealize.ShloMosaic Idealize.ShloMosaic.TcCoe Idealize.ShloMosaic.ValueIdx

variable {F : FTy → Type} [FloatOps F]

/-! ## The rows as memrefs, at any offsets in bounds -/

/-- A token's eight rows in the gathered buffer. -/
abbrev xRowV (off : Fin 3 → ℕ) (inb : ∀ a, off a + S1x8x128.size a ≤ S4x2048x128.size a) : Memref sig .tc .vmem S8x128 .f32 :=
  ((Memref.whole cc0_scratch0 : Memref sig .tc .vmem S4x2048x128 .f32).slice (Rect.unit (s := S4x2048x128) off S1x8x128.size inb) (fun _ => rfl)).squeeze S8x128 squeezes_S1x8x128_S8x128
/-- A slot of the gathered buffer. -/
abbrev xSlotV (off : Fin 3 → ℕ) (inb : ∀ a, off a + S1x2048x128.size a ≤ S4x2048x128.size a) : Memref sig .tc .vmem S2048x128 .f32 :=
  ((Memref.whole cc0_scratch0 : Memref sig .tc .vmem S4x2048x128 .f32).slice (Rect.unit (s := S4x2048x128) off S1x2048x128.size inb) (fun _ => rfl)).squeeze S2048x128 squeezes_S1x2048x128_S2048x128
/-- A token's eight rows in the result buffer. -/
abbrev yRowV (off : Fin 3 → ℕ) (inb : ∀ a, off a + S1x8x128.size a ≤ S2x2048x128.size a) : Memref sig .tc .vmem S8x128 .f32 :=
  ((Memref.whole cc0_scratch1 : Memref sig .tc .vmem S2x2048x128 .f32).slice (Rect.unit (s := S2x2048x128) off S1x8x128.size inb) (fun _ => rfl)).squeeze S8x128 squeezes_S1x8x128_S8x128
/-- A slot of the result buffer. -/
abbrev ySlotV (off : Fin 3 → ℕ) (inb : ∀ a, off a + S1x2048x128.size a ≤ S2x2048x128.size a) : Memref sig .tc .vmem S2048x128 .f32 :=
  ((Memref.whole cc0_scratch1 : Memref sig .tc .vmem S2x2048x128 .f32).slice (Rect.unit (s := S2x2048x128) off S1x2048x128.size inb) (fun _ => rfl)).squeeze S2048x128 squeezes_S1x2048x128_S2048x128
/-- A token's eight rows in HBM. -/
abbrev hRowV (off : Fin 2 → ℕ) (inb : ∀ a, off a + S8x128.size a ≤ S131072x128.size a) : Memref sig .tc .hbm S8x128 .f32 :=
  (Memref.whole main_v0 : Memref sig .tc .hbm S131072x128 .f32).slice (Rect.unit (s := S131072x128) off S8x128.size inb) (fun _ => rfl)
/-- An assignment's eight rows of the result in HBM. -/
abbrev gRowV (off : Fin 2 → ℕ) (inb : ∀ a, off a + S8x128.size a ≤ S528384x128.size a) : Memref sig .tc .hbm S8x128 .f32 :=
  (Memref.whole main_v5 : Memref sig .tc .hbm S528384x128 .f32).slice (Rect.unit (s := S528384x128) off S8x128.size inb) (fun _ => rfl)
/-- A block of the result in HBM. -/
abbrev gBlkV (off : Fin 2 → ℕ) (inb : ∀ a, off a + S2048x128.size a ≤ S528384x128.size a) : Memref sig .tc .hbm S2048x128 .f32 :=
  (Memref.whole main_v5 : Memref sig .tc .hbm S528384x128 .f32).slice (Rect.unit (s := S528384x128) off S2048x128.size inb) (fun _ => rfl)

/-! ## Their elements -/

/-- Token row `r` of slot `s` of the gathered buffer. -/
def xrow (s r : ℕ) : Finset S4x2048x128.Idx := Finset.univ.filter fun p => (p 0).val = s ∧ (p 1).val / 8 = r
/-- Slot `s` of the gathered buffer. -/
def xslot (s : ℕ) : Finset S4x2048x128.Idx := Finset.univ.filter fun p => (p 0).val = s
/-- Token row `r` of slot `s` of the result buffer. -/
def yrow (s r : ℕ) : Finset S2x2048x128.Idx := Finset.univ.filter fun p => (p 0).val = s ∧ (p 1).val / 8 = r
/-- Slot `s` of the result buffer. -/
def yslot (s : ℕ) : Finset S2x2048x128.Idx := Finset.univ.filter fun p => (p 0).val = s
/-- Token `t`'s rows in HBM. -/
def hrow (t : ℕ) : Finset S131072x128.Idx := Finset.univ.filter fun p => (p 0).val / 8 = t
/-- Assignment `t`'s rows of the result in HBM. -/
def grow (t : ℕ) : Finset S528384x128.Idx := Finset.univ.filter fun p => (p 0).val / 8 = t

theorem mem_xrow {s r : ℕ} {p : S4x2048x128.Idx} : p ∈ xrow s r ↔ (p 0).val = s ∧ (p 1).val / 8 = r := by simp [xrow]
theorem mem_xslot {s : ℕ} {p : S4x2048x128.Idx} : p ∈ xslot s ↔ (p 0).val = s := by simp [xslot]
theorem mem_yrow {s r : ℕ} {p : S2x2048x128.Idx} : p ∈ yrow s r ↔ (p 0).val = s ∧ (p 1).val / 8 = r := by simp [yrow]
theorem mem_yslot {s : ℕ} {p : S2x2048x128.Idx} : p ∈ yslot s ↔ (p 0).val = s := by simp [yslot]
theorem mem_hrow {t : ℕ} {p : S131072x128.Idx} : p ∈ hrow t ↔ (p 0).val / 8 = t := by simp [hrow]
theorem mem_grow {t : ℕ} {p : S528384x128.Idx} : p ∈ grow t ↔ (p 0).val / 8 = t := by simp [grow]

theorem xRowV_set {s r : ℕ} (off : Fin 3 → ℕ) (inb) (h : off = ![s, 8 * r, 0]) : (xRowV off inb).view.set = xrow s r := by
  subst h
  have e : (xRowV ![s, 8 * r, 0] inb).view.set = (Rect.unit (s := S4x2048x128) ![s, 8 * r, 0] S1x8x128.size inb).set :=
    (View.set_reshape _ _).trans (View.set_slice_whole _ _)
  rw [e]; ext p; rw [Rect.mem_set_unit, mem_xrow]
  have h2 : (p 2).val < 128 := (p 2).isLt
  constructor
  · intro H
    have a0 : s ≤ (p 0).val ∧ (p 0).val < s + 1 := H 0
    have a1 : 8 * r ≤ (p 1).val ∧ (p 1).val < 8 * r + 8 := H 1
    omega
  · rintro ⟨h0, h1⟩ a; fin_cases a
    · show s ≤ (p 0).val ∧ (p 0).val < s + 1; omega
    · show 8 * r ≤ (p 1).val ∧ (p 1).val < 8 * r + 8; omega
    · show 0 ≤ (p 2).val ∧ (p 2).val < 0 + 128; omega

theorem xSlotV_set {s : ℕ} (off : Fin 3 → ℕ) (inb) (h : off = ![s, 0, 0]) : (xSlotV off inb).view.set = xslot s := by
  subst h
  have e : (xSlotV ![s, 0, 0] inb).view.set = (Rect.unit (s := S4x2048x128) ![s, 0, 0] S1x2048x128.size inb).set :=
    (View.set_reshape _ _).trans (View.set_slice_whole _ _)
  rw [e]; ext p; rw [Rect.mem_set_unit, mem_xslot]
  have h1 : (p 1).val < 2048 := (p 1).isLt
  have h2 : (p 2).val < 128 := (p 2).isLt
  constructor
  · intro H
    have a0 : s ≤ (p 0).val ∧ (p 0).val < s + 1 := H 0
    omega
  · rintro h0 a; fin_cases a
    · show s ≤ (p 0).val ∧ (p 0).val < s + 1; omega
    · show 0 ≤ (p 1).val ∧ (p 1).val < 0 + 2048; omega
    · show 0 ≤ (p 2).val ∧ (p 2).val < 0 + 128; omega

theorem yRowV_set {s r : ℕ} (off : Fin 3 → ℕ) (inb) (h : off = ![s, 8 * r, 0]) : (yRowV off inb).view.set = yrow s r := by
  subst h
  have e : (yRowV ![s, 8 * r, 0] inb).view.set = (Rect.unit (s := S2x2048x128) ![s, 8 * r, 0] S1x8x128.size inb).set :=
    (View.set_reshape _ _).trans (View.set_slice_whole _ _)
  rw [e]; ext p; rw [Rect.mem_set_unit, mem_yrow]
  have h2 : (p 2).val < 128 := (p 2).isLt
  constructor
  · intro H
    have a0 : s ≤ (p 0).val ∧ (p 0).val < s + 1 := H 0
    have a1 : 8 * r ≤ (p 1).val ∧ (p 1).val < 8 * r + 8 := H 1
    omega
  · rintro ⟨h0, h1⟩ a; fin_cases a
    · show s ≤ (p 0).val ∧ (p 0).val < s + 1; omega
    · show 8 * r ≤ (p 1).val ∧ (p 1).val < 8 * r + 8; omega
    · show 0 ≤ (p 2).val ∧ (p 2).val < 0 + 128; omega

theorem ySlotV_set {s : ℕ} (off : Fin 3 → ℕ) (inb) (h : off = ![s, 0, 0]) : (ySlotV off inb).view.set = yslot s := by
  subst h
  have e : (ySlotV ![s, 0, 0] inb).view.set = (Rect.unit (s := S2x2048x128) ![s, 0, 0] S1x2048x128.size inb).set :=
    (View.set_reshape _ _).trans (View.set_slice_whole _ _)
  rw [e]; ext p; rw [Rect.mem_set_unit, mem_yslot]
  have h1 : (p 1).val < 2048 := (p 1).isLt
  have h2 : (p 2).val < 128 := (p 2).isLt
  constructor
  · intro H
    have a0 : s ≤ (p 0).val ∧ (p 0).val < s + 1 := H 0
    omega
  · rintro h0 a; fin_cases a
    · show s ≤ (p 0).val ∧ (p 0).val < s + 1; omega
    · show 0 ≤ (p 1).val ∧ (p 1).val < 0 + 2048; omega
    · show 0 ≤ (p 2).val ∧ (p 2).val < 0 + 128; omega

theorem hRowV_set {t : ℕ} (off : Fin 2 → ℕ) (inb) (h : off = ![8 * t, 0]) : (hRowV off inb).view.set = hrow t := by
  subst h
  have e : (hRowV ![8 * t, 0] inb).view.set = (Rect.unit (s := S131072x128) ![8 * t, 0] S8x128.size inb).set := View.set_slice_whole _ _
  rw [e]; ext p; rw [Rect.mem_set_unit, mem_hrow]
  have h1 : (p 1).val < 128 := (p 1).isLt
  constructor
  · intro H
    have a0 : 8 * t ≤ (p 0).val ∧ (p 0).val < 8 * t + 8 := H 0
    omega
  · rintro h0 a; fin_cases a
    · show 8 * t ≤ (p 0).val ∧ (p 0).val < 8 * t + 8; omega
    · show 0 ≤ (p 1).val ∧ (p 1).val < 0 + 128; omega

theorem gRowV_set {t : ℕ} (off : Fin 2 → ℕ) (inb) (h : off = ![8 * t, 0]) : (gRowV off inb).view.set = grow t := by
  subst h
  have e : (gRowV ![8 * t, 0] inb).view.set = (Rect.unit (s := S528384x128) ![8 * t, 0] S8x128.size inb).set := View.set_slice_whole _ _
  rw [e]; ext p; rw [Rect.mem_set_unit, mem_grow]
  have h1 : (p 1).val < 128 := (p 1).isLt
  constructor
  · intro H
    have a0 : 8 * t ≤ (p 0).val ∧ (p 0).val < 8 * t + 8 := H 0
    omega
  · rintro h0 a; fin_cases a
    · show 8 * t ≤ (p 0).val ∧ (p 0).val < 8 * t + 8; omega
    · show 0 ≤ (p 1).val ∧ (p 1).val < 0 + 128; omega

/-! ## Where an index of a row lies -/

theorem xRowV_emb {s r : ℕ} (off : Fin 3 → ℕ) (inb) (h : off = ![s, 8 * r, 0]) (a : Fin 8) (b : Fin 128) :
    ((((xRowV off inb).view.emb (ix2 a b) : S4x2048x128.Idx) 0).val = s) ∧ ((((xRowV off inb).view.emb (ix2 a b) : S4x2048x128.Idx) 1).val = 8 * r + a.val)
      ∧ ((((xRowV off inb).view.emb (ix2 a b) : S4x2048x128.Idx) 2).val = b.val) := by
  subst h
  have e : ((xRowV ![s, 8 * r, 0] inb).view.emb (ix2 a b) : S4x2048x128.Idx)
      = (Rect.unit (s := S4x2048x128) ![s, 8 * r, 0] S1x8x128.size inb).emb (ix3 (0 : Fin 1) a b) := by
    show (Rect.unit (s := S4x2048x128) ![s, 8 * r, 0] S1x8x128.size inb).emb (Shape.reshapeEquiv _ (ix2 a b)) = _
    rw [reshapeEquiv_ix2_1ab]; rfl
  rw [e]
  refine ⟨?_, ?_, ?_⟩
  · show s + 1 * 0 = s; omega
  · show 8 * r + 1 * a.val = _; omega
  · show 0 + 1 * b.val = _; omega

theorem yRowV_emb {s r : ℕ} (off : Fin 3 → ℕ) (inb) (h : off = ![s, 8 * r, 0]) (a : Fin 8) (b : Fin 128) :
    ((((yRowV off inb).view.emb (ix2 a b) : S2x2048x128.Idx) 0).val = s) ∧ ((((yRowV off inb).view.emb (ix2 a b) : S2x2048x128.Idx) 1).val = 8 * r + a.val)
      ∧ ((((yRowV off inb).view.emb (ix2 a b) : S2x2048x128.Idx) 2).val = b.val) := by
  subst h
  have e : ((yRowV ![s, 8 * r, 0] inb).view.emb (ix2 a b) : S2x2048x128.Idx)
      = (Rect.unit (s := S2x2048x128) ![s, 8 * r, 0] S1x8x128.size inb).emb (ix3 (0 : Fin 1) a b) := by
    show (Rect.unit (s := S2x2048x128) ![s, 8 * r, 0] S1x8x128.size inb).emb (Shape.reshapeEquiv _ (ix2 a b)) = _
    rw [reshapeEquiv_ix2_1ab]; rfl
  rw [e]
  refine ⟨?_, ?_, ?_⟩
  · show s + 1 * 0 = s; omega
  · show 8 * r + 1 * a.val = _; omega
  · show 0 + 1 * b.val = _; omega

theorem hRowV_emb {t : ℕ} (off : Fin 2 → ℕ) (inb) (h : off = ![8 * t, 0]) (a : Fin 8) (b : Fin 128) :
    ((((hRowV off inb).view.emb (ix2 a b) : S131072x128.Idx) 0).val = 8 * t + a.val) ∧ ((((hRowV off inb).view.emb (ix2 a b) : S131072x128.Idx) 1).val = b.val) := by
  subst h
  refine ⟨?_, ?_⟩
  · show 8 * t + 1 * a.val = _; omega
  · show 0 + 1 * b.val = _; omega

theorem gRowV_emb {t : ℕ} (off : Fin 2 → ℕ) (inb) (h : off = ![8 * t, 0]) (a : Fin 8) (b : Fin 128) :
    ((((gRowV off inb).view.emb (ix2 a b) : S528384x128.Idx) 0).val = 8 * t + a.val) ∧ ((((gRowV off inb).view.emb (ix2 a b) : S528384x128.Idx) 1).val = b.val) := by
  subst h
  refine ⟨?_, ?_⟩
  · show 8 * t + 1 * a.val = _; omega
  · show 0 + 1 * b.val = _; omega

/-! ## A buffer is its rows -/

theorem xslot_rows (s : ℕ) : Finset.univ.biUnion (fun r : Fin 256 => xrow s r.val) = xslot s := by
  ext p; simp only [Finset.mem_biUnion, Finset.mem_univ, true_and, mem_xrow, mem_xslot]
  have h1 : (p 1).val < 2048 := (p 1).isLt
  exact ⟨fun ⟨r, h, _⟩ => h, fun h => ⟨⟨(p 1).val / 8, by omega⟩, h, rfl⟩⟩
theorem xrow_disj (s : ℕ) (r r' : Fin 256) (h : r ≠ r') : Disjoint (xrow s r.val) (xrow s r'.val) := by
  rw [Finset.disjoint_left]; intro p hp hp'; rw [mem_xrow] at hp hp'; exact h (Fin.ext (by omega))
theorem yslot_rows (s : ℕ) : Finset.univ.biUnion (fun r : Fin 256 => yrow s r.val) = yslot s := by
  ext p; simp only [Finset.mem_biUnion, Finset.mem_univ, true_and, mem_yrow, mem_yslot]
  have h1 : (p 1).val < 2048 := (p 1).isLt
  exact ⟨fun ⟨r, h, _⟩ => h, fun h => ⟨⟨(p 1).val / 8, by omega⟩, h, rfl⟩⟩
theorem yrow_disj (s : ℕ) (r r' : Fin 256) (h : r ≠ r') : Disjoint (yrow s r.val) (yrow s r'.val) := by
  rw [Finset.disjoint_left]; intro p hp hp'; rw [mem_yrow] at hp hp'; exact h (Fin.ext (by omega))
theorem xslots : Finset.univ.biUnion (fun s : Fin 4 => xslot s.val) = Finset.univ := by
  ext p; simp only [Finset.mem_biUnion, Finset.mem_univ, true_and, mem_xslot, iff_true]; exact ⟨p 0, rfl⟩
theorem xslot_disj (s s' : Fin 4) (h : s ≠ s') : Disjoint (xslot s.val) (xslot s'.val) := by
  rw [Finset.disjoint_left]; intro p hp hp'; rw [mem_xslot] at hp hp'; exact h (Fin.ext (by omega))
theorem yslots : Finset.univ.biUnion (fun s : Fin 2 => yslot s.val) = Finset.univ := by
  ext p; simp only [Finset.mem_biUnion, Finset.mem_univ, true_and, mem_yslot, iff_true]; exact ⟨p 0, rfl⟩
theorem yslot_disj (s s' : Fin 2) (h : s ≠ s') : Disjoint (yslot s.val) (yslot s'.val) := by
  rw [Finset.disjoint_left]; intro p hp hp'; rw [mem_yslot] at hp hp'; exact h (Fin.ext (by omega))

/-! ## What a copy of a row leaves -/

/-- Row `a` of token `t`'s eight rows in HBM, at lane `b`. -/
def hIdx (t a : ℕ) (ha : a < 8) (b : Fin 128) : S131072x128.Idx := ix2 ⟨8 * (t % 16384) + a, by omega⟩ b

/-- The gathered buffer's contents once a block has come in: row `r` holds the token `tok r`, whatever the slot. -/
def gathered (H : S131072x128.Idx → F .f32) (tok : ℕ → ℕ) : S4x2048x128.Idx → F .f32 :=
  fun p => H (hIdx (tok ((p 1).val / 8)) ((p 1).val % 8) (by omega) (p 2))

/-- What the result's rows hold after a block has left slot `s` of the result buffer: assignment `t` its row `row t`. -/
def scattered (Y : S2x2048x128.Idx → F .f32) (s : Fin 2) (r : ℕ) : S528384x128.Idx → F .f32 :=
  fun p => Y (ix3 s ⟨8 * (r % 256) + (p 0).val % 8, by omega⟩ (p 1))

theorem gather_lands (H : S131072x128.Idx → F .f32) (fd : S4x2048x128.Idx → F .f32) (tok : ℕ → ℕ) {s r t : ℕ} (hr : tok r = t) (ht : t < 16384)
    (off : Fin 3 → ℕ) (inb) (h : off = ![s, 8 * r, 0]) (off' : Fin 2 → ℕ) (inb') (h' : off' = ![8 * t, 0]) :
    ∀ p ∈ xrow s r, (xRowV off inb).view.write (Elt F) fd ((hRowV off' inb').view.read (Elt F) H) Finset.univ p = gathered H tok p := by
  intro p hp
  rw [← xRowV_set off inb h] at hp
  obtain ⟨x, -, rfl⟩ := Finset.mem_map.mp hp
  rw [View.write_emb_of_mem (h := Finset.mem_univ x)]
  obtain ⟨a, b, rfl⟩ : ∃ a b, x = ix2 a b := ⟨x 0, x 1, eq_ix2 x⟩
  obtain ⟨e0, e1, e2⟩ := xRowV_emb off inb h a b
  obtain ⟨g0, g1⟩ := hRowV_emb off' inb' h' a b
  show H ((hRowV off' inb').view.emb (ix2 a b)) = H _
  congr 1
  have ha : a.val < 8 := a.isLt
  funext k
  apply Fin.ext
  fin_cases k
  · show _ = 8 * (tok (_ / 8) % 16384) + _ % 8
    erw [g0, e1]
    rw [show (8 * r + a.val) / 8 = r by omega, hr]; omega
  · erw [g1, e2]

theorem scatter_lands (Y : S2x2048x128.Idx → F .f32) (fd : S528384x128.Idx → F .f32) {r t : ℕ} (s : Fin 2) (hr : r < 256)
    (off : Fin 3 → ℕ) (inb) (h : off = ![s.val, 8 * r, 0]) (off' : Fin 2 → ℕ) (inb') (h' : off' = ![8 * t, 0]) :
    ∀ p ∈ grow t, (gRowV off' inb').view.write (Elt F) fd ((yRowV off inb).view.read (Elt F) Y) Finset.univ p = scattered Y s r p := by
  intro p hp
  rw [← gRowV_set off' inb' h'] at hp
  obtain ⟨x, -, rfl⟩ := Finset.mem_map.mp hp
  rw [View.write_emb_of_mem (h := Finset.mem_univ x)]
  obtain ⟨a, b, rfl⟩ : ∃ a b, x = ix2 a b := ⟨x 0, x 1, eq_ix2 x⟩
  obtain ⟨e0, e1, e2⟩ := yRowV_emb off inb h a b
  obtain ⟨g0, g1⟩ := gRowV_emb off' inb' h' a b
  show Y ((yRowV off inb).view.emb (ix2 a b)) = Y _
  congr 1
  have ha : a.val < 8 := a.isLt
  funext k
  apply Fin.ext
  fin_cases k
  · erw [e0]
  · show _ = 8 * (r % 256) + _ % 8
    erw [g0, e1]; omega
  · erw [e2]; exact g1.symm

end Cert.KernelIdeal.Moe

end
-- ==== Proof.Gather.lean ====
/-
  The gather of a block's tokens: 256 copies of a token's eight rows each on one semaphore, as one batch; what issuing
  one of them does, and the kernel's loops that issue them.
-/
module

public import proofs.«01_k».proof.Proof.Rows
public import proofs.«01_k».proof.Proof.Gen.KernelIdeal.Loops
public import Idealize.ShloMosaic.Lib.Pipeline.FrameBody
public import Idealize.ShloMosaic.Lib.Tactic

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The semaphore of gather slot `s`. -/
def gsem (s : ℕ) : DmaSem sig := ⟨14 + s % 3, by show 14 + s % 3 < 21; omega⟩
/-- The semaphore of result slot `s`. -/
def ssem (s : ℕ) : DmaSem sig := ⟨17 + s % 2, by show 17 + s % 2 < 21; omega⟩
/-- The semaphore of weight slot `s`. -/
def wsem (s : ℕ) : DmaSem sig := ⟨19 + s % 2, by show 19 + s % 2 < 21; omega⟩

/-- The semaphore a one-element slice of a pool of semaphores names. -/
theorem sem_of_slice {n B m : ℕ} (h : B + (⟨1, ![m]⟩ : Shape).numel ≤ n) (s : ℕ) (off : Fin 1 → ℕ)
    (inb : ∀ a, off a + S1.size a ≤ (⟨1, ![m]⟩ : Shape).size a) (ho : off = ![s]) :
    (((SemArray.consecutive (n := n) B (⟨1, ![m]⟩ : Shape) h).slice (Rect.unit (s := (⟨1, ![m]⟩ : Shape)) off S1.size inb)).squeeze S_ squeezes_S1_S_).sem.val = B + s := by
  subst ho
  show B + ((⟨1, ![m]⟩ : Shape).rowMajor ((Rect.unit (s := (⟨1, ![m]⟩ : Shape)) ![s] S1.size inb).emb (Shape.reshapeEquiv _ _))).val = B + s
  rw [Shape.rowMajor_val_one]
  generalize Shape.reshapeEquiv _ _ = x
  have hx : (x 0).val < 1 := (x 0).isLt
  show B + (s + 1 * (x 0).val) = B + s
  omega
theorem gsem_eq (s : ℕ) (hs : s < 3) (off : Fin 1 → ℕ) (inb) (h : off = ![s]) :
    ((cc0_scratch8.slice (Rect.unit (s := S3) off S1.size inb)).squeeze S_ squeezes_S1_S_).sem = gsem s :=
  Fin.ext ((sem_of_slice hcc0_scratch8 s off inb h).trans (by show 14 + s = 14 + s % 3; omega))
theorem ssem_eq (s : ℕ) (hs : s < 2) (off : Fin 1 → ℕ) (inb) (h : off = ![s]) :
    ((cc0_scratch9.slice (Rect.unit (s := S2) off S1.size inb)).squeeze S_ squeezes_S1_S_).sem = ssem s :=
  Fin.ext ((sem_of_slice hcc0_scratch9 s off inb h).trans (by show 17 + s = 17 + s % 2; omega))
theorem wsem_eq (s : ℕ) (hs : s < 2) (off : Fin 1 → ℕ) (inb) (h : off = ![s]) :
    ((cc0_scratch10.slice (Rect.unit (s := S2) off S1.size inb)).squeeze S_ squeezes_S1_S_).sem = wsem s :=
  Fin.ext ((sem_of_slice hcc0_scratch10 s off inb h).trans (by show 19 + s = 19 + s % 2; omega))

theorem xRow_amount (off inb) (s : DmaSem sig) : (xRowV off inb).view.amount (.dma s) = 128 := by
  show RefSig.tileCredit S8x128 .f32 = 128
  decide +kernel
theorem gRow_amount (off inb) (s : DmaSem sig) : (gRowV off inb).view.amount (.dma s) = 128 := by
  show RefSig.tileCredit S8x128 .f32 = 128
  decide +kernel
theorem xSlot_credit (off inb) : (xSlotV off inb).view.dmaCredit = 32768 := by
  show RefSig.tileCredit S2048x128 .f32 = 32768
  decide +kernel
theorem gBlk_credit (off inb) : (gBlkV off inb).view.dmaCredit = 32768 := by
  show RefSig.tileCredit S2048x128 .f32 = 32768
  decide +kernel

variable (c : Dev nD)

/-- The tokens' buffer in HBM, the gathered buffer, the result buffer and the result in HBM, by some elements at a share. -/
abbrev hPt (S : Finset S131072x128.Idx) (q : PosShare TreeShare) (f : S131072x128.Idx → F .f32) : sProp 𝕄 :=
  (Memref.whole main_v0 : Memref sig .tc .hbm S131072x128 .f32).view.loc (c : Thread nD τ) ↦[S]{q} f
abbrev xPt (S : Finset S4x2048x128.Idx) (f : S4x2048x128.Idx → F .f32) : sProp 𝕄 :=
  (Memref.whole cc0_scratch0 : Memref sig .tc .vmem S4x2048x128 .f32).view.loc (c : Thread nD τ) ↦[S]{fullShare} f
abbrev yPt (S : Finset S2x2048x128.Idx) (f : S2x2048x128.Idx → F .f32) : sProp 𝕄 :=
  (Memref.whole cc0_scratch1 : Memref sig .tc .vmem S2x2048x128 .f32).view.loc (c : Thread nD τ) ↦[S]{fullShare} f
abbrev gPt (S : Finset S528384x128.Idx) (f : S528384x128.Idx → F .f32) : sProp 𝕄 :=
  (Memref.whole main_v5 : Memref sig .tc .hbm S528384x128 .f32).view.loc (c : Thread nD τ) ↦[S]{fullShare} f

/-! ## A block's tokens on their way into a slot -/

/-- What the copy of a block's row `r` leaves: the row of the slot with the token's contents, and the token's share back. -/
def gDeliv (s : ℕ) (tok : ℕ → ℕ) (q : PosShare TreeShare) (H : S131072x128.Idx → F .f32) (r : Fin 256) : sProp 𝕄 :=
  iprop(xPt c (xrow s r.val) (gathered H tok) ∗ hPt c (hrow (tok r.val)) (ShareLeaves.leaf 8 q r) H)
instance (s : ℕ) (tok : ℕ → ℕ) (q : PosShare TreeShare) (H : S131072x128.Idx → F .f32) (r : Fin 256) :
    BI.Storable (upEmb : UEmb _ 𝕄) (gDeliv c s tok q H r) := by unfold gDeliv; infer_instance
/-- The 256 copies into slot `s`, the first `k` issued. -/
abbrev gBatch (s : ℕ) (tok : ℕ → ℕ) (q : PosShare TreeShare) (H : S131072x128.Idx → F .f32) (k : ℕ) : sProp 𝕄 :=
  Transfers.Batch (countersEmb (U := Pipeline.UD sig nD τ)) (c : Thread nD τ) (.dma (gsem s)) () 128 (gDeliv c s tok q H) k 0
/-- What is still to be issued from `k` on needs: the rows of the slot and the tokens' shares. -/
abbrev gTodo (s : ℕ) (tok : ℕ → ℕ) (q : PosShare TreeShare) (H : S131072x128.Idx → F .f32) (k : ℕ) : sProp 𝕄 :=
  bigSep (Ring.rangeSet 256 k 256) fun r => iprop((∃ g, xPt c (xrow s r.val) g) ∗ hPt c (hrow (tok r.val)) (ShareLeaves.leaf 8 q r) H)

/-- Issuing copy `k` of the batch. -/
theorem gather_issue {α : Type} (s : ℕ) (tok : ℕ → ℕ) (q : PosShare TreeShare) (H : S131072x128.Idx → F .f32) (k : ℕ) (hk : k < 256)
    (ht : tok k < 16384) (offx : Fin 3 → ℕ) (inbx) (hx : offx = ![s, 8 * k, 0]) (offh : Fin 2 → ℕ) (inbh) (hh : offh = ![8 * tok k, 0])
    (sm : DmaSem sig) (hsm : sm = gsem s) {p1 p2 p3} (kont : PUnit → Prog (TpuEff nD τ sig (Elt F) Λ₀ .tc) α) (Q : α → sProp 𝕄) :
    iprop(gBatch c s tok q H k ∗ gTodo c s tok q H k)
      ⊢ iprop((iprop(gBatch c s tok q H (k + 1) ∗ gTodo c s tok q H (k + 1)) -∗ wp frame (wpE (defs₀ (F := F)) Variants.none (c : Thread nD τ) none) Set.univ (kont ⟨⟩) Q)
        -∗ wp frame (wpE (defs₀ (F := F)) Variants.none (c : Thread nD τ) none) Set.univ
          (.op (.enqueueDma (hRowV offh inbh) (.here (xRowV offx inbx)) (.dma sm) p1 p2 p3) kont) Q) := by
  subst hsm
  unfold gTodo
  rw [Ring.bigSep_rangeSet_head (Φ := fun r : Fin 256 => iprop((∃ g, xPt c (xrow s r.val) g) ∗ hPt c (hrow (tok r.val)) (ShareLeaves.leaf 8 q r) H)) (lo := k) (by omega) (by omega)]
  iintro ⟨HB, ⟨⟨%g, Hx⟩, Hh⟩, Hr⟩ Hk
  iapply (Transfers.wp_dmaBatch (countersEmb (U := Pipeline.UD sig nD τ)) Variants.none (c : Thread nD τ) none (src := hRowV offh inbh) (dst := xRowV offx inbx) (sm := .dma (gsem s))
    (via := ReadAs.same) (q := ShareLeaves.leaf 8 q ⟨k, hk⟩) (fs := H) (fd := g) (Sd := xrow s k) (D := gDeliv c s tok q H) (j := k) (u := 0)
    () 128 (xRow_amount _ _ _) (by rw [xRowV_set offx inbx hx]) hk (Nat.zero_le _)
    (by
      rw [hRowV_set offh inbh hh]
      unfold gDeliv
      refine BI.Laws.sep_mono (Entails.of_eq ?_) .rfl
      exact pointsTo_congr fun p hp => gather_lands H g tok rfl ht offx inbx hx offh inbh hh p hp)) $$ [HB Hx Hh]
  · rw [hRowV_set offh inbh hh]
    isplitl [Hh]; · iexact Hh
    isplitl [Hx]; · iexact Hx
    iexact HB
  iintro HB
  iapply Hk
  isplitl [HB]; · iexact HB
  iexact Hr

end Cert.KernelIdeal.Moe

end
-- ==== Proof.Flight.lean ====
/-
  Copies in flight on a semaphore, as what a wait for them hands back; a block's gather started and finished; the rows
  of the result a block's copies write.
-/
module

public import proofs.«01_k».proof.Proof.Gather

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- A product of pairs is the pair of the products. -/
theorem sep_bigSep {T : Type} (S : Finset T) (A B : T → sProp 𝕄) :
    (bigSep S fun t => iprop(A t ∗ B t)) = iprop(bigSep S A ∗ bigSep S B) := BI.bigSep_sep S A B

/-- Equivalent assertions are equal. -/
theorem eq_of_bi {P Q : sProp 𝕄} (h : P ⊣⊢ Q) : P = Q := BI.equiv_iff.mp ⟨h.1, h.2⟩
/-- What a family of disjoint parts covers is held part by part. -/
theorem parts_eq {ℓ : Loc nD τ sig} {q : PosShare TreeShare} (f : Buf (Elt F) ℓ) (J : Finset (Idx ℓ)) (K : Fin 256 → Finset (Idx ℓ))
    (hJ : ∀ x, x ∈ J ↔ ∃ r, x ∈ K r) (hd : ∀ r r', r ≠ r' → Disjoint (K r) (K r')) :
    (ℓ ↦[J]{q} f : sProp 𝕄) = bigSep Finset.univ fun r => ℓ ↦[K r]{q} f := by
  have h : J = Finset.univ.biUnion K := Finset.ext fun x => by rw [hJ, Finset.mem_biUnion]; exact ⟨fun ⟨r, h⟩ => ⟨r, Finset.mem_univ _, h⟩, fun ⟨r, _, h⟩ => ⟨r, h⟩⟩
  rw [h]
  exact pointsTo_biUnion Finset.univ K (fun r _ r' _ h => hd r r' h)
theorem mem_xslot_rows (s : ℕ) (x : S4x2048x128.Idx) : x ∈ xslot s ↔ ∃ r : Fin 256, x ∈ xrow s r.val := by
  rw [← xslot_rows s, Finset.mem_biUnion]; exact ⟨fun ⟨r, _, h⟩ => ⟨r, h⟩, fun ⟨r, h⟩ => ⟨r, Finset.mem_univ _, h⟩⟩
theorem mem_yslot_rows (s : ℕ) (x : S2x2048x128.Idx) : x ∈ yslot s ↔ ∃ r : Fin 256, x ∈ yrow s r.val := by
  rw [← yslot_rows s, Finset.mem_biUnion]; exact ⟨fun ⟨r, _, h⟩ => ⟨r, h⟩, fun ⟨r, h⟩ => ⟨r, Finset.mem_univ _, h⟩⟩
/-- A slot of the rows' buffer is its 256 rows. -/
theorem xPt_rows (s : ℕ) (f : S4x2048x128.Idx → F .f32) :
    (xPt c (xslot s) f : sProp 𝕄) = bigSep Finset.univ fun r : Fin 256 => xPt c (xrow s r.val) f :=
  parts_eq (ℓ := (c : Thread nD τ).loc cc0_scratch0) f (xslot s) (fun r => xrow s r.val) (mem_xslot_rows s) (fun r r' => xrow_disj s r r')
/-- A slot of the results' buffer is its 256 rows. -/
theorem yPt_rows (s : ℕ) (f : S2x2048x128.Idx → F .f32) :
    (yPt c (yslot s) f : sProp 𝕄) = bigSep Finset.univ fun r : Fin 256 => yPt c (yrow s r.val) f :=
  parts_eq (ℓ := (c : Thread nD τ).loc cc0_scratch1) f (yslot s) (fun r => yrow s r.val) (mem_yslot_rows s) (fun r r' => yrow_disj s r r')

/-- Copies in flight on the semaphore `sm`, of a block's size together: a wait for a block hands back `P`. -/
def Flight (sm : DmaSem sig) (P : sProp 𝕄) : sProp 𝕄 :=
  iprop(∃ (m N : ℕ) (D : Fin m → sProp 𝕄) (R : sProp 𝕄), ⌜0 < N ∧ N * m = 32768 ∧ (iprop(bigSep Finset.univ D ∗ R) ⊢ P)⌝
    ∗ Transfers.Batch (countersEmb (U := Pipeline.UD sig nD τ)) (c : Thread nD τ) (.dma sm) () N D m 0 ∗ R)

/-- A semaphore with nothing in flight. -/
abbrev cell (sm : DmaSem sig) : sProp 𝕄 := semVal ((c : Thread nD τ), SemLoc.dma sm) 0
/-- The core's waits, whatever they were. -/
abbrev waits : sProp 𝕄 := iprop(∃ W, owes (c : Thread nD τ) 0 W)

/-- Waiting for a block on a semaphore with a block in flight. -/
theorem wait_flight {α : Type} (sm : DmaSem sig) (P : sProp 𝕄) {sp sp' : Space} {s s' : Shape} {e e' : EltTy}
    {src : Memref sig .tc sp' s' e'} {dst : Memref sig .tc sp s e} (hd : dst.view.dmaCredit = 32768) {p1 p2}
    (sem : DmaSem sig) (hsm : sem = sm)
    (kont : PUnit → Prog (TpuEff nD τ sig (Elt F) Λ₀ .tc) α) (Q : α → sProp 𝕄) :
    iprop(Flight c sm P ∗ waits c)
      ⊢ iprop((iprop(P ∗ cell c sm ∗ waits c) -∗ wp Idealize.ShloMosaic.frame (wpE (defs₀ (F := F)) Variants.none (c : Thread nD τ) none) Set.univ (kont ⟨⟩) Q)
        -∗ wp Idealize.ShloMosaic.frame (wpE (defs₀ (F := F)) Variants.none (c : Thread nD τ) none) Set.univ
          (.op (.waitDma2 sem src dst p1 p2) kont) Q) := by
  subst hsm
  unfold Flight
  iintro ⟨⟨%m, %N, %D, %R, %h, HB, HR⟩, ⟨%W, HO⟩⟩ Hk
  iapply (Transfers.wp_waitBatchAll (countersEmb (U := Pipeline.UD sig nD τ)) Variants.none (c : Thread nD τ) none () (N := N) (J := 32768) (u := 0) (D := D) hd h.1 (by omega)) $$ [HB HO]
  · isplitl [HB]; · iexact HB
    iexact HO
  iintro ⟨HD, Hc, HO⟩
  iapply Hk
  isplitl [HD HR]
  · iapply h.2.2
    isplitl [HD]; · iexact HD
    iexact HR
  isplitl [Hc]; · iexact Hc
  iexists _; iexact HO

/-! ## A gather started and finished -/

/-- What of the tokens' shares lies aside while a block's rows are on their way. -/
abbrev gRest (tok : ℕ → ℕ) (q : PosShare TreeShare) (H : S131072x128.Idx → F .f32) : sProp 𝕄 :=
  bigSep Finset.univ fun r : Fin 256 => hPt c (Finset.univ \ hrow (tok r.val)) (ShareLeaves.leaf 8 q r) H

theorem gather_start (s : ℕ) (tok : ℕ → ℕ) (q : PosShare TreeShare) (H : S131072x128.Idx → F .f32) :
    iprop(hPt c Finset.univ q H ∗ (∃ g, xPt c (xslot s) g) ∗ cell c (gsem s))
      ⊢ |={Set.univ}=> iprop(gBatch c s tok q H 0 ∗ gTodo c s tok q H 0 ∗ gRest c tok q H) := by
  iintro ⟨Hh, ⟨%g, Hx⟩, Hc⟩
  imod (Transfers.batch_alloc' (Lvl := ℕ) (countersEmb (U := Pipeline.UD sig nD τ)) (c : Thread nD τ) () 128 (gDeliv c s tok q H) (sm := .dma (gsem s)) (E := Set.univ)) $$ Hc with HB
  imodintro
  isplitl [HB]; · iexact HB
  ihave Hl := (show hPt c Finset.univ q H ⊢ iprop((bigSep Finset.univ fun r : Fin 256 => hPt c (hrow (tok r.val)) (ShareLeaves.leaf 8 q r) H) ∗ gRest c tok q H) from by
    rw [show (hPt c Finset.univ q H : sProp 𝕄) = bigSep Finset.univ fun r : Fin 256 => hPt c Finset.univ (ShareLeaves.leaf 8 q r) H from ShareLeaves.pointsTo_leaves _ _ 8 q,
      ← sep_bigSep]
    exact BI.bigSep_mono fun r _ => (pointsTo_split_subset (Finset.subset_univ _)).1) $$ Hh
  icases Hl with ⟨Hl, Hr⟩
  isplitl [Hx Hl]
  · unfold gTodo
    rw [Ring.rangeSet_univ, sep_bigSep]
    isplitl [Hx]
    · iapply (show xPt c (xslot s) g ⊢ (bigSep Finset.univ fun r : Fin 256 => iprop(∃ g, xPt c (xrow s r.val) g) : sProp 𝕄) from by
        rw [xPt_rows c s]
        refine BI.bigSep_mono fun r _ => (show iprop(xPt c (xrow s r.val) g) ⊢ iprop(∃ g, xPt c (xrow s r.val) g) from ?_)
        iintro H; iexists g; iexact H)
      iexact Hx
    · iexact Hl
  · iexact Hr

theorem gather_finish (s : ℕ) (tok : ℕ → ℕ) (q : PosShare TreeShare) (H : S131072x128.Idx → F .f32) :
    iprop(gBatch c s tok q H 256 ∗ gTodo c s tok q H 256 ∗ gRest c tok q H)
      ⊢ Flight c (gsem s) iprop(xPt c (xslot s) (gathered H tok) ∗ hPt c Finset.univ q H) := by
  iintro ⟨HB, -, HR⟩
  unfold Flight
  iexists 256, 128, gDeliv c s tok q H, gRest c tok q H
  isplitr
  · ipureintro
    refine ⟨by omega, by omega, ?_⟩
    unfold gDeliv gRest
    rw [sep_bigSep]
    iintro ⟨⟨Hx, Hl⟩, Hr⟩
    isplitl [Hx]
    · iapply (show (bigSep Finset.univ fun r : Fin 256 => xPt c (xrow s r.val) (gathered H tok) : sProp 𝕄) ⊢ xPt c (xslot s) (gathered H tok) from by
        rw [xPt_rows c s])
      iexact Hx
    · iapply (show iprop((bigSep Finset.univ fun r : Fin 256 => hPt c (hrow (tok r.val)) (ShareLeaves.leaf 8 q r) H) ∗ gRest c tok q H) ⊢ hPt c Finset.univ q H from by
        rw [show (hPt c Finset.univ q H : sProp 𝕄) = bigSep Finset.univ fun r : Fin 256 => hPt c Finset.univ (ShareLeaves.leaf 8 q r) H from ShareLeaves.pointsTo_leaves _ _ 8 q,
          ← sep_bigSep]
        exact BI.bigSep_mono fun r _ => (pointsTo_split_subset (Finset.subset_univ _)).2)
      isplitl [Hl]; · iexact Hl
      iexact Hr
  isplitl [HB]; · iexact HB
  iexact HR

/-! ## The rows a block's copies write -/

/-- A slot's contents from a block's rows, whatever the slot. -/
def yOf (B : S2048x128.Idx → F .f32) : S2x2048x128.Idx → F .f32 := fun p => B (ix2 (p 1) (p 2))

open Classical in
/-- The result with the block `B`'s rows put at the assignments `asg`. -/
def putRows (asg : ℕ → ℕ) (B : S2048x128.Idx → F .f32) (V : S528384x128.Idx → F .f32) : S528384x128.Idx → F .f32 :=
  fun p => if h : ∃ r : Fin 256, asg r.val = (p 0).val / 8 then B (ix2 ⟨8 * h.choose.val + (p 0).val % 8, by have := h.choose.isLt; omega⟩ (p 1)) else V p

/-- A block's assignments, one for each row. -/
def OneEach (asg : ℕ → ℕ) : Prop := ∀ r r' : Fin 256, asg r.val = asg r'.val → r = r'

theorem putRows_of_mem {asg : ℕ → ℕ} (ha : OneEach asg) (B : S2048x128.Idx → F .f32) (V : S528384x128.Idx → F .f32) (r : Fin 256) (p : S528384x128.Idx)
    (hp : (p 0).val / 8 = asg r.val) : putRows asg B V p = B (ix2 ⟨8 * r.val + (p 0).val % 8, by have := r.isLt; omega⟩ (p 1)) := by
  have h : ∃ r : Fin 256, asg r.val = (p 0).val / 8 := ⟨r, hp.symm⟩
  have hc : h.choose = r := ha _ _ (h.choose_spec.trans hp)
  unfold putRows
  rw [dif_pos h]
  congr 2
  apply Fin.ext
  show 8 * h.choose.val + _ = _
  rw [hc]
theorem putRows_of_not_mem {asg : ℕ → ℕ} (B : S2048x128.Idx → F .f32) (V : S528384x128.Idx → F .f32) (p : S528384x128.Idx)
    (hp : ∀ r : Fin 256, asg r.val ≠ (p 0).val / 8) : putRows asg B V p = V p := by
  unfold putRows
  rw [dif_neg (fun ⟨r, h⟩ => hp r h)]

/-- What the copy of a block's row `r` leaves: the row of the slot as it was, and the assignment's rows written. -/
def sDeliv (s : Fin 2) (asg : ℕ → ℕ) (B : S2048x128.Idx → F .f32) (V : S528384x128.Idx → F .f32) (r : Fin 256) : sProp 𝕄 :=
  iprop(yPt c (yrow s.val r.val) (yOf B) ∗ gPt c (grow (asg r.val)) (putRows asg B V))
instance (s : Fin 2) (asg : ℕ → ℕ) (B : S2048x128.Idx → F .f32) (V : S528384x128.Idx → F .f32) (r : Fin 256) :
    BI.Storable (upEmb : UEmb _ 𝕄) (sDeliv c s asg B V r) := by unfold sDeliv; infer_instance
/-- The 256 copies out of slot `s`, the first `k` issued. -/
abbrev sBatch (s : Fin 2) (asg : ℕ → ℕ) (B : S2048x128.Idx → F .f32) (V : S528384x128.Idx → F .f32) (k : ℕ) : sProp 𝕄 :=
  Transfers.Batch (countersEmb (U := Pipeline.UD sig nD τ)) (c : Thread nD τ) (.dma (ssem s.val)) () 128 (sDeliv c s asg B V) k 0
/-- What is still to be issued from `k` on needs. -/
abbrev sTodo (s : Fin 2) (asg : ℕ → ℕ) (B : S2048x128.Idx → F .f32) (V : S528384x128.Idx → F .f32) (k : ℕ) : sProp 𝕄 :=
  bigSep (Ring.rangeSet 256 k 256) fun r => iprop(yPt c (yrow s.val r.val) (yOf B) ∗ gPt c (grow (asg r.val)) V)

/-- Issuing copy `k` of the batch. -/
theorem scatter_issue {α : Type} (s : Fin 2) (asg : ℕ → ℕ) (ha : OneEach asg) (B : S2048x128.Idx → F .f32) (V : S528384x128.Idx → F .f32) (k : ℕ) (hk : k < 256)
    (offy : Fin 3 → ℕ) (inby) (hy : offy = ![s.val, 8 * k, 0]) (offg : Fin 2 → ℕ) (inbg) (hg : offg = ![8 * asg k, 0])
    (sm : DmaSem sig) (hsm : sm = ssem s.val) {p1 p2 p3} (kont : PUnit → Prog (TpuEff nD τ sig (Elt F) Λ₀ .tc) α) (Q : α → sProp 𝕄) :
    iprop(sBatch c s asg B V k ∗ sTodo c s asg B V k)
      ⊢ iprop((iprop(sBatch c s asg B V (k + 1) ∗ sTodo c s asg B V (k + 1)) -∗ wp Idealize.ShloMosaic.frame (wpE (defs₀ (F := F)) Variants.none (c : Thread nD τ) none) Set.univ (kont ⟨⟩) Q)
        -∗ wp Idealize.ShloMosaic.frame (wpE (defs₀ (F := F)) Variants.none (c : Thread nD τ) none) Set.univ
          (.op (.enqueueDma (yRowV offy inby) (.here (gRowV offg inbg)) (.dma sm) p1 p2 p3) kont) Q) := by
  subst hsm
  unfold sTodo
  rw [Ring.bigSep_rangeSet_head (Φ := fun r : Fin 256 => iprop(yPt c (yrow s.val r.val) (yOf B) ∗ gPt c (grow (asg r.val)) V)) (lo := k) (by omega) (by omega)]
  iintro ⟨HB, ⟨Hy, Hg⟩, Hr⟩ Hk
  iapply (Transfers.wp_dmaBatch (countersEmb (U := Pipeline.UD sig nD τ)) Variants.none (c : Thread nD τ) none (src := yRowV offy inby) (dst := gRowV offg inbg) (sm := .dma (ssem s.val))
    (via := ReadAs.same) (q := fullShare) (fs := yOf B) (fd := V) (Sd := grow (asg k)) (D := sDeliv c s asg B V) (j := k) (u := 0)
    () 128 (gRow_amount _ _ _) (by rw [gRowV_set offg inbg hg]) hk (Nat.zero_le _)
    (by
      rw [yRowV_set offy inby hy]
      unfold sDeliv
      refine (BI.Laws.sep_mono (Entails.of_eq ?_) .rfl).trans BI.Laws.sep_comm.1
      refine pointsTo_congr fun p hp => (scatter_lands (yOf B) V s hk offy inby hy offg inbg hg p hp).trans ?_
      rw [putRows_of_mem ha B V ⟨k, hk⟩ p (mem_grow.mp hp)]
      show B (ix2 ⟨8 * (k % 256) + (p 0).val % 8, _⟩ (p 1)) = _
      congr 2
      apply Fin.ext
      show 8 * (k % 256) + (p 0).val % 8 = 8 * k + (p 0).val % 8
      omega)) $$ [HB Hy Hg]
  · rw [yRowV_set offy inby hy]
    isplitl [Hy]; · iexact Hy
    isplitl [Hg]; · iexact Hg
    iexact HB
  iintro HB
  iapply Hk
  isplitl [HB]; · iexact HB
  iexact Hr

/-- The rows the assignments name. -/
def allRows (asg : ℕ → ℕ) : Finset S528384x128.Idx := Finset.univ.biUnion fun r : Fin 256 => grow (asg r.val)
theorem grow_disj {asg : ℕ → ℕ} (ha : OneEach asg) (r r' : Fin 256) (h : r ≠ r') : Disjoint (grow (asg r.val)) (grow (asg r'.val)) := by
  rw [Finset.disjoint_left]; intro p hp hp'; rw [mem_grow] at hp hp'; exact h (ha _ _ (by omega))

theorem gPt_rows {asg : ℕ → ℕ} (ha : OneEach asg) (f : S528384x128.Idx → F .f32) :
    (gPt c (allRows asg) f : sProp 𝕄) = bigSep Finset.univ fun r : Fin 256 => gPt c (grow (asg r.val)) f :=
  parts_eq (ℓ := (c : Thread nD τ).loc main_v5) f (allRows asg) (fun r => grow (asg r.val)) (fun x => by unfold allRows; rw [Finset.mem_biUnion]; exact ⟨fun ⟨r, _, h⟩ => ⟨r, h⟩, fun ⟨r, h⟩ => ⟨r, Finset.mem_univ _, h⟩⟩) (fun r r' => grow_disj ha r r')

theorem scatter_start (s : Fin 2) (asg : ℕ → ℕ) (ha : OneEach asg) (B : S2048x128.Idx → F .f32) (V : S528384x128.Idx → F .f32) :
    iprop(yPt c (yslot s.val) (yOf B) ∗ gPt c Finset.univ V ∗ cell c (ssem s.val))
      ⊢ |={Set.univ}=> iprop(sBatch c s asg B V 0 ∗ sTodo c s asg B V 0 ∗ gPt c (Finset.univ \ allRows asg) V) := by
  iintro ⟨Hy, Hg, Hc⟩
  imod (Transfers.batch_alloc' (Lvl := ℕ) (countersEmb (U := Pipeline.UD sig nD τ)) (c : Thread nD τ) () 128 (sDeliv c s asg B V) (sm := .dma (ssem s.val)) (E := Set.univ)) $$ Hc with HB
  imodintro
  isplitl [HB]; · iexact HB
  ihave Hg' := (show gPt c Finset.univ V ⊢ iprop(gPt c (allRows asg) V ∗ gPt c (Finset.univ \ allRows asg) V) from (pointsTo_split_subset (Finset.subset_univ (allRows asg))).1) $$ Hg
  icases Hg' with ⟨Hg, Hr⟩
  isplitr [Hr]
  · unfold sTodo
    rw [Ring.rangeSet_univ, sep_bigSep]
    isplitl [Hy]
    · iapply (show yPt c (yslot s.val) (yOf B) ⊢ (bigSep Finset.univ fun r : Fin 256 => yPt c (yrow s.val r.val) (yOf B) : sProp 𝕄) from by
        rw [yPt_rows c s.val])
      iexact Hy
    · iapply (show gPt c (allRows asg) V ⊢ (bigSep Finset.univ fun r : Fin 256 => gPt c (grow (asg r.val)) V : sProp 𝕄) from by
        rw [gPt_rows c ha])
      iexact Hg
  · iexact Hr

theorem scatter_finish (s : Fin 2) (asg : ℕ → ℕ) (ha : OneEach asg) (B : S2048x128.Idx → F .f32) (V : S528384x128.Idx → F .f32) :
    iprop(sBatch c s asg B V 256 ∗ sTodo c s asg B V 256 ∗ gPt c (Finset.univ \ allRows asg) V)
      ⊢ Flight c (ssem s.val) iprop((∃ g, yPt c (yslot s.val) g) ∗ gPt c Finset.univ (putRows asg B V)) := by
  iintro ⟨HB, -, HR⟩
  unfold Flight
  iexists 256, 128, sDeliv c s asg B V, gPt c (Finset.univ \ allRows asg) V
  isplitr
  · ipureintro
    refine ⟨by omega, by omega, ?_⟩
    unfold sDeliv
    rw [sep_bigSep]
    iintro ⟨⟨Hy, Hg⟩, Hr⟩
    isplitl [Hy]
    · iexists yOf B
      iapply (show (bigSep Finset.univ fun r : Fin 256 => yPt c (yrow s.val r.val) (yOf B) : sProp 𝕄) ⊢ yPt c (yslot s.val) (yOf B) from by
        rw [yPt_rows c s.val])
      iexact Hy
    · iapply (show iprop((bigSep Finset.univ fun r : Fin 256 => gPt c (grow (asg r.val)) (putRows asg B V)) ∗ gPt c (Finset.univ \ allRows asg) V)
          ⊢ gPt c Finset.univ (putRows asg B V) from by
        rw [show (gPt c Finset.univ (putRows asg B V) : sProp 𝕄) = iprop(gPt c (allRows asg) (putRows asg B V) ∗ gPt c (Finset.univ \ allRows asg) (putRows asg B V))
          from eq_of_bi (pointsTo_split_subset (Finset.subset_univ (allRows asg)))]
        refine BI.Laws.sep_mono ?_ (Entails.of_eq ?_)
        · rw [gPt_rows c ha]
        · refine pointsTo_congr fun p hp => (putRows_of_not_mem B V p fun r hr => ?_).symm
          have hp' := (Finset.mem_sdiff.mp hp).2
          exact hp' (Finset.mem_biUnion.mpr ⟨r, Finset.mem_univ _, mem_grow.mpr hr.symm⟩))
      isplitl [Hg]; · iexact Hg
      iexact Hr
  isplitl [HB]; · iexact HB
  iexact HR

end Cert.KernelIdeal.Moe

end
-- ==== Proof.Words.lean ====
/-
  The kernel's word arithmetic in closed form: its offsets, conditions and side conditions over a grid point, a loop's
  trip and a word read from a table.
-/
module

public import proofs.«01_k».proof.Proof.Gen.KernelIdeal.Launch
public import Idealize.ShloMosaic.Lib.ValueIdx
public import Idealize.ShloMosaic.Lib.StableHlo.Predicate

@[expose] public section

set_option maxRecDepth 16384

noncomputable section

namespace Cert.KernelIdeal.Moe

open Cert.KernelIdeal Cert.KernelIdeal.Gen
open Idealize.ShloMosaic Idealize.ShloMosaic.TcCoe

variable {F : FTy → Type} [FloatOps F]

/-- The grid point `n`. -/
@[reducible] def pt (n : Fin 289) : grid0.Coords := fun a => n.cast (by fin_cases a; rfl)
theorem pt_eta (i : grid0.Coords) : pt (i 0) = i := by funext a; fin_cases a; rfl

/-- A statement of every grid point, from the grid's numbers. -/
theorem of_pt {P : grid0.Coords → Prop} (h : ∀ n : Fin 289, P (pt n)) (i : grid0.Coords) : P i := pt_eta i ▸ h (i 0)

/-! ## Offsets over the grid -/

theorem off1_eq (i : grid0.Coords) : k0_off1 i = ![(i 0).val] := of_pt (P := fun i => k0_off1 i = ![(i 0).val]) (by decide +kernel) i
theorem off9_eq (i : grid0.Coords) : k0_off9 i = ![(i 0).val] := of_pt (P := fun i => k0_off9 i = ![(i 0).val]) (by decide +kernel) i
theorem off11_eq (i : grid0.Coords) : k0_off11 i = ![(i 0).val] := of_pt (P := fun i => k0_off11 i = ![(i 0).val]) (by decide +kernel) i
theorem off20_eq (i : grid0.Coords) : k0_off20 i = ![(i 0).val] := of_pt (P := fun i => k0_off20 i = ![(i 0).val]) (by decide +kernel) i
theorem off21_eq (i : grid0.Coords) : k0_off21 i = ![(i 0).val] := of_pt (P := fun i => k0_off21 i = ![(i 0).val]) (by decide +kernel) i
theorem off10_eq (i : grid0.Coords) : k0_off10 i = ![(i 0).val - 1] := of_pt (P := fun i => k0_off10 i = ![(i 0).val - 1]) (by decide +kernel) i
theorem off27_eq (i : grid0.Coords) : k0_off27 i = ![(i 0).val % 3] := of_pt (P := fun i => k0_off27 i = ![(i 0).val % 3]) (by decide +kernel) i
theorem off28_eq (i : grid0.Coords) : k0_off28 i = ![(i 0).val % 3, 0, 0] := of_pt (P := fun i => k0_off28 i = ![(i 0).val % 3, 0, 0]) (by decide +kernel) i
theorem off30_eq (i : grid0.Coords) : k0_off30 i = ![((i 0).val + 2) % 3] := of_pt (P := fun i => k0_off30 i = ![((i 0).val + 2) % 3]) (by decide +kernel) i
theorem off34_eq (i : grid0.Coords) : k0_off34 i = ![((i 0).val + 2) % 3] := of_pt (P := fun i => k0_off34 i = ![((i 0).val + 2) % 3]) (by decide +kernel) i
theorem off38_eq (i : grid0.Coords) : k0_off38 i = ![((i 0).val + 2) % 3] := of_pt (P := fun i => k0_off38 i = ![((i 0).val + 2) % 3]) (by decide +kernel) i
theorem off42_eq (i : grid0.Coords) : k0_off42 i = ![((i 0).val + 2) % 3] := of_pt (P := fun i => k0_off42 i = ![((i 0).val + 2) % 3]) (by decide +kernel) i
theorem off45_eq (i : grid0.Coords) : k0_off45 i = ![(i 0).val % 2] := of_pt (P := fun i => k0_off45 i = ![(i 0).val % 2]) (by decide +kernel) i
theorem off46_eq (i : grid0.Coords) : k0_off46 i = ![(i 0).val % 2, 0, 0] := of_pt (P := fun i => k0_off46 i = ![(i 0).val % 2, 0, 0]) (by decide +kernel) i
theorem off48_eq (i : grid0.Coords) : k0_off48 i = ![1 - (i 0).val % 2] := of_pt (P := fun i => k0_off48 i = ![1 - (i 0).val % 2]) (by decide +kernel) i
theorem off53_eq (i : grid0.Coords) : k0_off53 i = ![1 - (i 0).val % 2] := of_pt (P := fun i => k0_off53 i = ![1 - (i 0).val % 2]) (by decide +kernel) i
theorem off54_eq (i : grid0.Coords) : k0_off54 i = ![1 - (i 0).val % 2, 0, 0] := of_pt (P := fun i => k0_off54 i = ![1 - (i 0).val % 2, 0, 0]) (by decide +kernel) i
theorem off51_eq1 (i : grid0.Coords) : k0_off51 i 1#32 = ![((i 0).val + 1) % 3] := of_pt (P := fun i => k0_off51 i 1#32 = ![((i 0).val + 1) % 3]) (by decide +kernel) i
theorem off52_eq1 (i : grid0.Coords) : k0_off52 i 1#32 = ![((i 0).val + 1) % 3, 0, 0] := of_pt (P := fun i => k0_off52 i 1#32 = ![((i 0).val + 1) % 3, 0, 0]) (by decide +kernel) i
theorem off51_eq2 (i : grid0.Coords) : k0_off51 i 2#32 = ![((i 0).val + 2) % 3] := of_pt (P := fun i => k0_off51 i 2#32 = ![((i 0).val + 2) % 3]) (by decide +kernel) i
theorem off52_eq2 (i : grid0.Coords) : k0_off52 i 2#32 = ![((i 0).val + 2) % 3, 0, 0] := of_pt (P := fun i => k0_off52 i 2#32 = ![((i 0).val + 2) % 3, 0, 0]) (by decide +kernel) i

/-! ## Offsets over a loop's trips -/

theorem off3_eq (k : Fin k0_t1_loop.trips) : k0_off3 k = ![0, 0, k.val] := (show ∀ k, k0_off3 k = ![0, 0, k.val] by decide +kernel) k
theorem off6_eq (k : Fin k0_t2_loop.trips) : k0_off6 k = ![0, 0, k.val] := (show ∀ k, k0_off6 k = ![0, 0, k.val] by decide +kernel) k
theorem off4_eq (k : Fin k0_t1_loop.trips) : k0_off4 k = ![0, 8 * k.val, 0] := (show ∀ k, k0_off4 k = ![0, 8 * k.val, 0] by decide +kernel) k
theorem off7_eq (k : Fin k0_t2_loop.trips) : k0_off7 k = ![1, 8 * k.val, 0] := (show ∀ k, k0_off7 k = ![1, 8 * k.val, 0] by decide +kernel) k
theorem off47_eq (k : Fin k0_t7_loop.trips) : k0_off47 k = ![0, 0, k.val] := (show ∀ k, k0_off47 k = ![0, 0, k.val] by decide +kernel) k
theorem off50_eq (i : grid0.Coords) (k : Fin k0_t7_loop.trips) : k0_off50 i k = ![1 - (i 0).val % 2, 8 * k.val, 0] := by
  funext a; fin_cases a
  · exact congrFun (off48_eq i) 0
  · exact congrFun (off4_eq k) 1
  · rfl
theorem off29_eq (k : Fin k0_t3_loop.trips) : k0_off29 k = ![0, 0, 0 + k.val] := (show ∀ k, k0_off29 k = ![0, 0, 0 + k.val] by decide +kernel) k
theorem off31_eq (i : grid0.Coords) (k : Fin k0_t3_loop.trips) : k0_off31 i k = ![((i 0).val + 2) % 3, 8 * (0 + k.val), 0] := by
  funext a; fin_cases a
  · exact congrFun (off30_eq i) 0
  · exact (show ∀ k, k0_off31 (pt 0) k 1 = 8 * (0 + k.val) by decide +kernel) k
  · rfl
theorem off33_eq (k : Fin k0_t4_loop.trips) : k0_off33 k = ![0, 0, 64 + k.val] := (show ∀ k, k0_off33 k = ![0, 0, 64 + k.val] by decide +kernel) k
theorem off35_eq (i : grid0.Coords) (k : Fin k0_t4_loop.trips) : k0_off35 i k = ![((i 0).val + 2) % 3, 8 * (64 + k.val), 0] := by
  funext a; fin_cases a
  · exact congrFun (off34_eq i) 0
  · exact (show ∀ k, k0_off35 (pt 0) k 1 = 8 * (64 + k.val) by decide +kernel) k
  · rfl
theorem off37_eq (k : Fin k0_t5_loop.trips) : k0_off37 k = ![0, 0, 128 + k.val] := (show ∀ k, k0_off37 k = ![0, 0, 128 + k.val] by decide +kernel) k
theorem off39_eq (i : grid0.Coords) (k : Fin k0_t5_loop.trips) : k0_off39 i k = ![((i 0).val + 2) % 3, 8 * (128 + k.val), 0] := by
  funext a; fin_cases a
  · exact congrFun (off38_eq i) 0
  · exact (show ∀ k, k0_off39 (pt 0) k 1 = 8 * (128 + k.val) by decide +kernel) k
  · rfl
theorem off41_eq (k : Fin k0_t6_loop.trips) : k0_off41 k = ![0, 0, 192 + k.val] := (show ∀ k, k0_off41 k = ![0, 0, 192 + k.val] by decide +kernel) k
theorem off43_eq (i : grid0.Coords) (k : Fin k0_t6_loop.trips) : k0_off43 i k = ![((i 0).val + 2) % 3, 8 * (192 + k.val), 0] := by
  funext a; fin_cases a
  · exact congrFun (off42_eq i) 0
  · exact (show ∀ k, k0_off43 (pt 0) k 1 = 8 * (192 + k.val) by decide +kernel) k
  · rfl
theorem trips1 : k0_t1_loop.trips = 256 := by decide +kernel
theorem trips2 : k0_t2_loop.trips = 256 := by decide +kernel
theorem trips3 : k0_t3_loop.trips = 64 := by decide +kernel
theorem trips4 : k0_t4_loop.trips = 64 := by decide +kernel
theorem trips5 : k0_t5_loop.trips = 64 := by decide +kernel
theorem trips6 : k0_t6_loop.trips = 64 := by decide +kernel
theorem trips7 : k0_t7_loop.trips = 256 := by decide +kernel

/-! ## Offsets over a word -/

/-- The token a slot word names. -/
def tokOf (w : BitVec 32) : ℕ := (w &&& 16383#32).toNat
theorem tokOf_lt (w : BitVec 32) : tokOf w < 16384 := by
  unfold tokOf; rw [BitVec.toNat_and]; exact lt_of_le_of_lt Nat.and_le_right (by decide)
theorem tok_word (w : BitVec 32) : (Scalar.muli (Scalar.andi w 16383#32) 8#32).toNat = 8 * tokOf w := by
  show ((w &&& 16383#32) * 8#32).toNat = _
  rw [BitVec.toNat_mul]
  have h := tokOf_lt w
  show tokOf w * 8 % 2 ^ 32 = _
  omega
theorem asg_word (w : BitVec 32) (h : w.toNat < 66048) : (Scalar.muli w 8#32).toNat = 8 * w.toNat := by
  show (w * 8#32).toNat = _
  rw [BitVec.toNat_mul]
  show w.toNat * 8 % 2 ^ 32 = _
  omega
theorem tokOf_eq (w : BitVec 32) : tokOf w = w.toNat % 16384 := by
  unfold tokOf; rw [BitVec.toNat_and]; exact Nat.and_two_pow_sub_one_eq_mod w.toNat 14
theorem off49_eq (w : BitVec 32) (h : w.toNat < 66048) : k0_off49 w = ![8 * w.toNat, 0] := by
  funext a; fin_cases a
  · exact asg_word w h
  · rfl
theorem off5_eq (w : BitVec 32) : k0_off5 w = ![8 * tokOf w, 0] := by
  funext a; fin_cases a
  · exact tok_word w
  · rfl
theorem off8_eq (w : BitVec 32) : k0_off8 w = ![8 * tokOf w, 0] := by
  funext a; fin_cases a
  · exact tok_word w
  · rfl
theorem off32_eq (w : BitVec 32) : k0_off32 w = ![8 * tokOf w, 0] := by
  funext a; fin_cases a
  · exact tok_word w
  · rfl
theorem off36_eq (w : BitVec 32) : k0_off36 w = ![8 * tokOf w, 0] := by
  funext a; fin_cases a
  · exact tok_word w
  · rfl
theorem off40_eq (w : BitVec 32) : k0_off40 w = ![8 * tokOf w, 0] := by
  funext a; fin_cases a
  · exact tok_word w
  · rfl
theorem off44_eq (w : BitVec 32) : k0_off44 w = ![8 * tokOf w, 0] := by
  funext a; fin_cases a
  · exact tok_word w
  · rfl
theorem hinb (t : ℕ) (ht : t < 16384) : ∀ a, (![8 * t, 0] : Fin 2 → ℕ) a + S8x128.size a ≤ S131072x128.size a := by
  intro a; fin_cases a
  · show 8 * t + 8 ≤ 131072; omega
  · show 0 + 128 ≤ 128; omega
theorem ginb (t : ℕ) (ht : t < 66048) : ∀ a, (![8 * t, 0] : Fin 2 → ℕ) a + S8x128.size a ≤ S528384x128.size a := by
  intro a; fin_cases a
  · show 8 * t + 8 ≤ 528384; omega
  · show 0 + 128 ≤ 128; omega
theorem chk2 (i : grid0.Coords) (w : BitVec 32) : k0_chk2 i w := fun _ => by rw [off5_eq]; exact hinb _ (tokOf_lt w)
theorem chk3 (i : grid0.Coords) (w : BitVec 32) : k0_chk3 i w := fun _ => by rw [off8_eq]; exact hinb _ (tokOf_lt w)
theorem chk8 (i : grid0.Coords) (v w : BitVec 32) : k0_chk8 i v w := fun _ => by rw [off32_eq]; exact hinb _ (tokOf_lt w)
theorem chk9 (i : grid0.Coords) (v w : BitVec 32) : k0_chk9 i v w := fun _ => by rw [off36_eq]; exact hinb _ (tokOf_lt w)
theorem chk10 (i : grid0.Coords) (v w : BitVec 32) : k0_chk10 i v w := fun _ => by rw [off40_eq]; exact hinb _ (tokOf_lt w)
theorem chk11 (i : grid0.Coords) (v w : BitVec 32) : k0_chk11 i v w := fun _ => by rw [off44_eq]; exact hinb _ (tokOf_lt w)
theorem chk12 (i : grid0.Coords) (v w : BitVec 32) (h : w.toNat < 66048) : k0_chk12 i v w := fun _ => by rw [off49_eq w h]; exact ginb _ h

/-! ## Conditions -/

theorem one_sub (v : BitVec 32) (h : v.toNat < 2) : (Scalar.subi 1#32 v).toNat = 1 - v.toNat := by
  show (1#32 - v).toNat = _
  rw [BitVec.toNat_sub]
  show (2 ^ 32 - v.toNat + 1) % 2 ^ 32 = _
  omega
theorem off22_eq (v : BitVec 32) (h : v.toNat < 2) : k0_off22 v = ![1 - v.toNat] := by funext a; fin_cases a; exact one_sub v h
theorem off25_eq (v : BitVec 32) (h : v.toNat < 2) : k0_off25 v = ![1 - v.toNat] := by funext a; fin_cases a; exact one_sub v h
theorem off23_eq (v : BitVec 32) (h : v.toNat < 2) : k0_off23 v = ![1 - v.toNat, 0, 0] := by
  funext a; fin_cases a
  · exact one_sub v h
  · rfl
  · rfl
theorem off26_eq (v : BitVec 32) (h : v.toNat < 2) : k0_off26 v = ![1 - v.toNat, 0, 0] := by
  funext a; fin_cases a
  · exact one_sub v h
  · rfl
  · rfl

theorem cond1_iff (i : grid0.Coords) : k0_cond1 i = 1#1 ↔ (i 0).val = 0 :=
  of_pt (P := fun i => k0_cond1 i = 1#1 ↔ (i 0).val = 0) (by decide +kernel) i
theorem bit_iff (b : BitVec 1) : Scalar.cmpi .ne (Scalar.extui b) 0#32 = 1#1 ↔ b = 1#1 := by
  revert b; decide +kernel
theorem ofBool_iff (b : Bool) : BitVec.ofBool b = 1#1 ↔ b = true := by revert b; decide +kernel
theorem ori_iff (a b : BitVec 1) : Scalar.ori a b = 1#1 ↔ a = 1#1 ∨ b = 1#1 := by revert a b; decide +kernel
theorem arg0_toNat (i : grid0.Coords) : (BitVec.ofNat 32 (i 0).val).toNat = (i 0).val := by
  have h : (i 0).val < 289 := (i 0).isLt
  rw [BitVec.toNat_ofNat]; omega
theorem cond2_iff (i : grid0.Coords) (v : BitVec 32) (hv : v.toNat ≤ 288) : k0_cond2 i v = 1#1 ↔ (i 0).val ≤ v.toNat := by
  have h : (i 0).val < 289 := (i 0).isLt
  unfold k0_cond2
  rw [bit_iff]
  show BitVec.ofBool (BitVec.sle (BitVec.ofNat 32 (i 0).val) v) = 1#1 ↔ _
  rw [ofBool_iff, BitVec.sle_iff_toInt_le, BitVec.toInt_eq_toNat_of_lt (by rw [arg0_toNat]; omega), BitVec.toInt_eq_toNat_of_lt (by omega), arg0_toNat]
  omega
theorem eq_word_iff (i : grid0.Coords) (v : BitVec 32) :
    Scalar.cmpi .ne (Scalar.extui (Scalar.cmpi .eq (BitVec.ofNat 32 (i 0).val) v)) 0#32 = 1#1 ↔ (i 0).val = v.toNat := by
  rw [bit_iff]
  show BitVec.ofBool (BitVec.ofNat 32 (i 0).val == v) = 1#1 ↔ _
  rw [ofBool_iff, beq_iff_eq, ← BitVec.toNat_inj, arg0_toNat]
theorem cond3_iff (i : grid0.Coords) (v w : BitVec 32) : k0_cond3 i v w = 1#1 ↔ (i 0).val = 0 ∨ v ≠ w := by
  unfold k0_cond3
  rw [bit_iff, ori_iff]
  refine or_congr ?_ ?_
  · show BitVec.ofBool (BitVec.ofNat 32 (i 0).val == 0#32) = 1#1 ↔ _
    rw [ofBool_iff, beq_iff_eq, ← BitVec.toNat_inj, arg0_toNat]; rfl
  · show BitVec.ofBool (v != w) = 1#1 ↔ _
    rw [ofBool_iff, bne_iff_ne]
theorem cond4_iff (v w : BitVec 32) : k0_cond4 v w = 1#1 ↔ w ≠ v := by
  unfold k0_cond4
  rw [bit_iff]
  show BitVec.ofBool (w != v) = 1#1 ↔ _
  rw [ofBool_iff, bne_iff_ne]

end Cert.KernelIdeal.Moe

end
-- ==== Proof.GatherLoops.lean ====
/-
  The kernel's loops that issue a block's copies: one trip of each, and each loop as an invariant for the run.
-/
module

public import proofs.«01_k».proof.Proof.Gather
public import proofs.«01_k».proof.Proof.Words

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The word `r` of a block's slots. -/
def slotWord (X : S1x1x256.Idx → BitVec 32) (r : ℕ) : BitVec 32 := X (ix3 0 0 ⟨r % 256, by omega⟩)
/-- The token of a block's row `r`. -/
def tokAt (X : S1x1x256.Idx → BitVec 32) (r : ℕ) : ℕ := tokOf (slotWord X r)

theorem slot_read {m : Memref sig .tc .smem S1x1x256 .i32} (f : m.view.ty.Contents (Elt F)) (X : S1x1x256.Idx → BitVec 32)
    (h : m.view.read (Elt F) f = X) (k : ℕ) (hk : k < 256) (off : Fin 3 → ℕ) (inb) (ho : off = ![0, 0, k]) (x : S1x1x1.Idx) :
    (m.access (Rect.unit (s := S1x1x256) off S1x1x1.size inb)).read (Elt F) f x = slotWord X k := by
  subst ho
  show m.view.read (Elt F) f ((Rect.unit (s := S1x1x256) ![0, 0, k] S1x1x1.size inb).emb x) = _
  rw [h]; unfold slotWord
  congr 1
  have x0 : (x 0).val < 1 := (x 0).isLt
  have x1 : (x 1).val < 1 := (x 1).isLt
  have x2 : (x 2).val < 1 := (x 2).isLt
  funext a; apply Fin.ext; fin_cases a
  · show 0 + 1 * (x 0).val = 0; omega
  · show 0 + 1 * (x 1).val = 0; omega
  · show k + 1 * (x 2).val = k % 256; omega

variable (c : Dev nD)
/-- A slot table in scalar memory. -/
abbrev winPt {sp : Space} {s : Shape} {e : EltTy} (m : Memref sig .tc sp s e) (f : Buf (Elt F) (m.view.loc (c : Thread nD τ))) : sProp 𝕄 :=
  m.view.loc (c : Thread nD τ) ↦[m.view.set]{fullShare} f

/-- A load of a slot word. -/
theorem slot_load {α : Type} (m : Memref sig .tc .smem S1x1x256 .i32) (f : Buf (Elt F) (m.view.loc (c : Thread nD τ))) (X : S1x1x256.Idx → BitVec 32)
    (hX : m.view.read (Elt F) f = X) (k : ℕ) (hk : k < 256) (off : Fin 3 → ℕ) (inb) (ho : off = ![0, 0, k]) {hl}
    {x : (Rect.unit (s := S1x1x256) off S1x1x1.size inb).shape.Idx}
    (kont : Elt F .i32 → Prog (TpuEff nD τ sig (Elt F) Λ₀ .tc) α) (Q : α → sProp 𝕄) :
    winPt c m f ⊢ iprop((winPt c m f -∗ wp Idealize.ShloMosaic.frame (wpE (defs₀ (F := F)) Variants.none (c : Thread nD τ) none) Set.univ (kont (slotWord X k)) Q)
      -∗ wp Idealize.ShloMosaic.frame (wpE (defs₀ (F := F)) Variants.none (c : Thread nD τ) none) Set.univ
        (smemLoadElt m (Rect.unit (s := S1x1x256) off S1x1x1.size inb) hl x kont) Q) := by
  rw [← slot_read f X hX k hk off inb ho x]
  exact wp_smemLoadElt (m := m) (r := Rect.unit (s := S1x1x256) off S1x1x1.size inb) (q := fullShare)
    Variants.none (c : Thread nD τ) none Set.univ (S := m.view.set) (f := f) (View.set_slice_subset m.view _)

/-- Before trip `k` of a loop that issues the copies from `base` on. -/
abbrev gInv (m : Memref sig .tc .smem S1x1x256 .i32) (f : Buf (Elt F) (m.view.loc (c : Thread nD τ))) (s : ℕ) (tok : ℕ → ℕ) (q : PosShare TreeShare)
    (H : S131072x128.Idx → F .f32) (k : ℕ) : sProp 𝕄 :=
  iprop(gBatch c s tok q H k ∗ gTodo c s tok q H k ∗ winPt c m f)

variable (i : grid0.Coords)
variable (m5 : Memref sig .tc .smem S1x1x256 .i32) (h5 : m5.IsWhole) (m6 : Memref sig .tc .smem S1x1x256 .i32) (h6 : m6.IsWhole)
  (m7 : Memref sig .tc .smem S1x1x256 .i32) (h7 : m7.IsWhole) (m8 : Memref sig .tc .smem S1x1x256 .i32) (h8 : m8.IsWhole)
  (m13 : Memref sig .tc .vmem S1x1x1024 .f32) (h13 : m13.IsWhole) (m14 : Memref sig .tc .vmem S1x1x1024 .f32) (h14 : m14.IsWhole)
  (m15 : Memref sig .tc .vmem S1x1x1024 .f32) (h15 : m15.IsWhole)

/-- One trip of loop 1. -/
theorem t1_step (hc1 : k0_cond1 i = 1#1) (f : Buf (Elt F) (m6.view.loc (c : Thread nD τ))) (X : S1x1x256.Idx → BitVec 32) (hX : m6.view.read (Elt F) f = X)
    (q : PosShare TreeShare) (H : S131072x128.Idx → F .f32) (k : Fin k0_t1_loop.trips) :
    gInv c m6 f 0 (tokAt X) q H (0 + k.val)
      ⊢ wp Idealize.ShloMosaic.frame (wpE (defs₀ (F := F)) Variants.none (c : Thread nD τ) none) Set.univ
        (k0_t1_body (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 hc1 k ())
        (fun _ => gInv c m6 f 0 (tokAt X) q H (0 + (k.val + 1))) := by
  have hk : k.val < 256 := lt_of_lt_of_eq k.isLt trips1
  iintro ⟨HB, HT, HW⟩
  sl_unfold [k0_t1_body]
  simp only [smemLoad, Prog.lift, Prog.bind_op, Prog.bind_ret, smemLoadElt_bind]
  iapply (slot_load c m6 f X hX (0 + k.val) (by omega) _ _ (by rw [off3_eq, Nat.zero_add]) _ _) $$ HW
  iintro HW
  iapply (wp_assume Variants.none (c : Thread nD τ) none Set.univ (chk2 i _))
  iapply (gather_issue c 0 (tokAt X) q H (0 + k.val) (by omega) (tokOf_lt _) _ _ (by rw [off4_eq, Nat.zero_add]) _ _ (off5_eq _) _ (gsem_eq 0 (by omega) _ _ rfl)) $$ [HB HT]
  · isplitl [HB] <;> iassumption
  iintro ⟨HB, HT⟩
  sl_step
  isplitl [HB]; · iexact HB
  isplitl [HT]; · iexact HT
  iexact HW

/-- One trip of loop 2. -/
theorem t2_step (hc1 : k0_cond1 i = 1#1) (f : Buf (Elt F) (m7.view.loc (c : Thread nD τ))) (X : S1x1x256.Idx → BitVec 32) (hX : m7.view.read (Elt F) f = X)
    (q : PosShare TreeShare) (H : S131072x128.Idx → F .f32) (k : Fin k0_t2_loop.trips) :
    gInv c m7 f 1 (tokAt X) q H (0 + k.val)
      ⊢ wp Idealize.ShloMosaic.frame (wpE (defs₀ (F := F)) Variants.none (c : Thread nD τ) none) Set.univ
        (k0_t2_body (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 hc1 k ())
        (fun _ => gInv c m7 f 1 (tokAt X) q H (0 + (k.val + 1))) := by
  have hk : k.val < 256 := lt_of_lt_of_eq k.isLt trips2
  iintro ⟨HB, HT, HW⟩
  sl_unfold [k0_t2_body]
  simp only [smemLoad, Prog.lift, Prog.bind_op, Prog.bind_ret, smemLoadElt_bind]
  iapply (slot_load c m7 f X hX (0 + k.val) (by omega) _ _ (by rw [off6_eq, Nat.zero_add]) _ _) $$ HW
  iintro HW
  iapply (wp_assume Variants.none (c : Thread nD τ) none Set.univ (chk3 i _))
  iapply (gather_issue c 1 (tokAt X) q H (0 + k.val) (by omega) (tokOf_lt _) _ _ (by rw [off7_eq, Nat.zero_add]) _ _ (off8_eq _) _ (gsem_eq 1 (by omega) _ _ rfl)) $$ [HB HT]
  · isplitl [HB] <;> iassumption
  iintro ⟨HB, HT⟩
  sl_step
  isplitl [HB]; · iexact HB
  isplitl [HT]; · iexact HT
  iexact HW

/-- One trip of loop 3. -/
theorem t3_step (v0 : Elt F .i32) (hc2 : k0_cond2 i v0 = 1#1) (a b d e : Vec F S256x128 .f32) (f : Buf (Elt F) (m8.view.loc (c : Thread nD τ))) (X : S1x1x256.Idx → BitVec 32) (hX : m8.view.read (Elt F) f = X)
    (q : PosShare TreeShare) (H : S131072x128.Idx → F .f32) (k : Fin k0_t3_loop.trips) :
    gInv c m8 f (((i 0).val + 2) % 3) (tokAt X) q H (0 + k.val)
      ⊢ wp Idealize.ShloMosaic.frame (wpE (defs₀ (F := F)) Variants.none (c : Thread nD τ) none) Set.univ
        (k0_t3_body (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v0 hc2 a b d e k ())
        (fun _ => gInv c m8 f (((i 0).val + 2) % 3) (tokAt X) q H (0 + (k.val + 1))) := by
  have hk : k.val < 64 := lt_of_lt_of_eq k.isLt trips3
  iintro ⟨HB, HT, HW⟩
  sl_unfold [k0_t3_body]
  simp only [smemLoad, Prog.lift, Prog.bind_op, Prog.bind_ret, smemLoadElt_bind]
  iapply (slot_load c m8 f X hX (0 + k.val) (by omega) _ _ (off29_eq k) _ _) $$ HW
  iintro HW
  iapply (wp_assume Variants.none (c : Thread nD τ) none Set.univ (chk8 i _ _))
  iapply (gather_issue c (((i 0).val + 2) % 3) (tokAt X) q H (0 + k.val) (by omega) (tokOf_lt _) _ _ (off31_eq i k) _ _ (off32_eq _) _ (gsem_eq _ (Nat.mod_lt _ (by omega)) _ _ (off30_eq i))) $$ [HB HT]
  · isplitl [HB] <;> iassumption
  iintro ⟨HB, HT⟩
  sl_step
  isplitl [HB]; · iexact HB
  isplitl [HT]; · iexact HT
  iexact HW

/-- One trip of loop 4. -/
theorem t4_step (v0 : Elt F .i32) (hc2 : k0_cond2 i v0 = 1#1) (a b : FVec F S256x256 .f32) (f : Buf (Elt F) (m8.view.loc (c : Thread nD τ))) (X : S1x1x256.Idx → BitVec 32) (hX : m8.view.read (Elt F) f = X)
    (q : PosShare TreeShare) (H : S131072x128.Idx → F .f32) (k : Fin k0_t4_loop.trips) :
    gInv c m8 f (((i 0).val + 2) % 3) (tokAt X) q H (64 + k.val)
      ⊢ wp Idealize.ShloMosaic.frame (wpE (defs₀ (F := F)) Variants.none (c : Thread nD τ) none) Set.univ
        (k0_t4_body (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v0 hc2 a b k ())
        (fun _ => gInv c m8 f (((i 0).val + 2) % 3) (tokAt X) q H (64 + (k.val + 1))) := by
  have hk : k.val < 64 := lt_of_lt_of_eq k.isLt trips4
  iintro ⟨HB, HT, HW⟩
  sl_unfold [k0_t4_body]
  simp only [smemLoad, Prog.lift, Prog.bind_op, Prog.bind_ret, smemLoadElt_bind]
  iapply (slot_load c m8 f X hX (64 + k.val) (by omega) _ _ (off33_eq k) _ _) $$ HW
  iintro HW
  iapply (wp_assume Variants.none (c : Thread nD τ) none Set.univ (chk9 i _ _))
  iapply (gather_issue c (((i 0).val + 2) % 3) (tokAt X) q H (64 + k.val) (by omega) (tokOf_lt _) _ _ (off35_eq i k) _ _ (off36_eq _) _ (gsem_eq _ (Nat.mod_lt _ (by omega)) _ _ (off34_eq i))) $$ [HB HT]
  · isplitl [HB] <;> iassumption
  iintro ⟨HB, HT⟩
  sl_step
  isplitl [HB]; · iexact HB
  isplitl [HT]; · iexact HT
  iexact HW

/-- One trip of loop 5. -/
theorem t5_step (v0 : Elt F .i32) (hc2 : k0_cond2 i v0 = 1#1) (a : BitVec 32) (f : Buf (Elt F) (m8.view.loc (c : Thread nD τ))) (X : S1x1x256.Idx → BitVec 32) (hX : m8.view.read (Elt F) f = X)
    (q : PosShare TreeShare) (H : S131072x128.Idx → F .f32) (k : Fin k0_t5_loop.trips) :
    gInv c m8 f (((i 0).val + 2) % 3) (tokAt X) q H (128 + k.val)
      ⊢ wp Idealize.ShloMosaic.frame (wpE (defs₀ (F := F)) Variants.none (c : Thread nD τ) none) Set.univ
        (k0_t5_body (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v0 hc2 a k ())
        (fun _ => gInv c m8 f (((i 0).val + 2) % 3) (tokAt X) q H (128 + (k.val + 1))) := by
  have hk : k.val < 64 := lt_of_lt_of_eq k.isLt trips5
  iintro ⟨HB, HT, HW⟩
  sl_unfold [k0_t5_body]
  simp only [smemLoad, Prog.lift, Prog.bind_op, Prog.bind_ret, smemLoadElt_bind]
  iapply (slot_load c m8 f X hX (128 + k.val) (by omega) _ _ (off37_eq k) _ _) $$ HW
  iintro HW
  iapply (wp_assume Variants.none (c : Thread nD τ) none Set.univ (chk10 i _ _))
  iapply (gather_issue c (((i 0).val + 2) % 3) (tokAt X) q H (128 + k.val) (by omega) (tokOf_lt _) _ _ (off39_eq i k) _ _ (off40_eq _) _ (gsem_eq _ (Nat.mod_lt _ (by omega)) _ _ (off38_eq i))) $$ [HB HT]
  · isplitl [HB] <;> iassumption
  iintro ⟨HB, HT⟩
  sl_step
  isplitl [HB]; · iexact HB
  isplitl [HT]; · iexact HT
  iexact HW

/-- One trip of loop 6. -/
theorem t6_step (v0 : Elt F .i32) (hc2 : k0_cond2 i v0 = 1#1) (a : FVec F S256x256 .f32) (b : FVec F S256x128 .f32) (f : Buf (Elt F) (m8.view.loc (c : Thread nD τ))) (X : S1x1x256.Idx → BitVec 32) (hX : m8.view.read (Elt F) f = X)
    (q : PosShare TreeShare) (H : S131072x128.Idx → F .f32) (k : Fin k0_t6_loop.trips) :
    gInv c m8 f (((i 0).val + 2) % 3) (tokAt X) q H (192 + k.val)
      ⊢ wp Idealize.ShloMosaic.frame (wpE (defs₀ (F := F)) Variants.none (c : Thread nD τ) none) Set.univ
        (k0_t6_body (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v0 hc2 a b k ())
        (fun _ => gInv c m8 f (((i 0).val + 2) % 3) (tokAt X) q H (192 + (k.val + 1))) := by
  have hk : k.val < 64 := lt_of_lt_of_eq k.isLt trips6
  iintro ⟨HB, HT, HW⟩
  sl_unfold [k0_t6_body]
  simp only [smemLoad, Prog.lift, Prog.bind_op, Prog.bind_ret, smemLoadElt_bind]
  iapply (slot_load c m8 f X hX (192 + k.val) (by omega) _ _ (off41_eq k) _ _) $$ HW
  iintro HW
  iapply (wp_assume Variants.none (c : Thread nD τ) none Set.univ (chk11 i _ _))
  iapply (gather_issue c (((i 0).val + 2) % 3) (tokAt X) q H (192 + k.val) (by omega) (tokOf_lt _) _ _ (off43_eq i k) _ _ (off44_eq _) _ (gsem_eq _ (Nat.mod_lt _ (by omega)) _ _ (off42_eq i))) $$ [HB HT]
  · isplitl [HB] <;> iassumption
  iintro ⟨HB, HT⟩
  sl_step
  isplitl [HB]; · iexact HB
  isplitl [HT]; · iexact HT
  iexact HW

end Cert.KernelIdeal.Moe

end
-- ==== Proof.Access.lean ====
/-
  What the kernel's loads read and its stores leave, buffer by buffer.
-/
module

public import proofs.«01_k».proof.Proof.Flight
public import proofs.«01_k».proof.Proof.GatherLoops

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)

/-- The core's run of a program. -/
abbrev run {α : Type} (p : Prog (TpuEff nD τ sig (Elt F) Λ₀ .tc) α) (Q : α → sProp 𝕄) : sProp 𝕄 :=
  wp Idealize.ShloMosaic.frame (wpE (defs₀ (F := F)) Variants.none (c : Thread nD τ) none) Set.univ p Q

/-- A load whose value is known. -/
theorem ld_gen {α : Type} {sp : CoreSpace} {s : Shape} {e : EltTy} (m : Memref sig .tc sp s e) (r : LoadRect s) {hl : m.view.LoadsAt r}
    {S : Finset (Idx (m.view.loc (c : Thread nD τ)))} {q : PosShare TreeShare} {f : Buf (Elt F) (m.view.loc (c : Thread nD τ))} (hS : m.view.setOn r.set ⊆ S)
    {v : r.shape.Idx → Elt F e} (hv : m.view.readAt (Elt F) r f = v)
    (k : (r.shape.Idx → Elt F e) → Prog (TpuEff nD τ sig (Elt F) Λ₀ .tc) α) (Q : α → sProp 𝕄) :
    (m.view.loc (c : Thread nD τ) ↦[S]{q} f)
      ⊢ iprop(((m.view.loc (c : Thread nD τ) ↦[S]{q} f) -∗ run c (k v) Q) -∗ run c (.op (.load m r hl) k) Q) := by
  subst hv
  exact wp_load Variants.none (c : Thread nD τ) none Set.univ hS

/-- A store whose effect is known. -/
theorem st_gen {α : Type} {sp : CoreSpace} {s : Shape} {e : EltTy} (m : Memref sig .tc sp s e) (r : Rect s) {w : r.shape.Idx → Elt F e}
    {hx : (m.access r).Stores Finset.univ} {hm : (Finset.univ : Finset r.shape.Idx) = Finset.univ ∨ ∀ a, r.stride a = 1}
    {S : Finset (Idx ((m.access r).loc (c : Thread nD τ)))} {f g : Buf (Elt F) ((m.access r).loc (c : Thread nD τ))} (hS : (m.access r).setOn Finset.univ ⊆ S)
    (hg : ∀ i ∈ S, (m.access r).write (Elt F) f w Finset.univ i = g i)
    (k : PUnit → Prog (TpuEff nD τ sig (Elt F) Λ₀ .tc) α) (Q : α → sProp 𝕄) :
    ((m.access r).loc (c : Thread nD τ) ↦[S]{fullShare} f)
      ⊢ iprop((((m.access r).loc (c : Thread nD τ) ↦[S]{fullShare} g) -∗ run c (k ⟨⟩) Q) -∗ run c (.op (.store m r w Finset.univ hx hm) k) Q) := by
  rw [← pointsTo_congr hg]
  exact wp_store Variants.none (c : Thread nD τ) none Set.univ hS

/-- What a write leaves, from the view's places. -/
theorem write_eq {κ : Kind} {sp : Space} {s : Shape} {e : EltTy} (v : View sig κ sp s e) (f g : v.ty.Contents (Elt F)) (w : s.Idx → Elt F e)
    (h1 : ∀ x, _root_.cast (congrArg (Elt F) v.elt_eq.symm) (w x) = g (v.emb x)) (h2 : ∀ i, (∀ x, v.emb x ≠ i) → f i = g i) (i : v.ty.Idx) :
    v.write (Elt F) f w Finset.univ i = g i := by
  by_cases hi : ∃ x, v.emb x = i
  · obtain ⟨x, rfl⟩ := hi
    rw [View.write_emb_of_mem (h := Finset.mem_univ x)]; exact h1 x
  · rw [View.write_of_not_mem]
    · exact h2 i fun x hx => hi ⟨x, hx⟩
    · intro hm; obtain ⟨x, -, hx⟩ := Finset.mem_map.mp hm; exact hi ⟨x, hx⟩

theorem xSlotV_emb {s : ℕ} (off : Fin 3 → ℕ) (inb) (h : off = ![s, 0, 0]) (a : Fin 2048) (b : Fin 128) :
    ((((xSlotV off inb).view.emb (ix2 a b) : S4x2048x128.Idx) 0).val = s) ∧ ((((xSlotV off inb).view.emb (ix2 a b) : S4x2048x128.Idx) 1).val = a.val)
      ∧ ((((xSlotV off inb).view.emb (ix2 a b) : S4x2048x128.Idx) 2).val = b.val) := by
  subst h
  have e : ((xSlotV ![s, 0, 0] inb).view.emb (ix2 a b) : S4x2048x128.Idx)
      = (Rect.unit (s := S4x2048x128) ![s, 0, 0] S1x2048x128.size inb).emb (ix3 (0 : Fin 1) a b) := by
    show (Rect.unit (s := S4x2048x128) ![s, 0, 0] S1x2048x128.size inb).emb (Shape.reshapeEquiv _ (ix2 a b)) = _
    rw [reshapeEquiv_ix2_1ab]; rfl
  rw [e]
  refine ⟨?_, ?_, ?_⟩
  · show s + 1 * 0 = s; omega
  · show 0 + 1 * a.val = _; omega
  · show 0 + 1 * b.val = _; omega

theorem ySlotV_emb {s : ℕ} (off : Fin 3 → ℕ) (inb) (h : off = ![s, 0, 0]) (a : Fin 2048) (b : Fin 128) :
    ((((ySlotV off inb).view.emb (ix2 a b) : S2x2048x128.Idx) 0).val = s) ∧ ((((ySlotV off inb).view.emb (ix2 a b) : S2x2048x128.Idx) 1).val = a.val)
      ∧ ((((ySlotV off inb).view.emb (ix2 a b) : S2x2048x128.Idx) 2).val = b.val) := by
  subst h
  have e : ((ySlotV ![s, 0, 0] inb).view.emb (ix2 a b) : S2x2048x128.Idx)
      = (Rect.unit (s := S2x2048x128) ![s, 0, 0] S1x2048x128.size inb).emb (ix3 (0 : Fin 1) a b) := by
    show (Rect.unit (s := S2x2048x128) ![s, 0, 0] S1x2048x128.size inb).emb (Shape.reshapeEquiv _ (ix2 a b)) = _
    rw [reshapeEquiv_ix2_1ab]; rfl
  rw [e]
  refine ⟨?_, ?_, ?_⟩
  · show s + 1 * 0 = s; omega
  · show 0 + 1 * a.val = _; omega
  · show 0 + 1 * b.val = _; omega

/-! ## The values read and left -/

/-- Row `j` of eight of each token of slot `s`. -/
def xTile (f : S4x2048x128.Idx → F .f32) (s : Fin 4) (j : ℕ) : Vec F S256x128 .f32 := fun q => f (ix3 s ⟨(8 * (q 0).val + j) % 2048, by omega⟩ (q 1))
/-- 256 rows of slot 3. -/
def xRow3 (f : S4x2048x128.Idx → F .f32) (r : ℕ) : Vec F S1x256x128 .f32 := fun q => f (ix3 3 ⟨(r + (q 1).val) % 2048, by omega⟩ (q 2))
/-- Slot 3 with 256 rows replaced. -/
def xPut3 (b : ℕ) (w : Vec F S1x256x128 .f32) (f : S4x2048x128.Idx → F .f32) : S4x2048x128.Idx → F .f32 :=
  fun p => if (p 1).val / 256 = b then w (ix3 0 ⟨(p 1).val % 256, by omega⟩ (p 2)) else f p
/-- Row `j` of eight replaced. -/
def yPut (j : ℕ) (w : Vec F S256x128 .f32) (f : S2x2048x128.Idx → F .f32) : S2x2048x128.Idx → F .f32 :=
  fun p => if (p 1).val % 8 = j then w (ix2 ⟨(p 1).val / 8, by have := (p 1).isLt; change (p 1).val < 2048 at this; omega⟩ (p 2)) else f p
/-- 256 columns replaced. -/
def guPut (b : ℕ) (w : Vec F S1024x256 .bf16) (f : S1024x2048.Idx → F .bf16) : S1024x2048.Idx → F .bf16 :=
  fun p => if (p 1).val / 256 = b then w (ix2 (p 0) ⟨(p 1).val % 256, by omega⟩) else f p
/-- 512 columns of the fused gate and up weights. -/
def guCols (f : S1024x2048.Idx → F .bf16) (o : ℕ) : Vec F S1024x512 .bf16 := fun q => f (ix2 (q 0) ⟨(o + (q 1).val) % 2048, by omega⟩)
/-- 512 columns of the down weights. -/
def dCols (f : S1024x1024.Idx → F .bf16) (o : ℕ) : Vec F S1024x512 .bf16 := fun q => f (ix2 (q 0) ⟨(o + (q 1).val) % 1024, by omega⟩)
/-- 256 columns of slot `s` of a weight buffer. -/
def wCols (f : S2x1024x1024.Idx → F .f32) (s : Fin 2) (o : ℕ) : Vec F S1x1024x256 .f32 := fun q => f (ix3 s (q 1) ⟨(o + (q 2).val) % 1024, by omega⟩)
/-- Slot `s` of a weight buffer. -/
def wSlot (f : S2x1024x1024.Idx → F .f32) (s : Fin 2) : Vec F S1x1024x1024 .f32 := fun q => f (ix3 s (q 1) (q 2))
/-- 256 columns of a bias. -/
def bCols (X : S1x1x1024.Idx → F .f32) (o : ℕ) : Vec F S1x1x256 .f32 := fun q => X (ix3 0 0 ⟨(o + (q 2).val) % 1024, by omega⟩)
/-- 512 columns of a bias. -/
def bCols2 (X : S1x1x1024.Idx → F .f32) (o : ℕ) : Vec F S1x1x512 .f32 := fun q => X (ix3 0 0 ⟨(o + (q 2).val) % 1024, by omega⟩)

/-! ## Points-to of the scratch buffers and the weights -/

abbrev asPt (f : S256x1024.Idx → F .bf16) : sProp 𝕄 :=
  (Memref.whole cc0_scratch2 : Memref sig .tc .vmem S256x1024 .bf16).view.loc (c : Thread nD τ) ↦[Finset.univ]{fullShare} f
abbrev wgBuf (S : Finset S2x1024x1024.Idx) (f : S2x1024x1024.Idx → F .f32) : sProp 𝕄 :=
  (Memref.whole cc0_scratch3 : Memref sig .tc .vmem S2x1024x1024 .f32).view.loc (c : Thread nD τ) ↦[S]{fullShare} f
abbrev wuBuf (S : Finset S2x1024x1024.Idx) (f : S2x1024x1024.Idx → F .f32) : sProp 𝕄 :=
  (Memref.whole cc0_scratch4 : Memref sig .tc .vmem S2x1024x1024 .f32).view.loc (c : Thread nD τ) ↦[S]{fullShare} f
abbrev wdBuf (S : Finset S2x1024x1024.Idx) (f : S2x1024x1024.Idx → F .f32) : sProp 𝕄 :=
  (Memref.whole cc0_scratch5 : Memref sig .tc .vmem S2x1024x1024 .f32).view.loc (c : Thread nD τ) ↦[S]{fullShare} f
abbrev guPt (f : S1024x2048.Idx → F .bf16) : sProp 𝕄 :=
  (Memref.whole cc0_scratch6 : Memref sig .tc .vmem S1024x2048 .bf16).view.loc (c : Thread nD τ) ↦[Finset.univ]{fullShare} f
abbrev dPt (f : S1024x1024.Idx → F .bf16) : sProp 𝕄 :=
  (Memref.whole cc0_scratch7 : Memref sig .tc .vmem S1024x1024 .bf16).view.loc (c : Thread nD τ) ↦[Finset.univ]{fullShare} f
abbrev wgHbm (S : Finset S32x1024x1024.Idx) (f : S32x1024x1024.Idx → F .f32) : sProp 𝕄 :=
  (Memref.whole main_arg8 : Memref sig .tc .hbm S32x1024x1024 .f32).view.loc (c : Thread nD τ) ↦[S]{fullShare} f
abbrev wuHbm (S : Finset S32x1024x1024.Idx) (f : S32x1024x1024.Idx → F .f32) : sProp 𝕄 :=
  (Memref.whole main_arg10 : Memref sig .tc .hbm S32x1024x1024 .f32).view.loc (c : Thread nD τ) ↦[S]{fullShare} f
abbrev wdHbm (S : Finset S32x1024x1024.Idx) (f : S32x1024x1024.Idx → F .f32) : sProp 𝕄 :=
  (Memref.whole main_arg12 : Memref sig .tc .hbm S32x1024x1024 .f32).view.loc (c : Thread nD τ) ↦[S]{fullShare} f
/-- Slot `s` of a weight buffer, as a set. -/
def wslot (s : ℕ) : Finset S2x1024x1024.Idx := Finset.univ.filter fun p => (p 0).val = s
theorem mem_wslot {s : ℕ} {p : S2x1024x1024.Idx} : p ∈ wslot s ↔ (p 0).val = s := by simp [wslot]

/-! ## Loads and stores -/

/-- Row `j` of eight of each token of a slot. -/
theorem ld_x {α : Type} (s : Fin 4) (off : Fin 3 → ℕ) (inb) (ho : off = ![s.val, 0, 0]) (j : ℕ) (hj : j < 8) (inbj) (f : S4x2048x128.Idx → F .f32) {hl}
    (kont : Vec F S256x128 .f32 → Prog (TpuEff nD τ sig (Elt F) Λ₀ .tc) α) (Q : α → sProp 𝕄) :
    xPt c (xslot s.val) f ⊢ iprop((xPt c (xslot s.val) f -∗ run c (kont (xTile f s j)) Q)
      -∗ run c (.op (.load (xSlotV off inb) (⟨![j, 0], S256x128.size, ![8, 1], inbj⟩ : LoadRect S2048x128) hl) kont) Q) := by
  refine ld_gen c (xSlotV off inb) (⟨![j, 0], S256x128.size, ![8, 1], inbj⟩ : LoadRect S2048x128)  (v := xTile f s j) ?_ ?_ kont Q
  · rw [← xSlotV_set off inb ho]; exact View.setOn_subset_set _ _
  · funext q
    have q0 : (q 0).val < 256 := (q 0).isLt
    have q1 : (q 1).val < 128 := (q 1).isLt
    obtain ⟨e0, e1, e2⟩ := xSlotV_emb off inb ho ⟨j + 8 * (q 0).val, by omega⟩ ⟨0 + 1 * (q 1).val, by omega⟩
    show f ((xSlotV off inb).view.emb (LoadRect.idx _ q)) = f _
    rw [show (LoadRect.idx (⟨![j, 0], S256x128.size, ![8, 1], inbj⟩ : LoadRect S2048x128) q : S2048x128.Idx) = ix2 ⟨j + 8 * (q 0).val, by omega⟩ ⟨0 + 1 * (q 1).val, by omega⟩ from by
      funext a; fin_cases a <;> rfl]
    congr 1
    funext k; apply Fin.ext; fin_cases k
    · exact e0
    · refine e1.trans ?_; show j + 8 * (q 0).val = (8 * (q 0).val + j) % 2048; omega
    · refine e2.trans ?_; show 0 + 1 * (q 1).val = (q 1).val; omega

/-- A row of eight of a slot of the results: what it reads is not used. -/
theorem ld_y {α : Type} (s : Fin 2) (off : Fin 3 → ℕ) (inb) (ho : off = ![s.val, 0, 0]) (j : ℕ) (inbj) (f : S2x2048x128.Idx → F .f32) {hl}
    (kont : Vec F S256x128 .f32 → Prog (TpuEff nD τ sig (Elt F) Λ₀ .tc) α) (Q : α → sProp 𝕄) :
    yPt c (yslot s.val) f ⊢ iprop((yPt c (yslot s.val) f -∗ run c (kont ((ySlotV off inb).view.readAt (Elt F) (⟨![j, 0], S256x128.size, ![8, 1], inbj⟩ : LoadRect S2048x128) f)) Q)
      -∗ run c (.op (.load (ySlotV off inb) (⟨![j, 0], S256x128.size, ![8, 1], inbj⟩ : LoadRect S2048x128) hl) kont) Q) := by
  refine ld_gen c (ySlotV off inb) (⟨![j, 0], S256x128.size, ![8, 1], inbj⟩ : LoadRect S2048x128)  ?_ rfl kont Q
  rw [← ySlotV_set off inb ho]; exact View.setOn_subset_set _ _

theorem yStore_emb (s : Fin 2) (off : Fin 3 → ℕ) (inb) (ho : off = ![s.val, 0, 0]) (j : ℕ) (hj : j < 8) (inbj) (sp) (q : S256x128.Idx) :
    ((((ySlotV off inb).view.emb ((⟨(⟨![j, 0], S256x128.size, ![8, 1], inbj⟩ : LoadRect S2048x128), sp⟩ : Rect S2048x128).emb q) : S2x2048x128.Idx) 0).val = s.val) ∧ ((((ySlotV off inb).view.emb ((⟨(⟨![j, 0], S256x128.size, ![8, 1], inbj⟩ : LoadRect S2048x128), sp⟩ : Rect S2048x128).emb q) : S2x2048x128.Idx) 1).val = j + 8 * (q 0).val)
      ∧ ((((ySlotV off inb).view.emb ((⟨(⟨![j, 0], S256x128.size, ![8, 1], inbj⟩ : LoadRect S2048x128), sp⟩ : Rect S2048x128).emb q) : S2x2048x128.Idx) 2).val = (q 1).val) := by
  have q0 : (q 0).val < 256 := (q 0).isLt
  have q1 : (q 1).val < 128 := (q 1).isLt
  have hq : ((⟨(⟨![j, 0], S256x128.size, ![8, 1], inbj⟩ : LoadRect S2048x128), sp⟩ : Rect S2048x128).emb q : S2048x128.Idx) = ix2 ⟨j + 8 * (q 0).val, by omega⟩ ⟨0 + 1 * (q 1).val, by omega⟩ := by
    funext a; fin_cases a <;> rfl
  rw [hq]
  obtain ⟨e0, e1, e2⟩ := ySlotV_emb off inb ho ⟨j + 8 * (q 0).val, by omega⟩ ⟨0 + 1 * (q 1).val, by omega⟩
  refine ⟨e0, e1, e2.trans ?_⟩
  show 0 + 1 * (q 1).val = _; omega

theorem yStore (s : Fin 2) (off : Fin 3 → ℕ) (inb) (ho : off = ![s.val, 0, 0]) (j : ℕ) (hj : j < 8) (inbj) (sp) (f : S2x2048x128.Idx → F .f32)
    (w : Vec F S256x128 .f32) (p : S2x2048x128.Idx) (hp : p ∈ yslot s.val) :
    ((ySlotV off inb).access (⟨(⟨![j, 0], S256x128.size, ![8, 1], inbj⟩ : LoadRect S2048x128), sp⟩ : Rect S2048x128)).write (Elt F) f w Finset.univ p = yPut j w f p := by
  have hp' := mem_yslot.mp hp
  have p1 : (p 1).val < 2048 := (p 1).isLt
  by_cases h : (p 1).val % 8 = j
  · have hq : (ySlotV off inb).view.emb ((⟨(⟨![j, 0], S256x128.size, ![8, 1], inbj⟩ : LoadRect S2048x128), sp⟩ : Rect S2048x128).emb (ix2 ⟨(p 1).val / 8, by omega⟩ (p 2) : S256x128.Idx)) = p := by
      obtain ⟨e0, e1, e2⟩ := yStore_emb s off inb ho j hj inbj sp (ix2 ⟨(p 1).val / 8, by omega⟩ (p 2))
      funext a; apply Fin.ext; fin_cases a
      · exact e0.trans hp'.symm
      · refine e1.trans ?_; show j + 8 * ((p 1).val / 8) = (p 1).val; omega
      · exact e2
    have hw : yPut j w f p = w (ix2 ⟨(p 1).val / 8, by omega⟩ (p 2)) := if_pos h
    rw [hw]
    have e := View.write_emb_of_mem (v := (ySlotV off inb).access (⟨(⟨![j, 0], S256x128.size, ![8, 1], inbj⟩ : LoadRect S2048x128), sp⟩ : Rect S2048x128)) (Val := Elt F) f w (x := ix2 ⟨(p 1).val / 8, by omega⟩ (p 2)) (h := Finset.mem_univ _)
    refine Eq.trans ?_ e
    exact congrArg _ hq.symm
  · have hw : yPut j w f p = f p := if_neg h
    rw [hw]
    refine View.write_of_not_mem _ _ _ fun hm => ?_
    obtain ⟨q, -, hq⟩ := Finset.mem_map.mp hm
    have e1 := (yStore_emb s off inb ho j hj inbj sp q).2.1
    have e2 : (ySlotV off inb).view.emb ((⟨(⟨![j, 0], S256x128.size, ![8, 1], inbj⟩ : LoadRect S2048x128), sp⟩ : Rect S2048x128).emb q) = p := hq
    rw [e2] at e1
    omega

/-- Row `j` of eight of a slot of the results replaced. -/
theorem st_y {α : Type} (s : Fin 2) (off : Fin 3 → ℕ) (inb) (ho : off = ![s.val, 0, 0]) (j : ℕ) (hj : j < 8) (inbj) (sp) (f : S2x2048x128.Idx → F .f32) (w : Vec F S256x128 .f32) {hx hm}
    (kont : PUnit → Prog (TpuEff nD τ sig (Elt F) Λ₀ .tc) α) (Q : α → sProp 𝕄) :
    yPt c (yslot s.val) f ⊢ iprop((yPt c (yslot s.val) (yPut j w f) -∗ run c (kont ⟨⟩) Q)
      -∗ run c (.op (.store (ySlotV off inb) ⟨(⟨![j, 0], S256x128.size, ![8, 1], inbj⟩ : LoadRect S2048x128), sp⟩ w Finset.univ hx hm) kont) Q) := by
  refine st_gen c (ySlotV off inb) (⟨(⟨![j, 0], S256x128.size, ![8, 1], inbj⟩ : LoadRect S2048x128), sp⟩ : Rect S2048x128) (g := yPut j w f) ?_ (yStore s off inb ho j hj inbj sp f w) kont Q
  rw [← ySlotV_set off inb ho]; exact View.set_slice_subset _ _

/-- 256 rows of slot 3. -/
theorem ld_x3 {α : Type} (r : ℕ) (hr : r + 256 ≤ 2048) (inb) (f : S4x2048x128.Idx → F .f32) {hl}
    (kont : Vec F S1x256x128 .f32 → Prog (TpuEff nD τ sig (Elt F) Λ₀ .tc) α) (Q : α → sProp 𝕄) :
    xPt c (xslot 3) f ⊢ iprop((xPt c (xslot 3) f -∗ run c (kont (xRow3 f r)) Q)
      -∗ run c (.op (.load (Memref.whole cc0_scratch0 : Memref sig .tc .vmem S4x2048x128 .f32) (Rect.unit (s := S4x2048x128) ![3, r, 0] S1x256x128.size inb).toLoadRect hl) kont) Q) := by
  refine ld_gen c (Memref.whole cc0_scratch0 : Memref sig .tc .vmem S4x2048x128 .f32) (Rect.unit (s := S4x2048x128) ![3, r, 0] S1x256x128.size inb).toLoadRect (v := xRow3 f r) ?_ ?_ kont Q
  · rw [show (Memref.whole cc0_scratch0 : Memref sig .tc .vmem S4x2048x128 .f32).view.setOn (Rect.unit (s := S4x2048x128) ![3, r, 0] S1x256x128.size inb).toLoadRect.set = ((Memref.whole cc0_scratch0 : Memref sig .tc .vmem S4x2048x128 .f32).access (Rect.unit (s := S4x2048x128) ![3, r, 0] S1x256x128.size inb)).set from (View.set_slice _ _).symm]
    intro p hp
    obtain ⟨q, -, rfl⟩ := Finset.mem_map.mp hp
    rw [mem_xslot]
    have q0 : (q 0).val < 1 := (q 0).isLt
    show 3 + 1 * (q 0).val = 3; omega
  · funext q
    have q0 : (q 0).val < 1 := (q 0).isLt
    have q1 : (q 1).val < 256 := (q 1).isLt
    show f ((Rect.unit (s := S4x2048x128) ![3, r, 0] S1x256x128.size inb).emb q) = f _
    congr 1
    funext k; apply Fin.ext; fin_cases k
    · show 3 + 1 * (q 0).val = 3; omega
    · show r + 1 * (q 1).val = (r + (q 1).val) % 2048; omega
    · show 0 + 1 * (q 2).val = (q 2).val; omega

/-- 256 rows of slot 3 replaced. -/
theorem st_x3 {α : Type} (r b : ℕ) (hr : r = 256 * b) (inb) (f : S4x2048x128.Idx → F .f32) (w : Vec F S1x256x128 .f32) {hx hm}
    (kont : PUnit → Prog (TpuEff nD τ sig (Elt F) Λ₀ .tc) α) (Q : α → sProp 𝕄) :
    xPt c (xslot 3) f ⊢ iprop((xPt c (xslot 3) (xPut3 b w f) -∗ run c (kont ⟨⟩) Q)
      -∗ run c (.op (.store (Memref.whole cc0_scratch0 : Memref sig .tc .vmem S4x2048x128 .f32) (Rect.unit (s := S4x2048x128) ![3, r, 0] S1x256x128.size inb) w Finset.univ hx hm) kont) Q) := by
  refine st_gen c (Memref.whole cc0_scratch0 : Memref sig .tc .vmem S4x2048x128 .f32) (Rect.unit (s := S4x2048x128) ![3, r, 0] S1x256x128.size inb) (g := xPut3 b w f) ?_ ?_ kont Q
  · intro p hp
    obtain ⟨q, -, rfl⟩ := Finset.mem_map.mp hp
    rw [mem_xslot]
    have q0 : (q 0).val < 1 := (q 0).isLt
    show 3 + 1 * (q 0).val = 3; omega
  · intro p hp
    have hp' := mem_xslot.mp hp
    have p1 : (p 1).val < 2048 := (p 1).isLt
    by_cases h : (p 1).val / 256 = b
    · have hq : p = ((Memref.whole cc0_scratch0 : Memref sig .tc .vmem S4x2048x128 .f32).access (Rect.unit (s := S4x2048x128) ![3, r, 0] S1x256x128.size inb)).emb (ix3 0 ⟨(p 1).val % 256, by omega⟩ (p 2) : S1x256x128.Idx) := by
        funext a; apply Fin.ext; fin_cases a
        · show (p 0).val = 3 + 1 * 0; omega
        · show (p 1).val = r + 1 * ((p 1).val % 256); omega
        · show (p 2).val = 0 + 1 * (p 2).val; omega
      have hw : xPut3 b w f p = w (ix3 0 ⟨(p 1).val % 256, by omega⟩ (p 2)) := if_pos h
      rw [hw]
      conv_lhs => rw [hq]
      exact View.write_emb_of_mem (h := Finset.mem_univ _) _ _
    · have hw : xPut3 b w f p = f p := if_neg h
      rw [hw]
      refine View.write_of_not_mem _ _ _ fun hm => ?_
      obtain ⟨q, -, hq⟩ := Finset.mem_map.mp hm
      have q1 : (q 1).val < 256 := (q 1).isLt
      have e1 : (p 1).val = r + 1 * (q 1).val := by rw [← hq]; rfl
      omega

/-- 256 columns of the fused weights replaced. -/
theorem st_gu {α : Type} (r b : ℕ) (hr : r = 256 * b) (inb) (f : S1024x2048.Idx → F .bf16) (w : Vec F S1024x256 .bf16) {hx hm}
    (kont : PUnit → Prog (TpuEff nD τ sig (Elt F) Λ₀ .tc) α) (Q : α → sProp 𝕄) :
    guPt c f ⊢ iprop((guPt c (guPut b w f) -∗ run c (kont ⟨⟩) Q)
      -∗ run c (.op (.store (Memref.whole cc0_scratch6 : Memref sig .tc .vmem S1024x2048 .bf16) (Rect.unit (s := S1024x2048) ![0, r] S1024x256.size inb) w Finset.univ hx hm) kont) Q) := by
  refine st_gen c (Memref.whole cc0_scratch6 : Memref sig .tc .vmem S1024x2048 .bf16) (Rect.unit (s := S1024x2048) ![0, r] S1024x256.size inb) (g := guPut b w f) (Finset.subset_univ _) ?_ kont Q
  intro p _
  by_cases h : (p 1).val / 256 = b
  · have hq : p = ((Memref.whole cc0_scratch6 : Memref sig .tc .vmem S1024x2048 .bf16).access (Rect.unit (s := S1024x2048) ![0, r] S1024x256.size inb)).emb (ix2 (p 0) ⟨(p 1).val % 256, by omega⟩ : S1024x256.Idx) := by
      funext a; apply Fin.ext; fin_cases a
      · show (p 0).val = 0 + 1 * (p 0).val; omega
      · show (p 1).val = r + 1 * ((p 1).val % 256); omega
    have hw : guPut b w f p = w (ix2 (p 0) ⟨(p 1).val % 256, by omega⟩) := if_pos h
    rw [hw]
    conv_lhs => rw [hq]
    exact View.write_emb_of_mem (h := Finset.mem_univ _) _ _
  · have hw : guPut b w f p = f p := if_neg h
    rw [hw]
    refine View.write_of_not_mem _ _ _ fun hm => ?_
    obtain ⟨q, -, hq⟩ := Finset.mem_map.mp hm
    have q1 : (q 1).val < 256 := (q 1).isLt
    have e1 : (p 1).val = r + 1 * (q 1).val := by rw [← hq]; rfl
    omega

/-- Columns of the fused weights: what it reads is not used. -/
theorem ld_gu0 {α : Type} (r : ℕ) (inb) (f : S1024x2048.Idx → F .bf16) {hl}
    (kont : Vec F S1024x256 .bf16 → Prog (TpuEff nD τ sig (Elt F) Λ₀ .tc) α) (Q : α → sProp 𝕄) :
    guPt c f ⊢ iprop((guPt c f -∗ run c (kont ((Memref.whole cc0_scratch6 : Memref sig .tc .vmem S1024x2048 .bf16).view.readAt (Elt F) (Rect.unit (s := S1024x2048) ![0, r] S1024x256.size inb).toLoadRect f)) Q)
      -∗ run c (.op (.load (Memref.whole cc0_scratch6 : Memref sig .tc .vmem S1024x2048 .bf16) (Rect.unit (s := S1024x2048) ![0, r] S1024x256.size inb).toLoadRect hl) kont) Q) := by
  exact ld_gen c (Memref.whole cc0_scratch6 : Memref sig .tc .vmem S1024x2048 .bf16) (Rect.unit (s := S1024x2048) ![0, r] S1024x256.size inb).toLoadRect (Finset.subset_univ _) rfl kont Q

/-- 512 columns of the fused weights. -/
theorem ld_gu {α : Type} (r : ℕ) (hr : r + 512 ≤ 2048) (inb) (f : S1024x2048.Idx → F .bf16) {hl}
    (kont : Vec F S1024x512 .bf16 → Prog (TpuEff nD τ sig (Elt F) Λ₀ .tc) α) (Q : α → sProp 𝕄) :
    guPt c f ⊢ iprop((guPt c f -∗ run c (kont (guCols f r)) Q)
      -∗ run c (.op (.load (Memref.whole cc0_scratch6 : Memref sig .tc .vmem S1024x2048 .bf16) (Rect.unit (s := S1024x2048) ![0, r] S1024x512.size inb).toLoadRect hl) kont) Q) := by
  refine ld_gen c (Memref.whole cc0_scratch6 : Memref sig .tc .vmem S1024x2048 .bf16) (Rect.unit (s := S1024x2048) ![0, r] S1024x512.size inb).toLoadRect (v := guCols f r) (Finset.subset_univ _) ?_ kont Q
  funext q
  have q1 : (q 1).val < 512 := (q 1).isLt
  show f ((Rect.unit (s := S1024x2048) ![0, r] S1024x512.size inb).emb q) = f _
  congr 1
  funext k; apply Fin.ext; fin_cases k
  · show 0 + 1 * (q 0).val = (q 0).val; omega
  · show r + 1 * (q 1).val = (r + (q 1).val) % 2048; omega

/-- 512 columns of the down weights. -/
theorem ld_d {α : Type} (r : ℕ) (hr : r + 512 ≤ 1024) (inb) (f : S1024x1024.Idx → F .bf16) {hl}
    (kont : Vec F S1024x512 .bf16 → Prog (TpuEff nD τ sig (Elt F) Λ₀ .tc) α) (Q : α → sProp 𝕄) :
    dPt c f ⊢ iprop((dPt c f -∗ run c (kont (dCols f r)) Q)
      -∗ run c (.op (.load (Memref.whole cc0_scratch7 : Memref sig .tc .vmem S1024x1024 .bf16) (Rect.unit (s := S1024x1024) ![0, r] S1024x512.size inb).toLoadRect hl) kont) Q) := by
  refine ld_gen c (Memref.whole cc0_scratch7 : Memref sig .tc .vmem S1024x1024 .bf16) (Rect.unit (s := S1024x1024) ![0, r] S1024x512.size inb).toLoadRect (v := dCols f r) (Finset.subset_univ _) ?_ kont Q
  funext q
  have q1 : (q 1).val < 512 := (q 1).isLt
  show f ((Rect.unit (s := S1024x1024) ![0, r] S1024x512.size inb).emb q) = f _
  congr 1
  funext k; apply Fin.ext; fin_cases k
  · show 0 + 1 * (q 0).val = (q 0).val; omega
  · show r + 1 * (q 1).val = (r + (q 1).val) % 1024; omega

/-- The down weights read whole. -/
theorem ld_dw {α : Type} (inb) (f : S1024x1024.Idx → F .bf16) {hl}
    (kont : Vec F S1024x1024 .bf16 → Prog (TpuEff nD τ sig (Elt F) Λ₀ .tc) α) (Q : α → sProp 𝕄) :
    dPt c f ⊢ iprop((dPt c f -∗ run c (kont (f)) Q)
      -∗ run c (.op (.load (Memref.whole cc0_scratch7 : Memref sig .tc .vmem S1024x1024 .bf16) (Rect.unit (s := S1024x1024) ![0, 0] S1024x1024.size inb).toLoadRect hl) kont) Q) := by
  refine ld_gen c (Memref.whole cc0_scratch7 : Memref sig .tc .vmem S1024x1024 .bf16) (Rect.unit (s := S1024x1024) ![0, 0] S1024x1024.size inb).toLoadRect (v := f) (Finset.subset_univ _) ?_ kont Q
  funext q
  show f ((Rect.unit (s := S1024x1024) ![0, 0] S1024x1024.size inb).emb q) = f q
  congr 1
  funext k; apply Fin.ext; fin_cases k <;> exact (Nat.zero_add _).trans (Nat.one_mul _)

/-- The down weights replaced whole. -/
theorem st_dw {α : Type} (inb) (f : S1024x1024.Idx → F .bf16) (w : Vec F S1024x1024 .bf16) {hx hm}
    (kont : PUnit → Prog (TpuEff nD τ sig (Elt F) Λ₀ .tc) α) (Q : α → sProp 𝕄) :
    dPt c f ⊢ iprop((dPt c w -∗ run c (kont ⟨⟩) Q)
      -∗ run c (.op (.store (Memref.whole cc0_scratch7 : Memref sig .tc .vmem S1024x1024 .bf16) (Rect.unit (s := S1024x1024) ![0, 0] S1024x1024.size inb) w Finset.univ hx hm) kont) Q) := by
  refine st_gen c (Memref.whole cc0_scratch7 : Memref sig .tc .vmem S1024x1024 .bf16) (Rect.unit (s := S1024x1024) ![0, 0] S1024x1024.size inb) (g := w) (Finset.subset_univ _) ?_ kont Q
  intro p _
  have hq : p = ((Memref.whole cc0_scratch7 : Memref sig .tc .vmem S1024x1024 .bf16).access (Rect.unit (s := S1024x1024) ![0, 0] S1024x1024.size inb)).emb p := by
    funext a; apply Fin.ext; fin_cases a <;> exact ((Nat.zero_add _).trans (Nat.one_mul _)).symm
  have e := View.write_emb_of_mem (v := (Memref.whole cc0_scratch7 : Memref sig .tc .vmem S1024x1024 .bf16).access (Rect.unit (s := S1024x1024) ![0, 0] S1024x1024.size inb)) (Val := Elt F) f w (x := p) (h := Finset.mem_univ p)
  rw [← hq] at e
  exact e

/-- The rows in bf16 read whole. -/
theorem ld_as {α : Type} (inb) (f : S256x1024.Idx → F .bf16) {hl}
    (kont : Vec F S256x1024 .bf16 → Prog (TpuEff nD τ sig (Elt F) Λ₀ .tc) α) (Q : α → sProp 𝕄) :
    asPt c f ⊢ iprop((asPt c f -∗ run c (kont (f)) Q)
      -∗ run c (.op (.load (Memref.whole cc0_scratch2 : Memref sig .tc .vmem S256x1024 .bf16) (Rect.unit (s := S256x1024) ![0, 0] S256x1024.size inb).toLoadRect hl) kont) Q) := by
  refine ld_gen c (Memref.whole cc0_scratch2 : Memref sig .tc .vmem S256x1024 .bf16) (Rect.unit (s := S256x1024) ![0, 0] S256x1024.size inb).toLoadRect (v := f) (Finset.subset_univ _) ?_ kont Q
  funext q
  show f ((Rect.unit (s := S256x1024) ![0, 0] S256x1024.size inb).emb q) = f q
  congr 1
  funext k; apply Fin.ext; fin_cases k <;> exact (Nat.zero_add _).trans (Nat.one_mul _)

/-- The rows in bf16 replaced whole. -/
theorem st_as {α : Type} (inb) (f : S256x1024.Idx → F .bf16) (w : Vec F S256x1024 .bf16) {hx hm}
    (kont : PUnit → Prog (TpuEff nD τ sig (Elt F) Λ₀ .tc) α) (Q : α → sProp 𝕄) :
    asPt c f ⊢ iprop((asPt c w -∗ run c (kont ⟨⟩) Q)
      -∗ run c (.op (.store (Memref.whole cc0_scratch2 : Memref sig .tc .vmem S256x1024 .bf16) (Rect.unit (s := S256x1024) ![0, 0] S256x1024.size inb) w Finset.univ hx hm) kont) Q) := by
  refine st_gen c (Memref.whole cc0_scratch2 : Memref sig .tc .vmem S256x1024 .bf16) (Rect.unit (s := S256x1024) ![0, 0] S256x1024.size inb) (g := w) (Finset.subset_univ _) ?_ kont Q
  intro p _
  have hq : p = ((Memref.whole cc0_scratch2 : Memref sig .tc .vmem S256x1024 .bf16).access (Rect.unit (s := S256x1024) ![0, 0] S256x1024.size inb)).emb p := by
    funext a; apply Fin.ext; fin_cases a <;> exact ((Nat.zero_add _).trans (Nat.one_mul _)).symm
  have e := View.write_emb_of_mem (v := (Memref.whole cc0_scratch2 : Memref sig .tc .vmem S256x1024 .bf16).access (Rect.unit (s := S256x1024) ![0, 0] S256x1024.size inb)) (Val := Elt F) f w (x := p) (h := Finset.mem_univ p)
  rw [← hq] at e
  exact e

/-- The results' buffer read whole. -/
theorem ld_yw {α : Type} (inb) (f : S2x2048x128.Idx → F .f32) {hl}
    (kont : Vec F S2x2048x128 .f32 → Prog (TpuEff nD τ sig (Elt F) Λ₀ .tc) α) (Q : α → sProp 𝕄) :
    yPt c Finset.univ f ⊢ iprop((yPt c Finset.univ f -∗ run c (kont (f)) Q)
      -∗ run c (.op (.load (Memref.whole cc0_scratch1 : Memref sig .tc .vmem S2x2048x128 .f32) (Rect.unit (s := S2x2048x128) ![0, 0, 0] S2x2048x128.size inb).toLoadRect hl) kont) Q) := by
  refine ld_gen c (Memref.whole cc0_scratch1 : Memref sig .tc .vmem S2x2048x128 .f32) (Rect.unit (s := S2x2048x128) ![0, 0, 0] S2x2048x128.size inb).toLoadRect (v := f) (Finset.subset_univ _) ?_ kont Q
  funext q
  show f ((Rect.unit (s := S2x2048x128) ![0, 0, 0] S2x2048x128.size inb).emb q) = f q
  congr 1
  funext k; apply Fin.ext; fin_cases k <;> exact (Nat.zero_add _).trans (Nat.one_mul _)

/-- The results' buffer replaced whole. -/
theorem st_yw {α : Type} (inb) (f : S2x2048x128.Idx → F .f32) (w : Vec F S2x2048x128 .f32) {hx hm}
    (kont : PUnit → Prog (TpuEff nD τ sig (Elt F) Λ₀ .tc) α) (Q : α → sProp 𝕄) :
    yPt c Finset.univ f ⊢ iprop((yPt c Finset.univ w -∗ run c (kont ⟨⟩) Q)
      -∗ run c (.op (.store (Memref.whole cc0_scratch1 : Memref sig .tc .vmem S2x2048x128 .f32) (Rect.unit (s := S2x2048x128) ![0, 0, 0] S2x2048x128.size inb) w Finset.univ hx hm) kont) Q) := by
  refine st_gen c (Memref.whole cc0_scratch1 : Memref sig .tc .vmem S2x2048x128 .f32) (Rect.unit (s := S2x2048x128) ![0, 0, 0] S2x2048x128.size inb) (g := w) (Finset.subset_univ _) ?_ kont Q
  intro p _
  have hq : p = ((Memref.whole cc0_scratch1 : Memref sig .tc .vmem S2x2048x128 .f32).access (Rect.unit (s := S2x2048x128) ![0, 0, 0] S2x2048x128.size inb)).emb p := by
    funext a; apply Fin.ext; fin_cases a <;> exact ((Nat.zero_add _).trans (Nat.one_mul _)).symm
  have e := View.write_emb_of_mem (v := (Memref.whole cc0_scratch1 : Memref sig .tc .vmem S2x2048x128 .f32).access (Rect.unit (s := S2x2048x128) ![0, 0, 0] S2x2048x128.size inb)) (Val := Elt F) f w (x := p) (h := Finset.mem_univ p)
  rw [← hq] at e
  exact e

/-- 256 columns of a slot of a weight buffer. -/
theorem ld_wg {α : Type} (s : Fin 2) (o : ℕ) (ho : o + 256 ≤ 1024) (off : Fin 3 → ℕ) (inb) (hoff : off = ![s.val, 0, o]) (f : S2x1024x1024.Idx → F .f32) {hl}
    (kont : Vec F S1x1024x256 .f32 → Prog (TpuEff nD τ sig (Elt F) Λ₀ .tc) α) (Q : α → sProp 𝕄) :
    wgBuf c (wslot s.val) f ⊢ iprop((wgBuf c (wslot s.val) f -∗ run c (kont (wCols f s o)) Q)
      -∗ run c (.op (.load (Memref.whole cc0_scratch3 : Memref sig .tc .vmem S2x1024x1024 .f32) (Rect.unit (s := S2x1024x1024) off S1x1024x256.size inb).toLoadRect hl) kont) Q) := by
  subst hoff
  refine ld_gen c (Memref.whole cc0_scratch3 : Memref sig .tc .vmem S2x1024x1024 .f32) (Rect.unit (s := S2x1024x1024) ![s.val, 0, o] S1x1024x256.size inb).toLoadRect (v := wCols f s o) ?_ ?_ kont Q
  · rw [show (Memref.whole cc0_scratch3 : Memref sig .tc .vmem S2x1024x1024 .f32).view.setOn (Rect.unit (s := S2x1024x1024) ![s.val, 0, o] S1x1024x256.size inb).toLoadRect.set = ((Memref.whole cc0_scratch3 : Memref sig .tc .vmem S2x1024x1024 .f32).access (Rect.unit (s := S2x1024x1024) ![s.val, 0, o] S1x1024x256.size inb)).set from (View.set_slice _ _).symm]
    intro p hp
    obtain ⟨q, -, rfl⟩ := Finset.mem_map.mp hp
    rw [mem_wslot]
    have q0 : (q 0).val < 1 := (q 0).isLt
    show s.val + 1 * (q 0).val = s.val; omega
  · funext q
    have q0 : (q 0).val < 1 := (q 0).isLt
    have q2 : (q 2).val < 256 := (q 2).isLt
    show f ((Rect.unit (s := S2x1024x1024) ![s.val, 0, o] S1x1024x256.size inb).emb q) = f _
    congr 1
    funext k; apply Fin.ext; fin_cases k
    · show s.val + 1 * (q 0).val = s.val; omega
    · show 0 + 1 * (q 1).val = (q 1).val; omega
    · show o + 1 * (q 2).val = (o + (q 2).val) % 1024; omega

/-- 256 columns of a slot of a weight buffer. -/
theorem ld_wu {α : Type} (s : Fin 2) (o : ℕ) (ho : o + 256 ≤ 1024) (off : Fin 3 → ℕ) (inb) (hoff : off = ![s.val, 0, o]) (f : S2x1024x1024.Idx → F .f32) {hl}
    (kont : Vec F S1x1024x256 .f32 → Prog (TpuEff nD τ sig (Elt F) Λ₀ .tc) α) (Q : α → sProp 𝕄) :
    wuBuf c (wslot s.val) f ⊢ iprop((wuBuf c (wslot s.val) f -∗ run c (kont (wCols f s o)) Q)
      -∗ run c (.op (.load (Memref.whole cc0_scratch4 : Memref sig .tc .vmem S2x1024x1024 .f32) (Rect.unit (s := S2x1024x1024) off S1x1024x256.size inb).toLoadRect hl) kont) Q) := by
  subst hoff
  refine ld_gen c (Memref.whole cc0_scratch4 : Memref sig .tc .vmem S2x1024x1024 .f32) (Rect.unit (s := S2x1024x1024) ![s.val, 0, o] S1x1024x256.size inb).toLoadRect (v := wCols f s o) ?_ ?_ kont Q
  · rw [show (Memref.whole cc0_scratch4 : Memref sig .tc .vmem S2x1024x1024 .f32).view.setOn (Rect.unit (s := S2x1024x1024) ![s.val, 0, o] S1x1024x256.size inb).toLoadRect.set = ((Memref.whole cc0_scratch4 : Memref sig .tc .vmem S2x1024x1024 .f32).access (Rect.unit (s := S2x1024x1024) ![s.val, 0, o] S1x1024x256.size inb)).set from (View.set_slice _ _).symm]
    intro p hp
    obtain ⟨q, -, rfl⟩ := Finset.mem_map.mp hp
    rw [mem_wslot]
    have q0 : (q 0).val < 1 := (q 0).isLt
    show s.val + 1 * (q 0).val = s.val; omega
  · funext q
    have q0 : (q 0).val < 1 := (q 0).isLt
    have q2 : (q 2).val < 256 := (q 2).isLt
    show f ((Rect.unit (s := S2x1024x1024) ![s.val, 0, o] S1x1024x256.size inb).emb q) = f _
    congr 1
    funext k; apply Fin.ext; fin_cases k
    · show s.val + 1 * (q 0).val = s.val; omega
    · show 0 + 1 * (q 1).val = (q 1).val; omega
    · show o + 1 * (q 2).val = (o + (q 2).val) % 1024; omega

/-- A slot of the down weights' buffer. -/
theorem ld_wd {α : Type} (s : Fin 2) (off : Fin 3 → ℕ) (inb) (hoff : off = ![s.val, 0, 0]) (f : S2x1024x1024.Idx → F .f32) {hl}
    (kont : Vec F S1x1024x1024 .f32 → Prog (TpuEff nD τ sig (Elt F) Λ₀ .tc) α) (Q : α → sProp 𝕄) :
    wdBuf c (wslot s.val) f ⊢ iprop((wdBuf c (wslot s.val) f -∗ run c (kont (wSlot f s)) Q)
      -∗ run c (.op (.load (Memref.whole cc0_scratch5 : Memref sig .tc .vmem S2x1024x1024 .f32) (Rect.unit (s := S2x1024x1024) off S1x1024x1024.size inb).toLoadRect hl) kont) Q) := by
  subst hoff
  refine ld_gen c (Memref.whole cc0_scratch5 : Memref sig .tc .vmem S2x1024x1024 .f32) (Rect.unit (s := S2x1024x1024) ![s.val, 0, 0] S1x1024x1024.size inb).toLoadRect (v := wSlot f s) ?_ ?_ kont Q
  · rw [show (Memref.whole cc0_scratch5 : Memref sig .tc .vmem S2x1024x1024 .f32).view.setOn (Rect.unit (s := S2x1024x1024) ![s.val, 0, 0] S1x1024x1024.size inb).toLoadRect.set = ((Memref.whole cc0_scratch5 : Memref sig .tc .vmem S2x1024x1024 .f32).access (Rect.unit (s := S2x1024x1024) ![s.val, 0, 0] S1x1024x1024.size inb)).set from (View.set_slice _ _).symm]
    intro p hp
    obtain ⟨q, -, rfl⟩ := Finset.mem_map.mp hp
    rw [mem_wslot]
    have q0 : (q 0).val < 1 := (q 0).isLt
    show s.val + 1 * (q 0).val = s.val; omega
  · funext q
    have q0 : (q 0).val < 1 := (q 0).isLt
    show f ((Rect.unit (s := S2x1024x1024) ![s.val, 0, 0] S1x1024x1024.size inb).emb q) = f _
    congr 1
    funext k; apply Fin.ext; fin_cases k
    · show s.val + 1 * (q 0).val = s.val; omega
    · show 0 + 1 * (q 1).val = (q 1).val; omega
    · show 0 + 1 * (q 2).val = (q 2).val; omega

/-- 256 columns of a bias. -/
theorem ld_b {α : Type} (m : Memref sig .tc .vmem S1x1x1024 .f32) (o : ℕ) (ho : o + 256 ≤ 1024) (inb) (f : Buf (Elt F) (m.view.loc (c : Thread nD τ))) (X : S1x1x1024.Idx → F .f32) (hX : m.view.read (Elt F) f = X) {hl}
    (kont : Vec F S1x1x256 .f32 → Prog (TpuEff nD τ sig (Elt F) Λ₀ .tc) α) (Q : α → sProp 𝕄) :
    winPt c m f ⊢ iprop((winPt c m f -∗ run c (kont (bCols X o)) Q)
      -∗ run c (.op (.load m (Rect.unit (s := S1x1x1024) ![0, 0, o] S1x1x256.size inb).toLoadRect hl) kont) Q) := by
  refine ld_gen c m (Rect.unit (s := S1x1x1024) ![0, 0, o] S1x1x256.size inb).toLoadRect (v := bCols X o) (View.setOn_subset_set _ _) ?_ kont Q
  funext q
  have q0 : (q 0).val < 1 := (q 0).isLt
  have q1 : (q 1).val < 1 := (q 1).isLt
  have q2 : (q 2).val < 256 := (q 2).isLt
  show m.view.read (Elt F) f ((Rect.unit (s := S1x1x1024) ![0, 0, o] S1x1x256.size inb).emb q) = X _
  rw [hX]
  congr 1
  funext k; apply Fin.ext; fin_cases k
  · show 0 + 1 * (q 0).val = 0; omega
  · show 0 + 1 * (q 1).val = 0; omega
  · show o + 1 * (q 2).val = (o + (q 2).val) % 1024; omega

/-- 512 columns of a bias. -/
theorem ld_b2 {α : Type} (m : Memref sig .tc .vmem S1x1x1024 .f32) (o : ℕ) (ho : o + 512 ≤ 1024) (inb) (f : Buf (Elt F) (m.view.loc (c : Thread nD τ))) (X : S1x1x1024.Idx → F .f32) (hX : m.view.read (Elt F) f = X) {hl}
    (kont : Vec F S1x1x512 .f32 → Prog (TpuEff nD τ sig (Elt F) Λ₀ .tc) α) (Q : α → sProp 𝕄) :
    winPt c m f ⊢ iprop((winPt c m f -∗ run c (kont (bCols2 X o)) Q)
      -∗ run c (.op (.load m (Rect.unit (s := S1x1x1024) ![0, 0, o] S1x1x512.size inb).toLoadRect hl) kont) Q) := by
  refine ld_gen c m (Rect.unit (s := S1x1x1024) ![0, 0, o] S1x1x512.size inb).toLoadRect (v := bCols2 X o) (View.setOn_subset_set _ _) ?_ kont Q
  funext q
  have q0 : (q 0).val < 1 := (q 0).isLt
  have q1 : (q 1).val < 1 := (q 1).isLt
  have q2 : (q 2).val < 512 := (q 2).isLt
  show m.view.read (Elt F) f ((Rect.unit (s := S1x1x1024) ![0, 0, o] S1x1x512.size inb).emb q) = X _
  rw [hX]
  congr 1
  funext k; apply Fin.ext; fin_cases k
  · show 0 + 1 * (q 0).val = 0; omega
  · show 0 + 1 * (q 1).val = 0; omega
  · show o + 1 * (q 2).val = (o + (q 2).val) % 1024; omega

end Cert.KernelIdeal.Moe

end
-- ==== Proof.Weights.lean ====
/-
  The three copies that bring an expert's weights into a slot, and the first copy into the result.
-/
module

public import proofs.«01_k».proof.Proof.Access

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Expert `e`'s part of a weight array. -/
def wexp (e : ℕ) : Finset S32x1024x1024.Idx := Finset.univ.filter fun p => (p 0).val = e
theorem mem_wexp {e : ℕ} {p : S32x1024x1024.Idx} : p ∈ wexp e ↔ (p 0).val = e := by simp [wexp]
/-- A weight buffer with expert `e`'s weights in its slots. -/
def lw (W : S32x1024x1024.Idx → F .f32) (e : ℕ) : S2x1024x1024.Idx → F .f32 := fun p => W (ix3 ⟨e % 32, by omega⟩ (p 1) (p 2))

/-- A slot of the buffer, and an expert of the array, at any offsets in bounds. -/
abbrev wgBufV (off : Fin 3 → ℕ) (inb : ∀ a, off a + S1x1024x1024.size a ≤ S2x1024x1024.size a) : Memref sig .tc .vmem S1024x1024 .f32 :=
  ((Memref.whole cc0_scratch3 : Memref sig .tc .vmem S2x1024x1024 .f32).slice (Rect.unit (s := S2x1024x1024) off S1x1024x1024.size inb) (fun _ => rfl)).squeeze S1024x1024 squeezes_S1x1024x1024_S1024x1024
abbrev wgHbmV (off : Fin 3 → ℕ) (inb : ∀ a, off a + S1x1024x1024.size a ≤ S32x1024x1024.size a) : Memref sig .tc .hbm S1024x1024 .f32 :=
  ((Memref.whole main_arg8 : Memref sig .tc .hbm S32x1024x1024 .f32).slice (Rect.unit (s := S32x1024x1024) off S1x1024x1024.size inb) (fun _ => rfl)).squeeze S1024x1024 squeezes_S1x1024x1024_S1024x1024
theorem wgBuf_amount (off inb) (s : DmaSem sig) : (wgBufV off inb).view.amount (.dma s) = 131072 := by
  show RefSig.tileCredit S1024x1024 .f32 = 131072
  decide +kernel
theorem wgBuf_credit (off inb) : (wgBufV off inb).view.dmaCredit = 131072 := by
  show RefSig.tileCredit S1024x1024 .f32 = 131072
  decide +kernel
theorem wgBufV_set {s : ℕ} (off : Fin 3 → ℕ) (inb) (h : off = ![s, 0, 0]) : (wgBufV off inb).view.set = wslot s := by
  subst h
  have e : (wgBufV ![s, 0, 0] inb).view.set = (Rect.unit (s := S2x1024x1024) ![s, 0, 0] S1x1024x1024.size inb).set :=
    (View.set_reshape _ _).trans (View.set_slice_whole _ _)
  rw [e]; ext p; rw [Rect.mem_set_unit, mem_wslot]
  have h1 : (p 1).val < 1024 := (p 1).isLt
  have h2 : (p 2).val < 1024 := (p 2).isLt
  constructor
  · intro H
    have a0 : s ≤ (p 0).val ∧ (p 0).val < s + 1 := H 0
    omega
  · rintro h0 a; fin_cases a
    · show s ≤ (p 0).val ∧ (p 0).val < s + 1; omega
    · show 0 ≤ (p 1).val ∧ (p 1).val < 0 + 1024; omega
    · show 0 ≤ (p 2).val ∧ (p 2).val < 0 + 1024; omega
theorem wgBufV_emb {s : ℕ} (off : Fin 3 → ℕ) (inb) (h : off = ![s, 0, 0]) (a : Fin 1024) (b : Fin 1024) :
    ((((wgBufV off inb).view.emb (ix2 a b) : S2x1024x1024.Idx) 0).val = s) ∧ ((((wgBufV off inb).view.emb (ix2 a b) : S2x1024x1024.Idx) 1).val = a.val)
      ∧ ((((wgBufV off inb).view.emb (ix2 a b) : S2x1024x1024.Idx) 2).val = b.val) := by
  subst h
  have e : ((wgBufV ![s, 0, 0] inb).view.emb (ix2 a b) : S2x1024x1024.Idx)
      = (Rect.unit (s := S2x1024x1024) ![s, 0, 0] S1x1024x1024.size inb).emb (ix3 (0 : Fin 1) a b) := by
    show (Rect.unit (s := S2x1024x1024) ![s, 0, 0] S1x1024x1024.size inb).emb (Shape.reshapeEquiv _ (ix2 a b)) = _
    rw [reshapeEquiv_ix2_1ab]; rfl
  rw [e]
  refine ⟨?_, ?_, ?_⟩
  · show s + 1 * 0 = s; omega
  · show 0 + 1 * a.val = _; omega
  · show 0 + 1 * b.val = _; omega
theorem wgHbmV_set {s : ℕ} (off : Fin 3 → ℕ) (inb) (h : off = ![s, 0, 0]) : (wgHbmV off inb).view.set = wexp s := by
  subst h
  have e : (wgHbmV ![s, 0, 0] inb).view.set = (Rect.unit (s := S32x1024x1024) ![s, 0, 0] S1x1024x1024.size inb).set :=
    (View.set_reshape _ _).trans (View.set_slice_whole _ _)
  rw [e]; ext p; rw [Rect.mem_set_unit, mem_wexp]
  have h1 : (p 1).val < 1024 := (p 1).isLt
  have h2 : (p 2).val < 1024 := (p 2).isLt
  constructor
  · intro H
    have a0 : s ≤ (p 0).val ∧ (p 0).val < s + 1 := H 0
    omega
  · rintro h0 a; fin_cases a
    · show s ≤ (p 0).val ∧ (p 0).val < s + 1; omega
    · show 0 ≤ (p 1).val ∧ (p 1).val < 0 + 1024; omega
    · show 0 ≤ (p 2).val ∧ (p 2).val < 0 + 1024; omega
theorem wgHbmV_emb {s : ℕ} (off : Fin 3 → ℕ) (inb) (h : off = ![s, 0, 0]) (a : Fin 1024) (b : Fin 1024) :
    ((((wgHbmV off inb).view.emb (ix2 a b) : S32x1024x1024.Idx) 0).val = s) ∧ ((((wgHbmV off inb).view.emb (ix2 a b) : S32x1024x1024.Idx) 1).val = a.val)
      ∧ ((((wgHbmV off inb).view.emb (ix2 a b) : S32x1024x1024.Idx) 2).val = b.val) := by
  subst h
  have e : ((wgHbmV ![s, 0, 0] inb).view.emb (ix2 a b) : S32x1024x1024.Idx)
      = (Rect.unit (s := S32x1024x1024) ![s, 0, 0] S1x1024x1024.size inb).emb (ix3 (0 : Fin 1) a b) := by
    show (Rect.unit (s := S32x1024x1024) ![s, 0, 0] S1x1024x1024.size inb).emb (Shape.reshapeEquiv _ (ix2 a b)) = _
    rw [reshapeEquiv_ix2_1ab]; rfl
  rw [e]
  refine ⟨?_, ?_, ?_⟩
  · show s + 1 * 0 = s; omega
  · show 0 + 1 * a.val = _; omega
  · show 0 + 1 * b.val = _; omega
theorem wg_lands (W : S32x1024x1024.Idx → F .f32) (fd : S2x1024x1024.Idx → F .f32) {s e : ℕ} (he : e < 32)
    (off : Fin 3 → ℕ) (inb) (h : off = ![s, 0, 0]) (off' : Fin 3 → ℕ) (inb') (h' : off' = ![e, 0, 0]) :
    ∀ p ∈ wslot s, (wgBufV off inb).view.write (Elt F) fd ((wgHbmV off' inb').view.read (Elt F) W) Finset.univ p = lw W e p := by
  intro p hp
  rw [← wgBufV_set off inb h] at hp
  obtain ⟨x, -, rfl⟩ := Finset.mem_map.mp hp
  rw [View.write_emb_of_mem (h := Finset.mem_univ x)]
  obtain ⟨a, b, rfl⟩ : ∃ a b, x = ix2 a b := ⟨x 0, x 1, eq_ix2 x⟩
  obtain ⟨e0, e1, e2⟩ := wgBufV_emb off inb h a b
  obtain ⟨g0, g1, g2⟩ := wgHbmV_emb off' inb' h' a b
  show W ((wgHbmV off' inb').view.emb (ix2 a b)) = W _
  congr 1
  funext k
  apply Fin.ext
  fin_cases k
  · refine Eq.trans g0 ?_; show e = e % 32; omega
  · exact g1.trans e1.symm
  · exact g2.trans e2.symm

/-- A slot of the buffer, and an expert of the array, at any offsets in bounds. -/
abbrev wuBufV (off : Fin 3 → ℕ) (inb : ∀ a, off a + S1x1024x1024.size a ≤ S2x1024x1024.size a) : Memref sig .tc .vmem S1024x1024 .f32 :=
  ((Memref.whole cc0_scratch4 : Memref sig .tc .vmem S2x1024x1024 .f32).slice (Rect.unit (s := S2x1024x1024) off S1x1024x1024.size inb) (fun _ => rfl)).squeeze S1024x1024 squeezes_S1x1024x1024_S1024x1024
abbrev wuHbmV (off : Fin 3 → ℕ) (inb : ∀ a, off a + S1x1024x1024.size a ≤ S32x1024x1024.size a) : Memref sig .tc .hbm S1024x1024 .f32 :=
  ((Memref.whole main_arg10 : Memref sig .tc .hbm S32x1024x1024 .f32).slice (Rect.unit (s := S32x1024x1024) off S1x1024x1024.size inb) (fun _ => rfl)).squeeze S1024x1024 squeezes_S1x1024x1024_S1024x1024
theorem wuBuf_amount (off inb) (s : DmaSem sig) : (wuBufV off inb).view.amount (.dma s) = 131072 := by
  show RefSig.tileCredit S1024x1024 .f32 = 131072
  decide +kernel
theorem wuBuf_credit (off inb) : (wuBufV off inb).view.dmaCredit = 131072 := by
  show RefSig.tileCredit S1024x1024 .f32 = 131072
  decide +kernel
theorem wuBufV_set {s : ℕ} (off : Fin 3 → ℕ) (inb) (h : off = ![s, 0, 0]) : (wuBufV off inb).view.set = wslot s := by
  subst h
  have e : (wuBufV ![s, 0, 0] inb).view.set = (Rect.unit (s := S2x1024x1024) ![s, 0, 0] S1x1024x1024.size inb).set :=
    (View.set_reshape _ _).trans (View.set_slice_whole _ _)
  rw [e]; ext p; rw [Rect.mem_set_unit, mem_wslot]
  have h1 : (p 1).val < 1024 := (p 1).isLt
  have h2 : (p 2).val < 1024 := (p 2).isLt
  constructor
  · intro H
    have a0 : s ≤ (p 0).val ∧ (p 0).val < s + 1 := H 0
    omega
  · rintro h0 a; fin_cases a
    · show s ≤ (p 0).val ∧ (p 0).val < s + 1; omega
    · show 0 ≤ (p 1).val ∧ (p 1).val < 0 + 1024; omega
    · show 0 ≤ (p 2).val ∧ (p 2).val < 0 + 1024; omega
theorem wuBufV_emb {s : ℕ} (off : Fin 3 → ℕ) (inb) (h : off = ![s, 0, 0]) (a : Fin 1024) (b : Fin 1024) :
    ((((wuBufV off inb).view.emb (ix2 a b) : S2x1024x1024.Idx) 0).val = s) ∧ ((((wuBufV off inb).view.emb (ix2 a b) : S2x1024x1024.Idx) 1).val = a.val)
      ∧ ((((wuBufV off inb).view.emb (ix2 a b) : S2x1024x1024.Idx) 2).val = b.val) := by
  subst h
  have e : ((wuBufV ![s, 0, 0] inb).view.emb (ix2 a b) : S2x1024x1024.Idx)
      = (Rect.unit (s := S2x1024x1024) ![s, 0, 0] S1x1024x1024.size inb).emb (ix3 (0 : Fin 1) a b) := by
    show (Rect.unit (s := S2x1024x1024) ![s, 0, 0] S1x1024x1024.size inb).emb (Shape.reshapeEquiv _ (ix2 a b)) = _
    rw [reshapeEquiv_ix2_1ab]; rfl
  rw [e]
  refine ⟨?_, ?_, ?_⟩
  · show s + 1 * 0 = s; omega
  · show 0 + 1 * a.val = _; omega
  · show 0 + 1 * b.val = _; omega
theorem wuHbmV_set {s : ℕ} (off : Fin 3 → ℕ) (inb) (h : off = ![s, 0, 0]) : (wuHbmV off inb).view.set = wexp s := by
  subst h
  have e : (wuHbmV ![s, 0, 0] inb).view.set = (Rect.unit (s := S32x1024x1024) ![s, 0, 0] S1x1024x1024.size inb).set :=
    (View.set_reshape _ _).trans (View.set_slice_whole _ _)
  rw [e]; ext p; rw [Rect.mem_set_unit, mem_wexp]
  have h1 : (p 1).val < 1024 := (p 1).isLt
  have h2 : (p 2).val < 1024 := (p 2).isLt
  constructor
  · intro H
    have a0 : s ≤ (p 0).val ∧ (p 0).val < s + 1 := H 0
    omega
  · rintro h0 a; fin_cases a
    · show s ≤ (p 0).val ∧ (p 0).val < s + 1; omega
    · show 0 ≤ (p 1).val ∧ (p 1).val < 0 + 1024; omega
    · show 0 ≤ (p 2).val ∧ (p 2).val < 0 + 1024; omega
theorem wuHbmV_emb {s : ℕ} (off : Fin 3 → ℕ) (inb) (h : off = ![s, 0, 0]) (a : Fin 1024) (b : Fin 1024) :
    ((((wuHbmV off inb).view.emb (ix2 a b) : S32x1024x1024.Idx) 0).val = s) ∧ ((((wuHbmV off inb).view.emb (ix2 a b) : S32x1024x1024.Idx) 1).val = a.val)
      ∧ ((((wuHbmV off inb).view.emb (ix2 a b) : S32x1024x1024.Idx) 2).val = b.val) := by
  subst h
  have e : ((wuHbmV ![s, 0, 0] inb).view.emb (ix2 a b) : S32x1024x1024.Idx)
      = (Rect.unit (s := S32x1024x1024) ![s, 0, 0] S1x1024x1024.size inb).emb (ix3 (0 : Fin 1) a b) := by
    show (Rect.unit (s := S32x1024x1024) ![s, 0, 0] S1x1024x1024.size inb).emb (Shape.reshapeEquiv _ (ix2 a b)) = _
    rw [reshapeEquiv_ix2_1ab]; rfl
  rw [e]
  refine ⟨?_, ?_, ?_⟩
  · show s + 1 * 0 = s; omega
  · show 0 + 1 * a.val = _; omega
  · show 0 + 1 * b.val = _; omega
theorem wu_lands (W : S32x1024x1024.Idx → F .f32) (fd : S2x1024x1024.Idx → F .f32) {s e : ℕ} (he : e < 32)
    (off : Fin 3 → ℕ) (inb) (h : off = ![s, 0, 0]) (off' : Fin 3 → ℕ) (inb') (h' : off' = ![e, 0, 0]) :
    ∀ p ∈ wslot s, (wuBufV off inb).view.write (Elt F) fd ((wuHbmV off' inb').view.read (Elt F) W) Finset.univ p = lw W e p := by
  intro p hp
  rw [← wuBufV_set off inb h] at hp
  obtain ⟨x, -, rfl⟩ := Finset.mem_map.mp hp
  rw [View.write_emb_of_mem (h := Finset.mem_univ x)]
  obtain ⟨a, b, rfl⟩ : ∃ a b, x = ix2 a b := ⟨x 0, x 1, eq_ix2 x⟩
  obtain ⟨e0, e1, e2⟩ := wuBufV_emb off inb h a b
  obtain ⟨g0, g1, g2⟩ := wuHbmV_emb off' inb' h' a b
  show W ((wuHbmV off' inb').view.emb (ix2 a b)) = W _
  congr 1
  funext k
  apply Fin.ext
  fin_cases k
  · refine Eq.trans g0 ?_; show e = e % 32; omega
  · exact g1.trans e1.symm
  · exact g2.trans e2.symm

/-- A slot of the buffer, and an expert of the array, at any offsets in bounds. -/
abbrev wdBufV (off : Fin 3 → ℕ) (inb : ∀ a, off a + S1x1024x1024.size a ≤ S2x1024x1024.size a) : Memref sig .tc .vmem S1024x1024 .f32 :=
  ((Memref.whole cc0_scratch5 : Memref sig .tc .vmem S2x1024x1024 .f32).slice (Rect.unit (s := S2x1024x1024) off S1x1024x1024.size inb) (fun _ => rfl)).squeeze S1024x1024 squeezes_S1x1024x1024_S1024x1024
abbrev wdHbmV (off : Fin 3 → ℕ) (inb : ∀ a, off a + S1x1024x1024.size a ≤ S32x1024x1024.size a) : Memref sig .tc .hbm S1024x1024 .f32 :=
  ((Memref.whole main_arg12 : Memref sig .tc .hbm S32x1024x1024 .f32).slice (Rect.unit (s := S32x1024x1024) off S1x1024x1024.size inb) (fun _ => rfl)).squeeze S1024x1024 squeezes_S1x1024x1024_S1024x1024
theorem wdBuf_amount (off inb) (s : DmaSem sig) : (wdBufV off inb).view.amount (.dma s) = 131072 := by
  show RefSig.tileCredit S1024x1024 .f32 = 131072
  decide +kernel
theorem wdBuf_credit (off inb) : (wdBufV off inb).view.dmaCredit = 131072 := by
  show RefSig.tileCredit S1024x1024 .f32 = 131072
  decide +kernel
theorem wdBufV_set {s : ℕ} (off : Fin 3 → ℕ) (inb) (h : off = ![s, 0, 0]) : (wdBufV off inb).view.set = wslot s := by
  subst h
  have e : (wdBufV ![s, 0, 0] inb).view.set = (Rect.unit (s := S2x1024x1024) ![s, 0, 0] S1x1024x1024.size inb).set :=
    (View.set_reshape _ _).trans (View.set_slice_whole _ _)
  rw [e]; ext p; rw [Rect.mem_set_unit, mem_wslot]
  have h1 : (p 1).val < 1024 := (p 1).isLt
  have h2 : (p 2).val < 1024 := (p 2).isLt
  constructor
  · intro H
    have a0 : s ≤ (p 0).val ∧ (p 0).val < s + 1 := H 0
    omega
  · rintro h0 a; fin_cases a
    · show s ≤ (p 0).val ∧ (p 0).val < s + 1; omega
    · show 0 ≤ (p 1).val ∧ (p 1).val < 0 + 1024; omega
    · show 0 ≤ (p 2).val ∧ (p 2).val < 0 + 1024; omega
theorem wdBufV_emb {s : ℕ} (off : Fin 3 → ℕ) (inb) (h : off = ![s, 0, 0]) (a : Fin 1024) (b : Fin 1024) :
    ((((wdBufV off inb).view.emb (ix2 a b) : S2x1024x1024.Idx) 0).val = s) ∧ ((((wdBufV off inb).view.emb (ix2 a b) : S2x1024x1024.Idx) 1).val = a.val)
      ∧ ((((wdBufV off inb).view.emb (ix2 a b) : S2x1024x1024.Idx) 2).val = b.val) := by
  subst h
  have e : ((wdBufV ![s, 0, 0] inb).view.emb (ix2 a b) : S2x1024x1024.Idx)
      = (Rect.unit (s := S2x1024x1024) ![s, 0, 0] S1x1024x1024.size inb).emb (ix3 (0 : Fin 1) a b) := by
    show (Rect.unit (s := S2x1024x1024) ![s, 0, 0] S1x1024x1024.size inb).emb (Shape.reshapeEquiv _ (ix2 a b)) = _
    rw [reshapeEquiv_ix2_1ab]; rfl
  rw [e]
  refine ⟨?_, ?_, ?_⟩
  · show s + 1 * 0 = s; omega
  · show 0 + 1 * a.val = _; omega
  · show 0 + 1 * b.val = _; omega
theorem wdHbmV_set {s : ℕ} (off : Fin 3 → ℕ) (inb) (h : off = ![s, 0, 0]) : (wdHbmV off inb).view.set = wexp s := by
  subst h
  have e : (wdHbmV ![s, 0, 0] inb).view.set = (Rect.unit (s := S32x1024x1024) ![s, 0, 0] S1x1024x1024.size inb).set :=
    (View.set_reshape _ _).trans (View.set_slice_whole _ _)
  rw [e]; ext p; rw [Rect.mem_set_unit, mem_wexp]
  have h1 : (p 1).val < 1024 := (p 1).isLt
  have h2 : (p 2).val < 1024 := (p 2).isLt
  constructor
  · intro H
    have a0 : s ≤ (p 0).val ∧ (p 0).val < s + 1 := H 0
    omega
  · rintro h0 a; fin_cases a
    · show s ≤ (p 0).val ∧ (p 0).val < s + 1; omega
    · show 0 ≤ (p 1).val ∧ (p 1).val < 0 + 1024; omega
    · show 0 ≤ (p 2).val ∧ (p 2).val < 0 + 1024; omega
theorem wdHbmV_emb {s : ℕ} (off : Fin 3 → ℕ) (inb) (h : off = ![s, 0, 0]) (a : Fin 1024) (b : Fin 1024) :
    ((((wdHbmV off inb).view.emb (ix2 a b) : S32x1024x1024.Idx) 0).val = s) ∧ ((((wdHbmV off inb).view.emb (ix2 a b) : S32x1024x1024.Idx) 1).val = a.val)
      ∧ ((((wdHbmV off inb).view.emb (ix2 a b) : S32x1024x1024.Idx) 2).val = b.val) := by
  subst h
  have e : ((wdHbmV ![s, 0, 0] inb).view.emb (ix2 a b) : S32x1024x1024.Idx)
      = (Rect.unit (s := S32x1024x1024) ![s, 0, 0] S1x1024x1024.size inb).emb (ix3 (0 : Fin 1) a b) := by
    show (Rect.unit (s := S32x1024x1024) ![s, 0, 0] S1x1024x1024.size inb).emb (Shape.reshapeEquiv _ (ix2 a b)) = _
    rw [reshapeEquiv_ix2_1ab]; rfl
  rw [e]
  refine ⟨?_, ?_, ?_⟩
  · show s + 1 * 0 = s; omega
  · show 0 + 1 * a.val = _; omega
  · show 0 + 1 * b.val = _; omega
theorem wd_lands (W : S32x1024x1024.Idx → F .f32) (fd : S2x1024x1024.Idx → F .f32) {s e : ℕ} (he : e < 32)
    (off : Fin 3 → ℕ) (inb) (h : off = ![s, 0, 0]) (off' : Fin 3 → ℕ) (inb') (h' : off' = ![e, 0, 0]) :
    ∀ p ∈ wslot s, (wdBufV off inb).view.write (Elt F) fd ((wdHbmV off' inb').view.read (Elt F) W) Finset.univ p = lw W e p := by
  intro p hp
  rw [← wdBufV_set off inb h] at hp
  obtain ⟨x, -, rfl⟩ := Finset.mem_map.mp hp
  rw [View.write_emb_of_mem (h := Finset.mem_univ x)]
  obtain ⟨a, b, rfl⟩ : ∃ a b, x = ix2 a b := ⟨x 0, x 1, eq_ix2 x⟩
  obtain ⟨e0, e1, e2⟩ := wdBufV_emb off inb h a b
  obtain ⟨g0, g1, g2⟩ := wdHbmV_emb off' inb' h' a b
  show W ((wdHbmV off' inb').view.emb (ix2 a b)) = W _
  congr 1
  funext k
  apply Fin.ext
  fin_cases k
  · refine Eq.trans g0 ?_; show e = e % 32; omega
  · exact g1.trans e1.symm
  · exact g2.trans e2.symm

variable (c : Dev nD)

/-- What the three copies leave. -/
def wDeliv (s e : ℕ) (WG WU WD : S32x1024x1024.Idx → F .f32) : Fin 3 → sProp 𝕄
  | 0 => iprop(wgBuf c (wslot s) (lw WG e) ∗ wgHbm c (wexp e) WG)
  | 1 => iprop(wuBuf c (wslot s) (lw WU e) ∗ wuHbm c (wexp e) WU)
  | 2 => iprop(wdBuf c (wslot s) (lw WD e) ∗ wdHbm c (wexp e) WD)
instance (s e : ℕ) (WG WU WD : S32x1024x1024.Idx → F .f32) (j : Fin 3) : BI.Storable (upEmb : UEmb _ 𝕄) (wDeliv c s e WG WU WD j) :=
  match j with
  | 0 => by unfold wDeliv; infer_instance
  | 1 => by unfold wDeliv; infer_instance
  | 2 => by unfold wDeliv; infer_instance
/-- The three copies into slot `s`, `k` issued and `u` of their amount waited for. -/
abbrev wBatch (s e : ℕ) (WG WU WD : S32x1024x1024.Idx → F .f32) (k u : ℕ) : sProp 𝕄 :=
  Transfers.Batch (countersEmb (U := Pipeline.UD sig nD τ)) (c : Thread nD τ) (.dma (wsem s)) () 131072 (wDeliv c s e WG WU WD) k u
/-- The arrays but for expert `e`'s part. -/
abbrev wRest (e : ℕ) (WG WU WD : S32x1024x1024.Idx → F .f32) : sProp 𝕄 :=
  iprop(wgHbm c (Finset.univ \ wexp e) WG ∗ wuHbm c (Finset.univ \ wexp e) WU ∗ wdHbm c (Finset.univ \ wexp e) WD)
/-- The arrays. -/
abbrev wAll (WG WU WD : S32x1024x1024.Idx → F .f32) : sProp 𝕄 :=
  iprop(wgHbm c Finset.univ WG ∗ wuHbm c Finset.univ WU ∗ wdHbm c Finset.univ WD)
/-- A slot that nothing is on its way to. -/
abbrev wIdle (s : ℕ) : sProp 𝕄 :=
  iprop((∃ g, wgBuf c (wslot s) g) ∗ (∃ g, wuBuf c (wslot s) g) ∗ (∃ g, wdBuf c (wslot s) g) ∗ cell c (wsem s))
/-- Slot `s` with expert `e` on its way. -/
abbrev wPend (s e : ℕ) (WG WU WD : S32x1024x1024.Idx → F .f32) : sProp 𝕄 :=
  iprop(wBatch c s e WG WU WD 3 0 ∗ wRest c e WG WU WD)
/-- Slot `s` with expert `e` arrived. -/
abbrev wHere (s e : ℕ) (WG WU WD : S32x1024x1024.Idx → F .f32) : sProp 𝕄 :=
  iprop(wgBuf c (wslot s) (lw WG e) ∗ wuBuf c (wslot s) (lw WU e) ∗ wdBuf c (wslot s) (lw WD e) ∗ cell c (wsem s) ∗ wAll c WG WU WD)

theorem w_alloc (s e : ℕ) (WG WU WD : S32x1024x1024.Idx → F .f32) : cell c (wsem s) ⊢ |={Set.univ}=> wBatch c s e WG WU WD 0 0 :=
  Transfers.batch_alloc' (Lvl := ℕ) (countersEmb (U := Pipeline.UD sig nD τ)) (c : Thread nD τ) () 131072 (wDeliv c s e WG WU WD) (sm := .dma (wsem s)) (E := Set.univ)

theorem wg_issue {α : Type} (s e : ℕ) (he : e < 32) (WG WU WD : S32x1024x1024.Idx → F .f32)
    (offb : Fin 3 → ℕ) (inbb) (hb : offb = ![s, 0, 0]) (offh : Fin 3 → ℕ) (inbh) (hh : offh = ![e, 0, 0])
    (sm : DmaSem sig) (hsm : sm = wsem s) {p1 p2 p3} (kont : PUnit → Prog (TpuEff nD τ sig (Elt F) Λ₀ .tc) α) (Q : α → sProp 𝕄) :
    iprop(wBatch c s e WG WU WD 0 0 ∗ (∃ g, wgBuf c (wslot s) g) ∗ wgHbm c Finset.univ WG)
      ⊢ iprop((iprop(wBatch c s e WG WU WD 1 0 ∗ wgHbm c (Finset.univ \ wexp e) WG) -∗ run c (kont ⟨⟩) Q)
        -∗ run c (.op (.enqueueDma (wgHbmV offh inbh) (.here (wgBufV offb inbb)) (.dma sm) p1 p2 p3) kont) Q) := by
  subst hsm
  rw [show (wgHbm c Finset.univ WG : sProp 𝕄) = iprop(wgHbm c (wexp e) WG ∗ wgHbm c (Finset.univ \ wexp e) WG) from eq_of_bi (pointsTo_split_subset (Finset.subset_univ (wexp e)))]
  iintro ⟨HB, ⟨%g, Hx⟩, Hh, Hr⟩ Hk
  iapply (Transfers.wp_dmaBatch (countersEmb (U := Pipeline.UD sig nD τ)) Variants.none (c : Thread nD τ) none (src := wgHbmV offh inbh) (dst := wgBufV offb inbb) (sm := .dma (wsem s))
    (via := ReadAs.same) (q := fullShare) (fs := WG) (fd := g) (Sd := wslot s) (D := wDeliv c s e WG WU WD) (j := 0) (u := 0)
    () 131072 (wgBuf_amount _ _ _) (by rw [wgBufV_set offb inbb hb]) (by omega) (Nat.zero_le _)
    (by
      rw [wgHbmV_set offh inbh hh]
      exact BI.Laws.sep_mono (Entails.of_eq (pointsTo_congr fun p hp => wg_lands WG g he offb inbb hb offh inbh hh p hp)) .rfl)) $$ [HB Hx Hh]
  · rw [wgHbmV_set offh inbh hh]
    isplitl [Hh]; · iexact Hh
    isplitl [Hx]; · iexact Hx
    iexact HB
  iintro HB
  iapply Hk
  isplitl [HB]; · iexact HB
  iexact Hr

theorem wu_issue {α : Type} (s e : ℕ) (he : e < 32) (WG WU WD : S32x1024x1024.Idx → F .f32)
    (offb : Fin 3 → ℕ) (inbb) (hb : offb = ![s, 0, 0]) (offh : Fin 3 → ℕ) (inbh) (hh : offh = ![e, 0, 0])
    (sm : DmaSem sig) (hsm : sm = wsem s) {p1 p2 p3} (kont : PUnit → Prog (TpuEff nD τ sig (Elt F) Λ₀ .tc) α) (Q : α → sProp 𝕄) :
    iprop(wBatch c s e WG WU WD 1 0 ∗ (∃ g, wuBuf c (wslot s) g) ∗ wuHbm c Finset.univ WU)
      ⊢ iprop((iprop(wBatch c s e WG WU WD 2 0 ∗ wuHbm c (Finset.univ \ wexp e) WU) -∗ run c (kont ⟨⟩) Q)
        -∗ run c (.op (.enqueueDma (wuHbmV offh inbh) (.here (wuBufV offb inbb)) (.dma sm) p1 p2 p3) kont) Q) := by
  subst hsm
  rw [show (wuHbm c Finset.univ WU : sProp 𝕄) = iprop(wuHbm c (wexp e) WU ∗ wuHbm c (Finset.univ \ wexp e) WU) from eq_of_bi (pointsTo_split_subset (Finset.subset_univ (wexp e)))]
  iintro ⟨HB, ⟨%g, Hx⟩, Hh, Hr⟩ Hk
  iapply (Transfers.wp_dmaBatch (countersEmb (U := Pipeline.UD sig nD τ)) Variants.none (c : Thread nD τ) none (src := wuHbmV offh inbh) (dst := wuBufV offb inbb) (sm := .dma (wsem s))
    (via := ReadAs.same) (q := fullShare) (fs := WU) (fd := g) (Sd := wslot s) (D := wDeliv c s e WG WU WD) (j := 1) (u := 0)
    () 131072 (wuBuf_amount _ _ _) (by rw [wuBufV_set offb inbb hb]) (by omega) (Nat.zero_le _)
    (by
      rw [wuHbmV_set offh inbh hh]
      exact BI.Laws.sep_mono (Entails.of_eq (pointsTo_congr fun p hp => wu_lands WU g he offb inbb hb offh inbh hh p hp)) .rfl)) $$ [HB Hx Hh]
  · rw [wuHbmV_set offh inbh hh]
    isplitl [Hh]; · iexact Hh
    isplitl [Hx]; · iexact Hx
    iexact HB
  iintro HB
  iapply Hk
  isplitl [HB]; · iexact HB
  iexact Hr

theorem wd_issue {α : Type} (s e : ℕ) (he : e < 32) (WG WU WD : S32x1024x1024.Idx → F .f32)
    (offb : Fin 3 → ℕ) (inbb) (hb : offb = ![s, 0, 0]) (offh : Fin 3 → ℕ) (inbh) (hh : offh = ![e, 0, 0])
    (sm : DmaSem sig) (hsm : sm = wsem s) {p1 p2 p3} (kont : PUnit → Prog (TpuEff nD τ sig (Elt F) Λ₀ .tc) α) (Q : α → sProp 𝕄) :
    iprop(wBatch c s e WG WU WD 2 0 ∗ (∃ g, wdBuf c (wslot s) g) ∗ wdHbm c Finset.univ WD)
      ⊢ iprop((iprop(wBatch c s e WG WU WD 3 0 ∗ wdHbm c (Finset.univ \ wexp e) WD) -∗ run c (kont ⟨⟩) Q)
        -∗ run c (.op (.enqueueDma (wdHbmV offh inbh) (.here (wdBufV offb inbb)) (.dma sm) p1 p2 p3) kont) Q) := by
  subst hsm
  rw [show (wdHbm c Finset.univ WD : sProp 𝕄) = iprop(wdHbm c (wexp e) WD ∗ wdHbm c (Finset.univ \ wexp e) WD) from eq_of_bi (pointsTo_split_subset (Finset.subset_univ (wexp e)))]
  iintro ⟨HB, ⟨%g, Hx⟩, Hh, Hr⟩ Hk
  iapply (Transfers.wp_dmaBatch (countersEmb (U := Pipeline.UD sig nD τ)) Variants.none (c : Thread nD τ) none (src := wdHbmV offh inbh) (dst := wdBufV offb inbb) (sm := .dma (wsem s))
    (via := ReadAs.same) (q := fullShare) (fs := WD) (fd := g) (Sd := wslot s) (D := wDeliv c s e WG WU WD) (j := 2) (u := 0)
    () 131072 (wdBuf_amount _ _ _) (by rw [wdBufV_set offb inbb hb]) (by omega) (Nat.zero_le _)
    (by
      rw [wdHbmV_set offh inbh hh]
      exact BI.Laws.sep_mono (Entails.of_eq (pointsTo_congr fun p hp => wd_lands WD g he offb inbb hb offh inbh hh p hp)) .rfl)) $$ [HB Hx Hh]
  · rw [wdHbmV_set offh inbh hh]
    isplitl [Hh]; · iexact Hh
    isplitl [Hx]; · iexact Hx
    iexact HB
  iintro HB
  iapply Hk
  isplitl [HB]; · iexact HB
  iexact Hr

/-- A wait that is not the last. -/
theorem w_wait {α : Type} (s e : ℕ) (WG WU WD : S32x1024x1024.Idx → F .f32) (u : ℕ) (hu : u + 131072 < 131072 * 3)
    {sp sp' : Space} {s1 s2 : Shape} {e1 e2 : EltTy} {src : Memref sig .tc sp' s2 e2} {dst : Memref sig .tc sp s1 e1} (hd : dst.view.dmaCredit = 131072) {p1 p2}
    (sm : DmaSem sig) (hsm : sm = wsem s) (kont : PUnit → Prog (TpuEff nD τ sig (Elt F) Λ₀ .tc) α) (Q : α → sProp 𝕄) :
    iprop(wBatch c s e WG WU WD 3 u ∗ waits c)
      ⊢ iprop((iprop(wBatch c s e WG WU WD 3 (u + 131072) ∗ waits c) -∗ run c (kont ⟨⟩) Q) -∗ run c (.op (.waitDma2 sm src dst p1 p2) kont) Q) := by
  subst hsm
  iintro ⟨HB, ⟨%W, HO⟩⟩ Hk
  iapply (Transfers.wp_waitBatch (countersEmb (U := Pipeline.UD sig nD τ)) Variants.none (c : Thread nD τ) none () (N := 131072) (u := u) (D := wDeliv c s e WG WU WD) hd hu) $$ [HB HO]
  · isplitl [HB]; · iexact HB
    iexact HO
  iintro ⟨HB, HO⟩
  iapply Hk
  isplitl [HB]; · iexact HB
  iexists _; iexact HO

theorem w_three (s e : ℕ) (WG WU WD : S32x1024x1024.Idx → F .f32) : bigSep Finset.univ (wDeliv c s e WG WU WD)
    ⊢ iprop((wgBuf c (wslot s) (lw WG e) ∗ wgHbm c (wexp e) WG) ∗ (wuBuf c (wslot s) (lw WU e) ∗ wuHbm c (wexp e) WU) ∗ (wdBuf c (wslot s) (lw WD e) ∗ wdHbm c (wexp e) WD)) :=
  Entails.of_eq (BI.bigSep_eq_bigSepL_of_eq ([0, 1, 2] : List (Fin 3)) (by decide) (by decide) _)

/-- The last wait: the slot holds the expert. -/
theorem w_last {α : Type} (s e : ℕ) (WG WU WD : S32x1024x1024.Idx → F .f32)
    {sp sp' : Space} {s1 s2 : Shape} {e1 e2 : EltTy} {src : Memref sig .tc sp' s2 e2} {dst : Memref sig .tc sp s1 e1} (hd : dst.view.dmaCredit = 131072) {p1 p2}
    (sm : DmaSem sig) (hsm : sm = wsem s) (kont : PUnit → Prog (TpuEff nD τ sig (Elt F) Λ₀ .tc) α) (Q : α → sProp 𝕄) :
    iprop(wBatch c s e WG WU WD 3 (0 + 131072 + 131072) ∗ wRest c e WG WU WD ∗ waits c)
      ⊢ iprop((iprop(wHere c s e WG WU WD ∗ waits c) -∗ run c (kont ⟨⟩) Q) -∗ run c (.op (.waitDma2 sm src dst p1 p2) kont) Q) := by
  subst hsm
  iintro ⟨HB, ⟨R0, R1, R2⟩, ⟨%W, HO⟩⟩ Hk
  iapply (Transfers.wp_waitBatchLast (countersEmb (U := Pipeline.UD sig nD τ)) Variants.none (c : Thread nD τ) none () (N := 131072) (u := 0 + 131072 + 131072) (D := wDeliv c s e WG WU WD) hd (by omega) (by omega)) $$ [HB HO]
  · isplitl [HB]; · iexact HB
    iexact HO
  iintro ⟨HD, Hc, HO⟩
  ihave HD := (w_three c s e WG WU WD) $$ HD
  icases HD with ⟨⟨A0, B0⟩, ⟨A1, B1⟩, ⟨A2, B2⟩⟩
  iapply Hk
  isplitr [HO]
  · isplitl [A0]; · iexact A0
    isplitl [A1]; · iexact A1
    isplitl [A2]; · iexact A2
    isplitl [Hc]; · iexact Hc
    isplitl [B0 R0]
    · iapply (show iprop(wgHbm c (wexp e) WG ∗ wgHbm c (Finset.univ \ wexp e) WG) ⊢ wgHbm c Finset.univ WG from (pointsTo_split_subset (Finset.subset_univ (wexp e))).2)
      isplitl [B0]; · iexact B0
      iexact R0
    isplitl [B1 R1]
    · iapply (show iprop(wuHbm c (wexp e) WU ∗ wuHbm c (Finset.univ \ wexp e) WU) ⊢ wuHbm c Finset.univ WU from (pointsTo_split_subset (Finset.subset_univ (wexp e))).2)
      isplitl [B1]; · iexact B1
      iexact R1
    · iapply (show iprop(wdHbm c (wexp e) WD ∗ wdHbm c (Finset.univ \ wexp e) WD) ⊢ wdHbm c Finset.univ WD from (pointsTo_split_subset (Finset.subset_univ (wexp e))).2)
      isplitl [B2]; · iexact B2
      iexact R2
  · iexists _; iexact HO

/-- The written rows and the rest are the result. -/
theorem put_rest (asg : ℕ → ℕ) (B : S2048x128.Idx → F .f32) (V : S528384x128.Idx → F .f32) :
    iprop(gPt c (allRows asg) (putRows asg B V) ∗ gPt c (Finset.univ \ allRows asg) V) ⊢ gPt c Finset.univ (putRows asg B V) := by
  rw [show (gPt c Finset.univ (putRows asg B V) : sProp 𝕄) = iprop(gPt c (allRows asg) (putRows asg B V) ∗ gPt c (Finset.univ \ allRows asg) (putRows asg B V))
    from eq_of_bi (pointsTo_split_subset (Finset.subset_univ (allRows asg)))]
  refine BI.Laws.sep_mono .rfl (Entails.of_eq (pointsTo_congr fun p hp => (putRows_of_not_mem B V p fun r hr => ?_).symm))
  exact (Finset.mem_sdiff.mp hp).2 (Finset.mem_biUnion.mpr ⟨r, Finset.mem_univ _, mem_grow.mpr hr.symm⟩)

/-! ## The first copy into the result -/

/-- The rows of the block that stands for no token. -/
def padRow (r : ℕ) : ℕ := 65536 + r
theorem padRow_one : OneEach padRow := fun r r' h => Fin.ext (by unfold padRow at h; omega)

theorem gBlkV_set (off : Fin 2 → ℕ) (inb) (h : off = ![524288, 0]) : (gBlkV off inb).view.set = allRows padRow := by
  subst h
  have e : (gBlkV ![524288, 0] inb).view.set = (Rect.unit (s := S528384x128) ![524288, 0] S2048x128.size inb).set := View.set_slice_whole _ _
  rw [e]; ext p
  unfold allRows
  rw [Rect.mem_set_unit, Finset.mem_biUnion]
  have h1 : (p 1).val < 128 := (p 1).isLt
  constructor
  · intro H
    have a0 : 524288 ≤ (p 0).val ∧ (p 0).val < 524288 + 2048 := H 0
    refine ⟨⟨(p 0).val / 8 - 65536, by omega⟩, Finset.mem_univ _, ?_⟩
    rw [mem_grow]; show _ = 65536 + ((p 0).val / 8 - 65536); omega
  · rintro ⟨r, -, hr⟩ a
    have hr' : (p 0).val / 8 = 65536 + r.val := mem_grow.mp hr
    have h2 : r.val < 256 := r.isLt
    fin_cases a
    · show 524288 ≤ (p 0).val ∧ (p 0).val < 524288 + 2048; omega
    · show 0 ≤ (p 1).val ∧ (p 1).val < 0 + 128; omega

theorem pad_lands (B : S2048x128.Idx → F .f32) (V : S528384x128.Idx → F .f32) (s : Fin 2)
    (off : Fin 3 → ℕ) (inb) (h : off = ![s.val, 0, 0]) (off' : Fin 2 → ℕ) (inb') (h' : off' = ![524288, 0]) :
    ∀ p ∈ allRows padRow, (gBlkV off' inb').view.write (Elt F) V ((ySlotV off inb).view.read (Elt F) (yOf B)) Finset.univ p = putRows padRow B V p := by
  intro p hp
  have hp2 := hp
  rw [← gBlkV_set off' inb' h'] at hp
  obtain ⟨x, -, hx⟩ := Finset.mem_map.mp hp
  obtain ⟨r, -, hr⟩ := Finset.mem_biUnion.mp hp2
  have hr' : (p 0).val / 8 = padRow r.val := mem_grow.mp hr
  have hr2 : (p 0).val / 8 = 65536 + r.val := hr'
  rw [putRows_of_mem padRow_one B V r p hr']
  subst hx
  rw [View.write_emb_of_mem (h := Finset.mem_univ x)]
  obtain ⟨a, b, rfl⟩ : ∃ a b, x = ix2 a b := ⟨x 0, x 1, eq_ix2 x⟩
  obtain ⟨e0, e1, e2⟩ := ySlotV_emb off inb h a b
  have g0 : (((gBlkV off' inb').view.emb (ix2 a b) : S528384x128.Idx) 0).val = 524288 + 1 * a.val := by subst h'; rfl
  have g1 : (((gBlkV off' inb').view.emb (ix2 a b) : S528384x128.Idx) 1).val = 0 + 1 * b.val := by subst h'; rfl
  show B (ix2 (((ySlotV off inb).view.emb (ix2 a b) : S2x2048x128.Idx) 1) (((ySlotV off inb).view.emb (ix2 a b) : S2x2048x128.Idx) 2)) = B _
  have ha : a.val < 2048 := a.isLt
  congr 1
  funext k; apply Fin.ext; fin_cases k
  · refine e1.trans ?_; show a.val = 8 * r.val + (((gBlkV off' inb').view.emb (ix2 a b) : S528384x128.Idx) 0).val % 8; omega
  · refine e2.trans ?_; show b.val = (((gBlkV off' inb').view.emb (ix2 a b) : S528384x128.Idx) 1).val; omega

theorem pad_issue {α : Type} (B : S2048x128.Idx → F .f32) (V : S528384x128.Idx → F .f32) (s : Fin 2)
    (off : Fin 3 → ℕ) (inb) (h : off = ![s.val, 0, 0]) (off' : Fin 2 → ℕ) (inb') (h' : off' = ![524288, 0])
    (sm : DmaSem sig) (hsm : sm = ssem s.val) {p1 p2 p3} (kont : PUnit → Prog (TpuEff nD τ sig (Elt F) Λ₀ .tc) α) (Q : α → sProp 𝕄) :
    iprop(yPt c (yslot s.val) (yOf B) ∗ gPt c Finset.univ V ∗ cell c (ssem s.val))
      ⊢ iprop((Flight c (ssem s.val) iprop((∃ g, yPt c (yslot s.val) g) ∗ gPt c Finset.univ (putRows padRow B V)) -∗ run c (kont ⟨⟩) Q)
        -∗ run c (.op (.enqueueDma (ySlotV off inb) (.here (gBlkV off' inb')) (.dma sm) p1 p2 p3) kont) Q) := by
  subst hsm
  rw [show (gPt c Finset.univ V : sProp 𝕄) = iprop(gPt c (allRows padRow) V ∗ gPt c (Finset.univ \ allRows padRow) V) from eq_of_bi (pointsTo_split_subset (Finset.subset_univ (allRows padRow)))]
  iintro ⟨Hy, ⟨Hg, Hr⟩, Hc⟩ Hk
  imod (Transfers.batch_alloc' (Lvl := ℕ) (countersEmb (U := Pipeline.UD sig nD τ)) (c : Thread nD τ) () 32768
    (fun _ : Fin 1 => iprop(yPt c (yslot s.val) (yOf B) ∗ gPt c (allRows padRow) (putRows padRow B V))) (sm := .dma (ssem s.val)) (E := Set.univ)) $$ Hc with HB
  iapply (Transfers.wp_dmaBatch (countersEmb (U := Pipeline.UD sig nD τ)) Variants.none (c : Thread nD τ) none (src := ySlotV off inb) (dst := gBlkV off' inb') (sm := .dma (ssem s.val))
    (via := ReadAs.same) (q := fullShare) (fs := yOf B) (fd := V) (Sd := allRows padRow)
    (D := fun _ : Fin 1 => iprop(yPt c (yslot s.val) (yOf B) ∗ gPt c (allRows padRow) (putRows padRow B V))) (j := 0) (u := 0)
    () 32768 (gBlk_credit _ _) (by rw [gBlkV_set off' inb' h']) (by omega) (Nat.zero_le _)
    (by
      rw [ySlotV_set off inb h]
      exact (BI.Laws.sep_mono (Entails.of_eq (pointsTo_congr fun p hp => pad_lands B V s off inb h off' inb' h' p hp)) .rfl).trans BI.Laws.sep_comm.1)) $$ [HB Hy Hg]
  · rw [ySlotV_set off inb h]
    isplitl [Hy]; · iexact Hy
    isplitl [Hg]; · iexact Hg
    iexact HB
  iintro HB
  iapply Hk
  unfold Flight
  iexists 1, 32768, (fun _ : Fin 1 => iprop(yPt c (yslot s.val) (yOf B) ∗ gPt c (allRows padRow) (putRows padRow B V))), gPt c (Finset.univ \ allRows padRow) V
  isplitr
  · ipureintro
    refine ⟨by omega, by omega, ?_⟩
    rw [show bigSep Finset.univ (fun _ : Fin 1 => iprop(yPt c (yslot s.val) (yOf B) ∗ gPt c (allRows padRow) (putRows padRow B V)))
      = iprop(yPt c (yslot s.val) (yOf B) ∗ gPt c (allRows padRow) (putRows padRow B V)) from BI.bigSep_eq_bigSepL_of_eq ([0] : List (Fin 1)) (by decide) (by decide) _]
    iintro ⟨⟨Hy, Hg⟩, Hr⟩
    isplitl [Hy]; · iexists yOf B; iexact Hy
    iapply (put_rest c padRow B V)
    isplitl [Hg]; · iexact Hg
    iexact Hr
  isplitl [HB]; · iexact HB
  iexact Hr

end Cert.KernelIdeal.Moe

end
-- ==== Proof.ScatterLoop.lean ====
/-
  The loop that sends the rows of the block before: one trip of it.
-/
module

public import proofs.«01_k».proof.Proof.Weights

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
variable (m5 : Memref sig .tc .smem S1x1x256 .i32) (h5 : m5.IsWhole) (m6 : Memref sig .tc .smem S1x1x256 .i32) (h6 : m6.IsWhole)
  (m7 : Memref sig .tc .smem S1x1x256 .i32) (h7 : m7.IsWhole) (m8 : Memref sig .tc .smem S1x1x256 .i32) (h8 : m8.IsWhole)
  (m13 : Memref sig .tc .vmem S1x1x1024 .f32) (h13 : m13.IsWhole) (m14 : Memref sig .tc .vmem S1x1x1024 .f32) (h14 : m14.IsWhole)
  (m15 : Memref sig .tc .vmem S1x1x1024 .f32) (h15 : m15.IsWhole)

/-- The slot of the rows that block `n` sends: the one it does not write. -/
def otherSlot (n : ℕ) : Fin 2 := ⟨1 - n % 2, by omega⟩
/-- The row of the result that a block's row `r` goes to. -/
def rowAt (X : S1x1x256.Idx → BitVec 32) (r : ℕ) : ℕ := (slotWord X r).toNat
/-- Before trip `k` of the loop: `k` rows issued, and the slots' window. -/
abbrev sInv (m : Memref sig .tc .smem S1x1x256 .i32) (f : Buf (Elt F) (m.view.loc (c : Thread nD τ))) (s : Fin 2) (asg : ℕ → ℕ) (B : S2048x128.Idx → F .f32)
    (V : S528384x128.Idx → F .f32) (k : ℕ) : sProp 𝕄 :=
  iprop(sBatch c s asg B V k ∗ sTodo c s asg B V k ∗ winPt c m f)

/-- One trip of the loop. -/
theorem t7_step (v0 : Elt F .i32) (hc2 : k0_cond2 i v0 = 1#1) (a b d : FVec F S256x256 .f32) (e : F .f32) (f : Buf (Elt F) (m5.view.loc (c : Thread nD τ))) (X : S1x1x256.Idx → BitVec 32) (hX : m5.view.read (Elt F) f = X)
    (hr : ∀ r, rowAt X r < 66048) (ha : OneEach (rowAt X)) (B : S2048x128.Idx → F .f32) (V : S528384x128.Idx → F .f32) (k : Fin k0_t7_loop.trips) :
    sInv c m5 f (otherSlot (i 0).val) (rowAt X) B V k.val
      ⊢ wp Idealize.ShloMosaic.frame (wpE (defs₀ (F := F)) Variants.none (c : Thread nD τ) none) Set.univ
        (k0_t7_body (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v0 hc2 a b d e k ⟨⟩)
        (fun _ => sInv c m5 f (otherSlot (i 0).val) (rowAt X) B V (k.val + 1)) := by
  have hk : k.val < 256 := lt_of_lt_of_eq k.isLt trips7
  iintro ⟨HB, HT, HW⟩
  sl_unfold [k0_t7_body]
  simp only [smemLoad, Prog.lift, Prog.bind_op, Prog.bind_ret, smemLoadElt_bind]
  iapply (slot_load c m5 f X hX k.val hk _ _ (off47_eq k) _ _) $$ HW
  iintro HW
  iapply (wp_assume Variants.none (c : Thread nD τ) none Set.univ (chk12 i _ _ (hr k.val)))
  iapply (scatter_issue c (otherSlot (i 0).val) (rowAt X) ha B V k.val hk _ _ (off50_eq i k) _ _ (off49_eq _ (hr k.val)) _ (ssem_eq _ (otherSlot (i 0).val).isLt _ _ (off48_eq i))) $$ [HB HT]
  · isplitl [HB]; · iexact HB
    iexact HT
  iintro ⟨HB, HT⟩
  sl_step
  isplitl [HB]; · iexact HB
  isplitl [HT]; · iexact HT
  iexact HW

end Cert.KernelIdeal.Moe

end
-- ==== Proof.PartsA.lean ====
/-
  The calculation of a block's activations: what each stretch of it reads and leaves.
-/
module

public import proofs.«01_k».proof.Proof.ScatterLoop

@[expose] public section

set_option maxRecDepth 16384
set_option maxHeartbeats 2000000

noncomputable section

namespace Cert.KernelIdeal.Moe

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
variable (m5 : Memref sig .tc .smem S1x1x256 .i32) (h5 : m5.IsWhole) (m6 : Memref sig .tc .smem S1x1x256 .i32) (h6 : m6.IsWhole)
  (m7 : Memref sig .tc .smem S1x1x256 .i32) (h7 : m7.IsWhole) (m8 : Memref sig .tc .smem S1x1x256 .i32) (h8 : m8.IsWhole)
  (m13 : Memref sig .tc .vmem S1x1x1024 .f32) (h13 : m13.IsWhole) (m14 : Memref sig .tc .vmem S1x1x1024 .f32) (h14 : m14.IsWhole)
  (m15 : Memref sig .tc .vmem S1x1x1024 .f32) (h15 : m15.IsWhole)

/-- The slot of the rows that block `i` reads, and the slot of the rows it writes. -/
def cur (i : grid0.Coords) : Fin 4 := ⟨(i 0).val % 3, by omega⟩
def curY (i : grid0.Coords) : Fin 2 := ⟨(i 0).val % 2, by omega⟩

theorem part5_run (v0 : Elt F .i32) (k0_h2 : k0_cond2 i v0 = 1#1) (v44 : Vec F S256x128 .f32) (v47 : Vec F S256x128 .f32) (v50 : Vec F S256x128 .f32) (v53 : Vec F S256x128 .f32) (fx : S4x2048x128.Idx → F .f32) (fa : S256x1024.Idx → F .bf16) (gu : S1024x2048.Idx → F .bf16) (f13 : Buf (Elt F) (m13.view.loc (c : Thread nD τ))) (X13 : S1x1x1024.Idx → F .f32) (hX13 : m13.view.read (Elt F) f13 = X13) (f8 : Buf (Elt F) (m8.view.loc (c : Thread nD τ))) (X8 : S1x1x256.Idx → BitVec 32) (hX8 : m8.view.read (Elt F) f8 = X8) (q : PosShare TreeShare) (H : S131072x128.Idx → F .f32) :
    iprop(xPt c (xslot (cur i).val) fx ∗ asPt c fa ∗ guPt c gu ∗ winPt c m13 f13 ∗ gBatch c (((i 0).val + 2) % 3) (tokAt X8) q H 0 ∗ gTodo c (((i 0).val + 2) % 3) (tokAt X8) q H 0 ∗ winPt c m8 f8)
      ⊢ run c (k0_part5 (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v0 k0_h2 v44 v47 v50 v53)
        (fun v => iprop(⌜v = ⟨k0_pay16 (k0_pay14 v44 v47 v50 v53 (xTile fx (cur i) 4) (xTile fx (cur i) 5) (xTile fx (cur i) 6) (xTile fx (cur i) 7)) (guCols gu 0) (bCols X13 0), k0_pay17 (k0_pay14 v44 v47 v50 v53 (xTile fx (cur i) 4) (xTile fx (cur i) 5) (xTile fx (cur i) 6) (xTile fx (cur i) 7)) (guCols gu 0)⟩⌝ ∗ xPt c (xslot (cur i).val) fx ∗ asPt c (k0_pay14 v44 v47 v50 v53 (xTile fx (cur i) 4) (xTile fx (cur i) 5) (xTile fx (cur i) 6) (xTile fx (cur i) 7)) ∗ guPt c gu ∗ winPt c m13 f13 ∗ gBatch c (((i 0).val + 2) % 3) (tokAt X8) q H 64 ∗ gTodo c (((i 0).val + 2) % 3) (tokAt X8) q H 64 ∗ winPt c m8 f8)) := by
  unfold run
  rw [k0_part5_eq_skeleton]
  iintro ⟨HX, HA, HG, H13, HB, HT, H8⟩
  sl_unfold [k0_part5_skel]
  simp only [smemLoad, Prog.lift, Prog.bind_op, Prog.bind_ret, smemLoadElt_bind]
  iapply (ld_x c (cur i) _ _ (off28_eq i) 4 (by omega) _ _ _ _) $$ HX; iintro HX
  iapply (ld_x c (cur i) _ _ (off28_eq i) 5 (by omega) _ _ _ _) $$ HX; iintro HX
  iapply (ld_x c (cur i) _ _ (off28_eq i) 6 (by omega) _ _ _ _) $$ HX; iintro HX
  iapply (ld_x c (cur i) _ _ (off28_eq i) 7 (by omega) _ _ _ _) $$ HX; iintro HX
  iapply (ld_as c _ _ _ _) $$ HA; iintro HA
  iapply (st_as c _ _ _ _ _) $$ HA; iintro HA
  try unfold run
  sl_for (fun k _ => gInv c m8 f8 (((i 0).val + 2) % 3) (tokAt X8) q H (0 + k)) $$ [HB HT H8]
  · intro k acc; exact t3_step c i m5 h5 m6 h6 m7 h7 m8 h8 m13 h13 m14 h14 m15 h15 v0 k0_h2 v44 v47 v50 v53 f8 X8 hX8 q H k
  · isplitl [HB]; · iexact HB
    isplitl [HT]; · iexact HT
    iexact H8
  iintro %acc ⟨HB, HT, H8⟩
  iapply (ld_as c _ _ _ _) $$ HA; iintro HA
  iapply (ld_gu c 0 (by omega) _ _ _ _) $$ HG; iintro HG
  iapply (ld_b c m13 0 (by omega) _ f13 X13 hX13 _ _) $$ H13; iintro H13
  try unfold run
  sl_step
  isplitr
  · ipureintro; rfl
  isplitl [HX]; · iexact HX
  isplitl [HA]; · iexact HA
  isplitl [HG]; · iexact HG
  isplitl [H13]; · iexact H13
  isplitl [HB]; · iexact HB
  isplitl [HT]; · iexact HT
  iexact H8

theorem part6_run (v0 : Elt F .i32) (k0_h2 : k0_cond2 i v0 = 1#1) (v81 : FVec F S256x256 .f32) (v82 : FVec F S256x256 .f32) (f3 : S4x2048x128.Idx → F .f32) (fa : S256x1024.Idx → F .bf16) (gu : S1024x2048.Idx → F .bf16) (f14 : Buf (Elt F) (m14.view.loc (c : Thread nD τ))) (X14 : S1x1x1024.Idx → F .f32) (hX14 : m14.view.read (Elt F) f14 = X14) (f8 : Buf (Elt F) (m8.view.loc (c : Thread nD τ))) (X8 : S1x1x256.Idx → BitVec 32) (hX8 : m8.view.read (Elt F) f8 = X8) (q : PosShare TreeShare) (H : S131072x128.Idx → F .f32) :
    iprop(xPt c (xslot 3) f3 ∗ asPt c fa ∗ guPt c gu ∗ winPt c m14 f14 ∗ gBatch c (((i 0).val + 2) % 3) (tokAt X8) q H 64 ∗ gTodo c (((i 0).val + 2) % 3) (tokAt X8) q H 64 ∗ winPt c m8 f8)
      ⊢ run c (k0_part6 (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v0 k0_h2 v81 v82)
        (fun v => iprop(⌜v = ⟨k0_pay21 fa (guCols gu 512), k0_pay22 fa (guCols gu 512)⟩⌝ ∗ xPt c (xslot 3) (xPut3 1 (k0_pay20 v81 v82 (bCols X14 0)) (xPut3 0 (k0_pay19 v81 v82 (bCols X14 0)) f3)) ∗ asPt c fa ∗ guPt c gu ∗ winPt c m14 f14 ∗ gBatch c (((i 0).val + 2) % 3) (tokAt X8) q H 128 ∗ gTodo c (((i 0).val + 2) % 3) (tokAt X8) q H 128 ∗ winPt c m8 f8)) := by
  unfold run
  rw [k0_part6_eq_skeleton]
  iintro ⟨H3, HA, HG, H14, HB, HT, H8⟩
  sl_unfold [k0_part6_skel]
  simp only [smemLoad, Prog.lift, Prog.bind_op, Prog.bind_ret, smemLoadElt_bind]
  iapply (ld_b c m14 0 (by omega) _ f14 X14 hX14 _ _) $$ H14; iintro H14
  iapply (ld_x3 c 0 (by omega) _ _ _ _) $$ H3; iintro H3
  iapply (st_x3 c 0 0 (by omega) _ _ _ _ _) $$ H3; iintro H3
  iapply (ld_x3 c 256 (by omega) _ _ _ _) $$ H3; iintro H3
  iapply (st_x3 c 256 1 (by omega) _ _ _ _ _) $$ H3; iintro H3
  try unfold run
  sl_for (fun k _ => gInv c m8 f8 (((i 0).val + 2) % 3) (tokAt X8) q H (64 + k)) $$ [HB HT H8]
  · intro k acc; exact t4_step c i m5 h5 m6 h6 m7 h7 m8 h8 m13 h13 m14 h14 m15 h15 v0 k0_h2 v81 v82 f8 X8 hX8 q H k
  · isplitl [HB]; · iexact HB
    isplitl [HT]; · iexact HT
    iexact H8
  iintro %acc ⟨HB, HT, H8⟩
  iapply (ld_as c _ _ _ _) $$ HA; iintro HA
  iapply (ld_gu c 512 (by omega) _ _ _ _) $$ HG; iintro HG
  try unfold run
  sl_step
  isplitr
  · ipureintro; rfl
  isplitl [H3]; · iexact H3
  isplitl [HA]; · iexact HA
  isplitl [HG]; · iexact HG
  isplitl [H14]; · iexact H14
  isplitl [HB]; · iexact HB
  isplitl [HT]; · iexact HT
  iexact H8

theorem part7_run (v115 : FVec F S256x512 .f32) (v116 : FVec F S256x256 .f32) (f3 : S4x2048x128.Idx → F .f32) (f13 : Buf (Elt F) (m13.view.loc (c : Thread nD τ))) (X13 : S1x1x1024.Idx → F .f32) (hX13 : m13.view.read (Elt F) f13 = X13) (f14 : Buf (Elt F) (m14.view.loc (c : Thread nD τ))) (X14 : S1x1x1024.Idx → F .f32) (hX14 : m14.view.read (Elt F) f14 = X14) :
    iprop(xPt c (xslot 3) f3 ∗ winPt c m13 f13 ∗ winPt c m14 f14)
      ⊢ run c (k0_part7 (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v115 v116)
        (fun v => iprop(⌜v = 128#32⌝ ∗ xPt c (xslot 3) (xPut3 3 (k0_pay25 v115 v116 (bCols X13 256) (bCols X14 256)) (xPut3 2 (k0_pay24 v115 v116 (bCols X13 256) (bCols X14 256)) f3)) ∗ winPt c m13 f13 ∗ winPt c m14 f14)) := by
  unfold run
  rw [k0_part7_eq_skeleton]
  iintro ⟨H3, H13, H14⟩
  sl_unfold [k0_part7_skel]
  simp only [smemLoad, Prog.lift, Prog.bind_op, Prog.bind_ret, smemLoadElt_bind]
  iapply (ld_b c m13 256 (by omega) _ f13 X13 hX13 _ _) $$ H13; iintro H13
  iapply (ld_b c m14 256 (by omega) _ f14 X14 hX14 _ _) $$ H14; iintro H14
  iapply (ld_x3 c 512 (by omega) _ _ _ _) $$ H3; iintro H3
  iapply (st_x3 c 512 2 (by omega) _ _ _ _ _) $$ H3; iintro H3
  iapply (ld_x3 c 768 (by omega) _ _ _ _) $$ H3; iintro H3
  iapply (st_x3 c 768 3 (by omega) _ _ _ _ _) $$ H3; iintro H3
  try unfold run
  sl_step
  isplitr
  · ipureintro; rfl
  isplitl [H3]; · iexact H3
  isplitl [H13]; · iexact H13
  iexact H14

theorem part8_run (v0 : Elt F .i32) (k0_h2 : k0_cond2 i v0 = 1#1) (c128_i32 : BitVec 32) (fa : S256x1024.Idx → F .bf16) (gu : S1024x2048.Idx → F .bf16) (f3 : S4x2048x128.Idx → F .f32) (f13 : Buf (Elt F) (m13.view.loc (c : Thread nD τ))) (X13 : S1x1x1024.Idx → F .f32) (hX13 : m13.view.read (Elt F) f13 = X13) (f14 : Buf (Elt F) (m14.view.loc (c : Thread nD τ))) (X14 : S1x1x1024.Idx → F .f32) (hX14 : m14.view.read (Elt F) f14 = X14) (f8 : Buf (Elt F) (m8.view.loc (c : Thread nD τ))) (X8 : S1x1x256.Idx → BitVec 32) (hX8 : m8.view.read (Elt F) f8 = X8) (q : PosShare TreeShare) (H : S131072x128.Idx → F .f32) :
    iprop(asPt c fa ∗ guPt c gu ∗ xPt c (xslot 3) f3 ∗ winPt c m13 f13 ∗ winPt c m14 f14 ∗ gBatch c (((i 0).val + 2) % 3) (tokAt X8) q H 128 ∗ gTodo c (((i 0).val + 2) % 3) (tokAt X8) q H 128 ∗ winPt c m8 f8)
      ⊢ run c (k0_part8 (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v0 k0_h2 c128_i32)
        (fun v => iprop(⌜v = ⟨k0_pay26 fa (guCols gu 1024) (bCols X13 512) (bCols X14 512), k0_pay27 fa (guCols gu 1024) (bCols X13 512) (bCols X14 512)⟩⌝ ∗ asPt c fa ∗ guPt c gu ∗ xPt c (xslot 3) f3 ∗ winPt c m13 f13 ∗ winPt c m14 f14 ∗ gBatch c (((i 0).val + 2) % 3) (tokAt X8) q H 192 ∗ gTodo c (((i 0).val + 2) % 3) (tokAt X8) q H 192 ∗ winPt c m8 f8)) := by
  unfold run
  rw [k0_part8_eq_skeleton]
  iintro ⟨HA, HG, H3, H13, H14, HB, HT, H8⟩
  sl_unfold [k0_part8_skel]
  simp only [smemLoad, Prog.lift, Prog.bind_op, Prog.bind_ret, smemLoadElt_bind]
  try unfold run
  sl_for (fun k _ => gInv c m8 f8 (((i 0).val + 2) % 3) (tokAt X8) q H (128 + k)) $$ [HB HT H8]
  · intro k acc; exact t5_step c i m5 h5 m6 h6 m7 h7 m8 h8 m13 h13 m14 h14 m15 h15 v0 k0_h2 c128_i32 f8 X8 hX8 q H k
  · isplitl [HB]; · iexact HB
    isplitl [HT]; · iexact HT
    iexact H8
  iintro %acc ⟨HB, HT, H8⟩
  iapply (ld_as c _ _ _ _) $$ HA; iintro HA
  iapply (ld_gu c 1024 (by omega) _ _ _ _) $$ HG; iintro HG
  iapply (ld_b c m13 512 (by omega) _ f13 X13 hX13 _ _) $$ H13; iintro H13
  iapply (ld_b c m14 512 (by omega) _ f14 X14 hX14 _ _) $$ H14; iintro H14
  iapply (ld_x3 c 1024 (by omega) _ _ _ _) $$ H3; iintro H3
  try unfold run
  sl_step
  isplitr
  · ipureintro; rfl
  isplitl [HA]; · iexact HA
  isplitl [HG]; · iexact HG
  isplitl [H3]; · iexact H3
  isplitl [H13]; · iexact H13
  isplitl [H14]; · iexact H14
  isplitl [HB]; · iexact HB
  isplitl [HT]; · iexact HT
  iexact H8

theorem part9_run (v0 : Elt F .i32) (k0_h2 : k0_cond2 i v0 = 1#1) (v185 : FVec F S256x256 .f32) (v186 : FVec F S256x128 .f32) (f3 : S4x2048x128.Idx → F .f32) (fa : S256x1024.Idx → F .bf16) (gu : S1024x2048.Idx → F .bf16) (f13 : Buf (Elt F) (m13.view.loc (c : Thread nD τ))) (X13 : S1x1x1024.Idx → F .f32) (hX13 : m13.view.read (Elt F) f13 = X13) (f14 : Buf (Elt F) (m14.view.loc (c : Thread nD τ))) (X14 : S1x1x1024.Idx → F .f32) (hX14 : m14.view.read (Elt F) f14 = X14) (f8 : Buf (Elt F) (m8.view.loc (c : Thread nD τ))) (X8 : S1x1x256.Idx → BitVec 32) (hX8 : m8.view.read (Elt F) f8 = X8) (q : PosShare TreeShare) (H : S131072x128.Idx → F .f32) :
    iprop(xPt c (xslot 3) f3 ∗ asPt c fa ∗ guPt c gu ∗ winPt c m13 f13 ∗ winPt c m14 f14 ∗ gBatch c (((i 0).val + 2) % 3) (tokAt X8) q H 192 ∗ gTodo c (((i 0).val + 2) % 3) (tokAt X8) q H 192 ∗ winPt c m8 f8)
      ⊢ run c (k0_part9 (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v0 k0_h2 v185 v186)
        (fun v => iprop(⌜v = ⟨k0_pay31 fa (guCols gu 1536) (bCols X13 768), k0_pay32 fa (guCols gu 1536) (bCols X14 768), k0_pay33 fa (guCols gu 1536) (bCols X13 768), (Scalar.ofBits .f32 0x3F800000#32 : F .f32)⟩⌝ ∗ xPt c (xslot 3) (xPut3 5 (k0_pay29 v185) (xPut3 4 (k0_pay28 v186) f3)) ∗ asPt c fa ∗ guPt c gu ∗ winPt c m13 f13 ∗ winPt c m14 f14 ∗ gBatch c (((i 0).val + 2) % 3) (tokAt X8) q H 256 ∗ gTodo c (((i 0).val + 2) % 3) (tokAt X8) q H 256 ∗ winPt c m8 f8)) := by
  unfold run
  rw [k0_part9_eq_skeleton]
  iintro ⟨H3, HA, HG, H13, H14, HB, HT, H8⟩
  sl_unfold [k0_part9_skel]
  simp only [smemLoad, Prog.lift, Prog.bind_op, Prog.bind_ret, smemLoadElt_bind]
  iapply (st_x3 c 1024 4 (by omega) _ _ _ _ _) $$ H3; iintro H3
  iapply (ld_x3 c 1280 (by omega) _ _ _ _) $$ H3; iintro H3
  iapply (st_x3 c 1280 5 (by omega) _ _ _ _ _) $$ H3; iintro H3
  try unfold run
  sl_for (fun k _ => gInv c m8 f8 (((i 0).val + 2) % 3) (tokAt X8) q H (192 + k)) $$ [HB HT H8]
  · intro k acc; exact t6_step c i m5 h5 m6 h6 m7 h7 m8 h8 m13 h13 m14 h14 m15 h15 v0 k0_h2 v185 v186 f8 X8 hX8 q H k
  · isplitl [HB]; · iexact HB
    isplitl [HT]; · iexact HT
    iexact H8
  iintro %acc ⟨HB, HT, H8⟩
  iapply (ld_as c _ _ _ _) $$ HA; iintro HA
  iapply (ld_gu c 1536 (by omega) _ _ _ _) $$ HG; iintro HG
  iapply (ld_b c m13 768 (by omega) _ f13 X13 hX13 _ _) $$ H13; iintro H13
  iapply (ld_b c m14 768 (by omega) _ f14 X14 hX14 _ _) $$ H14; iintro H14
  try unfold run
  sl_step
  isplitr
  · ipureintro; rfl
  isplitl [H3]; · iexact H3
  isplitl [HA]; · iexact HA
  isplitl [HG]; · iexact HG
  isplitl [H13]; · iexact H13
  isplitl [H14]; · iexact H14
  isplitl [HB]; · iexact HB
  isplitl [HT]; · iexact HT
  iexact H8

end Cert.KernelIdeal.Moe

end
-- ==== Proof.PartsB.lean ====
/-
  The calculation of a block's results: what each stretch of it reads and leaves.
-/
module

public import proofs.«01_k».proof.Proof.PartsA

@[expose] public section

set_option maxRecDepth 16384
set_option maxHeartbeats 2000000

noncomputable section

namespace Cert.KernelIdeal.Moe

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
variable (m5 : Memref sig .tc .smem S1x1x256 .i32) (h5 : m5.IsWhole) (m6 : Memref sig .tc .smem S1x1x256 .i32) (h6 : m6.IsWhole)
  (m7 : Memref sig .tc .smem S1x1x256 .i32) (h7 : m7.IsWhole) (m8 : Memref sig .tc .smem S1x1x256 .i32) (h8 : m8.IsWhole)
  (m13 : Memref sig .tc .vmem S1x1x1024 .f32) (h13 : m13.IsWhole) (m14 : Memref sig .tc .vmem S1x1x1024 .f32) (h14 : m14.IsWhole)
  (m15 : Memref sig .tc .vmem S1x1x1024 .f32) (h15 : m15.IsWhole)

theorem part10_run (v0 : Elt F .i32) (k0_h2 : k0_cond2 i v0 = 1#1) (v204 : FVec F S256x256 .f32) (v215 : FVec F S256x256 .f32) (v220 : FVec F S256x256 .f32) (cst_145 : F .f32) (f3 : S4x2048x128.Idx → F .f32) (f5 : Buf (Elt F) (m5.view.loc (c : Thread nD τ))) (X5 : S1x1x256.Idx → BitVec 32) (hX5 : m5.view.read (Elt F) f5 = X5) (hr : ∀ r, rowAt X5 r < 66048) (ha : OneEach (rowAt X5)) (B : S2048x128.Idx → F .f32) (V : S528384x128.Idx → F .f32) :
    iprop(xPt c (xslot 3) f3 ∗ Flight c (ssem (curY i).val) iprop((∃ g, yPt c (yslot (curY i).val) g) ∗ gPt c Finset.univ V) ∗ yPt c (yslot (otherSlot (i 0).val).val) (yOf B) ∗ cell c (ssem (otherSlot (i 0).val).val) ∗ winPt c m5 f5 ∗ waits c)
      ⊢ run c (k0_part10 (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v0 k0_h2 v204 v215 v220 cst_145)
        (fun v => iprop(⌜v = ⟨k0_pay37 (xRow3 (xPut3 7 (k0_pay36 v204 v215 v220 cst_145) (xPut3 6 (k0_pay35 v204 v215 v220 cst_145) f3)) 0), k0_pay38 (xRow3 (xPut3 7 (k0_pay36 v204 v215 v220 cst_145) (xPut3 6 (k0_pay35 v204 v215 v220 cst_145) f3)) 256), k0_pay39 (xRow3 (xPut3 7 (k0_pay36 v204 v215 v220 cst_145) (xPut3 6 (k0_pay35 v204 v215 v220 cst_145) f3)) 512), k0_pay40 (xRow3 (xPut3 7 (k0_pay36 v204 v215 v220 cst_145) (xPut3 6 (k0_pay35 v204 v215 v220 cst_145) f3)) 768)⟩⌝ ∗ xPt c (xslot 3) (xPut3 7 (k0_pay36 v204 v215 v220 cst_145) (xPut3 6 (k0_pay35 v204 v215 v220 cst_145) f3)) ∗ (∃ g, yPt c (yslot (curY i).val) g) ∗ cell c (ssem (curY i).val) ∗ Flight c (ssem (otherSlot (i 0).val).val) iprop((∃ g, yPt c (yslot (otherSlot (i 0).val).val) g) ∗ gPt c Finset.univ (putRows (rowAt X5) B V)) ∗ winPt c m5 f5 ∗ waits c)) := by
  unfold run
  rw [k0_part10_eq_skeleton]
  iintro ⟨H3, HF, HO, HC2, H5, HO0⟩
  sl_unfold [k0_part10_skel]
  simp only [smemLoad, Prog.lift, Prog.bind_op, Prog.bind_ret, smemLoadElt_bind]
  iapply (ld_x3 c 1536 (by omega) _ _ _ _) $$ H3; iintro H3
  iapply (st_x3 c 1536 6 (by omega) _ _ _ _ _) $$ H3; iintro H3
  iapply (ld_x3 c 1792 (by omega) _ _ _ _) $$ H3; iintro H3
  iapply (st_x3 c 1792 7 (by omega) _ _ _ _ _) $$ H3; iintro H3
  iapply (wait_flight c (ssem (curY i).val) _ (gBlk_credit _ _) _ (ssem_eq _ (curY i).isLt _ _ (off45_eq i)) _ _) $$ [HF HO0]
  · isplitl [HF]; · iexact HF
    iexact HO0
  iintro ⟨⟨HYE, HV⟩, HC, HO0⟩
  try unfold run
  imod (scatter_start c (otherSlot (i 0).val) (rowAt X5) ha B V) $$ [HO HV HC2] with HS
  · isplitl [HO]; · iexact HO
    isplitl [HV]; · iexact HV
    iexact HC2
  icases HS with ⟨HB, HT, HR⟩
  try unfold run
  sl_for (fun k _ => sInv c m5 f5 (otherSlot (i 0).val) (rowAt X5) B V k) $$ [HB HT H5]
  · intro k acc; exact t7_step c i m5 h5 m6 h6 m7 h7 m8 h8 m13 h13 m14 h14 m15 h15 v0 k0_h2 v204 v215 v220 cst_145 f5 X5 hX5 hr ha B V k
  · isplitl [HB]; · iexact HB
    isplitl [HT]; · iexact HT
    iexact H5
  iintro %acc ⟨HB, HT, H5⟩
  rw [show Scf.trips k0_t7_loop.lb k0_t7_loop.ub k0_t7_loop.st = 256 from trips7]
  ihave HF2 := (scatter_finish c (otherSlot (i 0).val) (rowAt X5) ha B V) $$ [HB HT HR]
  · isplitl [HB]; · iexact HB
    isplitl [HT]; · iexact HT
    iexact HR
  iapply (ld_x3 c 0 (by omega) _ _ _ _) $$ H3; iintro H3
  iapply (ld_x3 c 256 (by omega) _ _ _ _) $$ H3; iintro H3
  iapply (ld_x3 c 512 (by omega) _ _ _ _) $$ H3; iintro H3
  iapply (ld_x3 c 768 (by omega) _ _ _ _) $$ H3; iintro H3
  try unfold run
  sl_step
  isplitr
  · ipureintro; rfl
  isplitl [H3]; · iexact H3
  isplitl [HYE]; · iexact HYE
  isplitl [HC]; · iexact HC
  isplitl [HF2]; · iexact HF2
  isplitl [H5]; · iexact H5
  iexact HO0

theorem part11_run (v242 : FVec F S256x128 .f32) (v244 : FVec F S256x128 .f32) (v246 : FVec F S256x128 .f32) (v248 : FVec F S256x128 .f32) (f3 : S4x2048x128.Idx → F .f32) (dd : S1024x1024.Idx → F .bf16) (fy : S2x2048x128.Idx → F .f32) (f15 : Buf (Elt F) (m15.view.loc (c : Thread nD τ))) (X15 : S1x1x1024.Idx → F .f32) (hX15 : m15.view.read (Elt F) f15 = X15) :
    iprop(xPt c (xslot 3) f3 ∗ dPt c dd ∗ yPt c (yslot (curY i).val) fy ∗ winPt c m15 f15)
      ⊢ run c (k0_part11 (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v242 v244 v246 v248)
        (fun v => iprop(⌜v = ⟨k0_pay41 v242 v244 v246 v248 (xRow3 f3 1024) (xRow3 f3 1280) (xRow3 f3 1536) (xRow3 f3 1792), k0_pay42 v242 v244 v246 v248 (xRow3 f3 1024) (xRow3 f3 1280) (xRow3 f3 1536) (xRow3 f3 1792) (dCols dd 0) (bCols2 X15 0), k0_pay45 v242 v244 v246 v248 (xRow3 f3 1024) (xRow3 f3 1280) (xRow3 f3 1536) (xRow3 f3 1792) (dCols dd 0) (bCols2 X15 0)⟩⌝ ∗ xPt c (xslot 3) f3 ∗ dPt c dd ∗ yPt c (yslot (curY i).val) (yPut 1 (k0_pay44 v242 v244 v246 v248 (xRow3 f3 1024) (xRow3 f3 1280) (xRow3 f3 1536) (xRow3 f3 1792) (dCols dd 0) (bCols2 X15 0)) (yPut 0 (k0_pay43 v242 v244 v246 v248 (xRow3 f3 1024) (xRow3 f3 1280) (xRow3 f3 1536) (xRow3 f3 1792) (dCols dd 0) (bCols2 X15 0)) fy)) ∗ winPt c m15 f15)) := by
  unfold run
  rw [k0_part11_eq_skeleton]
  iintro ⟨H3, HD, HY, H15⟩
  sl_unfold [k0_part11_skel]
  simp only [smemLoad, Prog.lift, Prog.bind_op, Prog.bind_ret, smemLoadElt_bind]
  iapply (ld_x3 c 1024 (by omega) _ _ _ _) $$ H3; iintro H3
  iapply (ld_x3 c 1280 (by omega) _ _ _ _) $$ H3; iintro H3
  iapply (ld_x3 c 1536 (by omega) _ _ _ _) $$ H3; iintro H3
  iapply (ld_x3 c 1792 (by omega) _ _ _ _) $$ H3; iintro H3
  iapply (ld_d c 0 (by omega) _ _ _ _) $$ HD; iintro HD
  iapply (ld_b2 c m15 0 (by omega) _ f15 X15 hX15 _ _) $$ H15; iintro H15
  iapply (ld_y c (curY i) _ _ (off46_eq i) 0 _ _ _ _) $$ HY; iintro HY
  iapply (st_y c (curY i) _ _ (off46_eq i) 0 (by omega) _ _ _ _ _ _) $$ HY; iintro HY
  iapply (ld_y c (curY i) _ _ (off46_eq i) 1 _ _ _ _) $$ HY; iintro HY
  iapply (st_y c (curY i) _ _ (off46_eq i) 1 (by omega) _ _ _ _ _ _) $$ HY; iintro HY
  try unfold run
  sl_step
  isplitr
  · ipureintro; rfl
  isplitl [H3]; · iexact H3
  isplitl [HD]; · iexact HD
  isplitl [HY]; · iexact HY
  iexact H15

theorem part12_run (v258 : FVec F S256x1024 .bf16) (v264 : FVec F S256x512 .f32) (v277 : FVec F S256x128 .f32) (fy : S2x2048x128.Idx → F .f32) (dd : S1024x1024.Idx → F .bf16) (f15 : Buf (Elt F) (m15.view.loc (c : Thread nD τ))) (X15 : S1x1x1024.Idx → F .f32) (hX15 : m15.view.read (Elt F) f15 = X15) :
    iprop(yPt c (yslot (curY i).val) fy ∗ dPt c dd ∗ winPt c m15 f15)
      ⊢ run c (k0_part12 (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v258 v264 v277)
        (fun v => iprop(⌜v = ⟨k0_pay48 v258 (dCols dd 512) (bCols2 X15 512), k0_pay51 v258 (dCols dd 512) (bCols2 X15 512)⟩⌝ ∗ yPt c (yslot (curY i).val) (yPut 5 (k0_pay50 v258 (dCols dd 512) (bCols2 X15 512)) (yPut 4 (k0_pay49 v258 (dCols dd 512) (bCols2 X15 512)) (yPut 3 (k0_pay47 v264) (yPut 2 (k0_pay46 v277) fy)))) ∗ dPt c dd ∗ winPt c m15 f15)) := by
  unfold run
  rw [k0_part12_eq_skeleton]
  iintro ⟨HY, HD, H15⟩
  sl_unfold [k0_part12_skel]
  simp only [smemLoad, Prog.lift, Prog.bind_op, Prog.bind_ret, smemLoadElt_bind]
  iapply (ld_y c (curY i) _ _ (off46_eq i) 2 _ _ _ _) $$ HY; iintro HY
  iapply (st_y c (curY i) _ _ (off46_eq i) 2 (by omega) _ _ _ _ _ _) $$ HY; iintro HY
  iapply (ld_y c (curY i) _ _ (off46_eq i) 3 _ _ _ _) $$ HY; iintro HY
  iapply (st_y c (curY i) _ _ (off46_eq i) 3 (by omega) _ _ _ _ _ _) $$ HY; iintro HY
  iapply (ld_d c 512 (by omega) _ _ _ _) $$ HD; iintro HD
  iapply (ld_b2 c m15 512 (by omega) _ f15 X15 hX15 _ _) $$ H15; iintro H15
  iapply (ld_y c (curY i) _ _ (off46_eq i) 4 _ _ _ _) $$ HY; iintro HY
  iapply (st_y c (curY i) _ _ (off46_eq i) 4 (by omega) _ _ _ _ _ _) $$ HY; iintro HY
  iapply (ld_y c (curY i) _ _ (off46_eq i) 5 _ _ _ _) $$ HY; iintro HY
  iapply (st_y c (curY i) _ _ (off46_eq i) 5 (by omega) _ _ _ _ _ _) $$ HY; iintro HY
  iapply (ld_y c (curY i) _ _ (off46_eq i) 6 _ _ _ _) $$ HY; iintro HY
  try unfold run
  sl_step
  isplitr
  · ipureintro; rfl
  isplitl [HY]; · iexact HY
  isplitl [HD]; · iexact HD
  iexact H15

end Cert.KernelIdeal.Moe

end
-- ==== Proof.PartsC.lean ====
/-
  The weights of a block's expert, and the first block's beginning: what each stretch reads and leaves.
-/
module

public import proofs.«01_k».proof.Proof.PartsB

@[expose] public section

set_option maxRecDepth 16384
set_option maxHeartbeats 2000000

noncomputable section

namespace Cert.KernelIdeal.Moe

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
variable (m5 : Memref sig .tc .smem S1x1x256 .i32) (h5 : m5.IsWhole) (m6 : Memref sig .tc .smem S1x1x256 .i32) (h6 : m6.IsWhole)
  (m7 : Memref sig .tc .smem S1x1x256 .i32) (h7 : m7.IsWhole) (m8 : Memref sig .tc .smem S1x1x256 .i32) (h8 : m8.IsWhole)
  (m13 : Memref sig .tc .vmem S1x1x1024 .f32) (h13 : m13.IsWhole) (m14 : Memref sig .tc .vmem S1x1x1024 .f32) (h14 : m14.IsWhole)
  (m15 : Memref sig .tc .vmem S1x1x1024 .f32) (h15 : m15.IsWhole)

/-- Word `n` of a table. -/
def tw (T : S289.Idx → BitVec 32) (n : ℕ) : BitVec 32 := T (ix1 ⟨n % 289, by omega⟩)
theorem tw_read {m : Memref sig .tc .smem S289 .i32} (f : m.view.ty.Contents (Elt F)) (X : S289.Idx → BitVec 32)
    (h : m.view.read (Elt F) f = X) (n : ℕ) (hn : n < 289) (off : Fin 1 → ℕ) (inb) (ho : off = ![n]) (x : S1.Idx) :
    (m.access (Rect.unit (s := S289) off S1.size inb)).read (Elt F) f x = tw X n := by
  subst ho
  subst h
  unfold tw
  show m.view.read (Elt F) f ((Rect.unit (s := S289) ![n] S1.size inb).emb x) = _
  congr 1; funext a; fin_cases a
  have hx : (x 0).val < 1 := (x 0).isLt
  apply Fin.ext; show n + 1 * (x 0).val = n % 289; omega
/-- Half of a table, for the kernel to read. -/
abbrev tabPt {s : Shape} (m : Memref sig .tc .smem s .i32) (f : Buf (Elt F) (m.view.loc (c : Thread nD τ))) : sProp 𝕄 :=
  m.view.loc (c : Thread nD τ) ↦[Finset.univ]{fullShare.right} f
theorem ld_t {α : Type} (m : Memref sig .tc .smem S289 .i32) (f : Buf (Elt F) (m.view.loc (c : Thread nD τ))) (X : S289.Idx → BitVec 32)
    (hX : m.view.read (Elt F) f = X) (n : ℕ) (hn : n < 289) (off : Fin 1 → ℕ) (inb) (ho : off = ![n]) {hl}
    {x : (Rect.unit (s := S289) off S1.size inb).shape.Idx} (kont : Elt F .i32 → Prog (TpuEff nD τ sig (Elt F) Λ₀ .tc) α) (Q : α → sProp 𝕄) :
    tabPt c m f ⊢ iprop((tabPt c m f -∗ run c (kont (tw X n)) Q)
      -∗ run c (smemLoadElt m (Rect.unit (s := S289) off S1.size inb) hl x kont) Q) := by
  rw [← tw_read f X hX n hn off inb ho x]
  exact wp_smemLoadElt (m := m) (r := Rect.unit (s := S289) off S1.size inb) (q := fullShare.right)
    Variants.none (c : Thread nD τ) none Set.univ (S := Finset.univ) (f := f) (Finset.subset_univ _)
theorem nu_read {m : Memref sig .tc .smem S1 .i32} (f : m.view.ty.Contents (Elt F)) (X : S1.Idx → BitVec 32)
    (h : m.view.read (Elt F) f = X) (inb) (x : S1.Idx) :
    (m.access (Rect.unit (s := S1) ![0] S1.size inb)).read (Elt F) f x = X (ix1 0) := by
  subst h
  show m.view.read (Elt F) f ((Rect.unit (s := S1) ![0] S1.size inb).emb x) = _
  congr 1; funext a; fin_cases a
  have hx : (x 0).val < 1 := (x 0).isLt
  apply Fin.ext; show 0 + 1 * (x 0).val = 0; omega
theorem ld_nu {α : Type} (m : Memref sig .tc .smem S1 .i32) (f : Buf (Elt F) (m.view.loc (c : Thread nD τ))) (X : S1.Idx → BitVec 32)
    (hX : m.view.read (Elt F) f = X) (inb) {hl}
    {x : (Rect.unit (s := S1) ![0] S1.size inb).shape.Idx} (kont : Elt F .i32 → Prog (TpuEff nD τ sig (Elt F) Λ₀ .tc) α) (Q : α → sProp 𝕄) :
    tabPt c m f ⊢ iprop((tabPt c m f -∗ run c (kont (X (ix1 0))) Q)
      -∗ run c (smemLoadElt m (Rect.unit (s := S1) ![0] S1.size inb) hl x kont) Q) := by
  rw [← nu_read f X hX inb x]
  exact wp_smemLoadElt (m := m) (r := Rect.unit (s := S1) ![0] S1.size inb) (q := fullShare.right)
    Variants.none (c : Thread nD τ) none Set.univ (S := Finset.univ) (f := f) (Finset.subset_univ _)
/-- The four tables: a block's expert, the next run's expert, the weights' slot, and the last block. -/
abbrev tabBE (T : S289.Idx → BitVec 32) : sProp 𝕄 := tabPt (F := F) c (Memref.whole main_arg4) T
abbrev tabNE (T : S289.Idx → BitVec 32) : sProp 𝕄 := tabPt (F := F) c (Memref.whole main_arg5) T
abbrev tabPAR (T : S289.Idx → BitVec 32) : sProp 𝕄 := tabPt (F := F) c (Memref.whole main_arg6) T
abbrev tabNU (T : S1.Idx → BitVec 32) : sProp 𝕄 := tabPt (F := F) c (Memref.whole main_arg7) T

/-! ## The bounds that the words' ranges give -/

theorem inb_hbm (e : ℕ) (he : e < 32) : ∀ a, (![e, 0, 0] : Fin 3 → ℕ) a + S1x1024x1024.size a ≤ S32x1024x1024.size a := by
  intro a; fin_cases a
  · show e + 1 ≤ 32; omega
  · show 0 + 1024 ≤ 1024; omega
  · show 0 + 1024 ≤ 1024; omega
theorem inb_buf (s : ℕ) (hs : s < 2) : ∀ a, (![s, 0, 0] : Fin 3 → ℕ) a + S1x1024x1024.size a ≤ S2x1024x1024.size a := by
  intro a; fin_cases a
  · show s + 1 ≤ 2; omega
  · show 0 + 1024 ≤ 1024; omega
  · show 0 + 1024 ≤ 1024; omega
theorem inb_cols (s o : ℕ) (hs : s < 2) (ho : o + 256 ≤ 1024) : ∀ a, (![s, 0, o] : Fin 3 → ℕ) a + S1x1024x256.size a ≤ S2x1024x1024.size a := by
  intro a; fin_cases a
  · show s + 1 ≤ 2; omega
  · show 0 + 1024 ≤ 1024; omega
  · show o + 256 ≤ 1024; omega
theorem inb_sem (s : ℕ) (hs : s < 2) : ∀ a, (![s] : Fin 1 → ℕ) a + S1.size a ≤ S2.size a := by
  intro a; fin_cases a
  show s + 1 ≤ 2; omega
theorem chk1 (i : grid0.Coords) (v : BitVec 32) (h : v.toNat < 32) : k0_chk1 i v := fun _ => inb_hbm _ h
theorem chk5 (i : grid0.Coords) (v0 v w : BitVec 32) (h : v.toNat < 32) : k0_chk5 i v0 v w := fun _ _ => inb_hbm _ h
theorem chk7 (i : grid0.Coords) (v0 v w x y : BitVec 32) (h : y.toNat < 32) : k0_chk7 i v0 v w x y := fun _ _ _ => inb_hbm _ h
theorem chk4 (i : grid0.Coords) (v0 v w p : BitVec 32) (h : p.toNat < 2) : k0_chk4 i v0 v w p :=
  ⟨fun _ _ => inb_sem _ h, fun _ _ => inb_buf _ h, fun _ _ => inb_cols _ 0 h (by omega), fun _ _ => inb_cols _ 256 h (by omega),
    fun _ _ => inb_cols _ 512 h (by omega), fun _ _ => inb_cols _ 768 h (by omega), fun _ _ => inb_buf _ h⟩
theorem chk6 (i : grid0.Coords) (v0 v w p x : BitVec 32) (h : p.toNat < 2) : k0_chk6 i v0 v w p x :=
  ⟨fun _ _ _ => by rw [off22_eq p h]; exact inb_sem _ (by omega), fun _ _ _ => by rw [off23_eq p h]; exact inb_buf _ (by omega),
    fun _ _ _ => by rw [off25_eq p h]; exact inb_sem _ (by omega), fun _ _ _ => by rw [off26_eq p h]; exact inb_buf _ (by omega)⟩

/-- A stretch within a program. -/
theorem call {α β : Type} {p : Prog (TpuEff nD τ sig (Elt F) Λ₀ .tc) α} {R : α → sProp 𝕄} {P : sProp 𝕄} (h : P ⊢ run c p R)
    (kont : α → Prog (TpuEff nD τ sig (Elt F) Λ₀ .tc) β) (Q : β → sProp 𝕄) :
    P ⊢ iprop((∀ v, R v -∗ run c (kont v) Q) -∗ run c (p >>= kont) Q) := by
  unfold run at *
  rw [wp_bind]
  exact h.trans (wp_wand Idealize.ShloMosaic.frame (wpE (defs₀ (F := F)) Variants.none (c : Thread nD τ) none) Set.univ)

/-! ## An expert's weights in the kernel's layout -/

/-- 256 columns of expert `e`'s weights. -/
def eCols (W : S32x1024x1024.Idx → F .f32) (e o : ℕ) : Vec F S1x1024x256 .f32 := fun q => W (ix3 ⟨e % 32, by omega⟩ (q 1) ⟨(o + (q 2).val) % 1024, by omega⟩)
/-- Gate and up weights side by side, 256 columns of each in turn. -/
def guW (WG WU : S32x1024x1024.Idx → F .f32) (e : ℕ) : S1024x2048.Idx → F .bf16 :=
  guPut 7 (k0_pay12 (eCols WU e 768)) (guPut 6 (k0_pay11 (eCols WG e 768)) (guPut 5 (k0_pay10 (eCols WU e 512)) (guPut 4 (k0_pay9 (eCols WG e 512))
    (guPut 3 (k0_pay8 (eCols WU e 256)) (guPut 2 (k0_pay7 (eCols WG e 256)) (guPut 1 (k0_pay6 (eCols WU e 0))
      (fun p => k0_pay5 (eCols WG e 0) (ix2 (p 0) ⟨(p 1).val % 256, by omega⟩))))))))
/-- The down weights. -/
def dW (WD : S32x1024x1024.Idx → F .f32) (e : ℕ) : S1024x1024.Idx → F .bf16 :=
  k0_pay13 (fun q => WD (ix3 ⟨e % 32, by omega⟩ (q 1) (q 2)))
theorem guW_eq (WG WU : S32x1024x1024.Idx → F .f32) (e : ℕ) (s : Fin 2) (gu : S1024x2048.Idx → F .bf16) :
    guPut 7 (k0_pay12 (wCols (lw WU e) s 768)) (guPut 6 (k0_pay11 (wCols (lw WG e) s 768)) (guPut 5 (k0_pay10 (wCols (lw WU e) s 512)) (guPut 4 (k0_pay9 (wCols (lw WG e) s 512))
    (guPut 3 (k0_pay8 (wCols (lw WU e) s 256)) (guPut 2 (k0_pay7 (wCols (lw WG e) s 256)) (guPut 1 (k0_pay6 (wCols (lw WU e) s 0)) (guPut 0 (k0_pay5 (wCols (lw WG e) s 0)) gu)))))))
      = guW WG WU e := by
  funext p
  have h : (p 1).val < 2048 := (p 1).isLt
  unfold guW
  simp only [guPut]
  have e0 : (p 1).val / 256 = 0 ∨ (p 1).val / 256 = 1 ∨ (p 1).val / 256 = 2 ∨ (p 1).val / 256 = 3 ∨ (p 1).val / 256 = 4 ∨ (p 1).val / 256 = 5 ∨ (p 1).val / 256 = 6 ∨ (p 1).val / 256 = 7 := by omega
  rcases e0 with e | e | e | e | e | e | e | e <;> rw [e] <;> rfl

theorem part2_run (arg0 : BitVec 32) (v0 : Elt F .i32) (k0_h2 : k0_cond2 i v0 = 1#1) (v27 v32 : Elt F .i32) (k0_hw5 : k0_chk5 i v0 v27 v32) (k0_h3 : k0_cond3 i v27 v32 = 1#1)
    (PAR : S289.Idx → BitVec 32) (s : Fin 2) (hs : (tw PAR (i 0).val).toNat = s.val) (e : ℕ) (WG WU WD : S32x1024x1024.Idx → F .f32) (gu : S1024x2048.Idx → F .bf16) :
    iprop(tabPAR c PAR ∗ wPend c s.val e WG WU WD ∗ guPt c gu ∗ waits c)
      ⊢ run c (k0_part2 (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 arg0 v0 k0_h2 v27 v32 k0_hw5 k0_h3)
        (fun v => iprop(⌜v.1 = tw PAR (i 0).val⌝ ∗ tabPAR c PAR ∗ wHere c s.val e WG WU WD
          ∗ guPt c (guPut 1 (k0_pay6 (wCols (lw WU e) s 0)) (guPut 0 (k0_pay5 (wCols (lw WG e) s 0)) gu)) ∗ waits c)) := by
  have h2 : (tw PAR (i 0).val).toNat < 2 := hs ▸ s.isLt
  unfold run
  rw [k0_part2_eq_skeleton]
  iintro ⟨HT, ⟨HW, HR⟩, HG, HO⟩
  sl_unfold [k0_part2_skel]
  simp only [smemLoad, Prog.lift, Prog.bind_op, Prog.bind_ret, smemLoadElt_bind]
  iapply (ld_t c (Memref.whole main_arg6) PAR PAR rfl (i 0).val (i 0).isLt _ _ (off11_eq i) _ _) $$ HT; iintro HT
  iapply (wp_assume Variants.none (c : Thread nD τ) none Set.univ (chk4 i _ _ _ _ h2))
  iapply (w_wait c s.val e WG WU WD 0 (by omega) (wgBuf_credit _ _) _ (wsem_eq _ s.isLt _ _ (by rw [← hs]; rfl)) _ _) $$ [HW HO]
  · isplitl [HW]; · iexact HW
    iexact HO
  iintro ⟨HW, HO⟩
  iapply (w_wait c s.val e WG WU WD (0 + 131072) (by omega) (wuBuf_credit _ _) _ (wsem_eq _ s.isLt _ _ (by rw [← hs]; rfl)) _ _) $$ [HW HO]
  · isplitl [HW]; · iexact HW
    iexact HO
  iintro ⟨HW, HO⟩
  iapply (w_last c s.val e WG WU WD (wdBuf_credit _ _) _ (wsem_eq _ s.isLt _ _ (by rw [← hs]; rfl)) _ _) $$ [HW HR HO]
  · isplitl [HW]; · iexact HW
    isplitl [HR]; · iexact HR
    iexact HO
  iintro ⟨⟨HWG, HWU, HWD, HC, HA⟩, HO⟩
  iapply (ld_wg c s 0 (by omega) _ _ (by rw [← hs]; rfl) _ _ _) $$ HWG; iintro HWG
  iapply (ld_gu0 c 0 _ _ _ _) $$ HG; iintro HG
  iapply (st_gu c 0 0 (by omega) _ _ _ _ _) $$ HG; iintro HG
  iapply (ld_wu c s 0 (by omega) _ _ (by rw [← hs]; rfl) _ _ _) $$ HWU; iintro HWU
  iapply (ld_gu0 c 256 _ _ _ _) $$ HG; iintro HG
  iapply (st_gu c 256 1 (by omega) _ _ _ _ _) $$ HG; iintro HG
  unfold run
  sl_step
  isplitr
  · ipureintro; rfl
  isplitl [HT]; · iexact HT
  isplitl [HWG HWU HWD HC HA]
  · isplitl [HWG]; · iexact HWG
    isplitl [HWU]; · iexact HWU
    isplitl [HWD]; · iexact HWD
    isplitl [HC]; · iexact HC
    iexact HA
  isplitl [HG]; · iexact HG
  iexact HO

theorem part3_run (v0 : Elt F .i32) (k0_h2 : k0_cond2 i v0 = 1#1) (v27 : Elt F .i32) (v32 : Elt F .i32) (k0_h3 : k0_cond3 i v27 v32 = 1#1) (v320 : Elt F .i32) (k0_hw4 : k0_chk4 i v0 v27 v32 v320) (lg : S2x1024x1024.Idx → F .f32) (gu : S1024x2048.Idx → F .bf16) (lu : S2x1024x1024.Idx → F .f32) (s : Fin 2) (hs : v320.toNat = s.val) :
    iprop(wgBuf c (wslot s.val) lg ∗ guPt c gu ∗ wuBuf c (wslot s.val) lu)
      ⊢ run c (k0_part3 (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 v0 k0_h2 v27 v32 k0_h3 v320 k0_hw4)
        (fun v => iprop(⌜v = ⟨⟩⌝ ∗ wgBuf c (wslot s.val) lg ∗ guPt c (guPut 6 (k0_pay11 (wCols lg s 768)) (guPut 5 (k0_pay10 (wCols lu s 512)) (guPut 4 (k0_pay9 (wCols lg s 512)) (guPut 3 (k0_pay8 (wCols lu s 256)) (guPut 2 (k0_pay7 (wCols lg s 256)) gu))))) ∗ wuBuf c (wslot s.val) lu)) := by
  unfold run
  rw [k0_part3_eq_skeleton]
  iintro ⟨HWG, HG, HWU⟩
  sl_unfold [k0_part3_skel]
  simp only [smemLoad, Prog.lift, Prog.bind_op, Prog.bind_ret, smemLoadElt_bind]
  iapply (ld_wg c s 256 (by omega) _ _ (by rw [← hs]; rfl) _ _ _) $$ HWG; iintro HWG
  iapply (ld_gu0 c 512 _ _ _ _) $$ HG; iintro HG
  iapply (st_gu c 512 2 (by omega) _ _ _ _ _) $$ HG; iintro HG
  iapply (ld_wu c s 256 (by omega) _ _ (by rw [← hs]; rfl) _ _ _) $$ HWU; iintro HWU
  iapply (ld_gu0 c 768 _ _ _ _) $$ HG; iintro HG
  iapply (st_gu c 768 3 (by omega) _ _ _ _ _) $$ HG; iintro HG
  iapply (ld_wg c s 512 (by omega) _ _ (by rw [← hs]; rfl) _ _ _) $$ HWG; iintro HWG
  iapply (ld_gu0 c 1024 _ _ _ _) $$ HG; iintro HG
  iapply (st_gu c 1024 4 (by omega) _ _ _ _ _) $$ HG; iintro HG
  iapply (ld_wu c s 512 (by omega) _ _ (by rw [← hs]; rfl) _ _ _) $$ HWU; iintro HWU
  iapply (ld_gu0 c 1280 _ _ _ _) $$ HG; iintro HG
  iapply (st_gu c 1280 5 (by omega) _ _ _ _ _) $$ HG; iintro HG
  iapply (ld_wg c s 768 (by omega) _ _ (by rw [← hs]; rfl) _ _ _) $$ HWG; iintro HWG
  iapply (ld_gu0 c 1536 _ _ _ _) $$ HG; iintro HG
  iapply (st_gu c 1536 6 (by omega) _ _ _ _ _) $$ HG; iintro HG
  try unfold run
  sl_step
  isplitr
  · ipureintro; first | rfl | trivial
  isplitl [HWG]; · iexact HWG
  isplitl [HG]; · iexact HG
  iexact HWU

/-- What the weights' buffers hold once block `n`'s expert `e` is resident: the next run's expert `e'` on its way into the other slot, if there is one. -/
def wNext (s : ℕ) (e e' : ℕ) (WG WU WD : S32x1024x1024.Idx → F .f32) : sProp 𝕄 :=
  if e' = e then iprop(wIdle c s ∗ wIdle c (1 - s) ∗ wAll c WG WU WD) else iprop(wIdle c s ∗ wPend c (1 - s) e' WG WU WD)

/-- A block whose expert is that of the block before. -/
theorem part4_old (arg0 : BitVec 32) (v0 : Elt F .i32) (k0_h2 : k0_cond2 i v0 = 1#1) (BE : S289.Idx → BitVec 32)
    (hb : (tw BE (i 0).val).toNat < 32) (hn : k0_cond3 i (tw BE (i 0).val) (tw BE ((i 0).val - 1)) ≠ 1#1) (fx : S4x2048x128.Idx → F .f32) (G : sProp 𝕄) :
    iprop(tabBE c BE ∗ Flight c (gsem (cur i).val) iprop(xPt c (xslot (cur i).val) fx ∗ G) ∗ waits c)
      ⊢ run c (k0_part4 (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 arg0 v0 k0_h2)
        (fun v => iprop(⌜v = ⟨xTile fx (cur i) 0, xTile fx (cur i) 1, xTile fx (cur i) 2, xTile fx (cur i) 3⟩⌝ ∗ tabBE c BE ∗ xPt c (xslot (cur i).val) fx ∗ G
          ∗ cell c (gsem (cur i).val) ∗ waits c)) := by
  have hi : (i 0).val < 289 := (i 0).isLt
  unfold run
  rw [k0_part4_eq_skeleton]
  iintro ⟨HT, HF, HO⟩
  sl_unfold [k0_part4_skel]
  simp only [smemLoad, Prog.lift, Prog.bind_op, Prog.bind_ret, smemLoadElt_bind]
  iapply (ld_t c (Memref.whole main_arg4) BE BE rfl (i 0).val hi _ _ (off9_eq i) _ _) $$ HT; iintro HT
  iapply (ld_t c (Memref.whole main_arg4) BE BE rfl ((i 0).val - 1) (by omega) _ _ (off10_eq i) _ _) $$ HT; iintro HT
  iapply (wp_assume Variants.none (c : Thread nD τ) none Set.univ (chk5 i _ _ _ hb))
  rw [dif_neg hn]
  simp only [Prog.bind_op, Prog.bind_ret]
  iapply (wait_flight c (gsem (cur i).val) _ (xSlot_credit _ _) _ (gsem_eq _ (Nat.mod_lt _ (by omega)) _ _ (off27_eq i)) _ _) $$ [HF HO]
  · isplitl [HF]; · iexact HF
    iexact HO
  iintro ⟨⟨HX, HG⟩, HC, HO⟩
  iapply (ld_x c (cur i) _ _ (off28_eq i) 0 (by omega) _ _ _ _) $$ HX; iintro HX
  iapply (ld_x c (cur i) _ _ (off28_eq i) 1 (by omega) _ _ _ _) $$ HX; iintro HX
  iapply (ld_x c (cur i) _ _ (off28_eq i) 2 (by omega) _ _ _ _) $$ HX; iintro HX
  iapply (ld_x c (cur i) _ _ (off28_eq i) 3 (by omega) _ _ _ _) $$ HX; iintro HX
  unfold run
  sl_step
  isplitr
  · ipureintro; rfl
  isplitl [HT]; · iexact HT
  isplitl [HX]; · iexact HX
  isplitl [HG]; · iexact HG
  isplitl [HC]; · iexact HC
  iexact HO

/-- A block whose expert is the next run's. -/
theorem part4_new (arg0 : BitVec 32) (v0 : Elt F .i32) (k0_h2 : k0_cond2 i v0 = 1#1) (BE NE PAR : S289.Idx → BitVec 32)
    (hb : (tw BE (i 0).val).toNat < 32) (hne : (tw NE (i 0).val).toNat < 32) (s : Fin 2) (hs : (tw PAR (i 0).val).toNat = s.val)
    (hn : k0_cond3 i (tw BE (i 0).val) (tw BE ((i 0).val - 1)) = 1#1) (fx : S4x2048x128.Idx → F .f32) (G : sProp 𝕄)
    (WG WU WD : S32x1024x1024.Idx → F .f32) (gu : S1024x2048.Idx → F .bf16) (dd : S1024x1024.Idx → F .bf16) :
    iprop(tabBE c BE ∗ tabNE c NE ∗ tabPAR c PAR ∗ wPend c s.val (tw BE (i 0).val).toNat WG WU WD ∗ wIdle c (1 - s.val) ∗ guPt c gu ∗ dPt c dd
        ∗ Flight c (gsem (cur i).val) iprop(xPt c (xslot (cur i).val) fx ∗ G) ∗ waits c)
      ⊢ run c (k0_part4 (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 arg0 v0 k0_h2)
        (fun v => iprop(⌜v = ⟨xTile fx (cur i) 0, xTile fx (cur i) 1, xTile fx (cur i) 2, xTile fx (cur i) 3⟩⌝ ∗ tabBE c BE ∗ tabNE c NE ∗ tabPAR c PAR
          ∗ wNext c s.val (tw BE (i 0).val).toNat (tw NE (i 0).val).toNat WG WU WD ∗ guPt c (guW WG WU (tw BE (i 0).val).toNat) ∗ dPt c (dW WD (tw BE (i 0).val).toNat)
          ∗ xPt c (xslot (cur i).val) fx ∗ G ∗ cell c (gsem (cur i).val) ∗ waits c)) := by
  have hi : (i 0).val < 289 := (i 0).isLt
  have h2 : (tw PAR (i 0).val).toNat < 2 := hs ▸ s.isLt
  unfold run
  rw [k0_part4_eq_skeleton]
  iintro ⟨HT, HTN, HTP, HW, HI, HG, HD, HF, HO⟩
  sl_unfold [k0_part4_skel]
  simp only [smemLoad, Prog.lift, Prog.bind_op, Prog.bind_ret, smemLoadElt_bind]
  iapply (ld_t c (Memref.whole main_arg4) BE BE rfl (i 0).val hi _ _ (off9_eq i) _ _) $$ HT; iintro HT
  iapply (ld_t c (Memref.whole main_arg4) BE BE rfl ((i 0).val - 1) (by omega) _ _ (off10_eq i) _ _) $$ HT; iintro HT
  iapply (wp_assume Variants.none (c : Thread nD τ) none Set.univ (chk5 i _ _ _ hb))
  rw [dif_pos hn]
  simp only [Prog.bind_assoc, Prog.bind_op, Prog.bind_ret]
  iapply (call c (part2_run c i m5 h5 m6 h6 m7 h7 m8 h8 m13 h13 m14 h14 m15 h15 arg0 v0 k0_h2 _ _ _ hn PAR s hs _ WG WU WD gu) _ _) $$ [HTP HW HG HO]
  · isplitl [HTP]; · iexact HTP
    isplitl [HW]; · iexact HW
    isplitl [HG]; · iexact HG
    iexact HO
  iintro %v ⟨%hv, HTP, HW, HG, HO⟩
  obtain ⟨p, hw4⟩ := v
  obtain rfl : p = tw PAR (i 0).val := hv
  icases HW with ⟨HWG, HWU, HWD, HC, HA⟩
  iapply (call c (part3_run c i m5 h5 m6 h6 m7 h7 m8 h8 m13 h13 m14 h14 m15 h15 v0 k0_h2 _ _ hn _ hw4 _ _ _ s hs) _ _) $$ [HWG HWU HG]
  · isplitl [HWG]; · iexact HWG
    isplitl [HG]; · iexact HG
    iexact HWU
  iintro %v ⟨-, HWG, HG, HWU⟩
  iapply (ld_wu c s 768 (by omega) _ _ (by rw [← hs]; rfl) _ _ _) $$ HWU; iintro HWU
  iapply (ld_gu0 c 1792 _ _ _ _) $$ HG; iintro HG
  iapply (st_gu c 1792 7 (by omega) _ _ _ _ _) $$ HG; iintro HG
  iapply (ld_wd c s _ _ (by rw [← hs]; rfl) _ _ _) $$ HWD; iintro HWD
  iapply (ld_dw c _ _ _ _) $$ HD; iintro HD
  iapply (st_dw c _ _ _ _ _) $$ HD; iintro HD
  rw [guW_eq WG WU]
  iapply (ld_t c (Memref.whole main_arg5) NE NE rfl (i 0).val hi _ _ (off20_eq i) _ _) $$ HTN; iintro HTN
  iapply (wp_assume Variants.none (c : Thread nD τ) none Set.univ (chk6 i _ _ _ _ _ h2))
  by_cases hn4 : k0_cond4 (tw BE (i 0).val) (tw NE (i 0).val) = 1#1
  · rw [dif_pos hn4]
    simp only [Prog.bind_assoc, Prog.bind_op, Prog.bind_ret]
    iapply (ld_t c (Memref.whole main_arg5) NE NE rfl (i 0).val hi _ _ (off21_eq i) _ _) $$ HTN; iintro HTN
    iapply (wp_assume Variants.none (c : Thread nD τ) none Set.univ (chk7 i _ _ _ _ _ hne))
    icases HI with ⟨HI0, HI1, HI2, HI3⟩
    icases HA with ⟨HA0, HA1, HA2⟩
    imod (w_alloc c (1 - s.val) (tw NE (i 0).val).toNat WG WU WD) $$ HI3 with HB
    iapply (wg_issue c (1 - s.val) (tw NE (i 0).val).toNat hne WG WU WD _ _ (by rw [off23_eq _ h2, hs]) _ _ rfl _ (wsem_eq _ (by omega) _ _ (by rw [off22_eq _ h2, hs])) _ _) $$ [HB HI0 HA0]
    · isplitl [HB]; · iexact HB
      isplitl [HI0]; · iexact HI0
      iexact HA0
    iintro ⟨HB, HA0⟩
    iapply (wu_issue c (1 - s.val) (tw NE (i 0).val).toNat hne WG WU WD _ _ (by rw [off26_eq _ h2, hs]) _ _ rfl _ (wsem_eq _ (by omega) _ _ (by rw [off25_eq _ h2, hs])) _ _) $$ [HB HI1 HA1]
    · isplitl [HB]; · iexact HB
      isplitl [HI1]; · iexact HI1
      iexact HA1
    iintro ⟨HB, HA1⟩
    iapply (wd_issue c (1 - s.val) (tw NE (i 0).val).toNat hne WG WU WD _ _ (by rw [off26_eq _ h2, hs]) _ _ rfl _ (wsem_eq _ (by omega) _ _ (by rw [off25_eq _ h2, hs])) _ _) $$ [HB HI2 HA2]
    · isplitl [HB]; · iexact HB
      isplitl [HI2]; · iexact HI2
      iexact HA2
    iintro ⟨HB, HA2⟩
    iapply (wait_flight c (gsem (cur i).val) _ (xSlot_credit _ _) _ (gsem_eq _ (Nat.mod_lt _ (by omega)) _ _ (off27_eq i)) _ _) $$ [HF HO]
    · isplitl [HF]; · iexact HF
      iexact HO
    iintro ⟨⟨HX, HQ⟩, HCX, HO⟩
    iapply (ld_x c (cur i) _ _ (off28_eq i) 0 (by omega) _ _ _ _) $$ HX; iintro HX
    iapply (ld_x c (cur i) _ _ (off28_eq i) 1 (by omega) _ _ _ _) $$ HX; iintro HX
    iapply (ld_x c (cur i) _ _ (off28_eq i) 2 (by omega) _ _ _ _) $$ HX; iintro HX
    iapply (ld_x c (cur i) _ _ (off28_eq i) 3 (by omega) _ _ _ _) $$ HX; iintro HX
    unfold run
    sl_step
    isplitr
    · ipureintro; rfl
    isplitl [HT]; · iexact HT
    isplitl [HTN]; · iexact HTN
    isplitl [HTP]; · iexact HTP
    isplitl [HWG HWU HWD HC HB HA0 HA1 HA2]
    · unfold wNext
      rw [if_neg (fun e => (cond4_iff _ _).mp hn4 (BitVec.eq_of_toNat_eq e))]
      isplitl [HWG HWU HWD HC]
      · isplitl [HWG]; · iexists _; iexact HWG
        isplitl [HWU]; · iexists _; iexact HWU
        isplitl [HWD]; · iexists _; iexact HWD
        iexact HC
      isplitl [HB]; · iexact HB
      isplitl [HA0]; · iexact HA0
      isplitl [HA1]; · iexact HA1
      iexact HA2
    isplitl [HG]; · iexact HG
    isplitl [HD]; · iexact HD
    isplitl [HX]; · iexact HX
    isplitl [HQ]; · iexact HQ
    isplitl [HCX]; · iexact HCX
    iexact HO
  · rw [dif_neg hn4]
    simp only [Prog.bind_assoc, Prog.bind_op, Prog.bind_ret]
    iapply (wait_flight c (gsem (cur i).val) _ (xSlot_credit _ _) _ (gsem_eq _ (Nat.mod_lt _ (by omega)) _ _ (off27_eq i)) _ _) $$ [HF HO]
    · isplitl [HF]; · iexact HF
      iexact HO
    iintro ⟨⟨HX, HQ⟩, HCX, HO⟩
    iapply (ld_x c (cur i) _ _ (off28_eq i) 0 (by omega) _ _ _ _) $$ HX; iintro HX
    iapply (ld_x c (cur i) _ _ (off28_eq i) 1 (by omega) _ _ _ _) $$ HX; iintro HX
    iapply (ld_x c (cur i) _ _ (off28_eq i) 2 (by omega) _ _ _ _) $$ HX; iintro HX
    iapply (ld_x c (cur i) _ _ (off28_eq i) 3 (by omega) _ _ _ _) $$ HX; iintro HX
    unfold run
    sl_step
    isplitr
    · ipureintro; rfl
    isplitl [HT]; · iexact HT
    isplitl [HTN]; · iexact HTN
    isplitl [HTP]; · iexact HTP
    isplitl [HWG HWU HWD HC HI HA]
    · unfold wNext
      rw [if_pos (by by_contra e; exact hn4 ((cond4_iff _ _).mpr fun e2 => e (congrArg BitVec.toNat e2)))]
      isplitl [HWG HWU HWD HC]
      · isplitl [HWG]; · iexists _; iexact HWG
        isplitl [HWU]; · iexists _; iexact HWU
        isplitl [HWD]; · iexists _; iexact HWD
        iexact HC
      isplitl [HI]; · iexact HI
      iexact HA
    isplitl [HG]; · iexact HG
    isplitl [HD]; · iexact HD
    isplitl [HX]; · iexact HX
    isplitl [HQ]; · iexact HQ
    isplitl [HCX]; · iexact HCX
    iexact HO

end Cert.KernelIdeal.Moe

end
-- ==== Proof.State.lean ====
/-
  The values a block computes, and what the kernel holds between two blocks.
-/
module

public import proofs.«01_k».proof.Proof.PartsC

@[expose] public section

set_option maxRecDepth 16384
set_option maxHeartbeats 2000000

noncomputable section

namespace Cert.KernelIdeal.Moe

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
variable (m5 : Memref sig .tc .smem S1x1x256 .i32) (h5 : m5.IsWhole) (m6 : Memref sig .tc .smem S1x1x256 .i32) (h6 : m6.IsWhole)
  (m7 : Memref sig .tc .smem S1x1x256 .i32) (h7 : m7.IsWhole) (m8 : Memref sig .tc .smem S1x1x256 .i32) (h8 : m8.IsWhole)
  (m13 : Memref sig .tc .vmem S1x1x1024 .f32) (h13 : m13.IsWhole) (m14 : Memref sig .tc .vmem S1x1x1024 .f32) (h14 : m14.IsWhole)
  (m15 : Memref sig .tc .vmem S1x1x1024 .f32) (h15 : m15.IsWhole)

/-! ## A block's results -/

/-- The activations of 256 hidden units at a time, 128 columns to a vector. -/
def hid (xs : S256x1024.Idx → F .bf16) (gu : S1024x2048.Idx → F .bf16) (g u : S1x1x1024.Idx → F .f32) : ℕ → Vec F S1x256x128 .f32
  | 0 => k0_pay19 (k0_pay16 xs (guCols gu 0) (bCols g 0)) (k0_pay17 xs (guCols gu 0)) (bCols u 0)
  | 1 => k0_pay20 (k0_pay16 xs (guCols gu 0) (bCols g 0)) (k0_pay17 xs (guCols gu 0)) (bCols u 0)
  | 2 => k0_pay24 (k0_pay21 xs (guCols gu 512)) (k0_pay22 xs (guCols gu 512)) (bCols g 256) (bCols u 256)
  | 3 => k0_pay25 (k0_pay21 xs (guCols gu 512)) (k0_pay22 xs (guCols gu 512)) (bCols g 256) (bCols u 256)
  | 4 => k0_pay28 (k0_pay27 xs (guCols gu 1024) (bCols g 512) (bCols u 512))
  | 5 => k0_pay29 (k0_pay26 xs (guCols gu 1024) (bCols g 512) (bCols u 512))
  | 6 => k0_pay35 (k0_pay31 xs (guCols gu 1536) (bCols g 768)) (k0_pay32 xs (guCols gu 1536) (bCols u 768)) (k0_pay33 xs (guCols gu 1536) (bCols g 768)) (Scalar.ofBits .f32 0x3F800000#32)
  | _ => k0_pay36 (k0_pay31 xs (guCols gu 1536) (bCols g 768)) (k0_pay32 xs (guCols gu 1536) (bCols u 768)) (k0_pay33 xs (guCols gu 1536) (bCols g 768)) (Scalar.ofBits .f32 0x3F800000#32)
/-- The block's results, 128 columns to a vector. -/
def res (w : ℕ → Vec F S1x256x128 .f32) (dd : S1024x1024.Idx → F .bf16) (b : S1x1x1024.Idx → F .f32) : ℕ → Vec F S256x128 .f32
  | 0 => k0_pay43 (k0_pay37 (w 0)) (k0_pay38 (w 1)) (k0_pay39 (w 2)) (k0_pay40 (w 3)) (w 4) (w 5) (w 6) (w 7) (dCols dd 0) (bCols2 b 0)
  | 1 => k0_pay44 (k0_pay37 (w 0)) (k0_pay38 (w 1)) (k0_pay39 (w 2)) (k0_pay40 (w 3)) (w 4) (w 5) (w 6) (w 7) (dCols dd 0) (bCols2 b 0)
  | 2 => k0_pay46 (k0_pay45 (k0_pay37 (w 0)) (k0_pay38 (w 1)) (k0_pay39 (w 2)) (k0_pay40 (w 3)) (w 4) (w 5) (w 6) (w 7) (dCols dd 0) (bCols2 b 0))
  | 3 => k0_pay47 (k0_pay42 (k0_pay37 (w 0)) (k0_pay38 (w 1)) (k0_pay39 (w 2)) (k0_pay40 (w 3)) (w 4) (w 5) (w 6) (w 7) (dCols dd 0) (bCols2 b 0))
  | 4 => k0_pay49 (k0_pay41 (k0_pay37 (w 0)) (k0_pay38 (w 1)) (k0_pay39 (w 2)) (k0_pay40 (w 3)) (w 4) (w 5) (w 6) (w 7)) (dCols dd 512) (bCols2 b 512)
  | 5 => k0_pay50 (k0_pay41 (k0_pay37 (w 0)) (k0_pay38 (w 1)) (k0_pay39 (w 2)) (k0_pay40 (w 3)) (w 4) (w 5) (w 6) (w 7)) (dCols dd 512) (bCols2 b 512)
  | 6 => k0_pay2 (k0_pay51 (k0_pay41 (k0_pay37 (w 0)) (k0_pay38 (w 1)) (k0_pay39 (w 2)) (k0_pay40 (w 3)) (w 4) (w 5) (w 6) (w 7)) (dCols dd 512) (bCols2 b 512))
  | _ => k0_pay3 (k0_pay48 (k0_pay41 (k0_pay37 (w 0)) (k0_pay38 (w 1)) (k0_pay39 (w 2)) (k0_pay40 (w 3)) (w 4) (w 5) (w 6) (w 7)) (dCols dd 512) (bCols2 b 512))
/-- The results as rows: row `8 t + j` is vector `j` of the block's row `t`. -/
def rows (y : ℕ → Vec F S256x128 .f32) : S2048x128.Idx → F .f32 :=
  fun p => y ((p 0).val % 8) (ix2 ⟨(p 0).val / 8, by have := (p 0).isLt; change (p 0).val < 2048 at this; omega⟩ (p 1))

/-- The eight vectors of activations as the buffer holds them. -/
def put8 (w : ℕ → Vec F S1x256x128 .f32) (f : S4x2048x128.Idx → F .f32) : S4x2048x128.Idx → F .f32 :=
  xPut3 7 (w 7) (xPut3 6 (w 6) (xPut3 5 (w 5) (xPut3 4 (w 4) (xPut3 3 (w 3) (xPut3 2 (w 2) (xPut3 1 (w 1) (xPut3 0 (w 0) f)))))))
theorem put8_of (w : ℕ → Vec F S1x256x128 .f32) (f : S4x2048x128.Idx → F .f32) (b : ℕ) (hb : b < 8) (r : ℕ) (hr : r = 256 * b) : xRow3 (put8 w f) r = w b := by
  subst hr
  funext q
  obtain ⟨a, x, y, rfl⟩ : ∃ a x y, q = ix3 a x y := ⟨q 0, q 1, q 2, eq_ix3 q⟩
  obtain rfl : a = 0 := Subsingleton.elim _ _
  have hx : x.val < 256 := x.isLt
  have e1 : (256 * b + x.val) % 2048 / 256 = b := by omega
  have e2 : (256 * b + x.val) % 2048 % 256 = x.val := by omega
  have key : ∀ v : Vec F S1x256x128 .f32, v (ix3 0 ⟨(256 * b + x.val) % 2048 % 256, by omega⟩ y) = v (ix3 0 x y) := fun v => by
    congr 1; funext k; fin_cases k
    · rfl
    · exact Fin.ext e2
    · rfl
  show put8 w f (ix3 3 ⟨(256 * b + x.val) % 2048, by omega⟩ y) = _
  unfold put8
  simp only [xPut3]
  rw [show (256 * b + x.val) % 2048 / 256 = b from e1]
  rcases (by omega : b = 0 ∨ b = 1 ∨ b = 2 ∨ b = 3 ∨ b = 4 ∨ b = 5 ∨ b = 6 ∨ b = 7) with rfl | rfl | rfl | rfl | rfl | rfl | rfl | rfl <;> exact key _

theorem rows_of (c : Dev nD) (s : ℕ) (y : ℕ → Vec F S256x128 .f32) (g : S2x2048x128.Idx → F .f32) :
    (yPt c (yslot s) (yPut 7 (y 7) (yPut 6 (y 6) (yPut 5 (y 5) (yPut 4 (y 4) (yPut 3 (y 3) (yPut 2 (y 2) (yPut 1 (y 1) (yPut 0 (y 0) g)))))))) : sProp 𝕄) = yPt c (yslot s) (yOf (rows y)) := by
  refine pointsTo_congr fun p hp => ?_
  unfold yOf rows
  simp only [yPut]
  have hb : (p 1).val % 8 < 8 := Nat.mod_lt _ (by omega)
  show _ = y ((p 1).val % 8) (ix2 ⟨(p 1).val / 8, _⟩ (p 2))
  generalize hv : (p 1).val % 8 = v at *
  rcases (by omega : v = 0 ∨ v = 1 ∨ v = 2 ∨ v = 3 ∨ v = 4 ∨ v = 5 ∨ v = 6 ∨ v = 7) with rfl | rfl | rfl | rfl | rfl | rfl | rfl | rfl <;> rfl

/-! ## What the kernel reads -/

/-- The arrays the kernel reads, and the result as it was. -/
structure Env (F : FTy → Type) where
  H : S131072x128.Idx → F .f32
  SL : S289x1x256.Idx → BitVec 32
  BE : S289.Idx → BitVec 32
  NE : S289.Idx → BitVec 32
  PAR : S289.Idx → BitVec 32
  NU : S1.Idx → BitVec 32
  WG : S32x1024x1024.Idx → F .f32
  WU : S32x1024x1024.Idx → F .f32
  WD : S32x1024x1024.Idx → F .f32
  BG : S32x1x1024.Idx → F .f32
  BU : S32x1x1024.Idx → F .f32
  BD : S32x1x1024.Idx → F .f32
  V : S528384x128.Idx → F .f32

namespace Env
variable (E : Env F)
/-- Block `n`'s slots. -/
def slots (n : ℕ) : S1x1x256.Idx → BitVec 32 := fun q => E.SL (ix3 ⟨n % 289, by omega⟩ 0 (q 2))
/-- Expert `e`'s part of a bias. -/
def bias (B : S32x1x1024.Idx → F .f32) (e : ℕ) : S1x1x1024.Idx → F .f32 := fun q => B (ix3 ⟨e % 32, by omega⟩ 0 (q 2))
/-- Block `n`'s expert, the next run's expert, the weights' slot, and the last block. -/
abbrev be (n : ℕ) : ℕ := (tw E.BE n).toNat
abbrev ne (n : ℕ) : ℕ := (tw E.NE n).toNat
abbrev par (n : ℕ) : ℕ := (tw E.PAR n).toNat
abbrev nu : ℕ := (E.NU (ix1 0)).toNat

/-- What the words keep to. -/
structure Ok : Prop where
  word : ∀ n r, rowAt (E.slots n) r < 66048
  one : ∀ n, OneEach (rowAt (E.slots n))
  be_lt : ∀ n, E.be n < 32
  ne_lt : ∀ n, E.ne n < 32
  par_lt : ∀ n, E.par n < 2
  nu_le : E.nu ≤ 288
  par0 : E.par 0 = 0
  same : ∀ n, n + 1 < 289 → tw E.BE (n + 1) = tw E.BE n → E.ne (n + 1) = E.ne n ∧ E.par (n + 1) = E.par n
  turn : ∀ n, n + 1 < 289 → tw E.BE (n + 1) ≠ tw E.BE n → E.be (n + 1) = E.ne n ∧ E.par (n + 1) = 1 - E.par n
  last : E.ne E.nu = E.be E.nu

/-- Block `n`'s rows of the gathered array. -/
def xt (n : ℕ) : S4x2048x128.Idx → F .f32 := gathered E.H (tokAt (E.slots n))
/-- Block `n`'s activations. -/
def act (n : ℕ) : ℕ → Vec F S1x256x128 .f32 :=
  hid (k0_pay14 (xTile (E.xt n) 0 0) (xTile (E.xt n) 0 1) (xTile (E.xt n) 0 2) (xTile (E.xt n) 0 3) (xTile (E.xt n) 0 4) (xTile (E.xt n) 0 5) (xTile (E.xt n) 0 6) (xTile (E.xt n) 0 7))
    (guW E.WG E.WU (E.be n)) (bias E.BG (E.be n)) (bias E.BU (E.be n))
/-- Block `n`'s results. -/
def yBlk (n : ℕ) : S2048x128.Idx → F .f32 := rows (res (E.act n) (dW E.WD (E.be n)) (bias E.BD (E.be n)))
/-- The rows that block `n` sends: the block before's, or zeros. -/
def YB : ℕ → S2048x128.Idx → F .f32
  | 0 => fun _ => Scalar.ofBits .f32 0x00000000#32
  | n + 1 => E.yBlk n
/-- The block whose slots block `n` sends to. -/
def pb : ℕ → ℕ
  | 0 => 288
  | n + 1 => n
/-- The result before block `n`. -/
def ygAt : ℕ → S528384x128.Idx → F .f32
  | 0 => putRows padRow (fun _ => Scalar.ofBits .f32 0x00000000#32) E.V
  | n + 1 => putRows (rowAt (E.slots (pb n))) (E.YB n) (ygAt n)
end Env

/-! ## What the kernel holds -/

/-- A third of the gathered array's share. -/
def qs : ℕ → PosShare TreeShare
  | 0 => fullShare.left
  | 1 => fullShare.right.left
  | _ => fullShare.right.right

variable (E : Env F)
abbrev tabs : sProp 𝕄 := iprop(tabBE (F := F) c E.BE ∗ tabNE (F := F) c E.NE ∗ tabPAR (F := F) c E.PAR)
/-- Block `b`'s rows on their way into slot `s`. -/
abbrev gFly (s b : ℕ) : sProp 𝕄 := Flight c (gsem s) iprop(xPt c (xslot s) (E.xt b) ∗ hPt c Finset.univ (qs s) E.H)
/-- Slot `s` with nothing on its way. -/
abbrev gIdle (s : ℕ) : sProp 𝕄 := iprop((∃ g, xPt c (xslot s) g) ∗ hPt c Finset.univ (qs s) E.H ∗ cell c (gsem s))
/-- Slot `s`'s rows on their way into the result, which is then `G`. -/
abbrev sFly (s : ℕ) (G : S528384x128.Idx → F .f32) : sProp 𝕄 := Flight c (ssem s) iprop((∃ g, yPt c (yslot s) g) ∗ gPt c Finset.univ G)
/-- The weights' slots before block `n`. -/
def wst : ℕ → sProp 𝕄
  | 0 => iprop(wPend c 0 (E.be 0) E.WG E.WU E.WD ∗ wIdle c 1)
  | n + 1 => wNext c (E.par n) (E.be n) (E.ne n) E.WG E.WU E.WD
/-- The resident weights before block `n`. -/
def wres : ℕ → sProp 𝕄
  | 0 => iprop((∃ g, guPt c g) ∗ (∃ g, dPt c g))
  | n + 1 => iprop(guPt c (guW E.WG E.WU (E.be n)) ∗ dPt c (dW E.WD (E.be n)))
/-- Nothing on its way: before the first block and after the last, the result being `V`. -/
def held (V : S528384x128.Idx → F .f32) : sProp 𝕄 :=
  iprop(tabs c E ∗ (∃ g, xPt c Finset.univ g) ∗ (∃ g, yPt c Finset.univ g) ∗ hPt c Finset.univ fullShare E.H ∗ gPt c Finset.univ V
    ∗ (cell c (gsem 0) ∗ cell c (gsem 1) ∗ cell c (gsem 2)) ∗ (cell c (ssem 0) ∗ cell c (ssem 1)) ∗ wIdle c 0 ∗ wIdle c 1 ∗ wAll c E.WG E.WU E.WD
    ∗ ((∃ g, guPt c g) ∗ (∃ g, dPt c g)) ∗ (∃ g, asPt c g))
/-- Before block `n`, which is not past the last. -/
def mid (n : ℕ) : sProp 𝕄 :=
  iprop(tabs c E ∗ gFly c E (n % 3) (min n 288) ∗ gFly c E ((n + 1) % 3) (min (n + 1) 288) ∗ gIdle c E ((n + 2) % 3) ∗ (∃ g, xPt c (xslot 3) g)
    ∗ sFly c (n % 2) (E.ygAt n) ∗ yPt c (yslot (1 - n % 2)) (yOf (E.YB n)) ∗ cell c (ssem (1 - n % 2)) ∗ wst c E n ∗ wres c E n ∗ (∃ g, asPt c g))
theorem mid_succ (n : ℕ) : mid c E (n + 1) =
  iprop(tabs c E ∗ gFly c E ((n + 1) % 3) (min (n + 1) 288) ∗ gFly c E ((n + 2) % 3) (min (n + 2) 288) ∗ gIdle c E (n % 3) ∗ (∃ g, xPt c (xslot 3) g)
    ∗ sFly c (1 - n % 2) (E.ygAt (n + 1)) ∗ yPt c (yslot (n % 2)) (yOf (E.YB (n + 1))) ∗ cell c (ssem (n % 2)) ∗ wst c E (n + 1) ∗ wres c E (n + 1) ∗ (∃ g, asPt c g)) := by
  unfold mid
  rw [show (n + 1) % 2 = 1 - n % 2 by omega, show 1 - (1 - n % 2) = n % 2 by omega, show (n + 1 + 2) % 3 = n % 3 by omega]
/-- Before block `n`, once the first block's beginning is done, -/
def phi1 (n : ℕ) : sProp 𝕄 := if n ≤ E.nu then mid c E n else held c E (E.ygAt (E.nu + 1))
/-- after block `n`, before the last block's end, -/
def phi2 (n : ℕ) : sProp 𝕄 := if n ≤ E.nu then mid c E (n + 1) else held c E (E.ygAt (E.nu + 1))
/-- and before block `n`. -/
def phi (n : ℕ) : sProp 𝕄 := if n = 0 then held c E E.V else phi1 c E n

/-! ## Parts of the buffers -/

theorem x_parts (f : S4x2048x128.Idx → F .f32) : (xPt c Finset.univ f : sProp 𝕄) = iprop(xPt c (xslot 0) f ∗ xPt c (xslot 1) f ∗ xPt c (xslot 2) f ∗ xPt c (xslot 3) f) := by
  have h : (Finset.univ : Finset S4x2048x128.Idx) = Finset.univ.biUnion fun s : Fin 4 => xslot s.val := by
    ext p; simp only [Finset.mem_univ, Finset.mem_biUnion, true_and, true_iff, mem_xslot]; exact ⟨p 0, rfl⟩
  have e : (_ : sProp 𝕄) = _ := pointsTo_biUnion (Val := Elt F) (ℓ := (c : Thread nD τ).loc cc0_scratch0) (q := fullShare) (f := f) (Finset.univ : Finset (Fin 4)) (fun s => xslot s.val)
    (fun t _ t' _ ht => Finset.disjoint_left.mpr fun p hp hp' => ht (Fin.ext ((mem_xslot.mp hp).symm.trans (mem_xslot.mp hp'))))
  rw [← h] at e
  refine e.trans ?_
  exact BI.bigSep_eq_bigSepL_of_eq ([0, 1, 2, 3] : List (Fin 4)) (by decide) (by decide) _
theorem y_parts (f : S2x2048x128.Idx → F .f32) : (yPt c Finset.univ f : sProp 𝕄) = iprop(yPt c (yslot 0) f ∗ yPt c (yslot 1) f) := by
  have h : (Finset.univ : Finset S2x2048x128.Idx) = Finset.univ.biUnion fun s : Fin 2 => yslot s.val := by
    ext p; simp only [Finset.mem_univ, Finset.mem_biUnion, true_and, true_iff, mem_yslot]; exact ⟨p 0, rfl⟩
  have e : (_ : sProp 𝕄) = _ := pointsTo_biUnion (Val := Elt F) (ℓ := (c : Thread nD τ).loc cc0_scratch1) (q := fullShare) (f := f) (Finset.univ : Finset (Fin 2)) (fun s => yslot s.val)
    (fun t _ t' _ ht => Finset.disjoint_left.mpr fun p hp hp' => ht (Fin.ext ((mem_yslot.mp hp).symm.trans (mem_yslot.mp hp'))))
  rw [← h] at e
  refine e.trans ?_
  exact BI.bigSep_eq_bigSepL_of_eq ([0, 1] : List (Fin 2)) (by decide) (by decide) _
theorem x_join : iprop((∃ g, xPt c (xslot 0) g) ∗ (∃ g, xPt c (xslot 1) g) ∗ (∃ g, xPt c (xslot 2) g) ∗ (∃ g, xPt c (xslot 3) g)) ⊢ (iprop(∃ g, xPt (F := F) c Finset.univ g) : sProp 𝕄) := by
  iintro ⟨⟨%a, Ha⟩, ⟨%b, Hb⟩, ⟨%d, Hd⟩, ⟨%e, He⟩⟩
  iexists fun p => if (p 0).val = 0 then a p else if (p 0).val = 1 then b p else if (p 0).val = 2 then d p else e p
  rw [x_parts]
  isplitl [Ha]
  · iapply (Entails.of_eq (pointsTo_congr fun p hp => by simp [mem_xslot.mp hp])) $$ Ha
  isplitl [Hb]
  · iapply (Entails.of_eq (pointsTo_congr fun p hp => by simp [mem_xslot.mp hp])) $$ Hb
  isplitl [Hd]
  · iapply (Entails.of_eq (pointsTo_congr fun p hp => by simp [mem_xslot.mp hp])) $$ Hd
  iapply (Entails.of_eq (pointsTo_congr fun p hp => by simp [mem_xslot.mp hp])) $$ He
theorem y_join : iprop((∃ g, yPt c (yslot 0) g) ∗ (∃ g, yPt c (yslot 1) g)) ⊢ (iprop(∃ g, yPt (F := F) c Finset.univ g) : sProp 𝕄) := by
  iintro ⟨⟨%a, Ha⟩, ⟨%b, Hb⟩⟩
  iexists fun p => if (p 0).val = 0 then a p else b p
  rw [y_parts]
  isplitl [Ha]
  · iapply (Entails.of_eq (pointsTo_congr fun p hp => by simp [mem_yslot.mp hp])) $$ Ha
  iapply (Entails.of_eq (pointsTo_congr fun p hp => by simp [mem_yslot.mp hp])) $$ Hb
theorem h_parts (H : S131072x128.Idx → F .f32) :
    (hPt c Finset.univ fullShare H : sProp 𝕄) = iprop(hPt c Finset.univ (qs 0) H ∗ hPt c Finset.univ (qs 1) H ∗ hPt c Finset.univ (qs 2) H) := by
  rw [show (hPt c Finset.univ fullShare H : sProp 𝕄) = iprop(hPt c Finset.univ fullShare.left H ∗ hPt c Finset.univ fullShare.right H) from eq_of_bi (pointsTo_share (PosShare.mem_left_op_right _)),
    show (hPt c Finset.univ fullShare.right H : sProp 𝕄) = iprop(hPt c Finset.univ fullShare.right.left H ∗ hPt c Finset.univ fullShare.right.right H) from eq_of_bi (pointsTo_share (PosShare.mem_left_op_right _))]
  rfl
theorem turn3 (T : ℕ → sProp 𝕄) (n : ℕ) : iprop(T (n % 3) ∗ T ((n + 1) % 3) ∗ T ((n + 2) % 3)) ⊢ iprop(T 0 ∗ T 1 ∗ T 2) := by
  rcases (by omega : n % 3 = 0 ∨ n % 3 = 1 ∨ n % 3 = 2) with h | h | h
  · rw [h, show (n + 1) % 3 = 1 by omega, show (n + 2) % 3 = 2 by omega]
  · rw [h, show (n + 1) % 3 = 2 by omega, show (n + 2) % 3 = 0 by omega]
    iintro ⟨A, B, C⟩
    isplitl [C]; · iexact C
    isplitl [A]; · iexact A
    iexact B
  · rw [h, show (n + 1) % 3 = 0 by omega, show (n + 2) % 3 = 1 by omega]
    iintro ⟨A, B, C⟩
    isplitl [B]; · iexact B
    isplitl [C]; · iexact C
    iexact A
theorem turn2 (T : ℕ → sProp 𝕄) (s : ℕ) (hs : s < 2) : iprop(T s ∗ T (1 - s)) ⊢ iprop(T 0 ∗ T 1) := by
  rcases (by omega : s = 0 ∨ s = 1) with rfl | rfl
  · exact .rfl
  · iintro ⟨A, B⟩
    isplitl [B]; · iexact B
    iexact A
end Cert.KernelIdeal.Moe

end
-- ==== Proof.Reference.lean ====
/-
  The reference's result at an index: the sum over the experts of the chosen one's network.
-/
module

public import Idealize.ShloMosaic.Lib.Pointwise
public import proofs.«01_k».proof.Proof.Gen.ReferenceIdeal
public import proofs.«01_k».proof.Proof.Gen.ReferenceIdeal.Run

@[expose] public section

set_option maxRecDepth 16384
set_option maxHeartbeats 2000000

noncomputable section

namespace Cert.Net

open Idealize.ShloMosaic Idealize.ShloMosaic.TcCoe

/-- The gated unit of a gate and an up value. -/
def unit (g u : EReal) : EReal :=
  (min (Ideal.ofBits .f32 0x40E00000#32) (max (Ideal.ofBits .f32 0xC0E00000#32) u) + 1)
    * (min g (Ideal.ofBits .f32 0x40E00000#32)
      * Ideal.div 1 (1 + Ideal.exp (-(Ideal.ofBits .f32 0x3FD9DB23#32 * min g (Ideal.ofBits .f32 0x40E00000#32)))))

/-- A row `x` times column `j` of expert `e`'s matrix, with its bias. -/
def lin (x : Fin 1024 → EReal) (W : Fin 32 → Fin 1024 → Fin 1024 → EReal) (B : Fin 32 → Fin 1024 → EReal) (e : Fin 32) (j : Fin 1024) : EReal :=
  (∑ k : Fin 1024, x k * W e k j) + B e j

/-- The network of expert `e` of a row. -/
def net (WG WU WD : Fin 32 → Fin 1024 → Fin 1024 → EReal) (BG BU BD : Fin 32 → Fin 1024 → EReal) (x : Fin 1024 → EReal) (e : Fin 32) (j : Fin 1024) : EReal :=
  lin (fun f => unit (lin x WG BG e f) (lin x WU BU e f)) WD BD e j

end Cert.Net

namespace Cert.ReferenceIdeal.Read

open Cert.ReferenceIdeal Cert.ReferenceIdeal.Gen
open Idealize.ShloMosaic Idealize.ShloMosaic.TcCoe

variable (X : FVec Ideal S16384x1024 .f32) (I : IVec S4x16384 32) (W WG WU WD : FVec Ideal S32x1024x1024 .f32) (B BG BU BD : FVec Ideal S32x1024 .f32)

/-- Every token by every expert's matrix, with the bias. -/
def proj : FVec Ideal S32x16384x1024 .f32 :=
  addf (transpose S32x16384x1024 [0, 2, 1] (Host.dotGeneral dot_S32x1024x1024_S16384x1024_S32x1024x16384_1_1_02_0_n_n none W X) transposes_S32x1024x16384_S32x16384x1024_0_2_1)
    (broadcastInDim S32x16384x1024 ![0, 1, 2] bcast_S32x1x1024_S32x16384x1024_0_1_2 (broadcastInDim S32x1x1024 ![0, 2] bcast_S32x1024_S32x1x1024_0_2 B))

theorem proj_apply (e : Fin 32) (t : Fin 16384) (j : Fin 1024) :
    proj X W B (ix3 e t j) = Net.lin (fun k => X (ix2 t k)) (fun e k j => W (ix3 e k j)) (fun e j => B (ix2 e j)) e j := by
  unfold Net.lin
  pointwise! [proj]

/-- A number in every place. -/
def all (b : BitVec 32) : FVec Ideal S32x16384x1024 .f32 := broadcastInDim S32x16384x1024 ![] bcast_S_S32x16384x1024 (constant S_ .f32 b)

/-- The gated units. -/
def units (g u : FVec Ideal S32x16384x1024 .f32) : FVec Ideal S32x16384x1024 .f32 :=
  mulf (addf (minimumf (all 0x40E00000#32) (maximumf (all 0xC0E00000#32) u)) (all 0x3F800000#32))
    (mulf (minimumf g (all 0x40E00000#32))
      (Host.divf (all 0x3F800000#32) (addf (all 0x3F800000#32) (Host.exp (Host.negf (mulf (all 0x3FD9DB23#32) (minimumf g (all 0x40E00000#32))))))))

theorem units_apply (g u : FVec Ideal S32x16384x1024 .f32) (e : Fin 32) (t : Fin 16384) (j : Fin 1024) :
    units g u (ix3 e t j) = Net.unit (g (ix3 e t j)) (u (ix3 e t j)) := by
  unfold Net.unit
  pointwise [units, all]

/-- The experts' results for every token. -/
def outs (a : FVec Ideal S32x16384x1024 .f32) : FVec Ideal S32x16384x1024 .f32 :=
  addf (Host.dotGeneral dot_S32x16384x1024_S32x1024x1024_S32x16384x1024_2_1_1_2_0_0 none a WD)
    (broadcastInDim S32x16384x1024 ![0, 1, 2] bcast_S32x1x1024_S32x16384x1024_0_1_2 (broadcastInDim S32x1x1024 ![0, 2] bcast_S32x1024_S32x1x1024_0_2 BD))

theorem outs_apply (a : FVec Ideal S32x16384x1024 .f32) (e : Fin 32) (t : Fin 16384) (j : Fin 1024) :
    outs WD BD a (ix3 e t j) = Net.lin (fun k => a (ix3 e t k)) (fun e k j => WD (ix3 e k j)) (fun e j => BD (ix2 e j)) e j := by
  unfold Net.lin
  pointwise! [outs]

/-- Which expert was chosen. -/
def chosen : IVec S4x32x16384 1 :=
  cmpi .eq (broadcastInDim S4x32x16384 ![0, 1, 2] bcast_S4x1x16384_S4x32x16384_0_1_2 (broadcastInDim S4x1x16384 ![0, 2] bcast_S4x16384_S4x1x16384_0_2 I))
    (broadcastInDim S4x32x16384 ![0, 1, 2] bcast_S1x32x1_S4x32x16384_0_1_2 (broadcastInDim S1x32x1 ![1] bcast_S32_S1x32x1_1 (iotaInDim S32 32 0)))

/-- The sum over the experts. -/
def picked (y : FVec Ideal S32x16384x1024 .f32) : FVec Ideal S4x16384x1024 .f32 :=
  Host.reduceAdd (select (broadcastInDim S4x32x16384x1024 ![0, 1, 2, 3] bcast_S4x32x16384x1_S4x32x16384x1024_0_1_2_3 (broadcastInDim S4x32x16384x1 ![0, 1, 2] bcast_S4x32x16384_S4x32x16384x1_0_1_2 (chosen I)))
      (broadcastInDim S4x32x16384x1024 ![0, 1, 2, 3] bcast_S1x32x16384x1024_S4x32x16384x1024_0_1_2_3 (broadcastInDim S1x32x16384x1024 ![1, 2, 3] bcast_S32x16384x1024_S1x32x16384x1024_1_2_3 y))
      (broadcastInDim S4x32x16384x1024 ![] bcast_S_S4x32x16384x1024 (id (constant S_ .f32 0x00000000#32))))
    (constant S_ .f32 0x00000000#32) reducesTo_S4x32x16384x1024_S4x16384x1024_d1 h_S_

theorem picked_apply (y : FVec Ideal S32x16384x1024 .f32) (k : Fin 4) (t : Fin 16384) (j : Fin 1024) (e : Fin 32) (he : (I (ix2 k t)).toNat = e.val) :
    picked I y (ix3 k t j) = y (ix3 e t j) := by
  pointwise [picked, chosen]
  have hz : id (constant (F := Ideal) S_ FTy.f32 0#32) ix0 = (0 : EReal) := Ideal.ofBits_zero_f32
  rw [hz, Finset.sum_eq_single e]
  · have h1 : I (ix2 k t) = BitVec.ofNat 32 e.val := by
      apply BitVec.eq_of_toNat_eq
      rw [he, BitVec.toNat_ofNat, Nat.mod_eq_of_lt (by omega)]
    rw [h1]
    simp [IntOp.cmpi, Scalar.select]
  · intro x _ hx
    have h1 : ¬ I (ix2 k t) = BitVec.ofNat 32 x.val := by
      intro h
      rw [h, BitVec.toNat_ofNat, Nat.mod_eq_of_lt (by omega)] at he
      exact hx (Fin.ext he)
    have h2 : (I (ix2 k t) == BitVec.ofNat 32 x.val) = false := beq_eq_false_iff_ne.mpr h1
    simp only [IntOp.cmpi, Scalar.select, h2, BitVec.ofBool_false]
    rfl
  · intro h
    exact absurd (Finset.mem_univ e) h

/-- The reference's result. -/
def out : FVec Ideal S4x16384x1024 .f32 := picked I (outs WD BD (units (proj X WG BG) (proj X WU BU)))

theorem out_apply (k : Fin 4) (t : Fin 16384) (j : Fin 1024) (e : Fin 32) (he : (I (ix2 k t)).toNat = e.val) :
    out X I WG WU WD BG BU BD (ix3 k t j)
      = Net.net (fun e k j => WG (ix3 e k j)) (fun e k j => WU (ix3 e k j)) (fun e k j => WD (ix3 e k j))
          (fun e j => BG (ix2 e j)) (fun e j => BU (ix2 e j)) (fun e j => BD (ix2 e j)) (fun q => X (ix2 t q)) e j := by
  rw [out, picked_apply I _ k t j e he, outs_apply]
  unfold Net.net
  congr 1
  funext f
  rw [units_apply, proj_apply, proj_apply]

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38)
        = out (m ((c.tc : Thread nD τ).loc main_arg0)) (m ((c.tc : Thread nD τ).loc main_arg1))
            (m ((c.tc : Thread nD τ).loc main_arg8)) (m ((c.tc : Thread nD τ).loc main_arg10)) (m ((c.tc : Thread nD τ).loc main_arg12))
            (m ((c.tc : Thread nD τ).loc main_arg9)) (m ((c.tc : Thread nD τ).loc main_arg11)) (m ((c.tc : Thread nD τ).loc main_arg13)) :=
  (θ_run defs _ _).mono (fun _ h c => (h c).1) (Value.run m ρ)

end Cert.ReferenceIdeal.Read

end
-- ==== Proof.Block.lean ====
/-
  A block's results at an index, over exact arithmetic: the network of the block's expert, row by row.
-/
module

public import Idealize.ShloMosaic.Lib.Pointwise
public import Idealize.ShloMosaic.Lib.Pointwise.IndexBridge
public import proofs.«01_k».proof.Proof.State
public import proofs.«01_k».proof.Proof.Reference

@[expose] public section

set_option maxRecDepth 16384
set_option maxHeartbeats 2000000

noncomputable section

namespace Cert.KernelIdeal.Moe.Read

open Cert.KernelIdeal Cert.KernelIdeal.Gen Cert.KernelIdeal.Moe
open Idealize.ShloMosaic Idealize.ShloMosaic.TcCoe

/-- The eight vectors of activations side by side. -/
theorem acts_apply (w : ℕ → S1x256x128.Idx → Ideal .f32) (r : Fin 256) (f : Fin 1024) :
    k0_pay41 (F := Ideal) (k0_pay37 (w 0)) (k0_pay38 (w 1)) (k0_pay39 (w 2)) (k0_pay40 (w 3)) (w 4) (w 5) (w 6) (w 7) (ix2 r f)
      = w (f.val / 128) (ix3 0 r ⟨f.val % 128, by omega⟩) := by
  have hf : f.val / 128 < 8 := by omega
  have hd : f.val = 128 * (f.val / 128) + f.val % 128 := by omega
  have hm : f.val % 128 < 128 := by omega
  pointwise [k0_pay37, k0_pay38, k0_pay39, k0_pay40, k0_pay41]
  generalize hx : (⟨f.val % 128, by omega⟩ : Fin 128) = x
  have hx' : x.val = f.val % 128 := by rw [← hx]
  generalize hn : f.val / 128 = n at *
  interval_cases n <;>
    repeat first
      | rw [dif_pos (show _ < 128 by omega)]
      | rw [dif_neg (show ¬ _ < 128 by omega)]
  all_goals refine congrArg (fun z => w _ (ix3 0 r z)) (Fin.ext ?_); simp only [hx']; omega

/-- The eight parts of the gathered rows side by side. -/
theorem rows_apply (xt : S4x2048x128.Idx → Ideal .f32) (r : Fin 256) (f : Fin 1024) :
    k0_pay14 (F := Ideal) (xTile xt 0 0) (xTile xt 0 1) (xTile xt 0 2) (xTile xt 0 3) (xTile xt 0 4) (xTile xt 0 5) (xTile xt 0 6) (xTile xt 0 7) (ix2 r f)
      = xt (ix3 0 ⟨8 * r.val + f.val / 128, by omega⟩ ⟨f.val % 128, by omega⟩) := by
  have hz : ∀ z : Fin 128, (ix2 r z 1).val = z.val := fun _ => rfl
  have hf : f.val / 128 < 8 := by omega
  have hd : f.val = 128 * (f.val / 128) + f.val % 128 := by omega
  have hm : f.val % 128 < 128 := by omega
  pointwise [k0_pay14]
  generalize hy : (⟨8 * r.val + f.val / 128, by omega⟩ : Fin 2048) = y
  have hy' : y.val = 8 * r.val + f.val / 128 := by rw [← hy]
  clear hy
  generalize hx : (⟨f.val % 128, by omega⟩ : Fin 128) = x
  have hx' : x.val = f.val % 128 := by rw [← hx]
  generalize hn : f.val / 128 = n at *
  interval_cases n <;>
    repeat first
      | rw [dif_pos (show _ < 128 by omega)]
      | rw [dif_neg (show ¬ _ < 128 by omega)]
  all_goals
    unfold xTile
    refine congrArg xt ?_
    rw [ix3_eq_valueIdx]
    congr 1
    · exact Fin.ext (show (8 * r.val + _) % 2048 = y.val by omega)
    · refine Fin.ext ?_
      rw [hx']
      refine (hz _).trans ?_
      dsimp only
      omega

variable (WG WU : S32x1024x1024.Idx → Ideal .f32) (m : ℕ) (e : Fin 32) (he : m = e.val)

section
include he

/-- 256 columns of an expert's matrix. -/
theorem eCols_apply (W : S32x1024x1024.Idx → Ideal .f32) (o : ℕ) (k : Fin 1024) (p : Fin 256) (j : Fin 1024) (h : j.val = o + p.val) :
    eCols W m o (ix3 0 k p) = W (ix3 e k j) := by
  unfold eCols
  refine congrArg W ?_
  rw [ix3_eq_valueIdx]
  congr 1
  · exact Fin.ext (show m % 32 = e.val by omega)
  · exact Fin.ext (show (o + p.val) % 1024 = j.val by omega)

/-- The packed weights: 256 columns of the gate matrix, then of the up matrix, in turn. -/
theorem guW_gate (k : Fin 1024) (p : Fin 2048) (j : Fin 1024) (h : p.val = 512 * (j.val / 256) + j.val % 256) :
    guW WG WU m (ix2 k p) = WG (ix3 e k j) := by
  have hj : j.val / 256 < 4 := by omega
  simp only [guW, guPut]
  generalize hn : j.val / 256 = n at *
  interval_cases n <;>
    repeat first
      | rw [if_pos (show (ix2 k p 1).val / 256 = _ by show p.val / 256 = _; omega)]
      | rw [if_neg (show ¬ (ix2 k p 1).val / 256 = _ by show ¬ p.val / 256 = _; omega)]
  all_goals
    refine (congrArg _ (ix2_eq_valueIdx k (⟨p.val % 256, by omega⟩ : Fin 256)).symm).trans ?_
    pointwise [k0_pay5, k0_pay7, k0_pay9, k0_pay11]
    exact eCols_apply m e he WG _ k _ j (by show j.val = _ + p.val % 256; omega)
theorem guW_up (k : Fin 1024) (p : Fin 2048) (j : Fin 1024) (h : p.val = 512 * (j.val / 256) + 256 + j.val % 256) :
    guW WG WU m (ix2 k p) = WU (ix3 e k j) := by
  have hj : j.val / 256 < 4 := by omega
  simp only [guW, guPut]
  generalize hn : j.val / 256 = n at *
  interval_cases n <;>
    repeat first
      | rw [if_pos (show (ix2 k p 1).val / 256 = _ by show p.val / 256 = _; omega)]
      | rw [if_neg (show ¬ (ix2 k p 1).val / 256 = _ by show ¬ p.val / 256 = _; omega)]
  all_goals
    refine (congrArg _ (ix2_eq_valueIdx k (⟨p.val % 256, by omega⟩ : Fin 256)).symm).trans ?_
    pointwise [k0_pay6, k0_pay8, k0_pay10, k0_pay12]
    exact eCols_apply m e he WU _ k _ j (by show j.val = _ + p.val % 256; omega)

/-- The activations: the gated unit of the row's gate and up values. -/
theorem hid_apply (xs : S256x1024.Idx → Ideal .bf16) (g u : S1x1x1024.Idx → Ideal .f32) (n : ℕ) (hn : n < 8) (r : Fin 256) (q : Fin 128)
    (j : Fin 1024) (hj : j.val = 128 * n + q.val) :
    hid xs (guW WG WU m) g u n (ix3 0 r q)
      = Net.unit ((∑ k : Fin 1024, xs (ix2 r k) * WG (ix3 e k j)) + g (ix3 0 0 j)) ((∑ k : Fin 1024, xs (ix2 r k) * WU (ix3 e k j)) + u (ix3 0 0 j)) := by
  have hG : ∀ (o : ℕ) (k : Fin 1024) (p : Fin 512), o + p.val = 512 * (j.val / 256) + j.val % 256 → guCols (guW WG WU m) o (ix2 k p) = WG (ix3 e k j) := by
    intro o k p h
    unfold guCols
    refine (congrArg _ (ix2_eq_valueIdx k (⟨(o + p.val) % 2048, by omega⟩ : Fin 2048)).symm).trans ?_
    exact guW_gate WG WU m e he k _ j (by show (o + p.val) % 2048 = _; omega)
  have hU : ∀ (o : ℕ) (k : Fin 1024) (p : Fin 512), o + p.val = 512 * (j.val / 256) + 256 + j.val % 256 → guCols (guW WG WU m) o (ix2 k p) = WU (ix3 e k j) := by
    intro o k p h
    unfold guCols
    refine (congrArg _ (ix2_eq_valueIdx k (⟨(o + p.val) % 2048, by omega⟩ : Fin 2048)).symm).trans ?_
    exact guW_up WG WU m e he k _ j (by show (o + p.val) % 2048 = _; omega)
  have hB : ∀ (B : S1x1x1024.Idx → Ideal .f32) (o : ℕ) (p : Fin 256), o + p.val = j.val → bCols B o (ix3 0 0 p) = B (ix3 0 0 j) := by
    intro B o p h
    refine (congrArg B (ix3_eq_valueIdx 0 0 (⟨(o + p.val) % 1024, by omega⟩ : Fin 1024)).symm).trans ?_
    exact congrArg (fun z => B (ix3 0 0 z)) (Fin.ext (show (o + p.val) % 1024 = j.val by omega))
  have hq : q.val < 128 := q.isLt
  unfold Net.unit
  interval_cases n <;>
    pointwise [hid, k0_pay15, k0_pay16, k0_pay17, k0_pay18, k0_pay19, k0_pay20, k0_pay21, k0_pay22, k0_pay23, k0_pay24, k0_pay25, k0_pay26, k0_pay27, k0_pay28,
      k0_pay29, k0_pay30, k0_pay31, k0_pay32, k0_pay33, k0_pay34, k0_pay35, k0_pay36] <;>
    simp (disch := (dsimp only; omega)) only [hG, hU, hB, sub_eq_add_neg, zero_add]

end

include he in
/-- The block's result. -/
theorem res_apply (w : ℕ → S1x256x128.Idx → Ideal .f32) (WD : S32x1024x1024.Idx → Ideal .f32) (b : S1x1x1024.Idx → Ideal .f32) (n : ℕ) (hn : n < 8)
    (r : Fin 256) (q : Fin 128) (j : Fin 1024) (hj : j.val = 128 * n + q.val) :
    res w (dW WD m) b n (ix2 r q)
      = (∑ f : Fin 1024, w (f.val / 128) (ix3 0 r ⟨f.val % 128, by omega⟩) * WD (ix3 e f j)) + b (ix3 0 0 j) := by
  have hD : ∀ (o : ℕ) (f : Fin 1024) (p : Fin 512), o + p.val = j.val → dCols (dW WD m) o (ix2 f p) = WD (ix3 e f j) := by
    intro o f p h
    unfold dCols dW
    refine (congrArg _ (ix2_eq_valueIdx f (⟨(o + p.val) % 1024, by omega⟩ : Fin 1024)).symm).trans ?_
    pointwise [k0_pay13]
    refine congrArg WD ?_
    rw [ix3_eq_valueIdx]
    congr 1
    · exact Fin.ext (show m % 32 = e.val by omega)
    · exact Fin.ext (show (o + p.val) % 1024 = j.val by omega)
  have hB : ∀ (o : ℕ) (p : Fin 512), o + p.val = j.val → bCols2 b o (ix3 0 0 p) = b (ix3 0 0 j) := by
    intro o p h
    refine (congrArg b (ix3_eq_valueIdx 0 0 (⟨(o + p.val) % 1024, by omega⟩ : Fin 1024)).symm).trans ?_
    exact congrArg (fun z => b (ix3 0 0 z)) (Fin.ext (show (o + p.val) % 1024 = j.val by omega))
  have hq : q.val < 128 := q.isLt
  simp only [← acts_apply w r]
  interval_cases n <;>
    pointwise [res, k0_pay2, k0_pay3, k0_pay42, k0_pay43, k0_pay44, k0_pay45, k0_pay46, k0_pay47, k0_pay48, k0_pay49, k0_pay50, k0_pay51] <;>
    simp (disch := (dsimp only; omega)) only [hD, hB]

end Cert.KernelIdeal.Moe.Read

end
-- ==== Proof.Turn.lean ====
/-
  A block's turn.
-/
module

public import proofs.«01_k».proof.Proof.State

@[expose] public section

set_option maxRecDepth 16384
set_option maxHeartbeats 2000000

noncomputable section

namespace Cert.KernelIdeal.Moe

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
variable (m5 : Memref sig .tc .smem S1x1x256 .i32) (h5 : m5.IsWhole) (m6 : Memref sig .tc .smem S1x1x256 .i32) (h6 : m6.IsWhole)
  (m7 : Memref sig .tc .smem S1x1x256 .i32) (h7 : m7.IsWhole) (m8 : Memref sig .tc .smem S1x1x256 .i32) (h8 : m8.IsWhole)
  (m13 : Memref sig .tc .vmem S1x1x1024 .f32) (h13 : m13.IsWhole) (m14 : Memref sig .tc .vmem S1x1x1024 .f32) (h14 : m14.IsWhole)
  (m15 : Memref sig .tc .vmem S1x1x1024 .f32) (h15 : m15.IsWhole)

variable (E : Env F)
/-- The first block's beginning, up to the zeros: the first run's weights and the first two blocks' rows set on their way. -/
theorem part1_run (hE : E.Ok) (k0_h1 : k0_cond1 i = 1#1)
    (f6 : Buf (Elt F) (m6.view.loc (c : Thread nD τ))) (h6' : m6.view.read (Elt F) f6 = E.slots 0) (f7 : Buf (Elt F) (m7.view.loc (c : Thread nD τ))) (h7' : m7.view.read (Elt F) f7 = E.slots 1) :
    iprop(tabBE c E.BE ∗ wIdle c 0 ∗ wAll c E.WG E.WU E.WD ∗ gIdle c E 0 ∗ gIdle c E 1 ∗ winPt c m6 f6 ∗ winPt c m7 f7 ∗ (∃ g, yPt c Finset.univ g))
      ⊢ run c (k0_part1 (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 k0_h1)
        (fun v => iprop(⌜v.1 = k0_pay4⌝ ∗ tabBE c E.BE ∗ wPend c 0 (E.be 0) E.WG E.WU E.WD ∗ gFly c E 0 0 ∗ gFly c E 1 1 ∗ winPt c m6 f6 ∗ winPt c m7 f7 ∗ (∃ g, yPt c Finset.univ g))) := by
  unfold run
  rw [k0_part1_eq_skeleton]
  iintro ⟨HT, ⟨HWG, HWU, HWD, HWC⟩, ⟨HG, HU, HD⟩, ⟨HX0, HH0, HC0⟩, ⟨HX1, HH1, HC1⟩, H6, H7, ⟨%fy, HY⟩⟩
  sl_unfold [k0_part1_skel]
  simp only [smemLoad, Prog.lift, Prog.bind_op, Prog.bind_ret, smemLoadElt_bind]
  iapply (ld_t c (Memref.whole main_arg4) E.BE E.BE rfl 0 (by omega) _ _ rfl _ _) $$ HT; iintro HT
  iapply (wp_assume Variants.none (c : Thread nD τ) none Set.univ (chk1 i _ (hE.be_lt 0)))
  imod (w_alloc c 0 (E.be 0) E.WG E.WU E.WD) $$ HWC with HB
  iapply (wg_issue c 0 (E.be 0) (hE.be_lt 0) E.WG E.WU E.WD _ _ rfl _ _ rfl _ (wsem_eq 0 (by omega) _ _ rfl) _ _) $$ [HB HWG HG]
  · isplitl [HB]; · iexact HB
    isplitl [HWG]; · iexact HWG
    iexact HG
  iintro ⟨HB, HG⟩
  iapply (wu_issue c 0 (E.be 0) (hE.be_lt 0) E.WG E.WU E.WD _ _ rfl _ _ rfl _ (wsem_eq 0 (by omega) _ _ rfl) _ _) $$ [HB HWU HU]
  · isplitl [HB]; · iexact HB
    isplitl [HWU]; · iexact HWU
    iexact HU
  iintro ⟨HB, HU⟩
  iapply (wd_issue c 0 (E.be 0) (hE.be_lt 0) E.WG E.WU E.WD _ _ rfl _ _ rfl _ (wsem_eq 0 (by omega) _ _ rfl) _ _) $$ [HB HWD HD]
  · isplitl [HB]; · iexact HB
    isplitl [HWD]; · iexact HWD
    iexact HD
  iintro ⟨HB, HD⟩
  unfold run
  imod (gather_start c 0 (tokAt (E.slots 0)) (qs 0) E.H) $$ [HX0 HH0 HC0] with ⟨HgB, HgT, HR0⟩
  · isplitl [HH0]; · iexact HH0
    isplitl [HX0]; · iexact HX0
    iexact HC0
  sl_for (fun k _ => gInv c m6 f6 0 (tokAt (E.slots 0)) (qs 0) E.H (0 + k)) $$ [HgB HgT H6]
  · intro k acc; exact t1_step c i m5 h5 m6 h6 m7 h7 m8 h8 m13 h13 m14 h14 m15 h15 k0_h1 f6 _ h6' _ _ k
  · isplitl [HgB]; · iexact HgB
    isplitl [HgT]; · iexact HgT
    iexact H6
  iintro %acc ⟨HgB, HgT, H6⟩
  ihave HF0 := (show iprop(gBatch c 0 (tokAt (E.slots 0)) (qs 0) E.H (0 + Scf.trips k0_t1_loop.lb k0_t1_loop.ub k0_t1_loop.st) ∗ gTodo c 0 (tokAt (E.slots 0)) (qs 0) E.H (0 + Scf.trips k0_t1_loop.lb k0_t1_loop.ub k0_t1_loop.st) ∗ gRest c (tokAt (E.slots 0)) (qs 0) E.H) ⊢ gFly c E 0 0 from gather_finish c 0 _ _ _) $$ [HgB HgT HR0]
  · isplitl [HgB]; · iexact HgB
    isplitl [HgT]; · iexact HgT
    iexact HR0
  imod (gather_start c 1 (tokAt (E.slots 1)) (qs 1) E.H) $$ [HX1 HH1 HC1] with ⟨HgB, HgT, HR1⟩
  · isplitl [HH1]; · iexact HH1
    isplitl [HX1]; · iexact HX1
    iexact HC1
  sl_for (fun k _ => gInv c m7 f7 1 (tokAt (E.slots 1)) (qs 1) E.H (0 + k)) $$ [HgB HgT H7]
  · intro k acc; exact t2_step c i m5 h5 m6 h6 m7 h7 m8 h8 m13 h13 m14 h14 m15 h15 k0_h1 f7 _ h7' _ _ k
  · isplitl [HgB]; · iexact HgB
    isplitl [HgT]; · iexact HgT
    iexact H7
  iintro %acc2 ⟨HgB, HgT, H7⟩
  ihave HF1 := (show iprop(gBatch c 1 (tokAt (E.slots 1)) (qs 1) E.H (0 + Scf.trips k0_t2_loop.lb k0_t2_loop.ub k0_t2_loop.st) ∗ gTodo c 1 (tokAt (E.slots 1)) (qs 1) E.H (0 + Scf.trips k0_t2_loop.lb k0_t2_loop.ub k0_t2_loop.st) ∗ gRest c (tokAt (E.slots 1)) (qs 1) E.H) ⊢ gFly c E 1 1 from gather_finish c 1 _ _ _) $$ [HgB HgT HR1]
  · isplitl [HgB]; · iexact HgB
    isplitl [HgT]; · iexact HgT
    iexact HR1
  iapply (ld_yw c _ _ _ _) $$ HY; iintro HY
  try unfold run
  sl_step
  isplitr
  · ipureintro; rfl
  isplitl [HT]; · iexact HT
  isplitl [HB HG HU HD]
  · unfold wPend wRest
    isplitl [HB]; · iexact HB
    isplitl [HG]; · iexact HG
    isplitl [HU]; · iexact HU
    iexact HD
  isplitl [HF0]; · iexact HF0
  isplitl [HF1]; · iexact HF1
  isplitl [H6]; · iexact H6
  isplitl [H7]; · iexact H7
  iexists fy; iexact HY

/-- The wait for a block's rows, and for its expert's weights if a run begins. -/
theorem part4_run (hE : E.Ok) (arg0 : BitVec 32) (v0 : Elt F .i32) (k0_h2 : k0_cond2 i v0 = 1#1) (fx : S4x2048x128.Idx → F .f32) (G : sProp 𝕄) :
    iprop(tabs c E ∗ wst c E (i 0).val ∗ wres c E (i 0).val ∗ Flight c (gsem (cur i).val) iprop(xPt c (xslot (cur i).val) fx ∗ G) ∗ waits c)
      ⊢ run c (k0_part4 (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 arg0 v0 k0_h2)
        (fun v => iprop(⌜v = ⟨xTile fx (cur i) 0, xTile fx (cur i) 1, xTile fx (cur i) 2, xTile fx (cur i) 3⟩⌝ ∗ tabs c E ∗ wst c E ((i 0).val + 1) ∗ wres c E ((i 0).val + 1)
          ∗ xPt c (xslot (cur i).val) fx ∗ G ∗ cell c (gsem (cur i).val) ∗ waits c)) := by
  have hi : (i 0).val < 289 := (i 0).isLt
  by_cases h3 : k0_cond3 i (tw E.BE (i 0).val) (tw E.BE ((i 0).val - 1)) = 1#1
  · have hw : wst c E (i 0).val ⊢ iprop(wPend c (E.par (i 0).val) (E.be (i 0).val) E.WG E.WU E.WD ∗ wIdle c (1 - E.par (i 0).val)) := by
      have h := (cond3_iff i _ _).mp h3
      generalize (i 0).val = n at h hi ⊢
      cases n with
      | zero => rw [hE.par0]; exact .rfl
      | succ m =>
        have hb : tw E.BE (m + 1) ≠ tw E.BE m := h.resolve_left (by omega)
        obtain ⟨e1, e2⟩ := hE.turn m hi hb
        have hp := hE.par_lt m
        show wNext c (E.par m) (E.be m) (E.ne m) E.WG E.WU E.WD ⊢ _
        unfold wNext
        rw [if_neg (fun he => hb (BitVec.eq_of_toNat_eq (e1.trans he))), e2, e1, show 1 - (1 - E.par m) = E.par m by omega]
        iintro ⟨A, B⟩
        isplitl [B]; · iexact B
        iexact A
    have hr : wres c E (i 0).val ⊢ iprop((∃ g, guPt c g) ∗ (∃ g, dPt c g)) := by
      generalize (i 0).val = n
      cases n with
      | zero => exact .rfl
      | succ m =>
        unfold wres
        iintro ⟨A, B⟩
        isplitl [A]
        · iexists _; iexact A
        iexists _; iexact B
    iintro ⟨⟨T1, T2, T3⟩, HS, HR, HF, HO⟩
    ihave HS := hw $$ HS
    icases HS with ⟨HP, HI⟩
    ihave HR := hr $$ HR
    icases HR with ⟨⟨%gu, HG⟩, ⟨%dd, HD⟩⟩
    ihave H := (part4_new c i m5 h5 m6 h6 m7 h7 m8 h8 m13 h13 m14 h14 m15 h15 arg0 v0 k0_h2 E.BE E.NE E.PAR (hE.be_lt _) (hE.ne_lt _) ⟨E.par (i 0).val, hE.par_lt _⟩ rfl h3 fx G E.WG E.WU E.WD gu dd) $$ [T1 T2 T3 HP HI HG HD HF HO]
    · isplitl [T1]; · iexact T1
      isplitl [T2]; · iexact T2
      isplitl [T3]; · iexact T3
      isplitl [HP]; · iexact HP
      isplitl [HI]; · iexact HI
      isplitl [HG]; · iexact HG
      isplitl [HD]; · iexact HD
      isplitl [HF]; · iexact HF
      iexact HO
    unfold run
    iapply (wp_wand Idealize.ShloMosaic.frame (wpE (defs₀ (F := F)) Variants.none (c : Thread nD τ) none) Set.univ) $$ H
    iintro %v ⟨%hv, T1, T2, T3, HN, HG, HD, HX, HG', HC, HO⟩
    isplitr; · ipureintro; exact hv
    isplitl [T1 T2 T3]
    · isplitl [T1]; · iexact T1
      isplitl [T2]; · iexact T2
      iexact T3
    isplitl [HN]; · unfold wst; iexact HN
    isplitl [HG HD]
    · unfold wres
      isplitl [HG]; · iexact HG
      iexact HD
    isplitl [HX]; · iexact HX
    isplitl [HG']; · iexact HG'
    isplitl [HC]; · iexact HC
    iexact HO
  · have h := fun hh => h3 ((cond3_iff i _ _).mpr hh)
    have hs : wst c E (i 0).val = wst c E ((i 0).val + 1) ∧ wres c E (i 0).val = wres c E ((i 0).val + 1) := by
      generalize (i 0).val = n at h hi ⊢
      cases n with
      | zero => exact absurd (Or.inl rfl) h
      | succ m =>
        have hb : tw E.BE (m + 1) = tw E.BE m := by
          by_contra hb; exact h (Or.inr hb)
        obtain ⟨e1, e2⟩ := hE.same m hi hb
        have e3 : E.be (m + 1) = E.be m := congrArg BitVec.toNat hb
        show wNext c (E.par m) (E.be m) (E.ne m) E.WG E.WU E.WD = wNext c (E.par (m + 1)) (E.be (m + 1)) (E.ne (m + 1)) E.WG E.WU E.WD
          ∧ iprop(guPt c (guW E.WG E.WU (E.be m)) ∗ dPt c (dW E.WD (E.be m))) = iprop(guPt c (guW E.WG E.WU (E.be (m + 1))) ∗ dPt c (dW E.WD (E.be (m + 1))))
        rw [e1, e2, e3]
        exact ⟨rfl, rfl⟩
    rw [hs.1, hs.2]
    iintro ⟨⟨T1, T2, T3⟩, HS, HR, HF, HO⟩
    ihave H := (part4_old c i m5 h5 m6 h6 m7 h7 m8 h8 m13 h13 m14 h14 m15 h15 arg0 v0 k0_h2 E.BE (hE.be_lt _) h3 fx G) $$ [T1 HF HO]
    · isplitl [T1]; · iexact T1
      isplitl [HF]; · iexact HF
      iexact HO
    unfold run
    iapply (wp_wand Idealize.ShloMosaic.frame (wpE (defs₀ (F := F)) Variants.none (c : Thread nD τ) none) Set.univ) $$ H
    iintro %v ⟨%hv, T1, HX, HG', HC, HO⟩
    isplitr; · ipureintro; exact hv
    isplitl [T1 T2 T3]
    · isplitl [T1]; · iexact T1
      isplitl [T2]; · iexact T2
      iexact T3
    isplitl [HS]; · iexact HS
    isplitl [HR]; · iexact HR
    isplitl [HX]; · iexact HX
    isplitl [HG']; · iexact HG'
    isplitl [HC]; · iexact HC
    iexact HO
end Cert.KernelIdeal.Moe

end
-- ==== Proof.Body.lean ====
/-
  The kernel's body over one block.
-/
module

public import proofs.«01_k».proof.Proof.Turn

@[expose] public section

set_option maxRecDepth 16384
set_option maxHeartbeats 2000000

noncomputable section

namespace Cert.KernelIdeal.Moe

open Cert.KernelIdeal Cert.KernelIdeal.Gen
open Idealize.ShloMosaic Idealize.ShloMosaic.TcCoe Idealize.ShloMosaic.Tactic Idealize.ShloMosaic.ValueIdx
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
variable (m5 : Memref sig .tc .smem S1x1x256 .i32) (h5 : m5.IsWhole) (m6 : Memref sig .tc .smem S1x1x256 .i32) (h6 : m6.IsWhole)
  (m7 : Memref sig .tc .smem S1x1x256 .i32) (h7 : m7.IsWhole) (m8 : Memref sig .tc .smem S1x1x256 .i32) (h8 : m8.IsWhole)
  (m13 : Memref sig .tc .vmem S1x1x1024 .f32) (h13 : m13.IsWhole) (m14 : Memref sig .tc .vmem S1x1x1024 .f32) (h14 : m14.IsWhole)
  (m15 : Memref sig .tc .vmem S1x1x1024 .f32) (h15 : m15.IsWhole)

variable (E : Env F)
theorem ld_nu_then {α : Type} (inb) {hl} {x : (Rect.unit (s := S1) ![0] S1.size inb).shape.Idx} (kont : Elt F .i32 → Prog (TpuEff nD τ sig (Elt F) Λ₀ .tc) α) (Q : α → sProp 𝕄) (P : sProp 𝕄)
    (h : iprop(tabNU c E.NU ∗ P) ⊢ run c (kont (E.NU (ix1 0))) Q) :
    iprop(tabNU c E.NU ∗ P) ⊢ run c (smemLoadElt (Memref.whole main_arg7) (Rect.unit (s := S1) ![0] S1.size inb) hl x kont) Q := by
  iintro ⟨HT, HP⟩
  iapply (ld_nu c (Memref.whole main_arg7) E.NU E.NU rfl inb kont Q) $$ HT
  iintro HT
  iapply h
  isplitl [HT]; · iexact HT
  iexact HP
theorem stage {α : Type} {C : Prop} [Decidable C] {A : C → Prog (TpuEff nD τ sig (Elt F) Λ₀ .tc) α} {B : Prog (TpuEff nD τ sig (Elt F) Λ₀ .tc) α} {P R : sProp 𝕄} {Q : α → sProp 𝕄}
    (hB : R ⊢ run c B Q) (hA : ∀ h : C, (R ⊢ run c B Q) → P ⊢ run c (A h) Q) (hN : ¬ C → P ⊢ R) : P ⊢ run c (dite C A (fun _ => B)) Q := by
  by_cases h : C
  · rw [dif_pos h]; exact hA h hB
  · rw [dif_neg h]; exact (hN h).trans hB
theorem xt_cur (n b : ℕ) (s : Fin 4) : xTile (E.xt b) s n = xTile (E.xt b) 0 n := rfl

/-- The kernel's body over block `i`. -/
theorem body_run (hE : E.Ok) (f5 : Buf (Elt F) (m5.view.loc (c : Thread nD τ))) (f6 : Buf (Elt F) (m6.view.loc (c : Thread nD τ))) (f7 : Buf (Elt F) (m7.view.loc (c : Thread nD τ))) (f8 : Buf (Elt F) (m8.view.loc (c : Thread nD τ))) (f13 : Buf (Elt F) (m13.view.loc (c : Thread nD τ))) (f14 : Buf (Elt F) (m14.view.loc (c : Thread nD τ))) (f15 : Buf (Elt F) (m15.view.loc (c : Thread nD τ))) (r5 : m5.view.read (Elt F) f5 = E.slots (Env.pb (i 0).val)) (r6 : m6.view.read (Elt F) f6 = E.slots (min (i 0).val 288)) (r7 : m7.view.read (Elt F) f7 = E.slots (min ((i 0).val + 1) 288)) (r8 : m8.view.read (Elt F) f8 = E.slots (min ((i 0).val + 2) 288)) (r13 : m13.view.read (Elt F) f13 = Env.bias E.BG (E.be (i 0).val)) (r14 : m14.view.read (Elt F) f14 = Env.bias E.BU (E.be (i 0).val)) (r15 : m15.view.read (Elt F) f15 = Env.bias E.BD (E.be (i 0).val)) :
    iprop(tabNU c E.NU ∗ phi c E (i 0).val ∗ (winPt c m5 f5 ∗ winPt c m6 f6 ∗ winPt c m7 f7 ∗ winPt c m8 f8 ∗ winPt c m13 f13 ∗ winPt c m14 f14 ∗ winPt c m15 f15) ∗ waits c)
      ⊢ run c (cc0_moe_experts (F := F) i (Memref.whole main_arg4) (Memref.isWhole_whole _) (Memref.whole main_arg5) (Memref.isWhole_whole _) (Memref.whole main_arg6) (Memref.isWhole_whole _) (Memref.whole main_arg7) (Memref.isWhole_whole _) m5 h5 m6 h6 m7 h7 m8 h8 (Memref.whole main_v0) (Memref.isWhole_whole _) (Memref.whole main_arg8) (Memref.isWhole_whole _) (Memref.whole main_arg10) (Memref.isWhole_whole _) (Memref.whole main_arg12) (Memref.isWhole_whole _) m13 h13 m14 h14 m15 h15 (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10)
        (fun _ => iprop(tabNU c E.NU ∗ phi c E ((i 0).val + 1) ∗ (winPt c m5 f5 ∗ winPt c m6 f6 ∗ winPt c m7 f7 ∗ winPt c m8 f8 ∗ winPt c m13 f13 ∗ winPt c m14 f14 ∗ winPt c m15 f15) ∗ waits c)) := by
  have hi : (i 0).val < 289 := (i 0).isLt
  have hnu : (E.NU (ix1 0)).toNat ≤ 288 := hE.nu_le
  rw [cc0_moe_experts_eq_skeleton]
  unfold cc0_moe_experts_skel
  simp only [smemLoad, Prog.lift, Prog.bind_op, Prog.bind_ret, smemLoadElt_bind]
  refine ld_nu_then c E _ _ _ _ ?_
  refine stage c (R := iprop(tabNU c E.NU ∗ phi1 c E (i 0).val ∗ (winPt c m5 f5 ∗ winPt c m6 f6 ∗ winPt c m7 f7 ∗ winPt c m8 f8 ∗ winPt c m13 f13 ∗ winPt c m14 f14 ∗ winPt c m15 f15) ∗ waits c)) ?_ (fun h1 hB => ?_) fun h1 => ?_
  rotate_left
  · · have h0 := (cond1_iff i).mp h1
      unfold phi
      rw [if_pos h0]
      rw [h0] at r6 r7
      unfold held
      iintro ⟨HNU, ⟨⟨T1, T2, T3⟩, ⟨%gx, HX⟩, HY, HH, HG, ⟨HC0, HC1, HC2⟩, ⟨HS0, HS1⟩, HI0, HI1, HWA, HWR, HA⟩, ⟨W5, W6, W7, W8, W13, W14, W15⟩, HO⟩
      ihave HX := (Entails.of_eq (x_parts c gx)) $$ HX
      icases HX with ⟨HX0, HX1, HX2, HX3⟩
      ihave HH := (Entails.of_eq (h_parts c E.H)) $$ HH
      icases HH with ⟨HH0, HH1, HH2⟩
      iapply (call c (part1_run c i m5 h5 m6 h6 m7 h7 m8 h8 m13 h13 m14 h14 m15 h15 E hE h1 f6 r6 f7 r7) _ _) $$ [T1 HI0 HWA HX0 HH0 HC0 HX1 HH1 HC1 W6 W7 HY]
      · isplitl [T1]; · iexact T1
        isplitl [HI0]; · iexact HI0
        isplitl [HWA]; · iexact HWA
        isplitl [HX0 HH0 HC0]
        · isplitl [HX0]; · iexists gx; iexact HX0
          isplitl [HH0]; · iexact HH0
          iexact HC0
        isplitl [HX1 HH1 HC1]
        · isplitl [HX1]; · iexists gx; iexact HX1
          isplitl [HH1]; · iexact HH1
          iexact HC1
        isplitl [W6]; · iexact W6
        isplitl [W7]; · iexact W7
        iexact HY
      iintro %v ⟨%hv, T1, HWP, HF0, HF1, W6, W7, ⟨%gy, HY⟩⟩
      obtain ⟨va, vb⟩ := v
      obtain rfl : va = k0_pay4 := hv
      simp only [Prog.bind_op, Prog.bind_ret]
      iapply (st_yw c _ _ _ _ _) $$ HY; iintro HY
      ihave HY := (Entails.of_eq (y_parts c _)) $$ HY
      icases HY with ⟨HY0, HY1⟩
      iapply (pad_issue c (fun _ => Scalar.ofBits .f32 0x00000000#32) E.V 0 _ _ rfl _ _ rfl _ (ssem_eq 0 (by omega) _ _ rfl) _ _) $$ [HY0 HG HS0]
      · isplitl [HY0]; · iexact HY0
        isplitl [HG]; · iexact HG
        iexact HS0
      iintro HSF
      iapply hB
      unfold phi1 mid
      rw [h0, if_pos (Nat.zero_le _)]
      isplitl [HNU]; · iexact HNU
      isplitl [T1 T2 T3 HF0 HF1 HX2 HH2 HC2 HX3 HSF HY1 HS1 HWP HI1 HWR HA]
      · isplitl [T1 T2 T3]
        · isplitl [T1]; · iexact T1
          isplitl [T2]; · iexact T2
          iexact T3
        isplitl [HF0]; · iexact HF0
        isplitl [HF1]; · iexact HF1
        isplitl [HX2 HH2 HC2]
        · isplitl [HX2]; · iexists gx; iexact HX2
          isplitl [HH2]; · iexact HH2
          iexact HC2
        isplitl [HX3]; · iexists gx; iexact HX3
        isplitl [HSF]; · iexact HSF
        isplitl [HY1]; · iexact HY1
        isplitl [HS1]; · iexact HS1
        isplitl [HWP HI1]
        · unfold wst
          isplitl [HWP]; · iexact HWP
          iexact HI1
        isplitl [HWR]; · unfold wres; iexact HWR
        iexact HA
      isplitl [W5 W6 W7 W8 W13 W14 W15]
      · isplitl [W5]; · iexact W5
        isplitl [W6]; · iexact W6
        isplitl [W7]; · iexact W7
        isplitl [W8]; · iexact W8
        isplitl [W13]; · iexact W13
        isplitl [W14]; · iexact W14
        iexact W15
      iexact HO
  · · have h0 := fun hh => h1 ((cond1_iff i).mpr hh)
      unfold phi
      rw [if_neg h0]
  refine stage c (R := iprop(tabNU c E.NU ∗ phi2 c E (i 0).val ∗ (winPt c m5 f5 ∗ winPt c m6 f6 ∗ winPt c m7 f7 ∗ winPt c m8 f8 ∗ winPt c m13 f13 ∗ winPt c m14 f14 ∗ winPt c m15 f15) ∗ waits c)) ?_ (fun h2 hB => ?_) fun h2 => ?_
  rotate_left
  · · have hle : (i 0).val ≤ E.nu := (cond2_iff i _ hnu).mp h2
      unfold phi1
      rw [if_pos hle]
      unfold mid
      have hm : min (i 0).val 288 = (i 0).val := by omega
      rw [hm]
      iintro ⟨HNU, ⟨HT, HF0, HF1, ⟨HX, HH, HC⟩, ⟨%f3, H3⟩, HSF, HY, HSC, HWS, HWR, ⟨%fa, HA⟩⟩, ⟨W5, W6, W7, W8, W13, W14, W15⟩, HO⟩
      iapply (call c (part4_run c i m5 h5 m6 h6 m7 h7 m8 h8 m13 h13 m14 h14 m15 h15 E hE _ _ h2 (E.xt (i 0).val) (hPt c Finset.univ (qs ((i 0).val % 3)) E.H)) _ _) $$ [HT HWS HWR HF0 HO]
      · isplitl [HT]; · iexact HT
        isplitl [HWS]; · iexact HWS
        isplitl [HWR]; · iexact HWR
        isplitl [HF0]; · iexact HF0
        iexact HO
      iintro %v ⟨%hv, HT, HWS, HR, HX0, HH0, HC0, HO⟩
      ihave HR := (show wres c E ((i 0).val + 1) ⊢ iprop(guPt c (guW E.WG E.WU (E.be (i 0).val)) ∗ dPt c (dW E.WD (E.be (i 0).val))) from .rfl) $$ HR
      icases HR with ⟨HG, HD⟩
      subst hv
      imod (gather_start c (((i 0).val + 2) % 3) (tokAt (E.slots (min ((i 0).val + 2) 288))) (qs (((i 0).val + 2) % 3)) E.H) $$ [HX HH HC] with ⟨HgB, HgT, HgR⟩
      · isplitl [HH]; · iexact HH
        isplitl [HX]; · iexact HX
        iexact HC
      iapply (call c (part5_run c i m5 h5 m6 h6 m7 h7 m8 h8 m13 h13 m14 h14 m15 h15 _ h2 _ _ _ _ (E.xt (i 0).val) fa (guW E.WG E.WU (E.be (i 0).val)) f13 _ r13 f8 _ r8 (qs (((i 0).val + 2) % 3)) E.H) _ _) $$ [HX0 HA HG W13 HgB HgT W8]
      · isplitl [HX0]; · iexact HX0
        isplitl [HA]; · iexact HA
        isplitl [HG]; · iexact HG
        isplitl [W13]; · iexact W13
        isplitl [HgB]; · iexact HgB
        isplitl [HgT]; · iexact HgT
        iexact W8
      iintro %v ⟨%hv, HX0, HA, HG, W13, HgB, HgT, W8⟩
      subst hv
      iapply (call c (part6_run c i m5 h5 m6 h6 m7 h7 m8 h8 m13 h13 m14 h14 m15 h15 _ h2 _ _ f3 _ (guW E.WG E.WU (E.be (i 0).val)) f14 _ r14 f8 _ r8 (qs (((i 0).val + 2) % 3)) E.H) _ _) $$ [H3 HA HG W14 HgB HgT W8]
      · isplitl [H3]; · iexact H3
        isplitl [HA]; · iexact HA
        isplitl [HG]; · iexact HG
        isplitl [W14]; · iexact W14
        isplitl [HgB]; · iexact HgB
        isplitl [HgT]; · iexact HgT
        iexact W8
      iintro %v ⟨%hv, H3, HA, HG, W14, HgB, HgT, W8⟩
      subst hv
      iapply (call c (part7_run c i m5 h5 m6 h6 m7 h7 m8 h8 m13 h13 m14 h14 m15 h15 _ _ _ f13 _ r13 f14 _ r14) _ _) $$ [H3 W13 W14]
      · isplitl [H3]; · iexact H3
        isplitl [W13]; · iexact W13
        iexact W14
      iintro %v ⟨%hv, H3, W13, W14⟩
      subst hv
      iapply (call c (part8_run c i m5 h5 m6 h6 m7 h7 m8 h8 m13 h13 m14 h14 m15 h15 _ h2 _ _ (guW E.WG E.WU (E.be (i 0).val)) _ f13 _ r13 f14 _ r14 f8 _ r8 (qs (((i 0).val + 2) % 3)) E.H) _ _) $$ [HA HG H3 W13 W14 HgB HgT W8]
      · isplitl [HA]; · iexact HA
        isplitl [HG]; · iexact HG
        isplitl [H3]; · iexact H3
        isplitl [W13]; · iexact W13
        isplitl [W14]; · iexact W14
        isplitl [HgB]; · iexact HgB
        isplitl [HgT]; · iexact HgT
        iexact W8
      iintro %v ⟨%hv, HA, HG, H3, W13, W14, HgB, HgT, W8⟩
      subst hv
      iapply (call c (part9_run c i m5 h5 m6 h6 m7 h7 m8 h8 m13 h13 m14 h14 m15 h15 _ h2 _ _ _ _ (guW E.WG E.WU (E.be (i 0).val)) f13 _ r13 f14 _ r14 f8 _ r8 (qs (((i 0).val + 2) % 3)) E.H) _ _) $$ [H3 HA HG W13 W14 HgB HgT W8]
      · isplitl [H3]; · iexact H3
        isplitl [HA]; · iexact HA
        isplitl [HG]; · iexact HG
        isplitl [W13]; · iexact W13
        isplitl [W14]; · iexact W14
        isplitl [HgB]; · iexact HgB
        isplitl [HgT]; · iexact HgT
        iexact W8
      iintro %v ⟨%hv, H3, HA, HG, W13, W14, HgB, HgT, W8⟩
      subst hv
      ihave HFN := (show iprop(gBatch c (((i 0).val + 2) % 3) (tokAt (E.slots (min ((i 0).val + 2) 288))) (qs (((i 0).val + 2) % 3)) E.H 256 ∗ gTodo c (((i 0).val + 2) % 3) (tokAt (E.slots (min ((i 0).val + 2) 288))) (qs (((i 0).val + 2) % 3)) E.H 256 ∗ gRest c (tokAt (E.slots (min ((i 0).val + 2) 288))) (qs (((i 0).val + 2) % 3)) E.H) ⊢ gFly c E (((i 0).val + 2) % 3) (min ((i 0).val + 2) 288) from gather_finish c _ _ _ _) $$ [HgB HgT HgR]
      · isplitl [HgB]; · iexact HgB
        isplitl [HgT]; · iexact HgT
        iexact HgR
      iapply (call c (part10_run c i m5 h5 m6 h6 m7 h7 m8 h8 m13 h13 m14 h14 m15 h15 _ h2 _ _ _ _ _ f5 _ r5 (hE.word _) (hE.one _) (E.YB (i 0).val) (E.ygAt (i 0).val)) _ _) $$ [H3 HSF HY HSC W5 HO]
      · isplitl [H3]; · iexact H3
        isplitl [HSF]; · iexact HSF
        isplitl [HY]; · iexact HY
        isplitl [HSC]; · iexact HSC
        isplitl [W5]; · iexact W5
        iexact HO
      iintro %v ⟨%hv, H3, ⟨%fy, HY⟩, HSC, HSF, W5, HO⟩
      have hv' : v = ⟨k0_pay37 (E.act (i 0).val 0), k0_pay38 (E.act (i 0).val 1), k0_pay39 (E.act (i 0).val 2), k0_pay40 (E.act (i 0).val 3)⟩ := by
        rw [hv]
        show (⟨k0_pay37 (xRow3 (put8 (E.act (i 0).val) f3) 0), k0_pay38 (xRow3 (put8 (E.act (i 0).val) f3) 256), k0_pay39 (xRow3 (put8 (E.act (i 0).val) f3) 512), k0_pay40 (xRow3 (put8 (E.act (i 0).val) f3) 768)⟩ : Σ' (v242 : FVec F S256x128 .f32) (v244 : FVec F S256x128 .f32) (v246 : FVec F S256x128 .f32), FVec F S256x128 .f32) = _
        rw [put8_of _ _ 0 (by omega) 0 rfl, put8_of _ _ 1 (by omega) 256 rfl, put8_of _ _ 2 (by omega) 512 rfl, put8_of _ _ 3 (by omega) 768 rfl]
      clear hv
      subst hv'
      have h11 := part11_run c i m5 h5 m6 h6 m7 h7 m8 h8 m13 h13 m14 h14 m15 h15 (k0_pay37 (E.act (i 0).val 0)) (k0_pay38 (E.act (i 0).val 1)) (k0_pay39 (E.act (i 0).val 2)) (k0_pay40 (E.act (i 0).val 3)) (put8 (E.act (i 0).val) f3) (dW E.WD (E.be (i 0).val)) fy f15 _ r15
      rw [put8_of _ _ 4 (by omega) 1024 rfl, put8_of _ _ 5 (by omega) 1280 rfl, put8_of _ _ 6 (by omega) 1536 rfl, put8_of _ _ 7 (by omega) 1792 rfl] at h11
      iapply (call c (h11) _ _) $$ [H3 HD HY W15]
      · isplitl [H3]; · iexact H3
        isplitl [HD]; · iexact HD
        isplitl [HY]; · iexact HY
        iexact W15
      iintro %v ⟨%hv, H3, HD, HY, W15⟩
      subst hv
      iapply (call c (part12_run c i m5 h5 m6 h6 m7 h7 m8 h8 m13 h13 m14 h14 m15 h15 _ _ _ _ (dW E.WD (E.be (i 0).val)) f15 _ r15) _ _) $$ [HY HD W15]
      · isplitl [HY]; · iexact HY
        isplitl [HD]; · iexact HD
        iexact W15
      iintro %v ⟨%hv, HY, HD, W15⟩
      subst hv
      simp only [Prog.bind_op, Prog.bind_ret]
      iapply (st_y c (curY i) _ _ (off46_eq i) 6 (by omega) _ _ _ _ _ _) $$ HY; iintro HY
      iapply (ld_y c (curY i) _ _ (off46_eq i) 7 _ _ _ _) $$ HY; iintro HY
      iapply (st_y c (curY i) _ _ (off46_eq i) 7 (by omega) _ _ _ _ _ _) $$ HY; iintro HY
      have hy := rows_of c (curY i).val (res (E.act (i 0).val) (dW E.WD (E.be (i 0).val)) (Env.bias E.BD (E.be (i 0).val))) fy
      simp only [res] at hy
      ihave HY := (Entails.of_eq hy) $$ HY
      iapply hB
      unfold phi2
      rw [if_pos hle, mid_succ]
      isplitl [HNU]; · iexact HNU
      isplitl [HT HF1 HFN HX0 HH0 HC0 H3 HSF HY HSC HWS HG HD HA]
      · isplitl [HT]; · iexact HT
        isplitl [HF1]; · iexact HF1
        isplitl [HFN]; · iexact HFN
        isplitl [HX0 HH0 HC0]
        · isplitl [HX0]; · iexists _; iexact HX0
          isplitl [HH0]; · iexact HH0
          iexact HC0
        isplitl [H3]; · iexists _; iexact H3
        isplitl [HSF]; · iexact HSF
        isplitl [HY]; · iexact HY
        isplitl [HSC]; · iexact HSC
        isplitl [HWS]; · iexact HWS
        isplitl [HG HD]
        · unfold wres
          isplitl [HG]; · iexact HG
          iexact HD
        iexists _; iexact HA
      isplitl [W5 W6 W7 W8 W13 W14 W15]
      · isplitl [W5]; · iexact W5
        isplitl [W6]; · iexact W6
        isplitl [W7]; · iexact W7
        isplitl [W8]; · iexact W8
        isplitl [W13]; · iexact W13
        isplitl [W14]; · iexact W14
        iexact W15
      iexact HO
  · · have hle : ¬ (i 0).val ≤ E.nu := fun hh => h2 ((cond2_iff i _ hnu).mpr hh)
      unfold phi1 phi2
      rw [if_neg hle, if_neg hle]
  · by_cases h4 : (i 0).val = E.nu
    · rw [if_pos ((eq_word_iff i _).mpr h4)]
      unfold phi phi1 phi2
      rw [if_pos (le_of_eq h4), if_neg (Nat.succ_ne_zero _), if_neg (by omega), mid_succ]
      have hl : E.ne (i 0).val = E.be (i 0).val := by rw [h4]; exact hE.last
      iintro ⟨HNU, ⟨HT, HF1, HF2, HGI, H3, HSF, HY, HSC, HWS, HR, HA⟩, HWW, HO⟩
      ihave HR := (show wres c E ((i 0).val + 1) ⊢ iprop(guPt c (guW E.WG E.WU (E.be (i 0).val)) ∗ dPt c (dW E.WD (E.be (i 0).val))) from .rfl) $$ HR
      icases HR with ⟨HG, HD⟩

      iapply (wait_flight c (gsem (((i 0).val + 1) % 3)) _ (xSlot_credit _ _) _ (gsem_eq _ (Nat.mod_lt _ (by omega)) _ _ (off51_eq1 i)) _ _) $$ [HF1 HO]
      · isplitl [HF1]; · iexact HF1
        iexact HO
      iintro ⟨⟨HX1, HH1⟩, HC1, HO⟩
      iapply (wait_flight c (gsem (((i 0).val + 2) % 3)) _ (xSlot_credit _ _) _ (gsem_eq _ (Nat.mod_lt _ (by omega)) _ _ (off51_eq2 i)) _ _) $$ [HF2 HO]
      · isplitl [HF2]; · iexact HF2
        iexact HO
      iintro ⟨⟨HX2, HH2⟩, HC2, HO⟩
      iapply (wait_flight c (ssem (1 - (i 0).val % 2)) _ (gBlk_credit _ _) _ (ssem_eq _ (by omega) _ _ (off53_eq i)) _ _) $$ [HSF HO]
      · isplitl [HSF]; · iexact HSF
        iexact HO
      iintro ⟨⟨HY1, HGG⟩, HSC1, HO⟩
      ihave HGA := (turn3 (F := F) (fun s => gIdle c E s) (i 0).val) $$ [HGI HX1 HH1 HC1 HX2 HH2 HC2]
      · isplitl [HGI]; · iexact HGI
        isplitl [HX1 HH1 HC1]
        · isplitl [HX1]; · iexists _; iexact HX1
          isplitl [HH1]; · iexact HH1
          iexact HC1
        isplitl [HX2]; · iexists _; iexact HX2
        isplitl [HH2]; · iexact HH2
        iexact HC2
      icases HGA with ⟨⟨A0, B0, D0⟩, ⟨A1, B1, D1⟩, ⟨A2, B2, D2⟩⟩
      ihave HSA := (turn2 (F := F) (fun s => iprop((∃ g, yPt c (yslot s) g) ∗ cell c (ssem s))) ((i 0).val % 2) (Nat.mod_lt _ (by omega))) $$ [HY HSC HY1 HSC1]
      · isplitl [HY HSC]
        · isplitl [HY]; · iexists _; iexact HY
          iexact HSC
        isplitl [HY1]; · iexact HY1
        iexact HSC1
      icases HSA with ⟨⟨Y0, S0⟩, ⟨Y1, S1⟩⟩
      ihave HWS := (show wst c E ((i 0).val + 1) ⊢ iprop((wIdle c (E.par (i 0).val) ∗ wIdle c (1 - E.par (i 0).val)) ∗ wAll c E.WG E.WU E.WD) from by
        show wNext c (E.par (i 0).val) (E.be (i 0).val) (E.ne (i 0).val) E.WG E.WU E.WD ⊢ _
        unfold wNext
        rw [if_pos hl]
        iintro ⟨A, B, C⟩
        isplitl [A B]
        · isplitl [A]; · iexact A
          iexact B
        iexact C) $$ HWS
      icases HWS with ⟨HWI, HWA⟩
      ihave HWI := (turn2 (F := F) (fun s => wIdle c s) (E.par (i 0).val) (hE.par_lt _)) $$ HWI
      icases HWI with ⟨I0, I1⟩
      try unfold run
      sl_step
      isplitl [HNU]; · iexact HNU
      isplitr [HWW HO]
      · unfold held
        isplitl [HT]; · iexact HT
        isplitl [A0 A1 A2 H3]
        · iapply (x_join c)
          isplitl [A0]; · iexact A0
          isplitl [A1]; · iexact A1
          isplitl [A2]; · iexact A2
          iexact H3
        isplitl [Y0 Y1]
        · iapply (y_join c)
          isplitl [Y0]; · iexact Y0
          iexact Y1
        isplitl [B0 B1 B2]
        · rw [h_parts]
          isplitl [B0]; · iexact B0
          isplitl [B1]; · iexact B1
          iexact B2
        isplitl [HGG]; · rw [← h4]; iexact HGG
        isplitl [D0 D1 D2]
        · isplitl [D0]; · iexact D0
          isplitl [D1]; · iexact D1
          iexact D2
        isplitl [S0 S1]
        · isplitl [S0]; · iexact S0
          iexact S1
        isplitl [I0]; · iexact I0
        isplitl [I1]; · iexact I1
        isplitl [HWA]; · iexact HWA
        isplitl [HG HD]
        · isplitl [HG]
          · iexists _; iexact HG
          iexists _; iexact HD
        iexact HA
      isplitl [HWW]; · iexact HWW
      iexact HO
    · rw [if_neg (fun hh => h4 ((eq_word_iff i _).mp hh))]
      have e : phi2 c E (i 0).val = phi c E ((i 0).val + 1) := by
        unfold phi phi1 phi2
        rw [if_neg (Nat.succ_ne_zero _)]
        by_cases hlt : (i 0).val ≤ E.nu
        · rw [if_pos hlt, if_pos (by omega)]
        · rw [if_neg hlt, if_neg (by omega)]
      rw [e]
      unfold run
      iintro H
      sl_step
      iexact H
end Cert.KernelIdeal.Moe

end
-- ==== Proof.Region.lean ====
/-
  The pipeline that runs the kernel over the blocks: the tables it prefetches, what its windows hold, and the body at
  each grid point.
-/
module

public import proofs.«01_k».proof.Proof.Body
public import Idealize.ShloMosaic.Lib.Pipeline.FrameSuffixV

@[expose] public section

set_option maxRecDepth 16384
set_option maxHeartbeats 2000000

noncomputable section

namespace Cert.KernelIdeal.Moe

open Cert.KernelIdeal Cert.KernelIdeal.Gen
open Idealize.ShloMosaic Idealize.ShloMosaic.TcCoe Idealize.ShloMosaic.Tactic Idealize.ShloMosaic.ValueIdx
open Idealize.ShloMosaic.Pipeline (Dat BodyObligation)
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The windows' blocks -/

theorem ix_prev (i : grid0.Coords) : cc0_transform_0 i = ![Env.pb (i 0).val, 0, 0] :=
  of_pt (P := fun i => cc0_transform_0 i = ![Env.pb (i 0).val, 0, 0]) (by decide +kernel) i
theorem ix_cur (i : grid0.Coords) : cc0_transform_1 i = ![min (i 0).val 288, 0, 0] :=
  of_pt (P := fun i => cc0_transform_1 i = ![min (i 0).val 288, 0, 0]) (by decide +kernel) i
theorem ix_next (i : grid0.Coords) : cc0_transform_2 i = ![min ((i 0).val + 1) 288, 0, 0] :=
  of_pt (P := fun i => cc0_transform_2 i = ![min ((i 0).val + 1) 288, 0, 0]) (by decide +kernel) i
theorem ix_after (i : grid0.Coords) : cc0_transform_3 i = ![min ((i 0).val + 2) 288, 0, 0] :=
  of_pt (P := fun i => cc0_transform_3 i = ![min ((i 0).val + 2) 288, 0, 0]) (by decide +kernel) i
omit [FloatOps F] in
theorem table_at (pf : pre0.Contents (Elt F)) (i : grid0.Coords) (inb : ∀ a, (![(Scalar.indexCast (BitVec.ofNat 32 (i 0).val) : Index).toNat] : Fin 1 → ℕ) a + S1.size a ≤ S289.size a) (h1) :
    pf.at 0 (Rect.unit (s := S289) ![(Scalar.indexCast (BitVec.ofNat 32 (i 0).val) : Index).toNat] S1.size inb) h1 = tw (pf 0) (i 0).val := by
  have hi : (i 0).val < 289 := (i 0).isLt
  have ho : (Scalar.indexCast (BitVec.ofNat 32 (i 0).val) : Index).toNat = (i 0).val :=
    of_pt (P := fun i => (Scalar.indexCast (BitVec.ofNat 32 (i 0).val) : Index).toNat = (i 0).val) (by decide +kernel) i
  unfold tw
  show pf 0 _ = pf 0 _
  congr 1
  funext a; apply Fin.ext; fin_cases a
  show (Scalar.indexCast (BitVec.ofNat 32 (i 0).val) : Index).toNat + 1 * 0 = (i 0).val % 289
  rw [ho]; omega
omit [FloatOps F] in
theorem ix_bg (pf : pre0.Contents (Elt F)) (i : grid0.Coords) : cc0_transform_8 Facts₀.k0_off1_inb Facts₀.numel1_S1 pf i = ![(tw (pf 0) (i 0).val).toNat, 0, 0] :=
  congrArg (fun v : BitVec 32 => (![v.toNat, 0, 0] : Fin 3 → ℕ)) (table_at pf i _ _)
omit [FloatOps F] in
theorem ix_bu (pf : pre0.Contents (Elt F)) (i : grid0.Coords) : cc0_transform_9 Facts₀.k0_off1_inb Facts₀.numel1_S1 pf i = ![(tw (pf 0) (i 0).val).toNat, 0, 0] :=
  congrArg (fun v : BitVec 32 => (![v.toNat, 0, 0] : Fin 3 → ℕ)) (table_at pf i _ _)
omit [FloatOps F] in
theorem ix_bd (pf : pre0.Contents (Elt F)) (i : grid0.Coords) : cc0_transform_10 Facts₀.k0_off1_inb Facts₀.numel1_S1 pf i = ![(tw (pf 0) (i 0).val).toNat, 0, 0] :=
  congrArg (fun v : BitVec 32 => (![v.toNat, 0, 0] : Fin 3 → ℕ)) (table_at pf i _ _)

omit [FloatOps F] in
/-- A row of a bias array is inside it. -/
theorem row_inb (e : ℕ) (he : e < 32) : ∀ a, ((![e, 0, 0] : Fin 3 → ℕ) a + 1) * S1x1x1024.size a ≤ S32x1x1024.size a := by
  intro a; fin_cases a
  · show (e + 1) * 1 ≤ 32; omega
  · show (0 + 1) * 1 ≤ 1; omega
  · show (0 + 1) * 1024 ≤ 1024; omega
omit [FloatOps F] in
/-- The windows' side condition: every block's expert is one of the 32. -/
theorem ok_tables (pf : pre0.Contents (Elt F)) (h : ∀ n, (tw (pf 0) n).toNat < 32) : ok0 pf := by
  unfold ok0
  refine ⟨fun i => ⟨?_, Or.inl rfl⟩, fun i => ⟨?_, Or.inl rfl⟩, fun i => ⟨?_, Or.inl rfl⟩⟩
  · rw [ix_bg]; exact row_inb _ (h _)
  · rw [ix_bu]; exact row_inb _ (h _)
  · rw [ix_bd]; exact row_inb _ (h _)

/-! ## The contents at the kernel's start -/

variable (m : (ℓ : Loc nD τ sig) → Buf (Elt F) ℓ) (ρ : Dev nD → PrngReg)

/-- The buffers after the host operations before the kernel. -/
abbrev V0 (c : Dev nD) : Valuation τ sig (Elt F) := StableHlo.after (hostOps0 (F := F)) fun b => m (c, b)
abbrev V (c : Dev nD) (b : Ref sig .tc) : Buf (Elt F) ((c : Thread nD τ).loc b) := V0 m c (Proc.devRef .tc b)
/-- What the kernel computes with. -/
def env (c : Dev nD) : Env F where
  H := V m c main_v0
  SL := V m c main_v1
  BE := V m c main_arg4
  NE := V m c main_arg5
  PAR := V m c main_arg6
  NU := V m c main_arg7
  WG := V m c main_arg8
  WU := V m c main_arg10
  WD := V m c main_arg12
  BG := V m c main_v2
  BU := V m c main_v3
  BD := V m c main_v4
  V := V m c main_v5

/-- The tables' contents. -/
def pf (c : Dev nD) : pre0.Contents (Elt F) := fun k => V m c (pre0.ref k)
variable (hE : ∀ c : Dev nD, (env m c).Ok)
/-- They are admissible. -/
def adm : (pcfg0 (F := F)).Adm := ⟨pf m 0, ok_tables _ fun n => (hE 0).be_lt n⟩
abbrev cfgA : Pipeline.Cfg sig Λ₀ := cfg0 (adm m hE)

/-- Window `w`'s block at point `t`. -/
def iblk (c : Dev nD) (w : Fin 7) (t : Fin (cfgA m hE).N) : (((cfgA m hE).win w).xblock ((cfgA m hE).grid.coords t)).Idx → Elt F ((cfgA m hE).win w).elt :=
  (((cfgA m hE).win w).blk t).view.read (Elt F) (V m c (Pipeline.arrRef spec0 w))
/-- The pipeline's data: the windows keep their blocks, and the kernel's own state is `phi`. -/
def dats (_ : Fin 1) (c : Dev nD) : Dat τ (Elt F) Unit ℕ (Pipeline.UD sig nD τ) ℕ (cfgA m hE) c where
  A w := V m c (Pipeline.arrRef spec0 w)
  after w t := match w with
    | ⟨0, _⟩ => iblk m hE c 0 t
    | ⟨1, _⟩ => iblk m hE c 1 t
    | ⟨2, _⟩ => iblk m hE c 2 t
    | ⟨3, _⟩ => iblk m hE c 3 t
    | ⟨4, _⟩ => iblk m hE c 4 t
    | ⟨5, _⟩ => iblk m hE c 5 t
    | ⟨6, _⟩ => iblk m hE c 6 t
    | ⟨_ + 7, h⟩ => absurd h (Nat.not_lt.2 (Nat.le_add_left _ _))
  Φ t := iprop(tabNU c (env m c).NU ∗ phi c (env m c) t.val)
  q w := Pipeline.shareOf spec0 w
  owed _ := 0

theorem A_eq (c : Dev nD) (w : Fin (cfgA m hE).W) : (dats m hE 0 c).A w = V m c (Pipeline.arrRef spec0 w) := by
  dsimp only [dats]
theorem after_0 (c : Dev nD) (t : Fin (cfgA m hE).N) : (dats m hE 0 c).after 0 t = iblk m hE c 0 t := rfl
theorem before_0 (c : Dev nD) (t : Fin (cfgA m hE).N) (d) : (dats m hE 0 c).before 0 t d = iblk m hE c 0 t :=
  (dats m hE 0 c).before_in_eq_fetched 0 rfl (fun _ => rfl) (fun _ _ _ => rfl) (fun t => (after_0 m hE c t).trans rfl) t d
theorem after_1 (c : Dev nD) (t : Fin (cfgA m hE).N) : (dats m hE 0 c).after 1 t = iblk m hE c 1 t := rfl
theorem before_1 (c : Dev nD) (t : Fin (cfgA m hE).N) (d) : (dats m hE 0 c).before 1 t d = iblk m hE c 1 t :=
  (dats m hE 0 c).before_in_eq_fetched 1 rfl (fun _ => rfl) (fun _ _ _ => rfl) (fun t => (after_1 m hE c t).trans rfl) t d
theorem after_2 (c : Dev nD) (t : Fin (cfgA m hE).N) : (dats m hE 0 c).after 2 t = iblk m hE c 2 t := rfl
theorem before_2 (c : Dev nD) (t : Fin (cfgA m hE).N) (d) : (dats m hE 0 c).before 2 t d = iblk m hE c 2 t :=
  (dats m hE 0 c).before_in_eq_fetched 2 rfl (fun _ => rfl) (fun _ _ _ => rfl) (fun t => (after_2 m hE c t).trans rfl) t d
theorem after_3 (c : Dev nD) (t : Fin (cfgA m hE).N) : (dats m hE 0 c).after 3 t = iblk m hE c 3 t := rfl
theorem before_3 (c : Dev nD) (t : Fin (cfgA m hE).N) (d) : (dats m hE 0 c).before 3 t d = iblk m hE c 3 t :=
  (dats m hE 0 c).before_in_eq_fetched 3 rfl (fun _ => rfl) (fun _ _ _ => rfl) (fun t => (after_3 m hE c t).trans rfl) t d
theorem after_4 (c : Dev nD) (t : Fin (cfgA m hE).N) : (dats m hE 0 c).after 4 t = iblk m hE c 4 t := rfl
theorem before_4 (c : Dev nD) (t : Fin (cfgA m hE).N) (d) : (dats m hE 0 c).before 4 t d = iblk m hE c 4 t :=
  (dats m hE 0 c).before_in_eq_fetched 4 rfl (fun _ => rfl) (fun _ _ _ => rfl) (fun t => (after_4 m hE c t).trans rfl) t d
theorem after_5 (c : Dev nD) (t : Fin (cfgA m hE).N) : (dats m hE 0 c).after 5 t = iblk m hE c 5 t := rfl
theorem before_5 (c : Dev nD) (t : Fin (cfgA m hE).N) (d) : (dats m hE 0 c).before 5 t d = iblk m hE c 5 t :=
  (dats m hE 0 c).before_in_eq_fetched 5 rfl (fun _ => rfl) (fun _ _ _ => rfl) (fun t => (after_5 m hE c t).trans rfl) t d
theorem after_6 (c : Dev nD) (t : Fin (cfgA m hE).N) : (dats m hE 0 c).after 6 t = iblk m hE c 6 t := rfl
theorem before_6 (c : Dev nD) (t : Fin (cfgA m hE).N) (d) : (dats m hE 0 c).before 6 t d = iblk m hE c 6 t :=
  (dats m hE 0 c).before_in_eq_fetched 6 rfl (fun _ => rfl) (fun _ _ _ => rfl) (fun t => (after_6 m hE c t).trans rfl) t d

theorem coord (t : Fin grid0.N) : (grid0.coords t 0).val = t.val := by
  have h := Pipeline.Grid.coords_val (G := grid0) t 0 (S := 1) (B := 289) (by decide) rfl
  have ht : t.val < 289 := lt_of_lt_of_eq t.isLt N_0
  rw [h, Nat.div_one, Nat.mod_eq_of_lt ht]

theorem iblk_0 (c : Dev nD) (t : Fin (cfgA m hE).N) : iblk m hE c 0 t = (env m c).slots (Env.pb t.val) := by
  have ht : t.val < 289 := lt_of_lt_of_eq t.isLt N_0
  have e := ix_prev (grid0.coords t)
  rw [coord] at e
  funext q
  have q0 : (q 0).val < 1 := (q 0).isLt
  have q1 : (q 1).val < 1 := (q 1).isLt
  show V m c main_v1 _ = V m c main_v1 _
  congr 1
  funext a; apply Fin.ext; fin_cases a
  · show cc0_transform_0 (grid0.coords t) 0 * 1 + 1 * (q 0).val = (Env.pb t.val) % 289
    rw [e]
    show (Env.pb t.val) * 1 + 1 * (q 0).val = (Env.pb t.val) % 289
    rcases Nat.eq_zero_or_pos t.val with h | h
    · rw [h]; show 288 * 1 + 1 * (q 0).val = 288 % 289; omega
    · obtain ⟨n, hn⟩ : ∃ n, t.val = n + 1 := ⟨t.val - 1, by omega⟩
      rw [hn]; show n * 1 + 1 * (q 0).val = n % 289; omega
  · show cc0_transform_0 (grid0.coords t) 1 * 1 + 1 * (q 1).val = 0
    rw [e]
    show 0 * 1 + 1 * (q 1).val = 0
    omega
  · show cc0_transform_0 (grid0.coords t) 2 * 256 + 1 * (q 2).val = (q 2).val
    rw [e]
    show 0 * 256 + 1 * (q 2).val = (q 2).val
    omega
theorem iblk_1 (c : Dev nD) (t : Fin (cfgA m hE).N) : iblk m hE c 1 t = (env m c).slots (min t.val 288) := by
  have ht : t.val < 289 := lt_of_lt_of_eq t.isLt N_0
  have e := ix_cur (grid0.coords t)
  rw [coord] at e
  funext q
  have q0 : (q 0).val < 1 := (q 0).isLt
  have q1 : (q 1).val < 1 := (q 1).isLt
  show V m c main_v1 _ = V m c main_v1 _
  congr 1
  funext a; apply Fin.ext; fin_cases a
  · show cc0_transform_1 (grid0.coords t) 0 * 1 + 1 * (q 0).val = (min t.val 288) % 289
    rw [e]
    show (min t.val 288) * 1 + 1 * (q 0).val = (min t.val 288) % 289
    omega
  · show cc0_transform_1 (grid0.coords t) 1 * 1 + 1 * (q 1).val = 0
    rw [e]
    show 0 * 1 + 1 * (q 1).val = 0
    omega
  · show cc0_transform_1 (grid0.coords t) 2 * 256 + 1 * (q 2).val = (q 2).val
    rw [e]
    show 0 * 256 + 1 * (q 2).val = (q 2).val
    omega
theorem iblk_2 (c : Dev nD) (t : Fin (cfgA m hE).N) : iblk m hE c 2 t = (env m c).slots (min (t.val + 1) 288) := by
  have ht : t.val < 289 := lt_of_lt_of_eq t.isLt N_0
  have e := ix_next (grid0.coords t)
  rw [coord] at e
  funext q
  have q0 : (q 0).val < 1 := (q 0).isLt
  have q1 : (q 1).val < 1 := (q 1).isLt
  show V m c main_v1 _ = V m c main_v1 _
  congr 1
  funext a; apply Fin.ext; fin_cases a
  · show cc0_transform_2 (grid0.coords t) 0 * 1 + 1 * (q 0).val = (min (t.val + 1) 288) % 289
    rw [e]
    show (min (t.val + 1) 288) * 1 + 1 * (q 0).val = (min (t.val + 1) 288) % 289
    omega
  · show cc0_transform_2 (grid0.coords t) 1 * 1 + 1 * (q 1).val = 0
    rw [e]
    show 0 * 1 + 1 * (q 1).val = 0
    omega
  · show cc0_transform_2 (grid0.coords t) 2 * 256 + 1 * (q 2).val = (q 2).val
    rw [e]
    show 0 * 256 + 1 * (q 2).val = (q 2).val
    omega
theorem iblk_3 (c : Dev nD) (t : Fin (cfgA m hE).N) : iblk m hE c 3 t = (env m c).slots (min (t.val + 2) 288) := by
  have ht : t.val < 289 := lt_of_lt_of_eq t.isLt N_0
  have e := ix_after (grid0.coords t)
  rw [coord] at e
  funext q
  have q0 : (q 0).val < 1 := (q 0).isLt
  have q1 : (q 1).val < 1 := (q 1).isLt
  show V m c main_v1 _ = V m c main_v1 _
  congr 1
  funext a; apply Fin.ext; fin_cases a
  · show cc0_transform_3 (grid0.coords t) 0 * 1 + 1 * (q 0).val = (min (t.val + 2) 288) % 289
    rw [e]
    show (min (t.val + 2) 288) * 1 + 1 * (q 0).val = (min (t.val + 2) 288) % 289
    omega
  · show cc0_transform_3 (grid0.coords t) 1 * 1 + 1 * (q 1).val = 0
    rw [e]
    show 0 * 1 + 1 * (q 1).val = 0
    omega
  · show cc0_transform_3 (grid0.coords t) 2 * 256 + 1 * (q 2).val = (q 2).val
    rw [e]
    show 0 * 256 + 1 * (q 2).val = (q 2).val
    omega
theorem iblk_4 (c : Dev nD) (t : Fin (cfgA m hE).N) : iblk m hE c 4 t = Env.bias (env m c).BG ((env m c).be t.val) := by
  obtain rfl : c = 0 := Subsingleton.elim _ _
  have hb := (hE 0).be_lt t.val
  have e := ix_bg (pf m 0) (grid0.coords t)
  rw [coord] at e
  replace e : cc0_transform_8 Facts₀.k0_off1_inb Facts₀.numel1_S1 (pf m 0) (grid0.coords t) = ![(env m 0).be t.val, 0, 0] := e
  funext q
  have q0 : (q 0).val < 1 := (q 0).isLt
  have q1 : (q 1).val < 1 := (q 1).isLt
  show V m 0 main_v2 _ = V m 0 main_v2 _
  congr 1
  funext a; apply Fin.ext; fin_cases a
  · show cc0_transform_8 Facts₀.k0_off1_inb Facts₀.numel1_S1 (pf m 0) (grid0.coords t) 0 * 1 + 1 * (q 0).val = (env m 0).be t.val % 32
    rw [e]
    show (env m 0).be t.val * 1 + 1 * (q 0).val = (env m 0).be t.val % 32
    omega
  · show cc0_transform_8 Facts₀.k0_off1_inb Facts₀.numel1_S1 (pf m 0) (grid0.coords t) 1 * 1 + 1 * (q 1).val = 0
    rw [e]
    show 0 * 1 + 1 * (q 1).val = 0
    omega
  · show cc0_transform_8 Facts₀.k0_off1_inb Facts₀.numel1_S1 (pf m 0) (grid0.coords t) 2 * 1024 + 1 * (q 2).val = (q 2).val
    rw [e]
    show 0 * 1024 + 1 * (q 2).val = (q 2).val
    omega
theorem iblk_5 (c : Dev nD) (t : Fin (cfgA m hE).N) : iblk m hE c 5 t = Env.bias (env m c).BU ((env m c).be t.val) := by
  obtain rfl : c = 0 := Subsingleton.elim _ _
  have hb := (hE 0).be_lt t.val
  have e := ix_bu (pf m 0) (grid0.coords t)
  rw [coord] at e
  replace e : cc0_transform_9 Facts₀.k0_off1_inb Facts₀.numel1_S1 (pf m 0) (grid0.coords t) = ![(env m 0).be t.val, 0, 0] := e
  funext q
  have q0 : (q 0).val < 1 := (q 0).isLt
  have q1 : (q 1).val < 1 := (q 1).isLt
  show V m 0 main_v3 _ = V m 0 main_v3 _
  congr 1
  funext a; apply Fin.ext; fin_cases a
  · show cc0_transform_9 Facts₀.k0_off1_inb Facts₀.numel1_S1 (pf m 0) (grid0.coords t) 0 * 1 + 1 * (q 0).val = (env m 0).be t.val % 32
    rw [e]
    show (env m 0).be t.val * 1 + 1 * (q 0).val = (env m 0).be t.val % 32
    omega
  · show cc0_transform_9 Facts₀.k0_off1_inb Facts₀.numel1_S1 (pf m 0) (grid0.coords t) 1 * 1 + 1 * (q 1).val = 0
    rw [e]
    show 0 * 1 + 1 * (q 1).val = 0
    omega
  · show cc0_transform_9 Facts₀.k0_off1_inb Facts₀.numel1_S1 (pf m 0) (grid0.coords t) 2 * 1024 + 1 * (q 2).val = (q 2).val
    rw [e]
    show 0 * 1024 + 1 * (q 2).val = (q 2).val
    omega
theorem iblk_6 (c : Dev nD) (t : Fin (cfgA m hE).N) : iblk m hE c 6 t = Env.bias (env m c).BD ((env m c).be t.val) := by
  obtain rfl : c = 0 := Subsingleton.elim _ _
  have hb := (hE 0).be_lt t.val
  have e := ix_bd (pf m 0) (grid0.coords t)
  rw [coord] at e
  replace e : cc0_transform_10 Facts₀.k0_off1_inb Facts₀.numel1_S1 (pf m 0) (grid0.coords t) = ![(env m 0).be t.val, 0, 0] := e
  funext q
  have q0 : (q 0).val < 1 := (q 0).isLt
  have q1 : (q 1).val < 1 := (q 1).isLt
  show V m 0 main_v4 _ = V m 0 main_v4 _
  congr 1
  funext a; apply Fin.ext; fin_cases a
  · show cc0_transform_10 Facts₀.k0_off1_inb Facts₀.numel1_S1 (pf m 0) (grid0.coords t) 0 * 1 + 1 * (q 0).val = (env m 0).be t.val % 32
    rw [e]
    show (env m 0).be t.val * 1 + 1 * (q 0).val = (env m 0).be t.val % 32
    omega
  · show cc0_transform_10 Facts₀.k0_off1_inb Facts₀.numel1_S1 (pf m 0) (grid0.coords t) 1 * 1 + 1 * (q 1).val = 0
    rw [e]
    show 0 * 1 + 1 * (q 1).val = 0
    omega
  · show cc0_transform_10 Facts₀.k0_off1_inb Facts₀.numel1_S1 (pf m 0) (grid0.coords t) 2 * 1024 + 1 * (q 2).val = (q 2).val
    rw [e]
    show 0 * 1024 + 1 * (q 2).val = (q 2).val
    omega

/-! ## The body at a point -/

/-- A program's run from a run of it to another end. -/
theorem call_last (c : Dev nD) {α : Type} {p : Prog (TpuEff nD τ sig (Elt F) Λ₀ .tc) α} {P : sProp 𝕄} {R Q : α → sProp 𝕄} (h : P ⊢ run c p R) :
    P ⊢ iprop((∀ v, R v -∗ Q v) -∗ run c p Q) := by
  unfold run at *
  exact h.trans (wp_wand Idealize.ShloMosaic.frame (wpE (defs₀ (F := F)) Variants.none (c : Thread nD τ) none) Set.univ)

/-- The kernel at point `t`. -/
def bodyAt (t : Fin (cfgA m hE).N) : Prog (TpuEff nD τ sig (Elt F) Λ₀ .tc) PUnit :=
  cc0_moe_experts (F := F) (grid0.coords t) (Memref.whole main_arg4) (Memref.isWhole_whole _) (Memref.whole main_arg5) (Memref.isWhole_whole _) (Memref.whole main_arg6) (Memref.isWhole_whole _) (Memref.whole main_arg7) (Memref.isWhole_whole _) (spec0_0.stage ((cfgA m hE).slots t 0)) (Facts₀.hstage0_0 (((cfgA m hE).slots t 0).cast Facts₀.nbuf0_0)) (spec0_1.stage ((cfgA m hE).slots t 1)) (Facts₀.hstage0_1 (((cfgA m hE).slots t 1).cast Facts₀.nbuf0_1)) (spec0_2.stage ((cfgA m hE).slots t 2)) (Facts₀.hstage0_2 (((cfgA m hE).slots t 2).cast Facts₀.nbuf0_2)) (spec0_3.stage ((cfgA m hE).slots t 3)) (Facts₀.hstage0_3 (((cfgA m hE).slots t 3).cast Facts₀.nbuf0_3)) (Memref.whole main_v0) (Memref.isWhole_whole _) (Memref.whole main_arg8) (Memref.isWhole_whole _) (Memref.whole main_arg10) (Memref.isWhole_whole _) (Memref.whole main_arg12) (Memref.isWhole_whole _) (spec0_4.stage ((cfgA m hE).slots t 4)) (Facts₀.hstage0_4 (((cfgA m hE).slots t 4).cast Facts₀.nbuf0_4)) (spec0_5.stage ((cfgA m hE).slots t 5)) (Facts₀.hstage0_5 (((cfgA m hE).slots t 5).cast Facts₀.nbuf0_5)) (spec0_6.stage ((cfgA m hE).slots t 6)) (Facts₀.hstage0_6 (((cfgA m hE).slots t 6).cast Facts₀.nbuf0_6)) (Memref.whole main_v5) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10
theorem defs₀_row (t : Fin (cfgA m hE).N) :
    defs₀ (F := F) .tc (cfgA m hE).body ((cfgA m hE).bodyArgs t ((cfgA m hE).slots t)) = bodyAt m hE t := by
  unfold defs₀; rw [Defs.onTc_tc]; rfl
def bodyPre (c : Dev nD) (t : Fin (cfgA m hE).N) : sProp 𝕄 :=
  iprop((dats m hE 0 c).Φ t.castSucc ∗ (dats m hE 0 c).owesAt () t.castSucc ∗ (∃ d, owns (c : Thread nD τ) (spec0_0.stage ((cfgA m hE).slots t 0)) fullShare ((dats m hE 0 c).before 0 t d)) ∗ (∃ d, owns (c : Thread nD τ) (spec0_1.stage ((cfgA m hE).slots t 1)) fullShare ((dats m hE 0 c).before 1 t d)) ∗ (∃ d, owns (c : Thread nD τ) (spec0_2.stage ((cfgA m hE).slots t 2)) fullShare ((dats m hE 0 c).before 2 t d)) ∗ (∃ d, owns (c : Thread nD τ) (spec0_3.stage ((cfgA m hE).slots t 3)) fullShare ((dats m hE 0 c).before 3 t d)) ∗ (∃ d, owns (c : Thread nD τ) (spec0_4.stage ((cfgA m hE).slots t 4)) fullShare ((dats m hE 0 c).before 4 t d)) ∗ (∃ d, owns (c : Thread nD τ) (spec0_5.stage ((cfgA m hE).slots t 5)) fullShare ((dats m hE 0 c).before 5 t d)) ∗ (∃ d, owns (c : Thread nD τ) (spec0_6.stage ((cfgA m hE).slots t 6)) fullShare ((dats m hE 0 c).before 6 t d)))
def bodyPost (c : Dev nD) (t : Fin (cfgA m hE).N) : sProp 𝕄 :=
  iprop((dats m hE 0 c).Φ t.succ ∗ (dats m hE 0 c).owesAt () t.succ ∗ owns (c : Thread nD τ) (spec0_0.stage ((cfgA m hE).slots t 0)) fullShare ((dats m hE 0 c).after 0 t) ∗ owns (c : Thread nD τ) (spec0_1.stage ((cfgA m hE).slots t 1)) fullShare ((dats m hE 0 c).after 1 t) ∗ owns (c : Thread nD τ) (spec0_2.stage ((cfgA m hE).slots t 2)) fullShare ((dats m hE 0 c).after 2 t) ∗ owns (c : Thread nD τ) (spec0_3.stage ((cfgA m hE).slots t 3)) fullShare ((dats m hE 0 c).after 3 t) ∗ owns (c : Thread nD τ) (spec0_4.stage ((cfgA m hE).slots t 4)) fullShare ((dats m hE 0 c).after 4 t) ∗ owns (c : Thread nD τ) (spec0_5.stage ((cfgA m hE).slots t 5)) fullShare ((dats m hE 0 c).after 5 t) ∗ owns (c : Thread nD τ) (spec0_6.stage ((cfgA m hE).slots t 6)) fullShare ((dats m hE 0 c).after 6 t))

theorem sound_body (c : Dev nD) (t : Fin (cfgA m hE).N) :
    bodyPre m hE c t ⊢ wp frame (wpE (defs₀ (F := F)) Variants.none c none) Set.univ (bodyAt m hE t) (fun _ => bodyPost m hE c t) := by
  have hc : (grid0.coords t 0).val = t.val := coord t
  unfold bodyPre bodyPost
  simp only [before_0, after_0, before_1, after_1, before_2, after_2, before_3, after_3, before_4, after_4, before_5, after_5, before_6, after_6, iblk_0, iblk_1, iblk_2, iblk_3, iblk_4, iblk_5, iblk_6]
  rw [show (dats m hE 0 c).Φ t.castSucc = iprop(tabNU c (env m c).NU ∗ phi c (env m c) t.val) from rfl,
    show (dats m hE 0 c).Φ t.succ = iprop(tabNU c (env m c).NU ∗ phi c (env m c) (t.val + 1)) from rfl]
  unfold Dat.owesAt Pipeline.owesWithin
  rw [show (dats m hE 0 c).owed t.castSucc = 0 from rfl, show (dats m hE 0 c).owed t.succ = 0 from rfl]
  unfold owns
  iintro ⟨⟨HN, HP⟩, ⟨%W, -, HW⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩⟩
  have hb := body_run c (grid0.coords t) (spec0_0.stage ((cfgA m hE).slots t 0)) (Facts₀.hstage0_0 (((cfgA m hE).slots t 0).cast Facts₀.nbuf0_0)) (spec0_1.stage ((cfgA m hE).slots t 1)) (Facts₀.hstage0_1 (((cfgA m hE).slots t 1).cast Facts₀.nbuf0_1)) (spec0_2.stage ((cfgA m hE).slots t 2)) (Facts₀.hstage0_2 (((cfgA m hE).slots t 2).cast Facts₀.nbuf0_2)) (spec0_3.stage ((cfgA m hE).slots t 3)) (Facts₀.hstage0_3 (((cfgA m hE).slots t 3).cast Facts₀.nbuf0_3)) (spec0_4.stage ((cfgA m hE).slots t 4)) (Facts₀.hstage0_4 (((cfgA m hE).slots t 4).cast Facts₀.nbuf0_4)) (spec0_5.stage ((cfgA m hE).slots t 5)) (Facts₀.hstage0_5 (((cfgA m hE).slots t 5).cast Facts₀.nbuf0_5)) (spec0_6.stage ((cfgA m hE).slots t 6)) (Facts₀.hstage0_6 (((cfgA m hE).slots t 6).cast Facts₀.nbuf0_6)) (env m c) (hE c) g0 g1 g2 g3 g4 g5 g6
    (e0.trans (by rw [hc])) (e1.trans (by rw [hc])) (e2.trans (by rw [hc])) (e3.trans (by rw [hc])) (e4.trans (by rw [hc])) (e5.trans (by rw [hc])) (e6.trans (by rw [hc]))
  rw [hc] at hb
  iapply (call_last c hb) $$ [HN HP HW H0 H1 H2 H3 H4 H5 H6]
  · isplitl [HN]; · iexact HN
    isplitl [HP]; · iexact HP
    isplitr [HW]
    · isplitl [H0]; · iexact H0
      isplitl [H1]; · iexact H1
      isplitl [H2]; · iexact H2
      isplitl [H3]; · iexact H3
      isplitl [H4]; · iexact H4
      isplitl [H5]; · iexact H5
      iexact H6
    iexists W; iexact HW
  iintro %_ ⟨HN, HP, ⟨H0, H1, H2, H3, H4, H5, H6⟩, ⟨%W', HW⟩⟩
  isplitl [HN HP]
  · isplitl [HN]; · iexact HN
    iexact HP
  isplitl [HW]
  · iexists W'; isplitr; · ipureintro; exact fun _ _ => Or.inl trivial
    iexact HW
  isplitl [H0]
  · iexists g0; isplitr; · ipureintro; exact e0
    iexact H0
  isplitl [H1]
  · iexists g1; isplitr; · ipureintro; exact e1
    iexact H1
  isplitl [H2]
  · iexists g2; isplitr; · ipureintro; exact e2
    iexact H2
  isplitl [H3]
  · iexists g3; isplitr; · ipureintro; exact e3
    iexact H3
  isplitl [H4]
  · iexists g4; isplitr; · ipureintro; exact e4
    iexact H4
  isplitl [H5]
  · iexists g5; isplitr; · ipureintro; exact e5
    iexact H5
  iexists g6; isplitr; · ipureintro; exact e6
  iexact H6

theorem body_obligation (c : Dev nD) : BodyObligation (dats (F := F) m hE 0 c) (defs₀ (F := F)) Variants.none () Set.univ := fun t => by
  rw [bigSep_W0, bigSep_W0, defs₀_row]
  exact triple_restated (sound_body m hE c t) rfl .rfl fun _ => .rfl
end Cert.KernelIdeal.Moe

end
-- ==== Proof.Run.lean ====
/-
  The launch: what the kernel is handed at its start and gives back at its end, the run of the whole program, and its
  frame.
-/
module

public import proofs.«01_k».proof.Proof.Region
public import Idealize.ShloMosaic.Lib.Pipeline.FrameSuffixV

@[expose] public section

set_option maxRecDepth 16384
set_option maxHeartbeats 2000000

noncomputable section

namespace Cert.KernelIdeal.Moe

open Cert.KernelIdeal Cert.KernelIdeal.Gen
open Idealize.ShloMosaic Idealize.ShloMosaic.TcCoe Idealize.ShloMosaic.Tactic Idealize.ShloMosaic.ValueIdx
open Idealize.ShloMosaic.Pipeline (Dat BodyObligation)
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the kernel is handed and gives back -/

/-- The kernel's own semaphores. -/
def osem0 : Fin 7 → SemLoc sig := fun k => SemLoc.dma ⟨14 + k.val, by have := k.isLt; show 14 + k.val < 21; omega⟩
theorem osemFacts : Pipeline.OwnSemFacts spec0 osem0 := by decide +kernel
/-- The arrays it only reads, and the one it writes. -/
abbrev H0 : Finset (Ref sig .tc) := {main_v0, main_arg8, main_arg10, main_arg12}
abbrev R0 : Finset (Ref sig .tc) := {main_v5}
theorem H0_sub : H0 ⊆ Pipeline.restRefsP sig pre0 spec0 := by decide +kernel
theorem R0_sub : R0 ⊆ Pipeline.restRefsP sig pre0 spec0 \ H0 := by decide +kernel

/-- The written array at the end. -/
def ends (c : Dev nD) (b : Ref sig .tc) : Buf (Elt F) ((c : Thread nD τ).loc b) :=
  Function.update (V m c) main_v5 ((env m c).ygAt ((env m c).nu + 1)) b

/-- What the launch hands over, buffer by buffer. -/
theorem handed_eq (c : Dev nD) (G : (c : Dev nD) → (b : Ref sig .tc) → Buf (Elt F) ((c : Thread nD τ).loc b)) :
    (Pipeline.ΦDRV osem0 spec0 H0 R0 (fun c b => V m c b) G c : sProp 𝕄)
      = iprop(((∃ g, xPt c Finset.univ g) ∗ (∃ g, yPt c Finset.univ g) ∗ (∃ g, asPt c g) ∗ (∃ g, wgBuf c Finset.univ g) ∗ (∃ g, wuBuf c Finset.univ g) ∗ (∃ g, wdBuf c Finset.univ g) ∗ (∃ g, guPt c g) ∗ (∃ g, dPt c g))
        ∗ (cell c (gsem 0) ∗ cell c (gsem 1) ∗ cell c (gsem 2) ∗ cell c (ssem 0) ∗ cell c (ssem 1) ∗ cell c (wsem 0) ∗ cell c (wsem 1))
        ∗ (hPt c Finset.univ fullShare (V m c main_v0) ∗ wgHbm c Finset.univ (V m c main_arg8) ∗ wuHbm c Finset.univ (V m c main_arg10) ∗ wdHbm c Finset.univ (V m c main_arg12))
        ∗ gPt c Finset.univ (G c main_v5)) := by
  unfold Pipeline.ΦDRV
  rw [scopedRest0_eq, Pipeline.ownSems0_eq_of_list c osem0 [0, 1, 2, 3, 4, 5, 6] (by decide) (by decide),
    BI.bigSep_eq_bigSepL_of_eq ([main_v0, main_arg8, main_arg10, main_arg12] : List (Ref sig .tc)) (by decide) (by decide) _,
    BI.bigSep_eq_bigSepL_of_eq ([main_v5] : List (Ref sig .tc)) (by decide) (by decide) _]
  rfl
/-- The tables. -/
theorem tables_eq (c : Dev nD) (pf : pre0.Contents (Elt F)) : (Pipeline.ΦT pre0 pf c : sProp 𝕄)
    = iprop(tabBE (F := F) c (pf 0) ∗ tabNE (F := F) c (pf 1) ∗ tabPAR (F := F) c (pf 2) ∗ tabNU (F := F) c (pf 3)) := by
  unfold Pipeline.ΦT Pipeline.prefHeld
  exact BI.bigSep_eq_bigSepL_of_eq ([0, 1, 2, 3] : List (Fin 4)) (by decide) (by decide) _
/-- Both slots of a weight buffer. -/
theorem wg_slots (c : Dev nD) (f : S2x1024x1024.Idx → F .f32) : (wgBuf c Finset.univ f : sProp 𝕄) = iprop(wgBuf c (wslot 0) f ∗ wgBuf c (wslot 1) f) := by
  have h : (Finset.univ : Finset S2x1024x1024.Idx) = Finset.univ.biUnion fun s : Fin 2 => wslot s.val := by
    ext p; simp only [Finset.mem_univ, Finset.mem_biUnion, true_and, true_iff, mem_wslot]; exact ⟨p 0, rfl⟩
  have e : (_ : sProp 𝕄) = _ := pointsTo_biUnion (Val := Elt F) (ℓ := (c : Thread nD τ).loc cc0_scratch3) (q := fullShare) (f := f) (Finset.univ : Finset (Fin 2)) (fun s => wslot s.val)
    (fun t _ t' _ ht => Finset.disjoint_left.mpr fun p hp hp' => ht (Fin.ext ((mem_wslot.mp hp).symm.trans (mem_wslot.mp hp'))))
  rw [← h] at e
  refine e.trans ?_
  exact BI.bigSep_eq_bigSepL_of_eq ([0, 1] : List (Fin 2)) (by decide) (by decide) _
theorem wg_join (c : Dev nD) : iprop((∃ g, wgBuf c (wslot 0) g) ∗ (∃ g, wgBuf c (wslot 1) g)) ⊢ (iprop(∃ g, wgBuf c Finset.univ g) : sProp 𝕄) := by
  iintro ⟨⟨%g, H⟩, ⟨%g', H'⟩⟩
  iexists (fun p => if (p 0).val = 0 then g p else g' p)
  rw [wg_slots]
  isplitl [H]
  · iapply (Entails.of_eq (pointsTo_congr (Val := Elt F) (fun p hp => by rw [if_pos (mem_wslot.mp hp)]))) $$ H
  · iapply (Entails.of_eq (pointsTo_congr (Val := Elt F) (fun p hp => by rw [if_neg (by rw [mem_wslot.mp hp]; omega)]))) $$ H'
theorem wu_slots (c : Dev nD) (f : S2x1024x1024.Idx → F .f32) : (wuBuf c Finset.univ f : sProp 𝕄) = iprop(wuBuf c (wslot 0) f ∗ wuBuf c (wslot 1) f) := by
  have h : (Finset.univ : Finset S2x1024x1024.Idx) = Finset.univ.biUnion fun s : Fin 2 => wslot s.val := by
    ext p; simp only [Finset.mem_univ, Finset.mem_biUnion, true_and, true_iff, mem_wslot]; exact ⟨p 0, rfl⟩
  have e : (_ : sProp 𝕄) = _ := pointsTo_biUnion (Val := Elt F) (ℓ := (c : Thread nD τ).loc cc0_scratch4) (q := fullShare) (f := f) (Finset.univ : Finset (Fin 2)) (fun s => wslot s.val)
    (fun t _ t' _ ht => Finset.disjoint_left.mpr fun p hp hp' => ht (Fin.ext ((mem_wslot.mp hp).symm.trans (mem_wslot.mp hp'))))
  rw [← h] at e
  refine e.trans ?_
  exact BI.bigSep_eq_bigSepL_of_eq ([0, 1] : List (Fin 2)) (by decide) (by decide) _
theorem wu_join (c : Dev nD) : iprop((∃ g, wuBuf c (wslot 0) g) ∗ (∃ g, wuBuf c (wslot 1) g)) ⊢ (iprop(∃ g, wuBuf c Finset.univ g) : sProp 𝕄) := by
  iintro ⟨⟨%g, H⟩, ⟨%g', H'⟩⟩
  iexists (fun p => if (p 0).val = 0 then g p else g' p)
  rw [wu_slots]
  isplitl [H]
  · iapply (Entails.of_eq (pointsTo_congr (Val := Elt F) (fun p hp => by rw [if_pos (mem_wslot.mp hp)]))) $$ H
  · iapply (Entails.of_eq (pointsTo_congr (Val := Elt F) (fun p hp => by rw [if_neg (by rw [mem_wslot.mp hp]; omega)]))) $$ H'
theorem wd_slots (c : Dev nD) (f : S2x1024x1024.Idx → F .f32) : (wdBuf c Finset.univ f : sProp 𝕄) = iprop(wdBuf c (wslot 0) f ∗ wdBuf c (wslot 1) f) := by
  have h : (Finset.univ : Finset S2x1024x1024.Idx) = Finset.univ.biUnion fun s : Fin 2 => wslot s.val := by
    ext p; simp only [Finset.mem_univ, Finset.mem_biUnion, true_and, true_iff, mem_wslot]; exact ⟨p 0, rfl⟩
  have e : (_ : sProp 𝕄) = _ := pointsTo_biUnion (Val := Elt F) (ℓ := (c : Thread nD τ).loc cc0_scratch5) (q := fullShare) (f := f) (Finset.univ : Finset (Fin 2)) (fun s => wslot s.val)
    (fun t _ t' _ ht => Finset.disjoint_left.mpr fun p hp hp' => ht (Fin.ext ((mem_wslot.mp hp).symm.trans (mem_wslot.mp hp'))))
  rw [← h] at e
  refine e.trans ?_
  exact BI.bigSep_eq_bigSepL_of_eq ([0, 1] : List (Fin 2)) (by decide) (by decide) _
theorem wd_join (c : Dev nD) : iprop((∃ g, wdBuf c (wslot 0) g) ∗ (∃ g, wdBuf c (wslot 1) g)) ⊢ (iprop(∃ g, wdBuf c Finset.univ g) : sProp 𝕄) := by
  iintro ⟨⟨%g, H⟩, ⟨%g', H'⟩⟩
  iexists (fun p => if (p 0).val = 0 then g p else g' p)
  rw [wd_slots]
  isplitl [H]
  · iapply (Entails.of_eq (pointsTo_congr (Val := Elt F) (fun p hp => by rw [if_pos (mem_wslot.mp hp)]))) $$ H
  · iapply (Entails.of_eq (pointsTo_congr (Val := Elt F) (fun p hp => by rw [if_neg (by rw [mem_wslot.mp hp]; omega)]))) $$ H'

theorem start (hE : ∀ c : Dev nD, (env m c).Ok) (c : Dev nD) :
    iprop(Pipeline.ΦDRV osem0 spec0 H0 R0 (fun c b => V m c b) (fun c b => V m c b) c ∗ Pipeline.ΦT pre0 (adm m hE).1 c) ⊢ (dats m hE 0 c).Φ 0 := by
  obtain rfl : c = 0 := Subsingleton.elim _ _
  rw [handed_eq, tables_eq, show (dats m hE 0 0).Φ 0 = iprop(tabNU 0 (env m 0).NU ∗ held 0 (env m 0) (env m 0).V) from rfl]
  unfold held
  iintro ⟨⟨⟨HX, HY, HA, ⟨%g1, H1⟩, ⟨%g2, H2⟩, ⟨%g3, H3⟩, HGU, HD⟩, ⟨C0, C1, C2, C3, C4, C5, C6⟩, ⟨HH, HWG, HWU, HWD⟩, HG⟩, ⟨T1, T2, T3, T4⟩⟩
  ihave H1 := (Entails.of_eq (wg_slots 0 g1)) $$ H1
  ihave H2 := (Entails.of_eq (wu_slots 0 g2)) $$ H2
  ihave H3 := (Entails.of_eq (wd_slots 0 g3)) $$ H3
  icases H1 with ⟨A0, A1⟩
  icases H2 with ⟨B0, B1⟩
  icases H3 with ⟨D0, D1⟩
  isplitl [T4]; · iexact T4
  isplitl [T1 T2 T3]
  · isplitl [T1]; · iexact T1
    isplitl [T2]; · iexact T2
    iexact T3
  isplitl [HX]; · iexact HX
  isplitl [HY]; · iexact HY
  isplitl [HH]; · iexact HH
  isplitl [HG]; · iexact HG
  isplitl [C0 C1 C2]
  · isplitl [C0]; · iexact C0
    isplitl [C1]; · iexact C1
    iexact C2
  isplitl [C3 C4]
  · isplitl [C3]; · iexact C3
    iexact C4
  isplitl [A0 B0 D0 C5]
  · isplitl [A0]; · iexists g1; iexact A0
    isplitl [B0]; · iexists g2; iexact B0
    isplitl [D0]; · iexists g3; iexact D0
    iexact C5
  isplitl [A1 B1 D1 C6]
  · isplitl [A1]; · iexists g1; iexact A1
    isplitl [B1]; · iexists g2; iexact B1
    isplitl [D1]; · iexists g3; iexact D1
    iexact C6
  isplitl [HWG HWU HWD]
  · isplitl [HWG]; · iexact HWG
    isplitl [HWU]; · iexact HWU
    iexact HWD
  isplitl [HGU HD]
  · isplitl [HGU]; · iexact HGU
    iexact HD
  iexact HA

theorem finish (hE : ∀ c : Dev nD, (env m c).Ok) (c : Dev nD) :
    (dats m hE 0 c).Φ (Fin.last (cfgA m hE).N) ⊢ Pipeline.ΦDRV osem0 spec0 H0 R0 (fun c b => V m c b) (ends m) c := by
  have hn : (Fin.last (cfgA m hE).N).val = 289 := N_0
  have hu := (hE c).nu_le
  have e : (dats m hE 0 c).Φ (Fin.last (cfgA m hE).N) = iprop(tabNU c (env m c).NU ∗ held c (env m c) (ends m c main_v5)) := by
    show iprop(tabNU c (env m c).NU ∗ phi c (env m c) (Fin.last (cfgA m hE).N).val) = _
    rw [hn]; unfold phi phi1
    rw [if_neg (by omega), if_neg (by omega)]
    unfold ends; rw [Function.update_self]
  rw [handed_eq, e]
  unfold held
  iintro ⟨-, -, HX, HY, HH, HG, ⟨C0, C1, C2⟩, ⟨C3, C4⟩, ⟨A0, B0, D0, C5⟩, ⟨A1, B1, D1, C6⟩, ⟨HWG, HWU, HWD⟩, ⟨HGU, HD⟩, HA⟩
  isplitr [HH HWG HWU HWD HG C0 C1 C2 C3 C4 C5 C6]
  · isplitl [HX]; · iexact HX
    isplitl [HY]; · iexact HY
    isplitl [HA]; · iexact HA
    isplitl [A0 A1]
    · iapply (wg_join c); isplitl [A0]; · iexact A0
      iexact A1
    isplitl [B0 B1]
    · iapply (wu_join c); isplitl [B0]; · iexact B0
      iexact B1
    isplitl [D0 D1]
    · iapply (wd_join c); isplitl [D0]; · iexact D0
      iexact D1
    isplitl [HGU]; · iexact HGU
    iexact HD
  isplitl [C0 C1 C2 C3 C4 C5 C6]
  · isplitl [C0]; · iexact C0
    isplitl [C1]; · iexact C1
    isplitl [C2]; · iexact C2
    isplitl [C3]; · iexact C3
    isplitl [C4]; · iexact C4
    isplitl [C5]; · iexact C5
    iexact C6
  isplitl [HH HWG HWU HWD]
  · isplitl [HH]; · iexact HH
    isplitl [HWG]; · iexact HWG
    isplitl [HWU]; · iexact HWU
    iexact HWD
  iexact HG

/-! ## The run -/

theorem hostOps1_in : ∀ ops ∈ [hostOps1 (F := F)], ∀ op ∈ ops, op.bufs ⊆ Pipeline.tailRefs sig pre0 spec0 := by
  intro ops ho op hop
  simp only [List.mem_singleton] at ho
  subst ho
  simp only [hostOps1, List.mem_cons, List.not_mem_nil, or_false] at hop
  obtain rfl | rfl := hop
  · exact (show ({Proc.devRef .tc main_v5, Proc.devRef .tc main_v6} : Finset (DevRef τ sig)) ⊆ Pipeline.tailRefs sig pre0 spec0 by decide +kernel)
  · exact (show ({Proc.devRef .tc main_v6, Proc.devRef .tc main_v7} : Finset (DevRef τ sig)) ⊆ Pipeline.tailRefs sig pre0 spec0 by decide +kernel)
theorem hostOps1_keep : ∀ ops ∈ [hostOps1 (F := F)], ∀ op ∈ ops, ∀ w, Proc.devRef .tc (Pipeline.arrRef spec0 w) ∉ op.writes := by
  intro ops ho op hop
  simp only [List.mem_singleton] at ho
  subst ho
  simp only [hostOps1, List.mem_cons, List.not_mem_nil, or_false] at hop
  obtain rfl | rfl := hop
  · exact (show ∀ w, Proc.devRef .tc (Pipeline.arrRef spec0 w) ∉ ({Proc.devRef .tc main_v6} : Finset (DevRef τ sig)) by decide +kernel)
  · exact (show ∀ w, Proc.devRef .tc (Pipeline.arrRef spec0 w) ∉ ({Proc.devRef .tc main_v7} : Finset (DevRef τ sig)) by decide +kernel)
theorem hostOps1_fresh : ∀ ops ∈ [hostOps1 (F := F)], ∀ op ∈ ops, op.fresh = ∅ := by
  intro ops ho op hop
  simp only [List.mem_singleton] at ho
  subst ho
  simp only [hostOps1, List.mem_cons, List.not_mem_nil, or_false] at hop
  obtain rfl | rfl := hop <;> rfl

/-- The buffers at the program's end. -/
def last (c : Dev nD) (hE : ∀ c : Dev nD, (env m c).Ok) : Valuation τ sig (Elt F) :=
  StableHlo.after (hostOps1 (F := F)) (Pipeline.withArrays spec0 c (Pipeline.withR (V0 m c) R0 c (ends m c)) fun w => (dats m hE 0 c).arrAt w (cfgA m hE).N)

set_option backward.isDefEq.respectTransparency.types false in
theorem run_main (hE : ∀ c : Dev nD, (env m c).Ok) : θ_run defs (onTc (τ := τ) (main (F := F))) ⟨m, fun _ => 0, ρ⟩ (fun r => (∀ c : Dev nD,
      (∀ w, r.2.mem ((spec0 w).arr.view.loc (c : Thread nD τ)) = V m c (Pipeline.arrRef spec0 w))
      ∧ ∀ b ∈ Pipeline.restRefsP sig pre0 spec0, r.2.mem ((c : Thread nD τ).loc b) = last m c hE (Proc.devRef .tc b)) ∧ r.2.sem = fun _ => 0) :=
  Pipeline.θ_run_frameP_dmaR_aroundV_shared (pcfgs (F := F)) (fun _ => adm m hE) (dats m hE) (0 : Fin 1) launch₀0 osem0 defs₀ Variants.none
    osemFacts H0 R0 H0_sub R0_sub m ρ main
    (fun c => (body_obligation m hE c).loose) (fun _ _ _ => rfl) (fun _ _ => rfl) (V0 m) [hostOps1 (F := F)]
    hostOps1_in hostOps1_fresh hostOps1_keep (ends m)
    (Pipeline.hmainP_around _ (0 : Fin 1) defs₀ Variants.none m main [hostOps0 (F := F)] [hostOps1 (F := F)] hostOps0_sub ⟨rfl, rfl, rfl, rfl, rfl⟩
      fun c => (main_chain c).trans rfl)
    (fun c w => A_eq m hE c w) (fun c k => by obtain rfl : c = 0 := Subsingleton.elim _ _; rfl)
    (start m hE) (finish m hE)
    (Q' := _) (fun r h => ⟨fun c => ⟨fun w => ((h.1 c).1 w).trans (((dats m hE 0 c).arrAt_in w ((by decide : ∀ w : Fin 7, (spec0 w).isOut = false) w) _).trans (A_eq m hE c w)), fun b hb => ((h.1 c).2 b hb).trans rfl⟩, h.2⟩)
end Cert.KernelIdeal.Moe

end
-- ==== Proof.Tables.lean ====
/-
  The four prefetched tables at the end of the run: the launch keeps one half of each, so they hold what they held.
-/
module

public import proofs.«01_k».proof.Proof.Run
public import Idealize.ShloMosaic.Lib.Pipeline.FrameSuffixV

@[expose] public section

set_option maxRecDepth 16384
set_option maxHeartbeats 2000000

noncomputable section

namespace Cert.KernelIdeal.Moe

open Cert.KernelIdeal Cert.KernelIdeal.Gen
open Idealize.ShloMosaic Idealize.ShloMosaic.TcCoe Idealize.ShloMosaic.Tactic Idealize.ShloMosaic.ValueIdx
open Idealize.ShloMosaic.Pipeline (Dat BodyObligation)
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)
local notation "𝕄" => MT nD τ sig Unit (Elt F) ℕ (Pipeline.UD sig nD τ) ℕ

/-- The buffers that are neither a window's array nor a table, as the host lines hold them. -/
abbrev others : Finset (Ref sig .tc) := Pipeline.restRefsP sig pre0 spec0
abbrev othersDev : Finset (DevRef τ sig) := others.map ⟨Proc.devRef (sig := sig) .tc, Proc.devRef_injective _⟩
theorem held_others (c : Dev nD) (W : Valuation τ sig (Elt F)) :
    (StableHlo.held (c.tc : Thread nD τ) othersDev W : sProp 𝕄) = bigSep others fun b => ((c : Thread nD τ).loc b) ↦{fullShare} W (Proc.devRef .tc b) := by
  unfold StableHlo.held othersDev
  rw [BI.bigSep_map]
  rfl
theorem hostOps1_others : ∀ ops ∈ [hostOps1 (F := F)], ∀ op ∈ ops, op.bufs ⊆ othersDev := by
  intro ops ho op hop
  simp only [List.mem_singleton] at ho
  subst ho
  simp only [hostOps1, List.mem_cons, List.not_mem_nil, or_false] at hop
  obtain rfl | rfl := hop
  · exact (show ({Proc.devRef .tc main_v5, Proc.devRef .tc main_v6} : Finset (DevRef τ sig)) ⊆ othersDev by decide +kernel)
  · exact (show ({Proc.devRef .tc main_v6, Proc.devRef .tc main_v7} : Finset (DevRef τ sig)) ⊆ othersDev by decide +kernel)

theorem others_split (c : Dev nD) (W : (b : Ref sig .tc) → Buf (Elt F) ((c : Thread nD τ).loc b)) :
    (bigSep others fun b => ((c : Thread nD τ).loc b) ↦{fullShare} W b : sProp 𝕄)
      = iprop((bigSep H0 fun b => ((c : Thread nD τ).loc b) ↦{fullShare} W b) ∗ (bigSep R0 fun b => ((c : Thread nD τ).loc b) ↦{fullShare} W b)
        ∗ bigSep ((others \ H0) \ R0) fun b => ((c : Thread nD τ).loc b) ↦{fullShare} W b) := by
  rw [BI.bigSep_sdiff_split H0_sub]
  congr 1
  exact BI.bigSep_sdiff_split R0_sub

/-- What those buffers hold when the kernel is done. -/
def done (c : Dev nD) : Valuation τ sig (Elt F) := Pipeline.withR (V0 m c) R0 c (ends m c)
theorem done_R (c : Dev nD) : (bigSep R0 fun b => ((c : Thread nD τ).loc b) ↦{fullShare} done m c (Proc.devRef .tc b) : sProp 𝕄)
    = bigSep R0 fun b => ((c : Thread nD τ).loc b) ↦{fullShare} ends m c b :=
  BI.bigSep_congr fun b hb => by unfold done; rw [Pipeline.withR_of_mem _ _ _ _ b hb]
theorem done_H (c : Dev nD) : (bigSep H0 fun b => ((c : Thread nD τ).loc b) ↦{fullShare} done m c (Proc.devRef .tc b) : sProp 𝕄)
    = bigSep H0 fun b => ((c : Thread nD τ).loc b) ↦{fullShare} V m c b :=
  BI.bigSep_congr fun b hb => by unfold done; rw [Pipeline.withR_of_not_mem _ _ _ _ b fun h => (Finset.mem_sdiff.mp (R0_sub h)).2 hb]
theorem done_Z (c : Dev nD) : (bigSep ((others \ H0) \ R0) fun b => ((c : Thread nD τ).loc b) ↦{fullShare} done m c (Proc.devRef .tc b) : sProp 𝕄)
    = bigSep ((others \ H0) \ R0) fun b => ((c : Thread nD τ).loc b) ↦{fullShare} V m c b :=
  BI.bigSep_congr fun b hb => by unfold done; rw [Pipeline.withR_of_not_mem _ _ _ _ b (Finset.mem_sdiff.mp hb).2]

set_option backward.isDefEq.respectTransparency.types false in
theorem tables_main (hE : ∀ c : Dev nD, (env m c).Ok) : θ_run defs (onTc (τ := τ) (main (F := F))) ⟨m, fun _ => 0, ρ⟩
    (fun r => ∀ (c : Dev nD) (k : Fin 4), r.2.mem ((c : Thread nD τ).loc (pre0.ref k)) = (adm m hE).1 k) := by
  classical
  exact Pipeline.θ_run_region_pf_tail'_quiescent (pcfgs (F := F)) (fun _ => adm m hE) (dats m hE) () ((launch₀0 (F := F)).cellOf_inj fun _ => adm m hE) (0 : Fin 1) (launch₀0 (F := F)).win
    osemFacts (launch₀0 (F := F)).pre embL defs₀ Variants.none m ρ main
    (fun _ => Pipeline.chain ([hostOps1 (F := F)].map StableHlo.seq)) (fun c => (body_obligation m hE c).loose)
    (launch₀0 (F := F)).block_pos (launch₀0 (F := F)).arr_whole (launch₀0 (F := F)).stage_whole (fun _ _ => rfl)
    (G := fun _ => iprop(emp)) (u₀ := (Rounds.initOf (Pipeline.cells (Pipeline.pin pcfgs fun _ => adm m hE) ((launch₀0 (F := F)).cellOf_inj fun _ => adm m hE)) (Pipeline.launchToks (Pipeline.pin pcfgs fun _ => adm m hE) ((launch₀0 (F := F)).cellOf_inj fun _ => adm m hE)), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => V m c b)
    (hmain := Pipeline.hmainP_around _ (0 : Fin 1) defs₀ Variants.none m main [hostOps0 (F := F)] [hostOps1 (F := F)] hostOps0_sub ⟨rfl, rfl, rfl, rfl, rfl⟩
      fun c => (main_chain c).trans rfl)
    (hsplit := fun c => (dats m hE 0 c).arrays_split_shared (launch₀0 (F := F)).sharedIn (launch₀0 (F := F)).arr_whole (fun _ _ => rfl) (fun b => V m c b) _ fun w => A_eq m hE c w)
    (hpf := fun c k => by obtain rfl : c = 0 := Subsingleton.elim _ _; rfl)
    (X := fun c => iprop(Pipeline.ownSems0 (Ix := Unit) (Name := ℕ) (U := Pipeline.UD sig nD τ) (Lvl := ℕ) (Val := Elt F) (τ := τ) osem0 c
      ∗ (bigSep H0 fun b => ((c : Thread nD τ).loc b) ↦{fullShare} V m c b) ∗ bigSep R0 fun b => ((c : Thread nD τ).loc b) ↦{fullShare} V m c b))
    (Y := fun c => iprop((bigSep H0 fun b => ((c : Thread nD τ).loc b) ↦{fullShare} V m c b) ∗ bigSep R0 fun b => ((c : Thread nD τ).loc b) ↦{fullShare} ends m c b))
    (Z := fun c => bigSep ((others \ H0) \ R0) fun b => ((c : Thread nD τ).loc b) ↦{fullShare} V m c b)
    (Y' := fun _ => iprop(emp)) (Z' := fun _ => iprop(emp))
    (hX := fun c => by
      iintro ⟨HU, Ho, -, -, -⟩
      imodintro
      ihave HU := (show (Pipeline.unscopedRestP (Pipeline.PCfg.pre (pcfgs (F := F) 0)) (Pipeline.pin pcfgs (fun _ => adm m hE) 0).spec c (fun b => V m c b) : sProp 𝕄) ⊢ _ from Entails.of_eq (others_split c (fun b => V m c b))) $$ HU
      icases HU with ⟨HH, HR, HZ⟩
      isplitr [HZ]
      · isplitl [Ho]; · iexact Ho
        isplitl [HH]; · iexact HH
        iexact HR
      iexact HZ)
    (hin := fun c => (show _ ⊢ iprop(Pipeline.ΦDRV osem0 spec0 H0 R0 (fun c b => V m c b) (fun c b => V m c b) c ∗ Pipeline.ΦT pre0 (adm m hE).1 c) by
      unfold Pipeline.ΦDRV Pipeline.ΦT
      iintro ⟨⟨Ho, HH, HR⟩, Ht, Hr⟩
      isplitr [Ht]
      · isplitl [Hr]; · iexact Hr
        isplitl [Ho]; · iexact Ho
        isplitl [HH]; · iexact HH
        iexact HR
      iexact Ht).trans (start m hE c))
    (hout := fun c => (finish m hE c).trans (by
      unfold Pipeline.ΦDRV
      iintro ⟨Hr, Ho, HH, HR⟩
      isplitl [HH HR]
      · isplitl [HH]; · iexact HH
        iexact HR
      isplitl [Ho]; · iexact Ho
      iexact Hr))
    (htail := fun c Q' => by
      iintro ⟨Hk, Hb, Ha, ⟨HH, HR⟩, HZ⟩
      ihave HH := (Entails.of_eq (done_H m c).symm) $$ HH
      ihave HR := (Entails.of_eq (done_R m c).symm) $$ HR
      ihave HZ := (Entails.of_eq (done_Z m c).symm) $$ HZ
      ihave HO := (show iprop(boundary (c.tc : Thread nD τ) ∗ (bigSep H0 fun b => ((c : Thread nD τ).loc b) ↦{fullShare} done m c (Proc.devRef .tc b))
          ∗ (bigSep R0 fun b => ((c : Thread nD τ).loc b) ↦{fullShare} done m c (Proc.devRef .tc b))
          ∗ bigSep ((others \ H0) \ R0) fun b => ((c : Thread nD τ).loc b) ↦{fullShare} done m c (Proc.devRef .tc b))
        ⊢ iprop(boundary (c.tc : Thread nD τ) ∗ (StableHlo.held (c.tc : Thread nD τ) othersDev (done m c) : sProp 𝕄)) from by
          rw [held_others, others_split c (fun b => done m c (Proc.devRef .tc b))]) $$ [Hb HH HR HZ]
      · isplitl [Hb]; · iexact Hb
        isplitl [HH]; · iexact HH
        isplitl [HR]; · iexact HR
        iexact HZ
      rw [← List.append_nil ([hostOps1 (F := F)].map StableHlo.seq)]
      iapply (Pipeline.wp_seqs_then pcfgs defs₀ Variants.none c othersDev [] [hostOps1 (F := F)] hostOps1_others hostOps1_fresh (done m c)) $$ HO
      rw [Pipeline.chain_nil, wp_pure]
      iintro ⟨Hb, -⟩
      imodintro
      iapply Hk
      isplitl [Hb]; · iexact Hb
      isplitl [Ha]; · iexact Ha
      isplitl []
      · iempintro
      iempintro)
    (QY := fun _ _ => True)
    (hY := fun c s' => by
      iintro ⟨-, -, HSI⟩
      imodintro
      isplitr
      · ipureintro; trivial
      · iexact HSI)
    (hQ := fun s h _ => fun c k => (h c).2.1 k)

end Cert.KernelIdeal.Moe
-- ==== Proof.Plan.lean ====
/-
  What the plan says: the precondition's arrays read word by word, as statements about numbers.
-/
module

public import proofs.«01_k».proof.Pre_routed
public import Idealize.ShloMosaic.Lib.Routing.Ops
public import Idealize.ShloMosaic.Lib.Routing.OpsSet
public import Idealize.ShloMosaic.Lib.Routing.OpsPair
public import Idealize.ShloMosaic.Lib.StableHlo.Predicate
public import Idealize.ShloMosaic.Lib.Pipeline.Value

@[expose] public section

set_option maxRecDepth 16384
set_option maxHeartbeats 1000000

namespace Cert.Pre_routed

open Idealize.ShloMosaic Idealize.ShloMosaic.ValueIdx Idealize.ShloMosaic.Routing Idealize.ShloMosaic.StableHlo.Predicate

/-- The plan, in numbers: the experts chosen `I`, the slot of every assignment `D`, the word of every slot `S`, and for every
block of slots its expert `BE`, the next expert `NE`, and the weights' buffer `PAR`; `NU` blocks are used. -/
structure Plan (I : IVec S4x16384 32) (D : IVec S65536 32) (S : IVec S73984 32) (BE NE PAR : IVec S289 32) (NU : IVec S1 32) : Prop where
  slot : ∀ (n : Fin 289) (r : Fin 256) (p : Fin 73984), p.val = n.val * 256 + r.val →
    ((∃ a : Fin 65536, (S (ix1 p)).toNat = a.val ∧ (D (ix1 a)).toNat = p.val ∧ ∀ (k : Fin 4) (t : Fin 16384), a.val = k.val * 16384 + t.val → I (ix2 k t) = BE (ix1 n))
      ∨ (S (ix1 p)).toNat = 65536 + r.val + if n.val = 288 then 256 else 0)
  placed : ∀ a : Fin 65536, (D (ix1 a)).toNat < (NU (ix1 0)).toNat * 256 ∧ ∃ p : Fin 73984, p.val = (D (ix1 a)).toNat ∧ (S (ix1 p)).toNat = a.val
  be_lt : ∀ n : Fin 289, (BE (ix1 n)).toNat < 32
  ne_lt : ∀ n : Fin 289, (NE (ix1 n)).toNat < 32
  par_lt : ∀ n : Fin 289, (PAR (ix1 n)).toNat < 2
  same : ∀ (n n' : Fin 289), n'.val = n.val + 1 → BE (ix1 n') = BE (ix1 n) → NE (ix1 n') = NE (ix1 n) ∧ PAR (ix1 n') = PAR (ix1 n)
  turn : ∀ (n n' : Fin 289), n'.val = n.val + 1 → BE (ix1 n') ≠ BE (ix1 n) → BE (ix1 n') = NE (ix1 n) ∧ (PAR (ix1 n')).toNat = 1 - (PAR (ix1 n)).toNat
  last : ∀ n : Fin 289, n.val = (NU (ix1 0)).toNat → NE (ix1 n) = BE (ix1 n)
  par0 : (PAR (ix1 0)).toNat = 0
  nu_le : (NU (ix1 0)).toNat ≤ 288

/-! ## Words -/

theorem both_one (a b : BitVec 1) : IntOp.andi a b = 1#1 ↔ a = 1#1 ∧ b = 1#1 := by revert a b; decide
theorem either_one (a b : BitVec 1) : IntOp.ori a b = 1#1 ↔ a = 1#1 ∨ b = 1#1 := by revert a b; decide
theorem none_one (a : BitVec 1) : ~~~a = 1#1 ↔ ¬ a = 1#1 := by revert a; decide
theorem ne_one {w : Nat} (a b : BitVec w) : IntOp.cmpi .ne a b = 1#1 ↔ a ≠ b := by
  simp only [IntOp.cmpi, ofBool_eq_one_iff, bne_iff_ne]
theorem nonneg (a : BitVec 32) (h : IntOp.cmpi .sge a 0#32 = 1#1) : a.toNat < 2 ^ 31 := by
  unfold IntOp.cmpi at h
  simp only [ofBool_eq_one_iff, BitVec.sle, decide_eq_true_eq] at h
  rw [show (0#32).toInt = 0 from by decide, BitVec.toInt_eq_toNat_cond] at h
  have := a.isLt
  split at h <;> omega
theorem below (a b : BitVec 32) (h0 : IntOp.cmpi .sge a 0#32 = 1#1) (hb : b.toNat < 2 ^ 31) (h : IntOp.cmpi .slt a b = 1#1) : a.toNat < b.toNat :=
  (slt_iff_toNat (nonneg a h0) hb).mp h
theorem atMost (a b : BitVec 32) (h0 : IntOp.cmpi .sge a 0#32 = 1#1) (hb : b.toNat < 2 ^ 31) (h : IntOp.cmpi .sle a b = 1#1) : a.toNat ≤ b.toNat :=
  (sle_iff_toNat (nonneg a h0) hb).mp h

/-! ## The operations, entry by entry -/

theorem splat {s : Shape} (hb : S_.BroadcastsInDim s (![] : Fin 0 → Fin s.rank)) (v : BitVec 32) (j : s.Idx) :
    broadcastInDim s ![] hb (constantI S_ 32 v) j = v := rfl
theorem spread {n : Nat} (hb : S1.BroadcastsInDim (shape1 n) (![0] : Fin 1 → Fin (shape1 n).rank)) (v : IVec S1 32) (p : Fin n) :
    broadcastInDim (shape1 n) ![0] hb v (ix1 p) = v (ix1 0) := by
  refine broadcastInDim_apply _ hb v _ _ fun a => ?_
  match a with
  | ⟨0, _⟩ => rfl

variable [Facts]
open Facts

theorem rowsOf (v : IVec S289 32) (n : Fin 289) (r : Fin 256) :
    broadcastInDim S289x256 ![0, 1] bcast_S289x1_S289x256_0_1 (broadcastInDim S289x1 ![0] bcast_S289_S289x1_0 v) (ix2 n r) = v (ix1 n) :=
  bcRows _ _ v n r

/-- An index that is not negative is used as it is. -/
theorem takeSlot (x : IVec S65536 32) (s : IVec S73984 32) (c : BitVec 32) (p : Fin 73984) (a : Fin 65536) (h : (s (ix1 p)).toNat = a.val) :
    Host.gather gather_S65536_S73984x1_S73984_n_0_n_n_0_1_1 x (broadcastInDim S73984x1 ![0] bcast_S73984_S73984x1_0
      (select (cmpi .slt s (broadcastInDim S73984 ![] bcast_S_S73984 (constantI S_ 32 0#32)))
        (addi s (broadcastInDim S73984 ![] bcast_S_S73984 (constantI S_ 32 c))) s)) (ix1 p) = x (ix1 a) := by
  have := a.isLt
  refine gather_take1 (N := 65536) (n := 73984) _ rfl rfl rfl rfl x _ p a ?_ (by norm_num)
  refine (bcCol (n := 73984) bcast_S73984_S73984x1_0 _ p).trans ?_
  show Scalar.select (IntOp.cmpi .slt (s (ix1 p)) 0#32) _ (s (ix1 p)) = _
  rw [wrap_of_lt _ _ (by omega)]
  exact BitVec.eq_of_toNat_eq (by rw [BitVec.toNat_ofNat, h]; omega)
theorem takePlace (x : IVec S73984 32) (s : IVec S65536 32) (c : BitVec 32) (p : Fin 65536) (a : Fin 73984) (h : (s (ix1 p)).toNat = a.val) :
    Host.gather gather_S73984_S65536x1_S65536_n_0_n_n_0_1_1 x (broadcastInDim S65536x1 ![0] bcast_S65536_S65536x1_0
      (select (cmpi .slt s (broadcastInDim S65536 ![] bcast_S_S65536 (constantI S_ 32 0#32)))
        (addi s (broadcastInDim S65536 ![] bcast_S_S65536 (constantI S_ 32 c))) s)) (ix1 p) = x (ix1 a) := by
  have := a.isLt
  refine gather_take1 (N := 73984) (n := 65536) _ rfl rfl rfl rfl x _ p a ?_ (by norm_num)
  refine (bcCol (n := 65536) bcast_S65536_S65536x1_0 _ p).trans ?_
  show Scalar.select (IntOp.cmpi .slt (s (ix1 p)) 0#32) _ (s (ix1 p)) = _
  rw [wrap_of_lt _ _ (by omega)]
  exact BitVec.eq_of_toNat_eq (by rw [BitVec.toNat_ofNat, h]; omega)

/-- An array moved one place up reads, after its first entry, the entry before. -/
theorem moved (v : IVec S289 32) (n n' : Fin 289) (h : n'.val = n.val + 1) :
    concatenate S289 0 [⟨S1, extractStridedSlice S1 ![0] v slices_S289_S1_0⟩, ⟨S288, extractStridedSlice S288 ![0] v slices_S289_S288_0⟩] concatenates_S1_S288_S289_d0 (ix1 n') = v (ix1 n) := by
  have hl : n.val < 288 := by have := n'.isLt; omega
  refine (concatenate_pair_apply_right (t := S289) (s₁ := S1) (s₂ := S288) 0 _ _ concatenates_S1_S288_S289_d0 (ix1 n') rfl rfl (ix1 ⟨n.val, hl⟩) ?_ ?_).trans ?_
  · intro b hb
    exact absurd (Subsingleton.elim _ _) hb
  · exact h.symm
  · refine (slice1 0 v slices_S289_S288_0 ⟨n.val, hl⟩ (by show 0 + n.val < 289; omega)).trans ?_
    exact congrArg (fun k => v (ix1 k)) (Fin.ext (Nat.zero_add _))

variable {F : FTy → Type} [FloatOps F]
variable {x0 : FVec F S16384x1024 .f32} {I : IVec S4x16384 32} {D : IVec S65536 32} {S : IVec S73984 32} {BE NE PAR : IVec S289 32} {NU : IVec S1 32}
  {x8 : FVec F S32x1024x1024 .f32} {x9 : FVec F S32x1024 .f32} {x10 : FVec F S32x1024x1024 .f32} {x11 : FVec F S32x1024 .f32} {x12 : FVec F S32x1024x1024 .f32} {x13 : FVec F S32x1024 .f32}

/-! ## The six results of the precondition -/

theorem slot_of (h : (fn (F := F) x0 I D S BE NE PAR NU x8 x9 x10 x11 x12 x13).1 = fun _ => 1#1) (n : Fin 289) (r : Fin 256) (p : Fin 73984) (hp : p.val = n.val * 256 + r.val) :
    ((∃ a : Fin 65536, (S (ix1 p)).toNat = a.val ∧ (D (ix1 a)).toNat = p.val ∧ ∀ (k : Fin 4) (t : Fin 16384), a.val = k.val * 16384 + t.val → I (ix2 k t) = BE (ix1 n))
      ∨ (S (ix1 p)).toNat = 65536 + r.val + if n.val = 288 then 256 else 0) := by
  have e := congrFun h (ix2 n r)
  simp only [fn, fn_part1, fn_part2, fn_part3, fn_part4, fn_part5, fn_where] at e
  simp only [ori, andi, both_one, either_one] at e
  have hn := n.isLt; have hr := r.isLt
  rcases e with ⟨⟨⟨e1, e2⟩, e3⟩, e4⟩ | e
  · left
    simp only [cmpi] at e1 e2
    rw [splat, cast12 _ _ n r p hp] at e1 e2
    have hs : (S (ix1 p)).toNat < 65536 := below _ 65536#32 e1 (by decide) e2
    obtain ⟨a, ha⟩ : ∃ a : Fin 65536, (S (ix1 p)).toNat = a.val := ⟨⟨_, hs⟩, rfl⟩
    have e3 := cmpi_eq_iff.mp e3
    have e4 := cmpi_eq_iff.mp e4
    rw [cast12 _ _ n r p hp, takeSlot _ _ _ p a ha] at e3 e4
    refine ⟨a, ha, ?_, fun k t hk => ?_⟩
    · rw [e3]
      show (BitVec.ofNat 32 n.val * 256#32 + BitVec.ofNat 32 r.val).toNat = p.val
      rw [BitVec.toNat_add, BitVec.toNat_mul, BitVec.toNat_ofNat, BitVec.toNat_ofNat, BitVec.toNat_ofNat]
      omega
    · rw [rowsOf, cast21 I _ k t a hk] at e4
      exact e4
  · right
    have e := cmpi_eq_iff.mp e
    rw [cast12 _ _ n r p hp] at e
    rw [e]
    show (65536#32 + BitVec.ofNat 32 r.val + Scalar.select (IntOp.cmpi .eq (BitVec.ofNat 32 n.val) 288#32) 256#32 0#32).toNat = _
    by_cases h8 : n.val = 288
    · rw [h8, if_pos rfl, show Scalar.select (IntOp.cmpi .eq (BitVec.ofNat 32 288) 288#32) 256#32 0#32 = 256#32 from by decide,
        BitVec.toNat_add, BitVec.toNat_add, BitVec.toNat_ofNat, BitVec.toNat_ofNat, BitVec.toNat_ofNat]
      omega
    · have hc : ¬ IntOp.cmpi .eq (BitVec.ofNat 32 n.val) 288#32 = 1#1 := fun hc => h8 (by
        have := congrArg BitVec.toNat (cmpi_eq_iff.mp hc)
        rw [BitVec.toNat_ofNat, BitVec.toNat_ofNat] at this
        omega)
      rw [if_neg h8, show Scalar.select (IntOp.cmpi .eq (BitVec.ofNat 32 n.val) 288#32) 256#32 0#32 = 0#32 from by unfold Scalar.select; exact if_neg hc,
        BitVec.toNat_add, BitVec.toNat_add, BitVec.toNat_ofNat, BitVec.toNat_ofNat, BitVec.toNat_ofNat]
      omega

theorem first_of (h : (fn (F := F) x0 I D S BE NE PAR NU x8 x9 x10 x11 x12 x13).2.2.2.2.2 = fun _ => 1#1) : (PAR (ix1 0)).toNat = 0 ∧ (NU (ix1 0)).toNat ≤ 288 := by
  have e := congrFun h (ix1 (0 : Fin 1))
  simp only [fn, fn_part1, fn_part2, fn_part3, fn_part4, fn_part5, fn_where] at e
  simp only [ori, andi, both_one, either_one] at e
  obtain ⟨⟨e1, e2⟩, e3⟩ := e
  simp only [cmpi] at e2 e3
  rw [splat] at e2 e3
  have e1 := cmpi_eq_iff.mp e1
  rw [splat] at e1
  have e1' := (slice1 0 PAR slices_S289_S1_0 (0 : Fin 1) (by decide)).symm.trans e1
  exact ⟨congrArg BitVec.toNat e1', atMost _ 288#32 e2 (by decide) e3⟩

theorem placed_of (h : (fn (F := F) x0 I D S BE NE PAR NU x8 x9 x10 x11 x12 x13).2.1 = fun _ => 1#1) (hu : (NU (ix1 0)).toNat ≤ 288) (a : Fin 65536) :
    (D (ix1 a)).toNat < (NU (ix1 0)).toNat * 256 ∧ ∃ p : Fin 73984, p.val = (D (ix1 a)).toNat ∧ (S (ix1 p)).toNat = a.val := by
  have e := congrFun h (ix1 a)
  simp only [fn, fn_part1, fn_part2, fn_part3, fn_part4, fn_part5, fn_where] at e
  simp only [ori, andi, both_one, either_one] at e
  obtain ⟨⟨e1, e2⟩, e3⟩ := e
  simp only [cmpi] at e1 e2
  rw [splat] at e1
  have e2 : IntOp.cmpi .slt (D (ix1 a)) (NU (ix1 0) * 256#32) = 1#1 := by
    refine Eq.trans (congrArg _ ?_) e2
    exact (spread (n := 65536) bcast_S1_S65536_0 (muli NU (broadcastInDim S1 ![] bcast_S_S1 (constantI S_ 32 256#32))) a).symm
  have hm : (NU (ix1 0) * 256#32).toNat = (NU (ix1 0)).toNat * 256 := by
    rw [BitVec.toNat_mul, BitVec.toNat_ofNat]; omega
  have hd := below _ _ e1 (by omega) e2
  rw [hm] at hd
  have hp : (D (ix1 a)).toNat < 73984 := by omega
  refine ⟨hd, ⟨_, hp⟩, rfl, ?_⟩
  have e3 := cmpi_eq_iff.mp e3
  rw [takePlace _ _ _ a ⟨(D (ix1 a)).toNat, hp⟩ rfl] at e3
  rw [e3]
  show (BitVec.ofNat 32 a.val).toNat = a.val
  have := a.isLt
  rw [BitVec.toNat_ofNat]; omega

theorem words_of (h : (fn (F := F) x0 I D S BE NE PAR NU x8 x9 x10 x11 x12 x13).2.2.1 = fun _ => 1#1) (n : Fin 289) :
    (BE (ix1 n)).toNat < 32 ∧ (NE (ix1 n)).toNat < 32 ∧ (PAR (ix1 n)).toNat < 2 := by
  have e := congrFun h (ix1 n)
  simp only [fn, fn_part1, fn_part2, fn_part3, fn_part4, fn_part5, fn_where] at e
  simp only [ori, andi, both_one, either_one, and_assoc, cmpi] at e
  obtain ⟨e1, e2, e3, e4, e5, e6⟩ := e
  rw [splat] at e1 e2 e3 e4 e5 e6
  exact ⟨below _ 32#32 e1 (by decide) e2, below _ 32#32 e3 (by decide) e4, below _ 2#32 e5 (by decide) e6⟩

theorem runs_of (h : (fn (F := F) x0 I D S BE NE PAR NU x8 x9 x10 x11 x12 x13).2.2.2.1 = fun _ => 1#1) (n n' : Fin 289) (hn : n'.val = n.val + 1) :
    (BE (ix1 n') ≠ BE (ix1 n) ∨ (NE (ix1 n') = NE (ix1 n) ∧ PAR (ix1 n') = PAR (ix1 n)))
      ∧ (BE (ix1 n') = BE (ix1 n) ∨ (BE (ix1 n') = NE (ix1 n) ∧ PAR (ix1 n') = 1#32 - PAR (ix1 n))) := by
  have e := congrFun h (ix1 n')
  simp only [fn, fn_part1, fn_part2, fn_part3, fn_part4, fn_part5, fn_where] at e
  simp only [ori, andi, noti, both_one, either_one, none_one, cmpi, cmpi_eq_iff, subi] at e
  rw [moved BE n n' hn, moved NE n n' hn, moved PAR n n' hn, splat] at e
  exact e

theorem closed_of (h : (fn (F := F) x0 I D S BE NE PAR NU x8 x9 x10 x11 x12 x13).2.2.2.2.1 = fun _ => 1#1) (n : Fin 289) (hn : n.val = (NU (ix1 0)).toNat) :
    NE (ix1 n) = BE (ix1 n) := by
  have e := congrFun h (ix1 n)
  simp only [fn, fn_part1, fn_part2, fn_part3, fn_part4, fn_part5, fn_where] at e
  simp only [ori, andi, both_one, either_one, cmpi, cmpi_eq_iff, ne_one] at e
  rcases e with e | e
  · refine absurd ?_ e
    refine Eq.trans ?_ (spread (n := 289) bcast_S1_S289_0 NU n).symm
    show BitVec.ofNat 32 n.val = _
    have := n.isLt
    exact BitVec.eq_of_toNat_eq (by rw [BitVec.toNat_ofNat, ← hn]; omega)
  · exact e

/-- The precondition's six results, all ones, are a plan. -/
theorem plan_of (h : (fn (F := F) x0 I D S BE NE PAR NU x8 x9 x10 x11 x12 x13).1 = (fun _ => 1#1)
    ∧ (fn (F := F) x0 I D S BE NE PAR NU x8 x9 x10 x11 x12 x13).2.1 = (fun _ => 1#1)
    ∧ (fn (F := F) x0 I D S BE NE PAR NU x8 x9 x10 x11 x12 x13).2.2.1 = (fun _ => 1#1)
    ∧ (fn (F := F) x0 I D S BE NE PAR NU x8 x9 x10 x11 x12 x13).2.2.2.1 = (fun _ => 1#1)
    ∧ (fn (F := F) x0 I D S BE NE PAR NU x8 x9 x10 x11 x12 x13).2.2.2.2.1 = (fun _ => 1#1)
    ∧ (fn (F := F) x0 I D S BE NE PAR NU x8 x9 x10 x11 x12 x13).2.2.2.2.2 = (fun _ => 1#1)) : Plan I D S BE NE PAR NU where
  slot := slot_of h.1
  placed := placed_of h.2.1 (first_of h.2.2.2.2.2).2
  be_lt n := (words_of h.2.2.1 n).1
  ne_lt n := (words_of h.2.2.1 n).2.1
  par_lt n := (words_of h.2.2.1 n).2.2
  same n n' hn hb := (runs_of h.2.2.2.1 n n' hn).1.resolve_left fun hb' => hb' hb
  turn n n' hn hb := by
    have e := (runs_of h.2.2.2.1 n n' hn).2.resolve_left hb
    refine ⟨e.1, ?_⟩
    have hp := (words_of h.2.2.1 n).2.2
    rw [e.2, BitVec.toNat_sub, BitVec.toNat_ofNat]
    omega
  last := closed_of h.2.2.2.2.1
  par0 := (first_of h.2.2.2.2.2).1
  nu_le := (first_of h.2.2.2.2.2).2

end Cert.Pre_routed
-- ==== Proof.Frame.lean ====
/-
  The run under the precondition: a plan makes the kernel's environment a good one, and the program then leaves its
  arguments as they were.
-/
module

public import proofs.«01_k».proof.Proof.Tables
public import proofs.«01_k».proof.Proof.Plan
public import Idealize.ShloMosaic.Lib.StableHlo.RunHlo
public import Idealize.ShloMosaic.Lib.Claim

@[expose] public section

set_option maxRecDepth 16384
set_option maxHeartbeats 2000000

noncomputable section

namespace Cert.KernelIdeal.Moe

open Cert.KernelIdeal Cert.KernelIdeal.Gen
open Idealize.ShloMosaic Idealize.ShloMosaic.TcCoe Idealize.ShloMosaic.Tactic Idealize.ShloMosaic.ValueIdx
open Idealize.ShloMosaic.Pipeline (Dat BodyObligation)
open Idealize.SL Idealize.SL.RA
open Idealize.SL.BI (sProp bigSep)
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-! ## What the kernel is handed -/

theorem wrote (y : Ref sig .tc) (W : List (Ref sig .tc)) (h : y ∈ W) :
    ({Proc.devRef .tc y} : Finset (DevRef τ sig)) ⊆ (W.map (Proc.devRef (τ := τ) .tc)).toFinset := by
  intro x hx
  rw [Finset.mem_singleton.mp hx]
  exact List.mem_toFinset.mpr (List.mem_map.mpr ⟨y, h, rfl⟩)
/-- A buffer that no line before the kernel writes. -/
theorem V_kept (c : Dev nD) (b : Ref sig .tc) (hb : b ∉ [main_v0, main_v1, main_v2, main_v3, main_v4]) : V m c b = m ((c : Thread nD τ).loc b) :=
  StableHlo.after_of_writes_sub (W := [main_v0, main_v1, main_v2, main_v3, main_v4]) (hostOps0 (F := F)) _
    ⟨wrote main_v0 _ (by decide), wrote main_v1 _ (by decide), wrote main_v2 _ (by decide), wrote main_v3 _ (by decide), wrote main_v4 _ (by decide)⟩ hb
theorem V_v0 (c : Dev nD) : V m c main_v0 = shapeCast S131072x128 (m ((c : Thread nD τ).loc main_arg0)) shapeCasts_S16384x1024_S131072x128 := by
  rfl
theorem V_v1 (c : Dev nD) : V m c main_v1 = shapeCast S289x1x256 (m ((c : Thread nD τ).loc main_arg3)) shapeCasts_S73984_S289x1x256 := by
  rfl

/-- The plan of the memory's own arrays. -/
abbrev Planned (c : Dev nD) : Prop :=
  Cert.Pre_routed.Plan (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

theorem rowAt_slots (c : Dev nD) (n r : ℕ) (p : Fin 73984) (hp : p.val = (n % 289) * 256 + r % 256) :
    rowAt ((env m c).slots n) r = BitVec.toNat (w := 32) (m ((c : Thread nD τ).loc main_arg3) (ix1 p)) := by
  show BitVec.toNat (w := 32) (V m c main_v1 (ix3 ⟨n % 289, _⟩ 0 ⟨r % 256, _⟩)) = _
  rw [V_v1]
  exact congrArg BitVec.toNat (Routing.cast13 _ _ ⟨n % 289, by omega⟩ (0 : Fin 1) ⟨r % 256, by omega⟩ p (by show p.val = (n % 289 * 1 + 0) * 256 + r % 256; omega))

variable {m} in
theorem env_ok (c : Dev nD) (hP : Planned m c) : (env m c).Ok := by
  have kBE : (env m c).BE = m ((c : Thread nD τ).loc main_arg4) := V_kept m c main_arg4 (by decide)
  have kNE : (env m c).NE = m ((c : Thread nD τ).loc main_arg5) := V_kept m c main_arg5 (by decide)
  have kPAR : (env m c).PAR = m ((c : Thread nD τ).loc main_arg6) := V_kept m c main_arg6 (by decide)
  have kNU : (env m c).NU = m ((c : Thread nD τ).loc main_arg7) := V_kept m c main_arg7 (by decide)
  have at_ : ∀ (T : S289.Idx → BitVec 32) (n : ℕ) (hn : n < 289), tw T n = T (ix1 ⟨n, hn⟩) := fun T n hn => by
    unfold tw; exact congrArg (fun k => T (ix1 k)) (Fin.ext (Nat.mod_eq_of_lt hn))
  have hu : (env m c).nu ≤ 288 := by unfold Env.nu; rw [kNU]; exact hP.nu_le
  refine ⟨fun n r => ?_, fun n r r' h => ?_, fun n => ?_, fun n => ?_, fun n => ?_, hu, ?_, fun n hn h => ?_, fun n hn h => ?_, ?_⟩
  · obtain ⟨p, hp⟩ : ∃ p : Fin 73984, p.val = (n % 289) * 256 + r % 256 := ⟨⟨_, by omega⟩, rfl⟩
    rw [rowAt_slots m c n r p hp]
    rcases hP.slot ⟨n % 289, by omega⟩ ⟨r % 256, by omega⟩ p hp with ⟨a, ha, -⟩ | h
    · rw [ha]; have := a.isLt; omega
    · rw [h]; dsimp only; split <;> omega
  · have hr := r.isLt; have hr' := r'.isLt
    obtain ⟨p, hp⟩ : ∃ p : Fin 73984, p.val = (n % 289) * 256 + r.val := ⟨⟨_, by omega⟩, rfl⟩
    obtain ⟨p', hp'⟩ : ∃ p : Fin 73984, p.val = (n % 289) * 256 + r'.val := ⟨⟨_, by omega⟩, rfl⟩
    rw [rowAt_slots m c n r p (by rw [Nat.mod_eq_of_lt hr]; exact hp), rowAt_slots m c n r' p' (by rw [Nat.mod_eq_of_lt hr']; exact hp')] at h
    rcases hP.slot ⟨n % 289, by omega⟩ r p hp with ⟨a, ha, hd, -⟩ | h1 <;> rcases hP.slot ⟨n % 289, by omega⟩ r' p' hp' with ⟨a', ha', hd', -⟩ | h2
    · obtain rfl : a = a' := Fin.ext (ha.symm.trans (h.trans ha'))
      exact Fin.ext (by omega)
    · have := a.isLt; omega
    · have := a'.isLt; omega
    · exact Fin.ext (by omega)
  · unfold Env.be tw; rw [kBE]; exact hP.be_lt _
  · unfold Env.ne tw; rw [kNE]; exact hP.ne_lt _
  · unfold Env.par tw; rw [kPAR]; exact hP.par_lt _
  · unfold Env.par; rw [kPAR, at_ _ 0 (by decide)]; exact hP.par0
  · rw [kBE, at_ _ n (by omega), at_ _ (n + 1) hn] at h
    have e := hP.same ⟨n, by omega⟩ ⟨n + 1, hn⟩ rfl h
    unfold Env.ne Env.par
    rw [kNE, kPAR, at_ _ n (by omega), at_ _ (n + 1) hn, at_ _ n (by omega), at_ _ (n + 1) hn]
    exact ⟨congrArg BitVec.toNat e.1, congrArg BitVec.toNat e.2⟩
  · rw [kBE, at_ _ n (by omega), at_ _ (n + 1) hn] at h
    have e := hP.turn ⟨n, by omega⟩ ⟨n + 1, hn⟩ rfl h
    unfold Env.ne Env.par Env.be
    rw [kBE, kNE, kPAR, at_ _ n (by omega), at_ _ (n + 1) hn, at_ _ n (by omega), at_ _ (n + 1) hn]
    exact ⟨congrArg BitVec.toNat e.1, e.2⟩
  · unfold Env.ne Env.be
    rw [kNE, kBE, at_ _ _ (by omega), at_ _ _ (by omega)]
    refine congrArg BitVec.toNat (hP.last _ ?_)
    show (env m c).nu = _
    unfold Env.nu; rw [kNU]

/-! ## The run -/

theorem last_kept (hE : ∀ c : Dev nD, (env m c).Ok) (c : Dev nD) (b : Ref sig .tc) (hb : b ∉ [main_v6, main_v7]) (hw : ∀ w, Pipeline.arrRef spec0 w ≠ b) (hR : b ∉ R0)
    (h0 : b ∉ [main_v0, main_v1, main_v2, main_v3, main_v4]) : last m c hE (Proc.devRef .tc b) = m ((c : Thread nD τ).loc b) := by
  unfold last
  rw [StableHlo.after_of_writes_sub (W := [main_v6, main_v7]) (hostOps1 (F := F)) _ ⟨wrote main_v6 _ (by decide), wrote main_v7 _ (by decide)⟩ hb,
    Pipeline.withArrays_of_ne spec0 c _ _ b hw, Pipeline.withR_of_not_mem _ _ _ _ b hR]
  exact V_kept m c b h0

theorem run_all (hP : ∀ c : Dev nD, Planned m c) : θ_run defs (onTc (τ := τ) (main (F := F))) ⟨m, fun _ => 0, ρ⟩ (fun r =>
    (∀ c : Dev nD, r.2.mem ((c : Thread nD τ).loc main_v7) = last m c (fun c => env_ok c (hP c)) (Proc.devRef .tc main_v7)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)) ∧ r.2.sem = fun _ => 0) := by
  have hE : ∀ c : Dev nD, (env m c).Ok := fun c => env_ok c (hP c)
  refine θ_run_mono (θ_run_and (run_main m ρ hE) (tables_main m ρ hE)) fun r h => ⟨fun c => ?_, h.1.2⟩
  obtain rfl : c = 0 := Subsingleton.elim _ _
  have k : ∀ b : Ref sig .tc, b ∈ Pipeline.restRefsP sig pre0 spec0 → b ∉ [main_v6, main_v7] → (∀ w, Pipeline.arrRef spec0 w ≠ b) → b ∉ R0 →
      b ∉ [main_v0, main_v1, main_v2, main_v3, main_v4] → r.2.mem (((0 : Dev nD) : Thread nD τ).loc b) = m (((0 : Dev nD) : Thread nD τ).loc b) :=
    fun b h1 h2 h3 h4 h5 => ((h.1.1 0).2 b h1).trans (last_kept m hE 0 b h2 h3 h4 h5)
  have t0 : r.2.mem (((0 : Dev nD) : Thread nD τ).loc main_arg4) = m (((0 : Dev nD) : Thread nD τ).loc main_arg4) :=
    (h.2 0 0).trans (V_kept m 0 main_arg4 (by decide))
  have t1 : r.2.mem (((0 : Dev nD) : Thread nD τ).loc main_arg5) = m (((0 : Dev nD) : Thread nD τ).loc main_arg5) :=
    (h.2 0 1).trans (V_kept m 0 main_arg5 (by decide))
  have t2 : r.2.mem (((0 : Dev nD) : Thread nD τ).loc main_arg6) = m (((0 : Dev nD) : Thread nD τ).loc main_arg6) :=
    (h.2 0 2).trans (V_kept m 0 main_arg6 (by decide))
  have t3 : r.2.mem (((0 : Dev nD) : Thread nD τ).loc main_arg7) = m (((0 : Dev nD) : Thread nD τ).loc main_arg7) :=
    (h.2 0 3).trans (V_kept m 0 main_arg7 (by decide))
  exact ⟨(h.1.1 0).2 main_v7 (by decide +kernel),
    k main_arg0 (by decide +kernel) (by decide) (by decide) (by decide) (by decide), k main_arg1 (by decide +kernel) (by decide) (by decide) (by decide) (by decide),
    k main_arg2 (by decide +kernel) (by decide) (by decide) (by decide) (by decide), k main_arg3 (by decide +kernel) (by decide) (by decide) (by decide) (by decide), t0, t1, t2, t3,
    k main_arg8 (by decide +kernel) (by decide) (by decide) (by decide) (by decide), k main_arg9 (by decide +kernel) (by decide) (by decide) (by decide) (by decide),
    k main_arg10 (by decide +kernel) (by decide) (by decide) (by decide) (by decide), k main_arg11 (by decide +kernel) (by decide) (by decide) (by decide) (by decide),
    k main_arg12 (by decide +kernel) (by decide) (by decide) (by decide) (by decide), k main_arg13 (by decide +kernel) (by decide) (by decide) (by decide) (by decide)⟩

end Cert.KernelIdeal.Moe
-- ==== Proof.Place.lean ====
/-
  Where a block's rows end up: the row of an assignment holds the result of the block that its slot lies in, and what the
  program returns is those rows, unpacked.
-/
module

public import proofs.«01_k».proof.Proof.Frame

@[expose] public section

set_option maxRecDepth 16384
set_option maxHeartbeats 2000000

noncomputable section

namespace Cert.KernelIdeal.Moe

open Cert.KernelIdeal Cert.KernelIdeal.Gen
open Idealize.ShloMosaic Idealize.ShloMosaic.TcCoe Idealize.ShloMosaic.ValueIdx
open Idealize.SL Idealize.SL.RA

variable {F : FTy → Type} [FloatOps F]
variable (m : (ℓ : Loc nD τ sig) → Buf (Elt F) ℓ)

/-! ## The rows of an assignment -/

/-- Rows that no later block sends to stay as they are. -/
theorem ygAt_later (E : Env F) (b a : ℕ) (q : S528384x128.Idx) (hq : (q 0).val / 8 = a) (v : F .f32) (hv : E.ygAt (b + 2) q = v) (N : ℕ)
    (h : ∀ n, b < n → n < N → ∀ r : Fin 256, rowAt (E.slots n) r.val ≠ a) (k : ℕ) (hk : b + 1 + k ≤ N) : E.ygAt (b + 2 + k) q = v := by
  induction k with
  | zero => exact hv
  | succ k ih =>
    have e : b + 2 + k = (b + 1 + k) + 1 := by omega
    show putRows (rowAt (E.slots (Env.pb (b + 2 + k)))) (E.YB (b + 2 + k)) (E.ygAt (b + 2 + k)) q = v
    rw [putRows_of_not_mem _ _ q fun r => ?_]
    · exact ih (by omega)
    · rw [hq, show Env.pb (b + 2 + k) = b + 1 + k by rw [e]; rfl]
      exact h _ (by omega) (by omega) r

/-- The slot that holds the assignment `a`: no later block has one that does, and its block's expert is the one chosen. -/
theorem slot_at (c : Dev nD) (hP : Planned m c) (a : Fin 65536) :
    ∃ (n : Fin 289) (r : Fin 256), n.val < (env m c).nu ∧ rowAt ((env m c).slots n.val) r.val = a.val
      ∧ (∀ n' : ℕ, n.val < n' → n' < 289 → ∀ r' : Fin 256, rowAt ((env m c).slots n') r'.val ≠ a.val)
      ∧ ∀ (k : Fin 4) (t : Fin 16384), a.val = k.val * 16384 + t.val →
          (show IVec S4x16384 32 from m ((c : Thread nD τ).loc main_arg1)) (ix2 k t) = tw (env m c).BE n.val := by
  have kBE : (env m c).BE = m ((c : Thread nD τ).loc main_arg4) := V_kept m c main_arg4 (by decide)
  have kNU : (env m c).NU = m ((c : Thread nD τ).loc main_arg7) := V_kept m c main_arg7 (by decide)
  obtain ⟨hlt, p, hp, hs⟩ := hP.placed a
  have hnu : (env m c).nu = BitVec.toNat (w := 32) (m ((c : Thread nD τ).loc main_arg7) (ix1 0)) := by
    unfold Env.nu; rw [kNU]
  have hnl := hP.nu_le
  have ha := a.isLt
  have key : ∀ (n : Fin 289) (r : Fin 256) (p' : Fin 73984), p'.val = n.val * 256 + r.val →
      BitVec.toNat (w := 32) (m ((c : Thread nD τ).loc main_arg3) (ix1 p')) = a.val → p'.val = p.val ∧
        ∀ (k : Fin 4) (t : Fin 16384), a.val = k.val * 16384 + t.val →
          (show IVec S4x16384 32 from m ((c : Thread nD τ).loc main_arg1)) (ix2 k t) = (show IVec S289 32 from m ((c : Thread nD τ).loc main_arg4)) (ix1 n) := by
    intro n r p' hp' h
    rcases hP.slot n r p' hp' with ⟨a', ha', hd, hI⟩ | h'
    · obtain rfl : a' = a := Fin.ext (ha'.symm.trans h)
      exact ⟨by omega, hI⟩
    · exact absurd (h'.symm.trans h) (by omega)
  have hpn : p.val / 256 < 289 := by omega
  refine ⟨⟨p.val / 256, hpn⟩, ⟨p.val % 256, by omega⟩, by rw [hnu]; show p.val / 256 < _; omega, ?_, ?_, ?_⟩
  · exact (rowAt_slots m c _ _ p (by show p.val = p.val / 256 % 289 * 256 + p.val % 256 % 256; omega)).trans hs
  · intro n' h1 h2 r' h
    have hr' := r'.isLt
    obtain ⟨p', hp'⟩ : ∃ p' : Fin 73984, p'.val = n' * 256 + r'.val := ⟨⟨_, by omega⟩, rfl⟩
    rw [rowAt_slots m c n' r' p' (by omega)] at h
    have h3 := (key ⟨n', h2⟩ r' p' hp' h).1
    change p.val / 256 < n' at h1
    omega
  · intro k t h
    refine ((key ⟨p.val / 256, hpn⟩ ⟨p.val % 256, by omega⟩ p (by show p.val = p.val / 256 * 256 + p.val % 256; omega) hs).2 k t h).trans ?_
    unfold tw
    rw [kBE]
    exact congrArg (fun k => (show IVec S289 32 from m ((c : Thread nD τ).loc main_arg4)) (ix1 k)) (Fin.ext (Nat.mod_eq_of_lt hpn).symm)

/-- The result's rows of an assignment: its slot's, of its block. -/
theorem yg_row (c : Dev nD) (hP : Planned m c) (a : Fin 65536) :
    ∃ (n : Fin 289) (r : Fin 256), rowAt ((env m c).slots n.val) r.val = a.val
      ∧ (∀ (k : Fin 4) (t : Fin 16384), a.val = k.val * 16384 + t.val →
          (show IVec S4x16384 32 from m ((c : Thread nD τ).loc main_arg1)) (ix2 k t) = tw (env m c).BE n.val)
      ∧ ∀ (x : Fin 8) (y : Fin 128), (env m c).ygAt ((env m c).nu + 1) (ix2 ⟨8 * a.val + x.val, by omega⟩ y)
          = (env m c).yBlk n.val (ix2 ⟨8 * r.val + x.val, by omega⟩ y) := by
  obtain ⟨n, r, hn, hr, hlater, hI⟩ := slot_at m c hP a
  have hE := env_ok c hP
  have hu := hE.nu_le
  refine ⟨n, r, hr, hI, fun x y => ?_⟩
  have hx := x.isLt
  have hd : ((ix2 ⟨8 * a.val + x.val, by omega⟩ y : S528384x128.Idx) 0).val / 8 = a.val := by
    show (8 * a.val + x.val) / 8 = a.val; omega
  have hm : ((ix2 ⟨8 * a.val + x.val, by omega⟩ y : S528384x128.Idx) 0).val % 8 = x.val := by
    show (8 * a.val + x.val) % 8 = x.val; omega
  have first : (env m c).ygAt (n.val + 2) (ix2 ⟨8 * a.val + x.val, by omega⟩ y) = (env m c).yBlk n.val (ix2 ⟨8 * r.val + x.val, by omega⟩ y) := by
    show putRows (rowAt ((env m c).slots n.val)) ((env m c).yBlk n.val) _ _ = _
    rw [putRows_of_mem (hE.one n.val) _ _ r _ (hd.trans hr.symm)]
    exact congrArg (fun k => (env m c).yBlk n.val (ix2 k y)) (Fin.ext (by show 8 * r.val + _ = _; rw [hm]))
  have := ygAt_later (env m c) n.val a.val _ hd _ first (env m c).nu (fun n' h1 h2 r' => hlater n' h1 (by omega) r') ((env m c).nu - (n.val + 1)) (by omega)
  rw [show n.val + 2 + ((env m c).nu - (n.val + 1)) = (env m c).nu + 1 by omega] at this
  exact this

/-! ## The program's result -/

theorem last_v7 (hE : ∀ c : Dev nD, (env m c).Ok) (c : Dev nD) : last m c hE (Proc.devRef .tc main_v7)
    = shapeCast S4x16384x1024 (extractStridedSlice S524288x128 ![0, 0] ((env m c).ygAt ((env m c).nu + 1)) slices_S528384x128_S524288x128_0_0)
        shapeCasts_S524288x128_S4x16384x1024 := by
  have h : (Pipeline.withArrays spec0 c (Pipeline.withR (V0 m c) R0 c (ends m c)) fun w => (dats m hE 0 c).arrAt w (cfgA m hE).N) (Proc.devRef .tc main_v5)
      = (env m c).ygAt ((env m c).nu + 1) := by
    rw [Pipeline.withArrays_of_ne spec0 c _ _ main_v5 (by decide), Pipeline.withR_of_mem _ _ _ _ main_v5 (by decide)]
    unfold ends
    rw [Function.update_self]
  rw [← h]
  rfl

theorem last_apply (hE : ∀ c : Dev nD, (env m c).Ok) (c : Dev nD) (k : Fin 4) (t : Fin 16384) (j : Fin 1024) (a : Fin 65536)
    (ha : a.val = k.val * 16384 + t.val) :
    (show S4x16384x1024.Idx → F .f32 from last m c hE (Proc.devRef .tc main_v7)) (ix3 k t j)
      = (env m c).ygAt ((env m c).nu + 1) (ix2 ⟨8 * a.val + j.val / 128, by omega⟩ ⟨j.val % 128, by omega⟩) := by
  rw [last_v7]
  refine (shapeCast_apply (s := S524288x128) _ _ (ix3 k t j) (ix2 ⟨8 * a.val + j.val / 128, by omega⟩ ⟨j.val % 128, by omega⟩) ?_).trans ?_
  · rw [Shape.rowMajor_val_two, Shape.rowMajor_val_three]
    show (8 * a.val + j.val / 128) * 128 + j.val % 128 = (k.val * 16384 + t.val) * 1024 + j.val
    omega
  · unfold extractStridedSlice
    refine congrArg _ (funext fun a' => Fin.ext ?_)
    match a' with
    | ⟨0, _⟩ => show 0 + (8 * a.val + j.val / 128) = 8 * a.val + j.val / 128; omega
    | ⟨1, _⟩ => show 0 + j.val % 128 = j.val % 128; omega

end Cert.KernelIdeal.Moe

end
-- ==== Proof.Value.lean ====
/-
  The value: what the program returns at an assignment is the chosen expert's network of the assignment's token, as the
  reference's is.
-/
module

public import proofs.«01_k».proof.Proof.Block
public import proofs.«01_k».proof.Proof.Place

@[expose] public section

set_option maxRecDepth 16384
set_option maxHeartbeats 2000000

noncomputable section

namespace Cert.KernelIdeal.Moe.Read

open Cert.KernelIdeal Cert.KernelIdeal.Gen Cert.KernelIdeal.Moe
open Idealize.ShloMosaic Idealize.ShloMosaic.TcCoe

/-! ## A block -/

/-- A block's result at its row `r`: the network of its expert of the row's token. -/
theorem yBlk_apply (E : Env Ideal) (n : ℕ) (e : Fin 32) (he : E.be n = e.val) (r : Fin 256) (t : Fin 16384) (ht : tokAt (E.slots n) r.val = t.val) (j : Fin 1024) :
    E.yBlk n (ValueIdx.ix2 ⟨8 * r.val + j.val / 128, by omega⟩ ⟨j.val % 128, by omega⟩)
      = Net.net (fun e k j => E.WG (ix3 e k j)) (fun e k j => E.WU (ix3 e k j)) (fun e k j => E.WD (ix3 e k j))
          (fun e j => E.BG (ix3 e 0 j)) (fun e j => E.BU (ix3 e 0 j)) (fun e j => E.BD (ix3 e 0 j))
          (fun q => E.H (ix2 ⟨8 * t.val + q.val / 128, by omega⟩ ⟨q.val % 128, by omega⟩)) e j := by
  have hB : ∀ (B : S32x1x1024.Idx → Ideal .f32) (j : Fin 1024), Env.bias B (E.be n) (ix3 0 0 j) = B (ix3 e 0 j) := fun B j => by
    unfold Env.bias
    rw [ix3_eq_valueIdx e 0 j]
    exact congrArg (fun k => B (ValueIdx.ix3 k 0 j)) (Fin.ext (by show E.be n % 32 = e.val; omega))
  have hX : ∀ q : Fin 1024, k0_pay14 (F := Ideal) (xTile (E.xt n) 0 0) (xTile (E.xt n) 0 1) (xTile (E.xt n) 0 2) (xTile (E.xt n) 0 3) (xTile (E.xt n) 0 4)
      (xTile (E.xt n) 0 5) (xTile (E.xt n) 0 6) (xTile (E.xt n) 0 7) (ix2 r q) = E.H (ix2 ⟨8 * t.val + q.val / 128, by omega⟩ ⟨q.val % 128, by omega⟩) := fun q => by
    rw [rows_apply, ix2_eq_valueIdx]
    refine congrArg E.H ?_
    show ValueIdx.ix2 _ _ = _
    congr 1
    refine Fin.ext ?_
    show 8 * (tokAt (E.slots n) ((8 * r.val + q.val / 128) / 8) % 16384) + (8 * r.val + q.val / 128) % 8 = 8 * t.val + q.val / 128
    rw [show (8 * r.val + q.val / 128) / 8 = r.val by omega, ht]
    omega
  show res (E.act n) (dW E.WD (E.be n)) (Env.bias E.BD (E.be n)) ((8 * r.val + j.val / 128) % 8) (ValueIdx.ix2 ⟨(8 * r.val + j.val / 128) / 8, _⟩ ⟨j.val % 128, _⟩) = _
  rw [show (8 * r.val + j.val / 128) % 8 = j.val / 128 by omega]
  have hr : (⟨(8 * r.val + j.val / 128) / 8, by omega⟩ : Fin 256) = r := Fin.ext (by show (8 * r.val + j.val / 128) / 8 = r.val; omega)
  refine (congrArg (fun r' : Fin 256 => res (E.act n) (dW E.WD (E.be n)) (Env.bias E.BD (E.be n)) (j.val / 128) (ValueIdx.ix2 r' ⟨j.val % 128, by omega⟩)) hr).trans ?_
  refine (congrArg (res (E.act n) (dW E.WD (E.be n)) (Env.bias E.BD (E.be n)) (j.val / 128)) (ix2_eq_valueIdx r (⟨j.val % 128, by omega⟩ : Fin 128)).symm).trans ?_
  rw [res_apply (E.be n) e he (E.act n) E.WD _ (j.val / 128) (by omega) r ⟨j.val % 128, by omega⟩ j (by show j.val = 128 * (j.val / 128) + j.val % 128; omega), hB]
  unfold Net.net Net.lin
  congr 1
  refine Finset.sum_congr rfl fun f _ => ?_
  congr 1
  unfold Env.act
  rw [hid_apply E.WG E.WU (E.be n) e he _ _ _ (f.val / 128) (by omega) r ⟨f.val % 128, by omega⟩ f (by show f.val = 128 * (f.val / 128) + f.val % 128; omega), hB, hB]
  simp only [hX]

/-! ## The program's arrays -/

variable (m : (ℓ : Loc nD τ sig) → Buf (Elt Ideal) ℓ)

theorem H_apply (c : Dev nD) (t : Fin 16384) (q : Fin 1024) :
    (env m c).H (ix2 ⟨8 * t.val + q.val / 128, by omega⟩ ⟨q.val % 128, by omega⟩)
      = (show S16384x1024.Idx → Ideal .f32 from m ((c : Thread nD τ).loc main_arg0)) (ix2 t q) := by
  show (show S131072x128.Idx → Ideal .f32 from V m c main_v0) _ = _
  rw [V_v0]
  refine shapeCast_apply (s := S16384x1024) _ _ _ (ix2 t q) ?_
  rw [Shape.rowMajor_val_two, Shape.rowMajor_val_two]
  show t.val * 1024 + q.val = (8 * t.val + q.val / 128) * 128 + q.val % 128
  omega

theorem bias_apply (B : S32x1024.Idx → Ideal .f32) (e : Fin 32) (j : Fin 1024) :
    shapeCast S32x1x1024 B shapeCasts_S32x1024_S32x1x1024 (ix3 e 0 j) = B (ix2 e j) := by
  refine shapeCast_apply (s := S32x1024) _ _ _ (ix2 e j) ?_
  rw [Shape.rowMajor_val_two, Shape.rowMajor_val_three]
  show e.val * 1024 + j.val = (e.val * 1 + 0) * 1024 + j.val
  omega

theorem BG_apply (c : Dev nD) (e : Fin 32) (j : Fin 1024) :
    (env m c).BG (ix3 e 0 j) = (show S32x1024.Idx → Ideal .f32 from m ((c : Thread nD τ).loc main_arg9)) (ix2 e j) :=
  bias_apply (m ((c : Thread nD τ).loc main_arg9)) e j
theorem BU_apply (c : Dev nD) (e : Fin 32) (j : Fin 1024) :
    (env m c).BU (ix3 e 0 j) = (show S32x1024.Idx → Ideal .f32 from m ((c : Thread nD τ).loc main_arg11)) (ix2 e j) :=
  bias_apply (m ((c : Thread nD τ).loc main_arg11)) e j
theorem BD_apply (c : Dev nD) (e : Fin 32) (j : Fin 1024) :
    (env m c).BD (ix3 e 0 j) = (show S32x1024.Idx → Ideal .f32 from m ((c : Thread nD τ).loc main_arg13)) (ix2 e j) :=
  bias_apply (m ((c : Thread nD τ).loc main_arg13)) e j

/-! ## The result -/

/-- What the program returns is what the reference returns of the same arrays. -/
theorem last_eq (hE : ∀ c : Dev nD, (env m c).Ok) (c : Dev nD) (hP : Planned m c) :
    last m c hE (Proc.devRef .tc main_v7)
      = Cert.ReferenceIdeal.Read.out (m ((c : Thread nD τ).loc main_arg0)) (m ((c : Thread nD τ).loc main_arg1))
          (m ((c : Thread nD τ).loc main_arg8)) (m ((c : Thread nD τ).loc main_arg10)) (m ((c : Thread nD τ).loc main_arg12))
          (m ((c : Thread nD τ).loc main_arg9)) (m ((c : Thread nD τ).loc main_arg11)) (m ((c : Thread nD τ).loc main_arg13)) := by
  funext p
  obtain ⟨k, t, j, rfl⟩ : ∃ (k : Fin 4) (t : Fin 16384) (j : Fin 1024), p = ix3 k t j :=
    ⟨p 0, p 1, p 2, (ValueIdx.eq_ix3 p).trans (ix3_eq_valueIdx _ _ _).symm⟩
  obtain ⟨a, ha⟩ : ∃ a : Fin 65536, a.val = k.val * 16384 + t.val := ⟨⟨_, by omega⟩, rfl⟩
  obtain ⟨n, r, hr, hI, hy⟩ := yg_row m c hP a
  have hbe := hE c |>.be_lt n.val
  have ht : tokAt ((env m c).slots n.val) r.val = t.val := by
    unfold tokAt; rw [tokOf_eq]
    show rowAt ((env m c).slots n.val) r.val % 16384 = t.val
    rw [hr]; omega
  have hIe : BitVec.toNat (w := 32) ((show IVec S4x16384 32 from m ((c : Thread nD τ).loc main_arg1)) (ix2 k t)) = (⟨(env m c).be n.val, hbe⟩ : Fin 32).val := by
    rw [ix2_eq_valueIdx]
    exact congrArg BitVec.toNat (hI k t ha)
  refine Eq.trans ?_ (Cert.ReferenceIdeal.Read.out_apply _ _ _ _ _ _ _ _ k t j ⟨(env m c).be n.val, hbe⟩ hIe).symm
  refine (congrArg (last m c hE (Proc.devRef .tc main_v7)) (ix3_eq_valueIdx k t j)).trans ?_
  refine (last_apply m hE c k t j a ha).trans ?_
  refine (hy ⟨j.val / 128, by omega⟩ ⟨j.val % 128, by omega⟩).trans ?_
  refine (yBlk_apply (env m c) n.val ⟨(env m c).be n.val, hbe⟩ rfl r t ht j).trans ?_
  simp only [H_apply, BG_apply, BU_apply, BD_apply]
  have h8 : (env m c).WG = m ((c : Thread nD τ).loc main_arg8) := V_kept m c main_arg8 (by decide)
  have h10 : (env m c).WU = m ((c : Thread nD τ).loc main_arg10) := V_kept m c main_arg10 (by decide)
  have h12 : (env m c).WD = m ((c : Thread nD τ).loc main_arg12) := V_kept m c main_arg12 (by decide)
  rw [h8, h10, h12]

end Cert.KernelIdeal.Moe.Read

end
-- ==== Proof.Mean.lean ====
module

public import Idealize.ShloMosaic.Lib.Pointwise

@[expose] public section

noncomputable section

/-! # The mean of 1024 entries

The kernel multiplies a sum by 1/1024 and the reference divides it by 1024. Both constants are read exactly,
and over the reals the two are one operation. -/

namespace Cert.Mean

open Idealize.ShloMosaic

theorem ofBits_1024 : Ideal.ofBits .f32 0x44800000#32 = ((1024 : ℝ) : EReal) := by
  simp [Ideal.ofBits, Ideal.ieee, -EReal.coe_mul]
  norm_num

theorem ofBits_inv : Ideal.ofBits .f32 0x3A800000#32 = ((1 / 1024 : ℝ) : EReal) := by
  simp [Ideal.ofBits, Ideal.ieee, -EReal.coe_mul]
  norm_num

theorem mul_inv (s : EReal) : s * Ideal.ofBits .f32 0x3A800000#32 = Ideal.div s (Ideal.ofBits .f32 0x44800000#32) := by
  rw [ofBits_1024, ofBits_inv, Ideal.div_coe (by norm_num : (1024 : ℝ) ≠ 0)]

end Cert.Mean

end
-- ==== Proof.MixCtx.lean ====
module

public import proofs.«01_k».proof.Proof.Gen.CombineCtxIdeal.Value
public import proofs.«01_k».proof.Proof.Mean
public import Idealize.ShloMosaic.Lib.Pipeline.ValueKit
public import Idealize.ShloMosaic.Lib.Pipeline.ReadBack
public import Idealize.ShloMosaic.Lib.Pointwise

@[expose] public section

noncomputable section

/-! # One block of the combining kernel

A grid point of `moe_combine_final` takes 512 tokens. It forms each token's mixed row, 128 columns at a time, stores the
pieces in the output block, and sums their squares as it goes. It then reads the block back and scales it. This module
reads the block the generated run names, entry by entry. -/

namespace Cert.CombineCtxIdeal.Mix

open Cert.CombineCtxIdeal Cert.CombineCtxIdeal.Gen Cert.CombineCtxIdeal.Value Idealize.ShloMosaic Idealize.ShloMosaic.TcCoe Idealize.SL.Sem

/-- Every eighth row of a block of experts' rows, from row `j` on. -/
def rows (x : FVec Ideal S4096x128 .f32) (j : ℕ) : FVec Ideal S512x128 .f32 :=
  fun i => x (ix2 ⟨(8 * (i 0).val + j) % 4096, Nat.mod_lt _ (by decide)⟩ ⟨(i 1).val, (i 1).isLt⟩)

/-- The 128 columns of a block from column `q` on. -/
def cols (x : FVec Ideal S512x1024 .f32) (q : ℕ) : FVec Ideal S512x128 .f32 :=
  fun i => x (ix2 ⟨(i 0).val, (i 0).isLt⟩ ⟨(q + (i 1).val) % 1024, Nat.mod_lt _ (by decide)⟩)

theorem ld_cols (x : Vec Ideal S512x1024 .f32) (q : ℕ) (inb : ∀ a, (![0, q] : Fin 2 → ℕ) a + (![512, 128] : Fin 2 → ℕ) a ≤ S512x1024.size a) :
    (View.ld (Val := Elt Ideal) x (Rect.unit (s := S512x1024) ![0, q] ![512, 128] inb) : S512x128.Idx → EReal) = cols x q := by
  have h : q + 128 ≤ 1024 := inb 1
  funext i
  have h0 : (i 0).val < 512 := (i 0).isLt
  have h1 : (i 1).val < 128 := (i 1).isLt
  refine View.ld_unit_apply_of x _ _ inb i _ fun a => ?_
  match a with
  | ⟨0, _⟩ => show (i 0).val = 0 + (i 0).val; omega
  | ⟨1, _⟩ => show (q + (i 1).val) % 1024 = q + (i 1).val; omega

theorem readAt_rows (m : Memref sig .tc .vmem S4096x128 .f32) (hm : m.IsWhole) (x : Vec Ideal S4096x128 .f32) (j : ℕ)
    (inb : ∀ a, (![512, 128] : Fin 2 → ℕ) a = 0 ∨ (![j, 0] : Fin 2 → ℕ) a + (![8, 1] : Fin 2 → ℕ) a * ((![512, 128] : Fin 2 → ℕ) a - 1) < S4096x128.size a) :
    (View.readAt (Elt Ideal) m.view { off := ![j, 0], size := ![512, 128], stride := ![8, 1], inb := inb } (hm.unread x) : S512x128.Idx → EReal) = rows x j := by
  have h : j + 8 * 511 < 4096 := (inb 0).resolve_left (by decide)
  funext i
  have h0 : (i 0).val < 512 := (i 0).isLt
  have h1 : (i 1).val < 128 := (i 1).isLt
  show m.view.read (Elt Ideal) (hm.unread x) _ = _
  rw [hm.read_unread]
  refine congrArg x (funext fun a => Fin.ext ?_)
  match a with
  | ⟨0, _⟩ => show j + 8 * (i 0).val = (8 * (i 0).val + j) % 4096; omega
  | ⟨1, _⟩ => show 0 + 1 * (i 1).val = (i 1).val; omega

/-- A row of an experts' block, 1024 entries held as eight rows of 128, at an entry. -/
def wide (y : Vec Ideal S4096x128 .f32) (r : Fin 512) (q : Fin 1024) : EReal :=
  y (ix2 ⟨8 * r.val + q.val / 128, by omega⟩ ⟨q.val % 128, Nat.mod_lt _ (by decide)⟩)

/-- The mixed row: the residual row plus the modulated sum of the four experts' rows, each by its gate. -/
def mixed (x : Vec Ideal S512x1024 .f32) (a b c d : Vec Ideal S4096x128 .f32) (g : Vec Ideal S512x4 .f32) (w : Vec Ideal S1x6x1024 .f32)
    (r : Fin 512) (q : Fin 1024) : EReal :=
  x (ix2 r q) + w (ix3 0 5 q) * (((wide a r q * g (ix2 r 0) + wide b r q * g (ix2 r 1)) + wide c r q * g (ix2 r 2)) + wide d r q * g (ix2 r 3))

/-- The mixed rows as one block. -/
def block (x : Vec Ideal S512x1024 .f32) (a b c d : Vec Ideal S4096x128 .f32) (g : Vec Ideal S512x4 .f32) (w : Vec Ideal S1x6x1024 .f32) :
    Vec Ideal S512x1024 .f32 :=
  fun i => mixed x a b c d g w ⟨(i 0).val, (i 0).isLt⟩ ⟨(i 1).val, (i 1).isLt⟩

theorem rows_apply (x : Vec Ideal S4096x128 .f32) (j : ℕ) (hj : j < 8) (r : Fin 512) (l : Fin 128) :
    rows x j (ix2 r l) = wide x r ⟨128 * j + l.val, by omega⟩ := by
  refine congrArg x (funext fun a => Fin.ext ?_)
  match a with
  | ⟨0, _⟩ => show (8 * r.val + j) % 4096 = 8 * r.val + (128 * j + l.val) / 128; omega
  | ⟨1, _⟩ => show l.val = (128 * j + l.val) % 128; omega

theorem cols_apply (x : Vec Ideal S512x1024 .f32) (q : ℕ) (hq : q + 128 ≤ 1024) (r : Fin 512) (l : Fin 128) :
    cols x q (ix2 r l) = x (ix2 r ⟨q + l.val, by omega⟩) := by
  refine congrArg x (funext fun a => Fin.ext ?_)
  match a with
  | ⟨0, _⟩ => rfl
  | ⟨1, _⟩ => show (q + l.val) % 1024 = q + l.val; omega

variable (x : Vec Ideal S512x1024 .f32) (a b c d : Vec Ideal S4096x128 .f32) (g : Vec Ideal S512x4 .f32) (w : Vec Ideal S1x6x1024 .f32)

/-- What a piece's value is at an entry, from the entries it is computed from. -/
theorem piece_of {p : FVec Ideal S512x128 .f32} (j : ℕ) (hj : j < 8) (h : ∀ (r : Fin 512) (l : Fin 128), p (ix2 r l)
      = cols x (128 * j) (ix2 r l) + w (ix3 0 5 ⟨128 * j + l.val, by omega⟩)
        * (((rows a j (ix2 r l) * g (ix2 r 0) + rows b j (ix2 r l) * g (ix2 r 1)) + rows c j (ix2 r l) * g (ix2 r 2)) + rows d j (ix2 r l) * g (ix2 r 3))) :
    p = cols (block x a b c d g w) (128 * j) := by
  funext i
  have h0 : (i 0).val < 512 := (i 0).isLt
  have h1 : (i 1).val < 128 := (i 1).isLt
  have hi : i = ix2 ⟨(i 0).val, h0⟩ ⟨(i 1).val, h1⟩ := by
    funext a'
    match a' with
    | ⟨0, _⟩ => rfl
    | ⟨1, _⟩ => rfl
  rw [hi, h, cols_apply _ _ (by omega), cols_apply _ _ (by omega), rows_apply _ j hj, rows_apply _ j hj, rows_apply _ j hj, rows_apply _ j hj]
  rfl

theorem piece0 : k0_pay4 g w (rows a 0) (rows b 0) (rows c 0) (rows d 0) (cols x 0) = cols (block x a b c d g w) 0 :=
  piece_of x a b c d g w 0 (by decide) fun r l => by
    pointwise [k0_pay4, k0_pay3]

theorem piece1 : k0_pay6 g (k0_pay3 w) (rows a 1) (rows b 1) (rows c 1) (rows d 1) (cols x 128) = cols (block x a b c d g w) 128 :=
  piece_of x a b c d g w 1 (by decide) fun r l => by
    pointwise [k0_pay6, k0_pay3]

theorem piece2 : k0_pay10 g (k0_pay3 w) (k0_pay8 g (rows a 2)) (k0_pay9 g (rows b 2)) (rows c 2) (rows d 2) (cols x 256) = cols (block x a b c d g w) 256 :=
  piece_of x a b c d g w 2 (by decide) fun r l => by
    pointwise [k0_pay10, k0_pay8, k0_pay9, k0_pay3]

theorem piece3 : k0_pay14 g (k0_pay3 w) (k0_pay12 g (rows a 3) (rows b 3) (rows c 3)) (k0_pay13 (rows d 3)) (cols x 384) = cols (block x a b c d g w) 384 :=
  piece_of x a b c d g w 3 (by decide) fun r l => by
    pointwise [k0_pay14, k0_pay12, k0_pay13, k0_pay3]

theorem piece4 : k0_pay16 g (k0_pay3 w) (rows a 4) (rows b 4) (rows c 4) (rows d 4) (cols x 512) = cols (block x a b c d g w) 512 :=
  piece_of x a b c d g w 4 (by decide) fun r l => by
    pointwise [k0_pay16, k0_pay3]

theorem piece5 : k0_pay17 g (k0_pay3 w) (rows a 5) (rows b 5) (rows c 5) (rows d 5) (cols x 640) = cols (block x a b c d g w) 640 :=
  piece_of x a b c d g w 5 (by decide) fun r l => by
    pointwise [k0_pay17, k0_pay3]

theorem piece6 : k0_pay21 g (k0_pay3 w) (k0_pay19 (rows a 6)) (k0_pay20 g) (rows b 6) (rows c 6) (rows d 6) (cols x 768) = cols (block x a b c d g w) 768 :=
  piece_of x a b c d g w 6 (by decide) fun r l => by
    pointwise [k0_pay21, k0_pay19, k0_pay20, k0_pay3]

theorem piece7 : k0_pay1 g (k0_pay3 w) (k0_pay23 g (rows a 7) (rows b 7)) (k0_pay24 (rows c 7)) (rows d 7) (cols x 896) = cols (block x a b c d g w) 896 :=
  piece_of x a b c d g w 7 (by decide) fun r l => by
    pointwise [k0_pay1, k0_pay23, k0_pay24, k0_pay3]

/-- The sum of the squares of 128 columns of a row, from column `q` on. -/
def part (y : Vec Ideal S512x1024 .f32) (q : ℕ) (r : Fin 512) : EReal :=
  ∑ l : Fin 128, cols y q (ix2 r l) * cols y q (ix2 r l)

theorem sum_parts (r : Fin 512) :
    ∑ k : Fin 8, part (block x a b c d g w) (128 * k.val) r = ∑ q : Fin 1024, mixed x a b c d g w r q * mixed x a b c d g w r q := by
  refine Eq.trans ?_ (Fintype.sum_equiv (finProdFinEquiv (m := 8) (n := 128)) _ (fun q : Fin 1024 => mixed x a b c d g w r q * mixed x a b c d g w r q)
    fun _ => rfl)
  rw [Fintype.sum_prod_type]
  refine Finset.sum_congr rfl fun k _ => Finset.sum_congr rfl fun l _ => ?_
  have h : cols (block x a b c d g w) (128 * k.val) (ix2 r l) = mixed x a b c d g w r (finProdFinEquiv (k, l)) := by
    rw [cols_apply _ _ (by omega)]
    refine congrArg (mixed x a b c d g w r) (Fin.ext ?_)
    show 128 * k.val + l.val = l.val + 128 * k.val
    omega
  rw [h]

/-- The eight column pieces, read back whole. -/
theorem readback (m : Memref sig .tc .vmem S512x1024 .f32) (y : Vec Ideal S512x1024 .f32) :
    (View.readCov (Val := Elt Ideal) m.view
          [⟨Rect.unit ![0, 896] ![512, 128] inb_S512x1024_S512x128_0_896, cols y 896⟩,
           ⟨Rect.unit ![0, 768] ![512, 128] inb_S512x1024_S512x128_0_768, cols y 768⟩,
           ⟨Rect.unit ![0, 640] ![512, 128] inb_S512x1024_S512x128_0_640, cols y 640⟩,
           ⟨Rect.unit ![0, 512] ![512, 128] inb_S512x1024_S512x128_0_512, cols y 512⟩,
           ⟨Rect.unit ![0, 384] ![512, 128] inb_S512x1024_S512x128_0_384, cols y 384⟩,
           ⟨Rect.unit ![0, 256] ![512, 128] inb_S512x1024_S512x128_0_256, cols y 256⟩,
           ⟨Rect.unit ![0, 128] ![512, 128] inb_S512x1024_S512x128_0_128, cols y 128⟩,
           ⟨Rect.unit ![0, 0] ![512, 128] inb_S512x1024_S512x128_0_0, cols y 0⟩]
        (Rect.unit (s := S512x1024) ![0, 0] ![512, 1024] inb_S512x1024_S512x1024_0_0).toLoadRect : S512x1024.Idx → EReal) = y := by
  rw [View.readCov_eq_canon']
  funext i
  refine (View.canon_append_of_piecesOf (Val := Elt Ideal) y [] [_, _, _, _, _, _, _, _]
    ⟨fun z => (congrFun (ld_cols y 896 inb_S512x1024_S512x128_0_896) z).symm, fun z => (congrFun (ld_cols y 768 inb_S512x1024_S512x128_0_768) z).symm, fun z => (congrFun (ld_cols y 640 inb_S512x1024_S512x128_0_640) z).symm,
      fun z => (congrFun (ld_cols y 512 inb_S512x1024_S512x128_0_512) z).symm, fun z => (congrFun (ld_cols y 384 inb_S512x1024_S512x128_0_384) z).symm, fun z => (congrFun (ld_cols y 256 inb_S512x1024_S512x128_0_256) z).symm,
      fun z => (congrFun (ld_cols y 128 inb_S512x1024_S512x128_0_128) z).symm, fun z => (congrFun (ld_cols y 0 inb_S512x1024_S512x128_0_0) z).symm, trivial⟩ _ ?_).trans ?_
  · exact View.cover_of_tiled_head _ _ _ rfl _
  · refine congrArg y (funext fun a' => Fin.ext ?_)
    match a' with
    | ⟨0, _⟩ => show 0 + 1 * (i 0).val = (i 0).val; omega
    | ⟨1, _⟩ => show 0 + 1 * (i 1).val = (i 1).val; omega

/-- The block a grid point writes, at an entry: the mixed row scaled by its root mean square and the last norm's weights. -/
theorem out_apply (e : Vec Ideal S1x1024 .f32) (s : Dev nD) (i : grid0.Coords) (arg1 : Memref sig .tc .vmem S512x1024 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x4 .f32) (harg6 : arg6.IsWhole) (arg7 : Memref sig .tc .vmem S1x6x1024 .f32) (harg7 : arg7.IsWhole) (arg8 : Memref sig .tc .vmem S1x1024 .f32) (harg8 : arg8.IsWhole) (arg9 : Memref sig .tc .vmem S512x1024 .f32) (harg9 : arg9.IsWhole) (r : Fin 512) (q : Fin 1024) :
    out0_A_8 s i arg1 harg1 arg2 harg2 arg3 harg3 arg4 harg4 arg5 harg5 arg6 harg6 arg7 harg7 arg8 harg8 arg9 harg9 x a b c d g w e (ix2 r q)
      = (mixed x a b c d g w r q
          * Ideal.rsqrt (Ideal.div (∑ k : Fin 1024, mixed x a b c d g w r k * mixed x a b c d g w r k) (Ideal.ofBits .f32 0x44800000#32) + Ideal.ofBits .f32 0x358637BD#32))
        * e (ix2 0 q) := by
  rw [← Mean.mul_inv, ← sum_parts]
  unfold out0_A_8
  frame_out
  simp only [ld_cols, readAt_rows, piece0, piece1, piece2, piece3, piece4, piece5, piece6, piece7, readback]
  pointwise [k0_pay2, k0_pay22, k0_pay18, k0_pay15, k0_pay11, k0_pay7, k0_pay5]
  simp only [piece0, piece1, piece2, piece3, piece4, piece5, piece6, piece7]
  rw [Fin.sum_univ_eight]
  rfl

end Cert.CombineCtxIdeal.Mix

end
-- ==== Proof.NormCtx.lean ====
module

public import proofs.«01_k».proof.Proof.MixCtx
public import Idealize.ShloMosaic.Lib.KernelVsHost
public import Idealize.ShloMosaic.Lib.Pointwise.IndexBridge

@[expose] public section

noncomputable section

/-! # The combining kernel's whole result

The blocks of the grid points, read off the call's operands: which rows of the residual stream, of the experts' rows, of
the gates and of the modulations each point takes. The blocks tile the output, so the output array is the one function
`out` of the operands. -/

namespace Cert.CombineCtxIdeal.Mix

open Cert.CombineCtxIdeal Cert.CombineCtxIdeal.Gen Cert.CombineCtxIdeal.Value Idealize.ShloMosaic Idealize.ShloMosaic.TcCoe Idealize.SL.Sem

/-! ## The block each window takes at a grid point -/

theorem idx0 (t : Fin cfg0.N) : win0_0.index t = ![t.val + 0, 0] := (by decide +kernel : ∀ t : Fin grid0.N, win0_0.index t = ![t.val + 0, 0]) t
theorem idx1 (t : Fin cfg0.N) : win0_1.index t = ![t.val + 0, 0] := (by decide +kernel : ∀ t : Fin grid0.N, win0_1.index t = ![t.val + 0, 0]) t
theorem idx2 (t : Fin cfg0.N) : win0_2.index t = ![t.val + 32, 0] := (by decide +kernel : ∀ t : Fin grid0.N, win0_2.index t = ![t.val + 32, 0]) t
theorem idx3 (t : Fin cfg0.N) : win0_3.index t = ![t.val + 64, 0] := (by decide +kernel : ∀ t : Fin grid0.N, win0_3.index t = ![t.val + 64, 0]) t
theorem idx4 (t : Fin cfg0.N) : win0_4.index t = ![t.val + 96, 0] := (by decide +kernel : ∀ t : Fin grid0.N, win0_4.index t = ![t.val + 96, 0]) t
theorem idx5 (t : Fin cfg0.N) : win0_5.index t = ![t.val + 0, 0] := (by decide +kernel : ∀ t : Fin grid0.N, win0_5.index t = ![t.val + 0, 0]) t
theorem idx6 (t : Fin cfg0.N) : win0_6.index t = ![4, 0, 0] := (by decide +kernel : ∀ t : Fin grid0.N, win0_6.index t = ![4, 0, 0]) t
theorem idx7 (t : Fin cfg0.N) : win0_7.index t = ![0, 0] := (by decide +kernel : ∀ t : Fin grid0.N, win0_7.index t = ![0, 0]) t
theorem idx8 (t : Fin cfg0.N) : win0_8.index t = ![t.val, 0] := (by decide +kernel : ∀ t : Fin grid0.N, win0_8.index t = ![t.val, 0]) t

variable (m : (ℓ : Loc nD τ sig) → Buf (Elt Ideal) ℓ) (c : Dev nD) (t : Fin cfg0.N)

/-- There are sixteen grid points. -/
theorem t_lt : t.val < 16 := t.isLt

/-! ## The blocks, read off the operands -/

theorem read0 (r : Fin 512) (q : Fin 1024) : iblk m c 0 t (ix2 r q) = m ((c : Thread nD τ).loc main_arg0) (ix2 ⟨0 + (512 * t.val + r.val), by have := t_lt t; omega⟩ q) := by
  blk_ext [iblk, V, idx0 t]

theorem read5 (r : Fin 512) (q : Fin 4) : iblk m c 5 t (ix2 r q) = m ((c : Thread nD τ).loc main_arg2) (ix2 ⟨0 + (512 * t.val + r.val), by have := t_lt t; omega⟩ q) := by
  blk_ext [iblk, V, idx5 t]

theorem read6 (r : Fin 512) (q : Fin 1024) : iblk m c 6 t (ix3 0 5 q) = m ((c : Thread nD τ).loc main_arg3) (ix3 ⟨4, by have := t_lt t; omega⟩ 5 q) := by
  blk_ext [iblk, V, idx6 t]

theorem v2_apply (q : Fin 1024) : V m c main_v2 (ix2 0 q) = m ((c : Thread nD τ).loc main_arg4) (ix1 q) := by
  unfold V
  simp only [hostOps0, hostOps0_1, hostOps0_2, List.flatten_cons, List.flatten_nil, List.append_nil, List.cons_append, List.nil_append]
  after_results
  pointwise

/-- The experts' rows laid out as rows of 128, at an entry. -/
theorem rows_flat (y : FVec Ideal S4x16384x1024 .f32) (k : Fin 4) (r : Fin 16384) (q : Fin 1024) (R : Fin 524288)
    (hR : R.val = (16384 * k.val + r.val) * 8 + q.val / 128) :
    shapeCast S524288x128 y shapeCasts_S4x16384x1024_S524288x128 (ix2 R ⟨q.val % 128, Nat.mod_lt _ (by decide)⟩) = y (ix3 k r q) := by
  refine shapeCast_apply (s := S4x16384x1024) _ _ _ (ix3 k r q) ?_
  rw [ix2_eq_valueIdx, ix3_eq_valueIdx, Shape.rowMajor_val_two, Shape.rowMajor_val_three]
  show (k.val * 16384 + r.val) * 1024 + q.val = R.val * 128 + q.val % 128
  omega

theorem v1_apply (k : Fin 4) (r : Fin 16384) (q : Fin 1024) (R : Fin 528384) (hR : R.val = (16384 * k.val + r.val) * 8 + q.val / 128) :
    V m c main_v1 (ix2 R ⟨q.val % 128, Nat.mod_lt _ (by decide)⟩) = m ((c : Thread nD τ).loc main_arg1) (ix3 k r q) := by
  unfold V
  simp only [hostOps0, hostOps0_1, hostOps0_2, List.flatten_cons, List.flatten_nil, List.append_nil, List.cons_append, List.nil_append]
  after_results
  refine (pad_apply_of_inside (s := S524288x128) (t := S528384x128) ![0, 0] ![4096, 0] ![0, 0]
    (shapeCast S524288x128 (m ((c : Thread nD τ).loc main_arg1)) shapeCasts_S4x16384x1024_S524288x128) _ pads_S524288x128_S528384x128_040960_000 h_S_ _
    (ix2 ⟨R.val, by omega⟩ ⟨q.val % 128, Nat.mod_lt _ (by decide)⟩) fun a => ?_).trans ?_
  · match a with
    | ⟨0, _⟩ => show R.val = 0 + R.val * (0 + 1); omega
    | ⟨1, _⟩ => show q.val % 128 = 0 + q.val % 128 * (0 + 1); omega
  · exact rows_flat _ k r q _ hR

theorem read7 (q : Fin 1024) : iblk m c 7 t (ix2 0 q) = m ((c : Thread nD τ).loc main_arg4) (ix1 q) := by
  have h : ((cfg0.win 7).blk t).view.emb (ix2 0 q) = ix2 0 q := by blk_ext [idx7 t]
  exact (congrArg (V m c main_v2) h).trans (v2_apply m c q)

theorem read1 (r : Fin 512) (q : Fin 1024) : wide (iblk m c 1 t) r q = m ((c : Thread nD τ).loc main_arg1) (ix3 0 ⟨0 + (512 * t.val + r.val), by have := t_lt t; omega⟩ q) := by
  have ht := t_lt t
  have h : ((cfg0.win 1).blk t).view.emb (ix2 ⟨8 * r.val + q.val / 128, by omega⟩ ⟨q.val % 128, Nat.mod_lt _ (by decide)⟩)
      = ix2 ⟨(t.val + 0) * 4096 + 8 * r.val + q.val / 128, by omega⟩ ⟨q.val % 128, Nat.mod_lt _ (by decide)⟩ := by blk_ext [idx1 t]
  refine (congrArg (V m c main_v1) h).trans (v1_apply m c 0 _ q _ ?_)
  show (t.val + 0) * 4096 + 8 * r.val + q.val / 128 = (16384 * 0 + (0 + (512 * t.val + r.val))) * 8 + q.val / 128
  omega

theorem read2 (r : Fin 512) (q : Fin 1024) : wide (iblk m c 2 t) r q = m ((c : Thread nD τ).loc main_arg1) (ix3 1 ⟨0 + (512 * t.val + r.val), by have := t_lt t; omega⟩ q) := by
  have ht := t_lt t
  have h : ((cfg0.win 2).blk t).view.emb (ix2 ⟨8 * r.val + q.val / 128, by omega⟩ ⟨q.val % 128, Nat.mod_lt _ (by decide)⟩)
      = ix2 ⟨(t.val + 32) * 4096 + 8 * r.val + q.val / 128, by omega⟩ ⟨q.val % 128, Nat.mod_lt _ (by decide)⟩ := by blk_ext [idx2 t]
  refine (congrArg (V m c main_v1) h).trans (v1_apply m c 1 _ q _ ?_)
  show (t.val + 32) * 4096 + 8 * r.val + q.val / 128 = (16384 * 1 + (0 + (512 * t.val + r.val))) * 8 + q.val / 128
  omega

theorem read3 (r : Fin 512) (q : Fin 1024) : wide (iblk m c 3 t) r q = m ((c : Thread nD τ).loc main_arg1) (ix3 2 ⟨0 + (512 * t.val + r.val), by have := t_lt t; omega⟩ q) := by
  have ht := t_lt t
  have h : ((cfg0.win 3).blk t).view.emb (ix2 ⟨8 * r.val + q.val / 128, by omega⟩ ⟨q.val % 128, Nat.mod_lt _ (by decide)⟩)
      = ix2 ⟨(t.val + 64) * 4096 + 8 * r.val + q.val / 128, by omega⟩ ⟨q.val % 128, Nat.mod_lt _ (by decide)⟩ := by blk_ext [idx3 t]
  refine (congrArg (V m c main_v1) h).trans (v1_apply m c 2 _ q _ ?_)
  show (t.val + 64) * 4096 + 8 * r.val + q.val / 128 = (16384 * 2 + (0 + (512 * t.val + r.val))) * 8 + q.val / 128
  omega

theorem read4 (r : Fin 512) (q : Fin 1024) : wide (iblk m c 4 t) r q = m ((c : Thread nD τ).loc main_arg1) (ix3 3 ⟨0 + (512 * t.val + r.val), by have := t_lt t; omega⟩ q) := by
  have ht := t_lt t
  have h : ((cfg0.win 4).blk t).view.emb (ix2 ⟨8 * r.val + q.val / 128, by omega⟩ ⟨q.val % 128, Nat.mod_lt _ (by decide)⟩)
      = ix2 ⟨(t.val + 96) * 4096 + 8 * r.val + q.val / 128, by omega⟩ ⟨q.val % 128, Nat.mod_lt _ (by decide)⟩ := by blk_ext [idx4 t]
  refine (congrArg (V m c main_v1) h).trans (v1_apply m c 3 _ q _ ?_)
  show (t.val + 96) * 4096 + 8 * r.val + q.val / 128 = (16384 * 3 + (0 + (512 * t.val + r.val))) * 8 + q.val / 128
  omega

/-- The sum of a token's residual row and its experts' rows, from the call's operands. -/
def fused (X : FVec Ideal S16384x1024 .f32) (Y : FVec Ideal S4x16384x1024 .f32) (G : FVec Ideal S16384x4 .f32) (W : FVec Ideal S8x6x1024 .f32)
    (R : Fin 8192) (q : Fin 1024) : EReal :=
  X (ix2 ⟨0 + R.val, by omega⟩ q) + W (ix3 ⟨4, by omega⟩ 5 q)
    * (((Y (ix3 0 ⟨0 + R.val, by omega⟩ q) * G (ix2 ⟨0 + R.val, by omega⟩ 0) + Y (ix3 1 ⟨0 + R.val, by omega⟩ q) * G (ix2 ⟨0 + R.val, by omega⟩ 1))
      + Y (ix3 2 ⟨0 + R.val, by omega⟩ q) * G (ix2 ⟨0 + R.val, by omega⟩ 2)) + Y (ix3 3 ⟨0 + R.val, by omega⟩ q) * G (ix2 ⟨0 + R.val, by omega⟩ 3))

/-- The call's result at an entry. -/
def normed (X : FVec Ideal S16384x1024 .f32) (Y : FVec Ideal S4x16384x1024 .f32) (G : FVec Ideal S16384x4 .f32) (W : FVec Ideal S8x6x1024 .f32)
    (E : FVec Ideal S1024 .f32) (R : Fin 8192) (q : Fin 1024) : EReal :=
  (fused X Y G W R q
      * Ideal.rsqrt (Ideal.div (∑ k : Fin 1024, fused X Y G W R k * fused X Y G W R k) (Ideal.ofBits .f32 0x44800000#32) + Ideal.ofBits .f32 0x358637BD#32))
    * E (ix1 q)

/-- The call's result. -/
def out (X : FVec Ideal S16384x1024 .f32) (Y : FVec Ideal S4x16384x1024 .f32) (G : FVec Ideal S16384x4 .f32) (W : FVec Ideal S8x6x1024 .f32)
    (E : FVec Ideal S1024 .f32) : FVec Ideal S8192x1024 .f32 :=
  fun i => normed X Y G W E ⟨(i 0).val, (i 0).isLt⟩ ⟨(i 1).val, (i 1).isLt⟩

theorem mixed_eq (r : Fin 512) (q : Fin 1024) :
    mixed (iblk m c 0 t) (iblk m c 1 t) (iblk m c 2 t) (iblk m c 3 t) (iblk m c 4 t) (iblk m c 5 t) (iblk m c 6 t) r q
      = fused (m ((c : Thread nD τ).loc main_arg0)) (m ((c : Thread nD τ).loc main_arg1)) (m ((c : Thread nD τ).loc main_arg2))
          (m ((c : Thread nD τ).loc main_arg3)) ⟨512 * t.val + r.val, by have := t_lt t; omega⟩ q := by
  unfold mixed fused
  rw [read0, read1, read2, read3, read4, read5, read5, read5, read5, read6 m c t r]

/-- The output array after the last grid point. -/
theorem final : (dats m 0 c).arrAt 8 cfg0.N
    = out (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t hf y => ?_
  have ht := t_lt t
  have h0 : (y 0).val < 512 := (y 0).isLt
  have h1 : (y 1).val < 1024 := (y 1).isLt
  have hy : y = ix2 ⟨(y 0).val, h0⟩ ⟨(y 1).val, h1⟩ := by
    funext a
    match a with
    | ⟨0, _⟩ => rfl
    | ⟨1, _⟩ => rfl
  have he : ((cfg0.win 8).blk t).view.emb (ix2 ⟨(y 0).val, h0⟩ ⟨(y 1).val, h1⟩) = ix2 ⟨512 * t.val + (y 0).val, by omega⟩ ⟨(y 1).val, h1⟩ := by
    blk_ext [idx8 t]
  rw [hy]
  blk_simp
  rw [after0_8]
  refine (out_apply _ _ _ _ _ _ _ _ _ _ _ _ _ _ _ _ _ _ _ _ _ _ _ _ _ _ _ _ _ _).trans ?_
  simp only [mixed_eq, read7]
  exact (congrArg (out _ _ _ _ _) he).symm

end Cert.CombineCtxIdeal.Mix

end
-- ==== Proof.ReferenceCtx.lean ====
module

public import proofs.«01_k».proof.Proof.NormCtx
public import proofs.«01_k».proof.Proof.Gen.FinalCtxIdeal.Run

@[expose] public section

noncomputable section

/-! # The reference of the combining kernel

The reference's result, entry by entry, is the kernel's. -/

namespace Cert.FinalCtxIdeal.Read

open Cert.FinalCtxIdeal Cert.FinalCtxIdeal.Gen Idealize.ShloMosaic Idealize.ShloMosaic.TcCoe Idealize.SL.Sem

variable (X : FVec Ideal S16384x1024 .f32) (Y : FVec Ideal S4x16384x1024 .f32) (G : FVec Ideal S16384x4 .f32) (W : FVec Ideal S8x6x1024 .f32)
  (E : FVec Ideal S1024 .f32)

/-- The modulation's gate rows. -/
def gate : FVec Ideal S8192x1024 .f32 :=
  broadcastInDim S8192x1024 ![0, 1] bcast_S1x1024_S8192x1024_0_1 (broadcastInDim S1x1024 ![1] bcast_S1024_S1x1024_1
    (shapeCast _ (extractStridedSlice S1x1x1024 ![4, 5, 0] W slices_S8x6x1024_S1x1x1024_4_5_0) shapeCasts_S1x1x1024_S1024))

theorem gate_apply (r : Fin 8192) (q : Fin 1024) : gate W (ix2 r q) = W (ix3 ⟨4, by omega⟩ 5 q) := by
  pointwise [gate]

/-- The sum of the experts' rows, each by its gate. -/
def weighted : FVec Ideal S8192x1024 .f32 :=
  Host.reduceAdd (mulf (extractStridedSlice S4x8192x1024 ![0, 0, 0] Y slices_S4x16384x1024_S4x8192x1024_0_0_0)
    (broadcastInDim S4x8192x1024 ![0, 1, 2] bcast_S4x8192x1_S4x8192x1024_0_1_2 (broadcastInDim S4x8192x1 ![0, 1] bcast_S4x8192_S4x8192x1_0_1
      (transpose S4x8192 [1, 0] (extractStridedSlice S8192x4 ![0, 0] G slices_S16384x4_S8192x4_0_0) transposes_S8192x4_S4x8192_1_0))))
    (constant S_ .f32 0x00000000#32) reducesTo_S4x8192x1024_S8192x1024_d0 h_S_

theorem weighted_apply (r : Fin 8192) (q : Fin 1024) : weighted Y G (ix2 r q)
      = ((Y (ix3 0 ⟨0 + r.val, by omega⟩ q) * G (ix2 ⟨0 + r.val, by omega⟩ 0) + Y (ix3 1 ⟨0 + r.val, by omega⟩ q) * G (ix2 ⟨0 + r.val, by omega⟩ 1))
      + Y (ix3 2 ⟨0 + r.val, by omega⟩ q) * G (ix2 ⟨0 + r.val, by omega⟩ 2)) + Y (ix3 3 ⟨0 + r.val, by omega⟩ q) * G (ix2 ⟨0 + r.val, by omega⟩ 3) := by
  pointwise [weighted]
  exact Fin.sum_univ_four _

/-- The rows before the last norm. -/
def stream : FVec Ideal S8192x1024 .f32 :=
  addf (extractStridedSlice S8192x1024 ![0, 0] X slices_S16384x1024_S8192x1024_0_0) (mulf (gate W) (weighted Y G))

theorem stream_apply (r : Fin 8192) (q : Fin 1024) : stream X Y G W (ix2 r q) = Cert.CombineCtxIdeal.Mix.fused X Y G W r q := by
  unfold Cert.CombineCtxIdeal.Mix.fused
  rw [← gate_apply W r q, ← weighted_apply]
  pointwise [stream]

/-- The reference's result. -/
def out : FVec Ideal S8192x1024 .f32 :=
  mulf (mulf (stream X Y G W) (broadcastInDim S8192x1024 ![0, 1] bcast_S8192x1_S8192x1024_0_1 (Host.rsqrt (addf (Host.divf
      (broadcastInDim S8192x1 ![0] bcast_S8192_S8192x1_0 (Host.reduceAdd (mulf (stream X Y G W) (stream X Y G W)) (constant S_ .f32 0x00000000#32)
        reducesTo_S8192x1024_S8192_d1 h_S_)) (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 E))

theorem out_apply (r : Fin 8192) (q : Fin 1024) : out X Y G W E (ix2 r q) = Cert.CombineCtxIdeal.Mix.normed X Y G W E r q := by
  unfold Cert.CombineCtxIdeal.Mix.normed
  simp only [← stream_apply]
  pointwise [out]

/-- The reference's result is the call's. -/
theorem out_eq : out X Y G W E = Cert.CombineCtxIdeal.Mix.out X Y G W E := by
  funext i
  have h0 : (i 0).val < 8192 := (i 0).isLt
  have h1 : (i 1).val < 1024 := (i 1).isLt
  have hi : i = ix2 ⟨(i 0).val, h0⟩ ⟨(i 1).val, h1⟩ := by
    funext a
    match a with
    | ⟨0, _⟩ => rfl
    | ⟨1, _⟩ => rfl
  rw [hi, out_apply]
  rfl

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) :=
  (θ_run defs _ _).mono (fun _ h c => (h c).1) (Value.run m ρ)

end Cert.FinalCtxIdeal.Read

end
-- ==== Proof.MixLat.lean ====
module

public import proofs.«01_k».proof.Proof.Gen.CombineLatIdeal.Value
public import proofs.«01_k».proof.Proof.Mean
public import Idealize.ShloMosaic.Lib.Pipeline.ValueKit
public import Idealize.ShloMosaic.Lib.Pipeline.ReadBack
public import Idealize.ShloMosaic.Lib.Pointwise

@[expose] public section

noncomputable section

/-! # One block of the combining kernel

A grid point of `moe_combine_final` takes 512 tokens. It forms each token's mixed row, 128 columns at a time, stores the
pieces in the output block, and sums their squares as it goes. It then reads the block back and scales it. This module
reads the block the generated run names, entry by entry. -/

namespace Cert.CombineLatIdeal.Mix

open Cert.CombineLatIdeal Cert.CombineLatIdeal.Gen Cert.CombineLatIdeal.Value Idealize.ShloMosaic Idealize.ShloMosaic.TcCoe Idealize.SL.Sem

/-- Every eighth row of a block of experts' rows, from row `j` on. -/
def rows (x : FVec Ideal S4096x128 .f32) (j : ℕ) : FVec Ideal S512x128 .f32 :=
  fun i => x (ix2 ⟨(8 * (i 0).val + j) % 4096, Nat.mod_lt _ (by decide)⟩ ⟨(i 1).val, (i 1).isLt⟩)

/-- The 128 columns of a block from column `q` on. -/
def cols (x : FVec Ideal S512x1024 .f32) (q : ℕ) : FVec Ideal S512x128 .f32 :=
  fun i => x (ix2 ⟨(i 0).val, (i 0).isLt⟩ ⟨(q + (i 1).val) % 1024, Nat.mod_lt _ (by decide)⟩)

theorem ld_cols (x : Vec Ideal S512x1024 .f32) (q : ℕ) (inb : ∀ a, (![0, q] : Fin 2 → ℕ) a + (![512, 128] : Fin 2 → ℕ) a ≤ S512x1024.size a) :
    (View.ld (Val := Elt Ideal) x (Rect.unit (s := S512x1024) ![0, q] ![512, 128] inb) : S512x128.Idx → EReal) = cols x q := by
  have h : q + 128 ≤ 1024 := inb 1
  funext i
  have h0 : (i 0).val < 512 := (i 0).isLt
  have h1 : (i 1).val < 128 := (i 1).isLt
  refine View.ld_unit_apply_of x _ _ inb i _ fun a => ?_
  match a with
  | ⟨0, _⟩ => show (i 0).val = 0 + (i 0).val; omega
  | ⟨1, _⟩ => show (q + (i 1).val) % 1024 = q + (i 1).val; omega

theorem readAt_rows (m : Memref sig .tc .vmem S4096x128 .f32) (hm : m.IsWhole) (x : Vec Ideal S4096x128 .f32) (j : ℕ)
    (inb : ∀ a, (![512, 128] : Fin 2 → ℕ) a = 0 ∨ (![j, 0] : Fin 2 → ℕ) a + (![8, 1] : Fin 2 → ℕ) a * ((![512, 128] : Fin 2 → ℕ) a - 1) < S4096x128.size a) :
    (View.readAt (Elt Ideal) m.view { off := ![j, 0], size := ![512, 128], stride := ![8, 1], inb := inb } (hm.unread x) : S512x128.Idx → EReal) = rows x j := by
  have h : j + 8 * 511 < 4096 := (inb 0).resolve_left (by decide)
  funext i
  have h0 : (i 0).val < 512 := (i 0).isLt
  have h1 : (i 1).val < 128 := (i 1).isLt
  show m.view.read (Elt Ideal) (hm.unread x) _ = _
  rw [hm.read_unread]
  refine congrArg x (funext fun a => Fin.ext ?_)
  match a with
  | ⟨0, _⟩ => show j + 8 * (i 0).val = (8 * (i 0).val + j) % 4096; omega
  | ⟨1, _⟩ => show 0 + 1 * (i 1).val = (i 1).val; omega

/-- A row of an experts' block, 1024 entries held as eight rows of 128, at an entry. -/
def wide (y : Vec Ideal S4096x128 .f32) (r : Fin 512) (q : Fin 1024) : EReal :=
  y (ix2 ⟨8 * r.val + q.val / 128, by omega⟩ ⟨q.val % 128, Nat.mod_lt _ (by decide)⟩)

/-- The mixed row: the residual row plus the modulated sum of the four experts' rows, each by its gate. -/
def mixed (x : Vec Ideal S512x1024 .f32) (a b c d : Vec Ideal S4096x128 .f32) (g : Vec Ideal S512x4 .f32) (w : Vec Ideal S1x6x1024 .f32)
    (r : Fin 512) (q : Fin 1024) : EReal :=
  x (ix2 r q) + w (ix3 0 5 q) * (((wide a r q * g (ix2 r 0) + wide b r q * g (ix2 r 1)) + wide c r q * g (ix2 r 2)) + wide d r q * g (ix2 r 3))

/-- The mixed rows as one block. -/
def block (x : Vec Ideal S512x1024 .f32) (a b c d : Vec Ideal S4096x128 .f32) (g : Vec Ideal S512x4 .f32) (w : Vec Ideal S1x6x1024 .f32) :
    Vec Ideal S512x1024 .f32 :=
  fun i => mixed x a b c d g w ⟨(i 0).val, (i 0).isLt⟩ ⟨(i 1).val, (i 1).isLt⟩

theorem rows_apply (x : Vec Ideal S4096x128 .f32) (j : ℕ) (hj : j < 8) (r : Fin 512) (l : Fin 128) :
    rows x j (ix2 r l) = wide x r ⟨128 * j + l.val, by omega⟩ := by
  refine congrArg x (funext fun a => Fin.ext ?_)
  match a with
  | ⟨0, _⟩ => show (8 * r.val + j) % 4096 = 8 * r.val + (128 * j + l.val) / 128; omega
  | ⟨1, _⟩ => show l.val = (128 * j + l.val) % 128; omega

theorem cols_apply (x : Vec Ideal S512x1024 .f32) (q : ℕ) (hq : q + 128 ≤ 1024) (r : Fin 512) (l : Fin 128) :
    cols x q (ix2 r l) = x (ix2 r ⟨q + l.val, by omega⟩) := by
  refine congrArg x (funext fun a => Fin.ext ?_)
  match a with
  | ⟨0, _⟩ => rfl
  | ⟨1, _⟩ => show (q + l.val) % 1024 = q + l.val; omega

variable (x : Vec Ideal S512x1024 .f32) (a b c d : Vec Ideal S4096x128 .f32) (g : Vec Ideal S512x4 .f32) (w : Vec Ideal S1x6x1024 .f32)

/-- What a piece's value is at an entry, from the entries it is computed from. -/
theorem piece_of {p : FVec Ideal S512x128 .f32} (j : ℕ) (hj : j < 8) (h : ∀ (r : Fin 512) (l : Fin 128), p (ix2 r l)
      = cols x (128 * j) (ix2 r l) + w (ix3 0 5 ⟨128 * j + l.val, by omega⟩)
        * (((rows a j (ix2 r l) * g (ix2 r 0) + rows b j (ix2 r l) * g (ix2 r 1)) + rows c j (ix2 r l) * g (ix2 r 2)) + rows d j (ix2 r l) * g (ix2 r 3))) :
    p = cols (block x a b c d g w) (128 * j) := by
  funext i
  have h0 : (i 0).val < 512 := (i 0).isLt
  have h1 : (i 1).val < 128 := (i 1).isLt
  have hi : i = ix2 ⟨(i 0).val, h0⟩ ⟨(i 1).val, h1⟩ := by
    funext a'
    match a' with
    | ⟨0, _⟩ => rfl
    | ⟨1, _⟩ => rfl
  rw [hi, h, cols_apply _ _ (by omega), cols_apply _ _ (by omega), rows_apply _ j hj, rows_apply _ j hj, rows_apply _ j hj, rows_apply _ j hj]
  rfl

theorem piece0 : k0_pay4 g w (rows a 0) (rows b 0) (rows c 0) (rows d 0) (cols x 0) = cols (block x a b c d g w) 0 :=
  piece_of x a b c d g w 0 (by decide) fun r l => by
    pointwise [k0_pay4, k0_pay3]

theorem piece1 : k0_pay6 g (k0_pay3 w) (rows a 1) (rows b 1) (rows c 1) (rows d 1) (cols x 128) = cols (block x a b c d g w) 128 :=
  piece_of x a b c d g w 1 (by decide) fun r l => by
    pointwise [k0_pay6, k0_pay3]

theorem piece2 : k0_pay10 g (k0_pay3 w) (k0_pay8 g (rows a 2)) (k0_pay9 g (rows b 2)) (rows c 2) (rows d 2) (cols x 256) = cols (block x a b c d g w) 256 :=
  piece_of x a b c d g w 2 (by decide) fun r l => by
    pointwise [k0_pay10, k0_pay8, k0_pay9, k0_pay3]

theorem piece3 : k0_pay14 g (k0_pay3 w) (k0_pay12 g (rows a 3) (rows b 3) (rows c 3)) (k0_pay13 (rows d 3)) (cols x 384) = cols (block x a b c d g w) 384 :=
  piece_of x a b c d g w 3 (by decide) fun r l => by
    pointwise [k0_pay14, k0_pay12, k0_pay13, k0_pay3]

theorem piece4 : k0_pay16 g (k0_pay3 w) (rows a 4) (rows b 4) (rows c 4) (rows d 4) (cols x 512) = cols (block x a b c d g w) 512 :=
  piece_of x a b c d g w 4 (by decide) fun r l => by
    pointwise [k0_pay16, k0_pay3]

theorem piece5 : k0_pay17 g (k0_pay3 w) (rows a 5) (rows b 5) (rows c 5) (rows d 5) (cols x 640) = cols (block x a b c d g w) 640 :=
  piece_of x a b c d g w 5 (by decide) fun r l => by
    pointwise [k0_pay17, k0_pay3]

theorem piece6 : k0_pay21 g (k0_pay3 w) (k0_pay19 (rows a 6)) (k0_pay20 g) (rows b 6) (rows c 6) (rows d 6) (cols x 768) = cols (block x a b c d g w) 768 :=
  piece_of x a b c d g w 6 (by decide) fun r l => by
    pointwise [k0_pay21, k0_pay19, k0_pay20, k0_pay3]

theorem piece7 : k0_pay1 g (k0_pay3 w) (k0_pay23 g (rows a 7) (rows b 7)) (k0_pay24 (rows c 7)) (rows d 7) (cols x 896) = cols (block x a b c d g w) 896 :=
  piece_of x a b c d g w 7 (by decide) fun r l => by
    pointwise [k0_pay1, k0_pay23, k0_pay24, k0_pay3]

/-- The sum of the squares of 128 columns of a row, from column `q` on. -/
def part (y : Vec Ideal S512x1024 .f32) (q : ℕ) (r : Fin 512) : EReal :=
  ∑ l : Fin 128, cols y q (ix2 r l) * cols y q (ix2 r l)

theorem sum_parts (r : Fin 512) :
    ∑ k : Fin 8, part (block x a b c d g w) (128 * k.val) r = ∑ q : Fin 1024, mixed x a b c d g w r q * mixed x a b c d g w r q := by
  refine Eq.trans ?_ (Fintype.sum_equiv (finProdFinEquiv (m := 8) (n := 128)) _ (fun q : Fin 1024 => mixed x a b c d g w r q * mixed x a b c d g w r q)
    fun _ => rfl)
  rw [Fintype.sum_prod_type]
  refine Finset.sum_congr rfl fun k _ => Finset.sum_congr rfl fun l _ => ?_
  have h : cols (block x a b c d g w) (128 * k.val) (ix2 r l) = mixed x a b c d g w r (finProdFinEquiv (k, l)) := by
    rw [cols_apply _ _ (by omega)]
    refine congrArg (mixed x a b c d g w r) (Fin.ext ?_)
    show 128 * k.val + l.val = l.val + 128 * k.val
    omega
  rw [h]

/-- The eight column pieces, read back whole. -/
theorem readback (m : Memref sig .tc .vmem S512x1024 .f32) (y : Vec Ideal S512x1024 .f32) :
    (View.readCov (Val := Elt Ideal) m.view
          [⟨Rect.unit ![0, 896] ![512, 128] inb_S512x1024_S512x128_0_896, cols y 896⟩,
           ⟨Rect.unit ![0, 768] ![512, 128] inb_S512x1024_S512x128_0_768, cols y 768⟩,
           ⟨Rect.unit ![0, 640] ![512, 128] inb_S512x1024_S512x128_0_640, cols y 640⟩,
           ⟨Rect.unit ![0, 512] ![512, 128] inb_S512x1024_S512x128_0_512, cols y 512⟩,
           ⟨Rect.unit ![0, 384] ![512, 128] inb_S512x1024_S512x128_0_384, cols y 384⟩,
           ⟨Rect.unit ![0, 256] ![512, 128] inb_S512x1024_S512x128_0_256, cols y 256⟩,
           ⟨Rect.unit ![0, 128] ![512, 128] inb_S512x1024_S512x128_0_128, cols y 128⟩,
           ⟨Rect.unit ![0, 0] ![512, 128] inb_S512x1024_S512x128_0_0, cols y 0⟩]
        (Rect.unit (s := S512x1024) ![0, 0] ![512, 1024] inb_S512x1024_S512x1024_0_0).toLoadRect : S512x1024.Idx → EReal) = y := by
  rw [View.readCov_eq_canon']
  funext i
  refine (View.canon_append_of_piecesOf (Val := Elt Ideal) y [] [_, _, _, _, _, _, _, _]
    ⟨fun z => (congrFun (ld_cols y 896 inb_S512x1024_S512x128_0_896) z).symm, fun z => (congrFun (ld_cols y 768 inb_S512x1024_S512x128_0_768) z).symm, fun z => (congrFun (ld_cols y 640 inb_S512x1024_S512x128_0_640) z).symm,
      fun z => (congrFun (ld_cols y 512 inb_S512x1024_S512x128_0_512) z).symm, fun z => (congrFun (ld_cols y 384 inb_S512x1024_S512x128_0_384) z).symm, fun z => (congrFun (ld_cols y 256 inb_S512x1024_S512x128_0_256) z).symm,
      fun z => (congrFun (ld_cols y 128 inb_S512x1024_S512x128_0_128) z).symm, fun z => (congrFun (ld_cols y 0 inb_S512x1024_S512x128_0_0) z).symm, trivial⟩ _ ?_).trans ?_
  · exact View.cover_of_tiled_head _ _ _ rfl _
  · refine congrArg y (funext fun a' => Fin.ext ?_)
    match a' with
    | ⟨0, _⟩ => show 0 + 1 * (i 0).val = (i 0).val; omega
    | ⟨1, _⟩ => show 0 + 1 * (i 1).val = (i 1).val; omega

/-- The block a grid point writes, at an entry: the mixed row scaled by its root mean square and the last norm's weights. -/
theorem out_apply (e : Vec Ideal S1x1024 .f32) (s : Dev nD) (i : grid0.Coords) (arg1 : Memref sig .tc .vmem S512x1024 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x4 .f32) (harg6 : arg6.IsWhole) (arg7 : Memref sig .tc .vmem S1x6x1024 .f32) (harg7 : arg7.IsWhole) (arg8 : Memref sig .tc .vmem S1x1024 .f32) (harg8 : arg8.IsWhole) (arg9 : Memref sig .tc .vmem S512x1024 .f32) (harg9 : arg9.IsWhole) (r : Fin 512) (q : Fin 1024) :
    out0_A_8 s i arg1 harg1 arg2 harg2 arg3 harg3 arg4 harg4 arg5 harg5 arg6 harg6 arg7 harg7 arg8 harg8 arg9 harg9 x a b c d g w e (ix2 r q)
      = (mixed x a b c d g w r q
          * Ideal.rsqrt (Ideal.div (∑ k : Fin 1024, mixed x a b c d g w r k * mixed x a b c d g w r k) (Ideal.ofBits .f32 0x44800000#32) + Ideal.ofBits .f32 0x358637BD#32))
        * e (ix2 0 q) := by
  rw [← Mean.mul_inv, ← sum_parts]
  unfold out0_A_8
  frame_out
  simp only [ld_cols, readAt_rows, piece0, piece1, piece2, piece3, piece4, piece5, piece6, piece7, readback]
  pointwise [k0_pay2, k0_pay22, k0_pay18, k0_pay15, k0_pay11, k0_pay7, k0_pay5]
  simp only [piece0, piece1, piece2, piece3, piece4, piece5, piece6, piece7]
  rw [Fin.sum_univ_eight]
  rfl

end Cert.CombineLatIdeal.Mix

end
-- ==== Proof.NormLat.lean ====
module

public import proofs.«01_k».proof.Proof.MixLat
public import Idealize.ShloMosaic.Lib.KernelVsHost
public import Idealize.ShloMosaic.Lib.Pointwise.IndexBridge

@[expose] public section

noncomputable section

/-! # The combining kernel's whole result

The blocks of the grid points, read off the call's operands: which rows of the residual stream, of the experts' rows, of
the gates and of the modulations each point takes. The blocks tile the output, so the output array is the one function
`out` of the operands. -/

namespace Cert.CombineLatIdeal.Mix

open Cert.CombineLatIdeal Cert.CombineLatIdeal.Gen Cert.CombineLatIdeal.Value Idealize.ShloMosaic Idealize.ShloMosaic.TcCoe Idealize.SL.Sem

/-! ## The block each window takes at a grid point -/

theorem idx0 (t : Fin cfg0.N) : win0_0.index t = ![t.val + 16, 0] := (by decide +kernel : ∀ t : Fin grid0.N, win0_0.index t = ![t.val + 16, 0]) t
theorem idx1 (t : Fin cfg0.N) : win0_1.index t = ![t.val + 16, 0] := (by decide +kernel : ∀ t : Fin grid0.N, win0_1.index t = ![t.val + 16, 0]) t
theorem idx2 (t : Fin cfg0.N) : win0_2.index t = ![t.val + 48, 0] := (by decide +kernel : ∀ t : Fin grid0.N, win0_2.index t = ![t.val + 48, 0]) t
theorem idx3 (t : Fin cfg0.N) : win0_3.index t = ![t.val + 80, 0] := (by decide +kernel : ∀ t : Fin grid0.N, win0_3.index t = ![t.val + 80, 0]) t
theorem idx4 (t : Fin cfg0.N) : win0_4.index t = ![t.val + 112, 0] := (by decide +kernel : ∀ t : Fin grid0.N, win0_4.index t = ![t.val + 112, 0]) t
theorem idx5 (t : Fin cfg0.N) : win0_5.index t = ![t.val + 16, 0] := (by decide +kernel : ∀ t : Fin grid0.N, win0_5.index t = ![t.val + 16, 0]) t
theorem idx6 (t : Fin cfg0.N) : win0_6.index t = ![t.val / 4, 0, 0] := (by decide +kernel : ∀ t : Fin grid0.N, win0_6.index t = ![t.val / 4, 0, 0]) t
theorem idx7 (t : Fin cfg0.N) : win0_7.index t = ![0, 0] := (by decide +kernel : ∀ t : Fin grid0.N, win0_7.index t = ![0, 0]) t
theorem idx8 (t : Fin cfg0.N) : win0_8.index t = ![t.val, 0] := (by decide +kernel : ∀ t : Fin grid0.N, win0_8.index t = ![t.val, 0]) t

variable (m : (ℓ : Loc nD τ sig) → Buf (Elt Ideal) ℓ) (c : Dev nD) (t : Fin cfg0.N)

/-- There are sixteen grid points. -/
theorem t_lt : t.val < 16 := t.isLt

/-! ## The blocks, read off the operands -/

theorem read0 (r : Fin 512) (q : Fin 1024) : iblk m c 0 t (ix2 r q) = m ((c : Thread nD τ).loc main_arg0) (ix2 ⟨8192 + (512 * t.val + r.val), by have := t_lt t; omega⟩ q) := by
  blk_ext [iblk, V, idx0 t]

theorem read5 (r : Fin 512) (q : Fin 4) : iblk m c 5 t (ix2 r q) = m ((c : Thread nD τ).loc main_arg2) (ix2 ⟨8192 + (512 * t.val + r.val), by have := t_lt t; omega⟩ q) := by
  blk_ext [iblk, V, idx5 t]

theorem read6 (r : Fin 512) (q : Fin 1024) : iblk m c 6 t (ix3 0 5 q) = m ((c : Thread nD τ).loc main_arg3) (ix3 ⟨(512 * t.val + r.val) / 2048, by have := t_lt t; omega⟩ 5 q) := by
  blk_ext [iblk, V, idx6 t]

theorem v2_apply (q : Fin 1024) : V m c main_v2 (ix2 0 q) = m ((c : Thread nD τ).loc main_arg4) (ix1 q) := by
  unfold V
  simp only [hostOps0, hostOps0_1, hostOps0_2, List.flatten_cons, List.flatten_nil, List.append_nil, List.cons_append, List.nil_append]
  after_results
  pointwise

/-- The experts' rows laid out as rows of 128, at an entry. -/
theorem rows_flat (y : FVec Ideal S4x16384x1024 .f32) (k : Fin 4) (r : Fin 16384) (q : Fin 1024) (R : Fin 524288)
    (hR : R.val = (16384 * k.val + r.val) * 8 + q.val / 128) :
    shapeCast S524288x128 y shapeCasts_S4x16384x1024_S524288x128 (ix2 R ⟨q.val % 128, Nat.mod_lt _ (by decide)⟩) = y (ix3 k r q) := by
  refine shapeCast_apply (s := S4x16384x1024) _ _ _ (ix3 k r q) ?_
  rw [ix2_eq_valueIdx, ix3_eq_valueIdx, Shape.rowMajor_val_two, Shape.rowMajor_val_three]
  show (k.val * 16384 + r.val) * 1024 + q.val = R.val * 128 + q.val % 128
  omega

theorem v1_apply (k : Fin 4) (r : Fin 16384) (q : Fin 1024) (R : Fin 528384) (hR : R.val = (16384 * k.val + r.val) * 8 + q.val / 128) :
    V m c main_v1 (ix2 R ⟨q.val % 128, Nat.mod_lt _ (by decide)⟩) = m ((c : Thread nD τ).loc main_arg1) (ix3 k r q) := by
  unfold V
  simp only [hostOps0, hostOps0_1, hostOps0_2, List.flatten_cons, List.flatten_nil, List.append_nil, List.cons_append, List.nil_append]
  after_results
  refine (pad_apply_of_inside (s := S524288x128) (t := S528384x128) ![0, 0] ![4096, 0] ![0, 0]
    (shapeCast S524288x128 (m ((c : Thread nD τ).loc main_arg1)) shapeCasts_S4x16384x1024_S524288x128) _ pads_S524288x128_S528384x128_040960_000 h_S_ _
    (ix2 ⟨R.val, by omega⟩ ⟨q.val % 128, Nat.mod_lt _ (by decide)⟩) fun a => ?_).trans ?_
  · match a with
    | ⟨0, _⟩ => show R.val = 0 + R.val * (0 + 1); omega
    | ⟨1, _⟩ => show q.val % 128 = 0 + q.val % 128 * (0 + 1); omega
  · exact rows_flat _ k r q _ hR

theorem read7 (q : Fin 1024) : iblk m c 7 t (ix2 0 q) = m ((c : Thread nD τ).loc main_arg4) (ix1 q) := by
  have h : ((cfg0.win 7).blk t).view.emb (ix2 0 q) = ix2 0 q := by blk_ext [idx7 t]
  exact (congrArg (V m c main_v2) h).trans (v2_apply m c q)

theorem read1 (r : Fin 512) (q : Fin 1024) : wide (iblk m c 1 t) r q = m ((c : Thread nD τ).loc main_arg1) (ix3 0 ⟨8192 + (512 * t.val + r.val), by have := t_lt t; omega⟩ q) := by
  have ht := t_lt t
  have h : ((cfg0.win 1).blk t).view.emb (ix2 ⟨8 * r.val + q.val / 128, by omega⟩ ⟨q.val % 128, Nat.mod_lt _ (by decide)⟩)
      = ix2 ⟨(t.val + 16) * 4096 + 8 * r.val + q.val / 128, by omega⟩ ⟨q.val % 128, Nat.mod_lt _ (by decide)⟩ := by blk_ext [idx1 t]
  refine (congrArg (V m c main_v1) h).trans (v1_apply m c 0 _ q _ ?_)
  show (t.val + 16) * 4096 + 8 * r.val + q.val / 128 = (16384 * 0 + (8192 + (512 * t.val + r.val))) * 8 + q.val / 128
  omega

theorem read2 (r : Fin 512) (q : Fin 1024) : wide (iblk m c 2 t) r q = m ((c : Thread nD τ).loc main_arg1) (ix3 1 ⟨8192 + (512 * t.val + r.val), by have := t_lt t; omega⟩ q) := by
  have ht := t_lt t
  have h : ((cfg0.win 2).blk t).view.emb (ix2 ⟨8 * r.val + q.val / 128, by omega⟩ ⟨q.val % 128, Nat.mod_lt _ (by decide)⟩)
      = ix2 ⟨(t.val + 48) * 4096 + 8 * r.val + q.val / 128, by omega⟩ ⟨q.val % 128, Nat.mod_lt _ (by decide)⟩ := by blk_ext [idx2 t]
  refine (congrArg (V m c main_v1) h).trans (v1_apply m c 1 _ q _ ?_)
  show (t.val + 48) * 4096 + 8 * r.val + q.val / 128 = (16384 * 1 + (8192 + (512 * t.val + r.val))) * 8 + q.val / 128
  omega

theorem read3 (r : Fin 512) (q : Fin 1024) : wide (iblk m c 3 t) r q = m ((c : Thread nD τ).loc main_arg1) (ix3 2 ⟨8192 + (512 * t.val + r.val), by have := t_lt t; omega⟩ q) := by
  have ht := t_lt t
  have h : ((cfg0.win 3).blk t).view.emb (ix2 ⟨8 * r.val + q.val / 128, by omega⟩ ⟨q.val % 128, Nat.mod_lt _ (by decide)⟩)
      = ix2 ⟨(t.val + 80) * 4096 + 8 * r.val + q.val / 128, by omega⟩ ⟨q.val % 128, Nat.mod_lt _ (by decide)⟩ := by blk_ext [idx3 t]
  refine (congrArg (V m c main_v1) h).trans (v1_apply m c 2 _ q _ ?_)
  show (t.val + 80) * 4096 + 8 * r.val + q.val / 128 = (16384 * 2 + (8192 + (512 * t.val + r.val))) * 8 + q.val / 128
  omega

theorem read4 (r : Fin 512) (q : Fin 1024) : wide (iblk m c 4 t) r q = m ((c : Thread nD τ).loc main_arg1) (ix3 3 ⟨8192 + (512 * t.val + r.val), by have := t_lt t; omega⟩ q) := by
  have ht := t_lt t
  have h : ((cfg0.win 4).blk t).view.emb (ix2 ⟨8 * r.val + q.val / 128, by omega⟩ ⟨q.val % 128, Nat.mod_lt _ (by decide)⟩)
      = ix2 ⟨(t.val + 112) * 4096 + 8 * r.val + q.val / 128, by omega⟩ ⟨q.val % 128, Nat.mod_lt _ (by decide)⟩ := by blk_ext [idx4 t]
  refine (congrArg (V m c main_v1) h).trans (v1_apply m c 3 _ q _ ?_)
  show (t.val + 112) * 4096 + 8 * r.val + q.val / 128 = (16384 * 3 + (8192 + (512 * t.val + r.val))) * 8 + q.val / 128
  omega

/-- The sum of a token's residual row and its experts' rows, from the call's operands. -/
def fused (X : FVec Ideal S16384x1024 .f32) (Y : FVec Ideal S4x16384x1024 .f32) (G : FVec Ideal S16384x4 .f32) (W : FVec Ideal S8x6x1024 .f32)
    (R : Fin 8192) (q : Fin 1024) : EReal :=
  X (ix2 ⟨8192 + R.val, by omega⟩ q) + W (ix3 ⟨R.val / 2048, by omega⟩ 5 q)
    * (((Y (ix3 0 ⟨8192 + R.val, by omega⟩ q) * G (ix2 ⟨8192 + R.val, by omega⟩ 0) + Y (ix3 1 ⟨8192 + R.val, by omega⟩ q) * G (ix2 ⟨8192 + R.val, by omega⟩ 1))
      + Y (ix3 2 ⟨8192 + R.val, by omega⟩ q) * G (ix2 ⟨8192 + R.val, by omega⟩ 2)) + Y (ix3 3 ⟨8192 + R.val, by omega⟩ q) * G (ix2 ⟨8192 + R.val, by omega⟩ 3))

/-- The call's result at an entry. -/
def normed (X : FVec Ideal S16384x1024 .f32) (Y : FVec Ideal S4x16384x1024 .f32) (G : FVec Ideal S16384x4 .f32) (W : FVec Ideal S8x6x1024 .f32)
    (E : FVec Ideal S1024 .f32) (R : Fin 8192) (q : Fin 1024) : EReal :=
  (fused X Y G W R q
      * Ideal.rsqrt (Ideal.div (∑ k : Fin 1024, fused X Y G W R k * fused X Y G W R k) (Ideal.ofBits .f32 0x44800000#32) + Ideal.ofBits .f32 0x358637BD#32))
    * E (ix1 q)

/-- The call's result. -/
def out (X : FVec Ideal S16384x1024 .f32) (Y : FVec Ideal S4x16384x1024 .f32) (G : FVec Ideal S16384x4 .f32) (W : FVec Ideal S8x6x1024 .f32)
    (E : FVec Ideal S1024 .f32) : FVec Ideal S8192x1024 .f32 :=
  fun i => normed X Y G W E ⟨(i 0).val, (i 0).isLt⟩ ⟨(i 1).val, (i 1).isLt⟩

theorem mixed_eq (r : Fin 512) (q : Fin 1024) :
    mixed (iblk m c 0 t) (iblk m c 1 t) (iblk m c 2 t) (iblk m c 3 t) (iblk m c 4 t) (iblk m c 5 t) (iblk m c 6 t) r q
      = fused (m ((c : Thread nD τ).loc main_arg0)) (m ((c : Thread nD τ).loc main_arg1)) (m ((c : Thread nD τ).loc main_arg2))
          (m ((c : Thread nD τ).loc main_arg3)) ⟨512 * t.val + r.val, by have := t_lt t; omega⟩ q := by
  unfold mixed fused
  rw [read0, read1, read2, read3, read4, read5, read5, read5, read5, read6 m c t r]

/-- The output array after the last grid point. -/
theorem final : (dats m 0 c).arrAt 8 cfg0.N
    = out (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t hf y => ?_
  have ht := t_lt t
  have h0 : (y 0).val < 512 := (y 0).isLt
  have h1 : (y 1).val < 1024 := (y 1).isLt
  have hy : y = ix2 ⟨(y 0).val, h0⟩ ⟨(y 1).val, h1⟩ := by
    funext a
    match a with
    | ⟨0, _⟩ => rfl
    | ⟨1, _⟩ => rfl
  have he : ((cfg0.win 8).blk t).view.emb (ix2 ⟨(y 0).val, h0⟩ ⟨(y 1).val, h1⟩) = ix2 ⟨512 * t.val + (y 0).val, by omega⟩ ⟨(y 1).val, h1⟩ := by
    blk_ext [idx8 t]
  rw [hy]
  blk_simp
  rw [after0_8]
  refine (out_apply _ _ _ _ _ _ _ _ _ _ _ _ _ _ _ _ _ _ _ _ _ _ _ _ _ _ _ _ _ _).trans ?_
  simp only [mixed_eq, read7]
  exact (congrArg (out _ _ _ _ _) he).symm

end Cert.CombineLatIdeal.Mix

end
-- ==== Proof.ReferenceLat.lean ====
module

public import proofs.«01_k».proof.Proof.NormLat
public import proofs.«01_k».proof.Proof.Gen.FinalLatIdeal.Run

@[expose] public section

noncomputable section

/-! # The reference of the combining kernel

The reference's result, entry by entry, is the kernel's. -/

namespace Cert.FinalLatIdeal.Read

open Cert.FinalLatIdeal Cert.FinalLatIdeal.Gen Idealize.ShloMosaic Idealize.ShloMosaic.TcCoe Idealize.SL.Sem

variable (X : FVec Ideal S16384x1024 .f32) (Y : FVec Ideal S4x16384x1024 .f32) (G : FVec Ideal S16384x4 .f32) (W : FVec Ideal S8x6x1024 .f32)
  (E : FVec Ideal S1024 .f32)

/-- The modulation's gate rows. -/
def gate : FVec Ideal S8192x1024 .f32 :=
  shapeCast _ (broadcastInDim S4x2048x1024 ![0, 2] bcast_S4x1024_S4x2048x1024_0_2
    (shapeCast _ (extractStridedSlice S4x1x1024 ![0, 5, 0] W slices_S8x6x1024_S4x1x1024_0_5_0) shapeCasts_S4x1x1024_S4x1024))
    shapeCasts_S4x2048x1024_S8192x1024

theorem gate_apply (r : Fin 8192) (q : Fin 1024) : gate W (ix2 r q) = W (ix3 ⟨r.val / 2048, by omega⟩ 5 q) := by
  pointwise [gate]

/-- The sum of the experts' rows, each by its gate. -/
def weighted : FVec Ideal S8192x1024 .f32 :=
  Host.reduceAdd (mulf (extractStridedSlice S4x8192x1024 ![0, 8192, 0] Y slices_S4x16384x1024_S4x8192x1024_0_8192_0)
    (broadcastInDim S4x8192x1024 ![0, 1, 2] bcast_S4x8192x1_S4x8192x1024_0_1_2 (broadcastInDim S4x8192x1 ![0, 1] bcast_S4x8192_S4x8192x1_0_1
      (transpose S4x8192 [1, 0] (extractStridedSlice S8192x4 ![8192, 0] G slices_S16384x4_S8192x4_8192_0) transposes_S8192x4_S4x8192_1_0))))
    (constant S_ .f32 0x00000000#32) reducesTo_S4x8192x1024_S8192x1024_d0 h_S_

theorem weighted_apply (r : Fin 8192) (q : Fin 1024) : weighted Y G (ix2 r q)
      = ((Y (ix3 0 ⟨8192 + r.val, by omega⟩ q) * G (ix2 ⟨8192 + r.val, by omega⟩ 0) + Y (ix3 1 ⟨8192 + r.val, by omega⟩ q) * G (ix2 ⟨8192 + r.val, by omega⟩ 1))
      + Y (ix3 2 ⟨8192 + r.val, by omega⟩ q) * G (ix2 ⟨8192 + r.val, by omega⟩ 2)) + Y (ix3 3 ⟨8192 + r.val, by omega⟩ q) * G (ix2 ⟨8192 + r.val, by omega⟩ 3) := by
  pointwise [weighted]
  exact Fin.sum_univ_four _

/-- The rows before the last norm. -/
def stream : FVec Ideal S8192x1024 .f32 :=
  addf (extractStridedSlice S8192x1024 ![8192, 0] X slices_S16384x1024_S8192x1024_8192_0) (mulf (gate W) (weighted Y G))

theorem stream_apply (r : Fin 8192) (q : Fin 1024) : stream X Y G W (ix2 r q) = Cert.CombineLatIdeal.Mix.fused X Y G W r q := by
  unfold Cert.CombineLatIdeal.Mix.fused
  rw [← gate_apply W r q, ← weighted_apply]
  pointwise [stream]

/-- The reference's result. -/
def out : FVec Ideal S8192x1024 .f32 :=
  mulf (mulf (stream X Y G W) (broadcastInDim S8192x1024 ![0, 1] bcast_S8192x1_S8192x1024_0_1 (Host.rsqrt (addf (Host.divf
      (broadcastInDim S8192x1 ![0] bcast_S8192_S8192x1_0 (Host.reduceAdd (mulf (stream X Y G W) (stream X Y G W)) (constant S_ .f32 0x00000000#32)
        reducesTo_S8192x1024_S8192_d1 h_S_)) (broadcastInDim S8192x1 ![] bcast_S_S8192x1 (constant S_ .f32 0x44800000#32)))
      (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 E))

theorem out_apply (r : Fin 8192) (q : Fin 1024) : out X Y G W E (ix2 r q) = Cert.CombineLatIdeal.Mix.normed X Y G W E r q := by
  unfold Cert.CombineLatIdeal.Mix.normed
  simp only [← stream_apply]
  pointwise [out]

/-- The reference's result is the call's. -/
theorem out_eq : out X Y G W E = Cert.CombineLatIdeal.Mix.out X Y G W E := by
  funext i
  have h0 : (i 0).val < 8192 := (i 0).isLt
  have h1 : (i 1).val < 1024 := (i 1).isLt
  have hi : i = ix2 ⟨(i 0).val, h0⟩ ⟨(i 1).val, h1⟩ := by
    funext a
    match a with
    | ⟨0, _⟩ => rfl
    | ⟨1, _⟩ => rfl
  rw [hi, out_apply]
  rfl

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) :=
  (θ_run defs _ _).mono (fun _ h c => (h c).1) (Value.run m ρ)

end Cert.FinalLatIdeal.Read

end
-- ==== Proof.MixMid.lean ====
module

public import proofs.«01_k».proof.Proof.Gen.CombineMidIdeal.Value
public import Idealize.ShloMosaic.Lib.Pipeline.ValueKit
public import Idealize.ShloMosaic.Lib.Pipeline.ReadBack
public import Idealize.ShloMosaic.Lib.Pointwise

@[expose] public section

noncomputable section

/-! # One block of the combining kernel

A grid point of `moe_combine` takes 512 tokens. It forms each token's mixed row, 128 columns at a time, and stores the
pieces in the output block. This module reads the block the generated run names, entry by entry. -/

namespace Cert.CombineMidIdeal.Mix

open Cert.CombineMidIdeal Cert.CombineMidIdeal.Gen Cert.CombineMidIdeal.Value Idealize.ShloMosaic Idealize.ShloMosaic.TcCoe Idealize.SL.Sem

/-- Every eighth row of a block of experts' rows, from row `j` on. -/
def rows (x : FVec Ideal S4096x128 .f32) (j : ℕ) : FVec Ideal S512x128 .f32 :=
  fun i => x (ix2 ⟨(8 * (i 0).val + j) % 4096, Nat.mod_lt _ (by decide)⟩ ⟨(i 1).val, (i 1).isLt⟩)

/-- The 128 columns of a block from column `q` on. -/
def cols (x : FVec Ideal S512x1024 .f32) (q : ℕ) : FVec Ideal S512x128 .f32 :=
  fun i => x (ix2 ⟨(i 0).val, (i 0).isLt⟩ ⟨(q + (i 1).val) % 1024, Nat.mod_lt _ (by decide)⟩)

theorem ld_cols (x : Vec Ideal S512x1024 .f32) (q : ℕ) (inb : ∀ a, (![0, q] : Fin 2 → ℕ) a + (![512, 128] : Fin 2 → ℕ) a ≤ S512x1024.size a) :
    (View.ld (Val := Elt Ideal) x (Rect.unit (s := S512x1024) ![0, q] ![512, 128] inb) : S512x128.Idx → EReal) = cols x q := by
  have h : q + 128 ≤ 1024 := inb 1
  funext i
  have h0 : (i 0).val < 512 := (i 0).isLt
  have h1 : (i 1).val < 128 := (i 1).isLt
  refine View.ld_unit_apply_of x _ _ inb i _ fun a => ?_
  match a with
  | ⟨0, _⟩ => show (i 0).val = 0 + (i 0).val; omega
  | ⟨1, _⟩ => show (q + (i 1).val) % 1024 = q + (i 1).val; omega

theorem readAt_rows (m : Memref sig .tc .vmem S4096x128 .f32) (hm : m.IsWhole) (x : Vec Ideal S4096x128 .f32) (j : ℕ)
    (inb : ∀ a, (![512, 128] : Fin 2 → ℕ) a = 0 ∨ (![j, 0] : Fin 2 → ℕ) a + (![8, 1] : Fin 2 → ℕ) a * ((![512, 128] : Fin 2 → ℕ) a - 1) < S4096x128.size a) :
    (View.readAt (Elt Ideal) m.view { off := ![j, 0], size := ![512, 128], stride := ![8, 1], inb := inb } (hm.unread x) : S512x128.Idx → EReal) = rows x j := by
  have h : j + 8 * 511 < 4096 := (inb 0).resolve_left (by decide)
  funext i
  have h0 : (i 0).val < 512 := (i 0).isLt
  have h1 : (i 1).val < 128 := (i 1).isLt
  show m.view.read (Elt Ideal) (hm.unread x) _ = _
  rw [hm.read_unread]
  refine congrArg x (funext fun a => Fin.ext ?_)
  match a with
  | ⟨0, _⟩ => show j + 8 * (i 0).val = (8 * (i 0).val + j) % 4096; omega
  | ⟨1, _⟩ => show 0 + 1 * (i 1).val = (i 1).val; omega

/-- A row of an experts' block, 1024 entries held as eight rows of 128, at an entry. -/
def wide (y : Vec Ideal S4096x128 .f32) (r : Fin 512) (q : Fin 1024) : EReal :=
  y (ix2 ⟨8 * r.val + q.val / 128, by omega⟩ ⟨q.val % 128, Nat.mod_lt _ (by decide)⟩)

/-- The mixed row: the residual row plus the modulated sum of the four experts' rows, each by its gate. -/
def mixed (x : Vec Ideal S512x1024 .f32) (a b c d : Vec Ideal S4096x128 .f32) (g : Vec Ideal S512x4 .f32) (w : Vec Ideal S1x6x1024 .f32)
    (r : Fin 512) (q : Fin 1024) : EReal :=
  x (ix2 r q) + w (ix3 0 5 q) * (((wide a r q * g (ix2 r 0) + wide b r q * g (ix2 r 1)) + wide c r q * g (ix2 r 2)) + wide d r q * g (ix2 r 3))

/-- The mixed rows as one block. -/
def block (x : Vec Ideal S512x1024 .f32) (a b c d : Vec Ideal S4096x128 .f32) (g : Vec Ideal S512x4 .f32) (w : Vec Ideal S1x6x1024 .f32) :
    Vec Ideal S512x1024 .f32 :=
  fun i => mixed x a b c d g w ⟨(i 0).val, (i 0).isLt⟩ ⟨(i 1).val, (i 1).isLt⟩

theorem rows_apply (x : Vec Ideal S4096x128 .f32) (j : ℕ) (hj : j < 8) (r : Fin 512) (l : Fin 128) :
    rows x j (ix2 r l) = wide x r ⟨128 * j + l.val, by omega⟩ := by
  refine congrArg x (funext fun a => Fin.ext ?_)
  match a with
  | ⟨0, _⟩ => show (8 * r.val + j) % 4096 = 8 * r.val + (128 * j + l.val) / 128; omega
  | ⟨1, _⟩ => show l.val = (128 * j + l.val) % 128; omega

theorem cols_apply (x : Vec Ideal S512x1024 .f32) (q : ℕ) (hq : q + 128 ≤ 1024) (r : Fin 512) (l : Fin 128) :
    cols x q (ix2 r l) = x (ix2 r ⟨q + l.val, by omega⟩) := by
  refine congrArg x (funext fun a => Fin.ext ?_)
  match a with
  | ⟨0, _⟩ => rfl
  | ⟨1, _⟩ => show (q + l.val) % 1024 = q + l.val; omega

variable (x : Vec Ideal S512x1024 .f32) (a b c d : Vec Ideal S4096x128 .f32) (g : Vec Ideal S512x4 .f32) (w : Vec Ideal S1x6x1024 .f32)

/-- What a piece's value is at an entry, from the entries it is computed from. -/
theorem piece_of {p : FVec Ideal S512x128 .f32} (j : ℕ) (hj : j < 8) (h : ∀ (r : Fin 512) (l : Fin 128), p (ix2 r l)
      = cols x (128 * j) (ix2 r l) + w (ix3 0 5 ⟨128 * j + l.val, by omega⟩)
        * (((rows a j (ix2 r l) * g (ix2 r 0) + rows b j (ix2 r l) * g (ix2 r 1)) + rows c j (ix2 r l) * g (ix2 r 2)) + rows d j (ix2 r l) * g (ix2 r 3))) :
    p = cols (block x a b c d g w) (128 * j) := by
  funext i
  have h0 : (i 0).val < 512 := (i 0).isLt
  have h1 : (i 1).val < 128 := (i 1).isLt
  have hi : i = ix2 ⟨(i 0).val, h0⟩ ⟨(i 1).val, h1⟩ := by
    funext a'
    match a' with
    | ⟨0, _⟩ => rfl
    | ⟨1, _⟩ => rfl
  rw [hi, h, cols_apply _ _ (by omega), cols_apply _ _ (by omega), rows_apply _ j hj, rows_apply _ j hj, rows_apply _ j hj, rows_apply _ j hj]
  rfl

theorem piece0 : k0_pay3 g w (rows a 0) (rows b 0) (rows c 0) (rows d 0) (cols x 0) = cols (block x a b c d g w) 0 :=
  piece_of x a b c d g w 0 (by decide) fun r l => by
    pointwise [k0_pay3, k0_pay2]

theorem piece1 : k0_pay5 g (k0_pay2 w) (k0_pay4 g (rows a 1)) (rows b 1) (rows c 1) (rows d 1) (cols x 128) = cols (block x a b c d g w) 128 :=
  piece_of x a b c d g w 1 (by decide) fun r l => by
    pointwise [k0_pay5, k0_pay4, k0_pay2]

theorem piece2 : k0_pay7 g (k0_pay2 w) (k0_pay6 g (rows a 2) (rows b 2) (rows c 2)) (rows d 2) (cols x 256) = cols (block x a b c d g w) 256 :=
  piece_of x a b c d g w 2 (by decide) fun r l => by
    pointwise [k0_pay7, k0_pay6, k0_pay2]

theorem piece3 : k0_pay8 g (k0_pay2 w) (rows a 3) (rows b 3) (rows c 3) (rows d 3) (cols x 384) = cols (block x a b c d g w) 384 :=
  piece_of x a b c d g w 3 (by decide) fun r l => by
    pointwise [k0_pay8, k0_pay2]

theorem piece4 : k0_pay9 g (k0_pay2 w) (rows a 4) (rows b 4) (rows c 4) (rows d 4) (cols x 512) = cols (block x a b c d g w) 512 :=
  piece_of x a b c d g w 4 (by decide) fun r l => by
    pointwise [k0_pay9, k0_pay2]

theorem piece5 : k0_pay13 g (k0_pay2 w) (k0_pay10 g (rows a 5) (rows b 5)) (k0_pay11 (rows c 5)) (k0_pay12 g) (rows d 5) (cols x 640) = cols (block x a b c d g w) 640 :=
  piece_of x a b c d g w 5 (by decide) fun r l => by
    pointwise [k0_pay13, k0_pay10, k0_pay11, k0_pay12, k0_pay2]

theorem piece6 : k0_pay14 g (k0_pay2 w) (rows a 6) (rows b 6) (rows c 6) (rows d 6) (cols x 768) = cols (block x a b c d g w) 768 :=
  piece_of x a b c d g w 6 (by decide) fun r l => by
    pointwise [k0_pay14, k0_pay2]

theorem piece7 : k0_pay1 g (k0_pay2 w) (rows a 7) (rows b 7) (rows c 7) (rows d 7) (cols x 896) = cols (block x a b c d g w) 896 :=
  piece_of x a b c d g w 7 (by decide) fun r l => by
    pointwise [k0_pay1, k0_pay2]

/-- The block a grid point writes: the mixed rows. -/
theorem out_eq (s : Dev nD) (i : grid0.Coords) (arg1 : Memref sig .tc .vmem S512x1024 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x4 .f32) (harg6 : arg6.IsWhole) (arg7 : Memref sig .tc .vmem S1x6x1024 .f32) (harg7 : arg7.IsWhole) (arg8 : Memref sig .tc .vmem S512x1024 .f32) (harg8 : arg8.IsWhole) :
    out0_A_7 s i arg1 harg1 arg2 harg2 arg3 harg3 arg4 harg4 arg5 harg5 arg6 harg6 arg7 harg7 arg8 harg8 x a b c d g w = block x a b c d g w := by
  funext y
  unfold out0_A_7
  frame_out
  simp only [ld_cols, readAt_rows, piece0, piece1, piece2, piece3, piece4, piece5, piece6, piece7]
  refine View.canon_append_of_piecesOf (Val := Elt Ideal) (block x a b c d g w) [] [_, _, _, _, _, _, _, _]
    ⟨fun z => (congrFun (ld_cols (block x a b c d g w) 896 inb_S512x1024_S512x128_0_896) z).symm, fun z => (congrFun (ld_cols (block x a b c d g w) 768 inb_S512x1024_S512x128_0_768) z).symm, fun z => (congrFun (ld_cols (block x a b c d g w) 640 inb_S512x1024_S512x128_0_640) z).symm, fun z => (congrFun (ld_cols (block x a b c d g w) 512 inb_S512x1024_S512x128_0_512) z).symm, fun z => (congrFun (ld_cols (block x a b c d g w) 384 inb_S512x1024_S512x128_0_384) z).symm, fun z => (congrFun (ld_cols (block x a b c d g w) 256 inb_S512x1024_S512x128_0_256) z).symm, fun z => (congrFun (ld_cols (block x a b c d g w) 128 inb_S512x1024_S512x128_0_128) z).symm, fun z => (congrFun (ld_cols (block x a b c d g w) 0 inb_S512x1024_S512x128_0_0) z).symm, trivial⟩ _ ?_
  exact View.cover_of_tiled_head _ _ _ rfl _

end Cert.CombineMidIdeal.Mix

end
-- ==== Proof.NormMid.lean ====
module

public import proofs.«01_k».proof.Proof.MixMid
public import Idealize.ShloMosaic.Lib.KernelVsHost
public import Idealize.ShloMosaic.Lib.Pointwise.IndexBridge

@[expose] public section

noncomputable section

/-! # The whole result of the combining kernel between layers

The blocks of the grid points, read off the call's operands: which rows of the residual stream, of the experts' rows, of
the gates and of the modulations each point takes. The blocks tile the output, so the output array is the one function
`out` of the operands. -/

namespace Cert.CombineMidIdeal.Mix

open Cert.CombineMidIdeal Cert.CombineMidIdeal.Gen Cert.CombineMidIdeal.Value Idealize.ShloMosaic Idealize.ShloMosaic.TcCoe Idealize.SL.Sem

/-! ## The block each window takes at a grid point -/

theorem idx0 (t : Fin cfg0.N) : win0_0.index t = ![t.val + 0, 0] := (by decide +kernel : ∀ t : Fin grid0.N, win0_0.index t = ![t.val + 0, 0]) t
theorem idx1 (t : Fin cfg0.N) : win0_1.index t = ![t.val + 0, 0] := (by decide +kernel : ∀ t : Fin grid0.N, win0_1.index t = ![t.val + 0, 0]) t
theorem idx2 (t : Fin cfg0.N) : win0_2.index t = ![t.val + 32, 0] := (by decide +kernel : ∀ t : Fin grid0.N, win0_2.index t = ![t.val + 32, 0]) t
theorem idx3 (t : Fin cfg0.N) : win0_3.index t = ![t.val + 64, 0] := (by decide +kernel : ∀ t : Fin grid0.N, win0_3.index t = ![t.val + 64, 0]) t
theorem idx4 (t : Fin cfg0.N) : win0_4.index t = ![t.val + 96, 0] := (by decide +kernel : ∀ t : Fin grid0.N, win0_4.index t = ![t.val + 96, 0]) t
theorem idx5 (t : Fin cfg0.N) : win0_5.index t = ![t.val + 0, 0] := (by decide +kernel : ∀ t : Fin grid0.N, win0_5.index t = ![t.val + 0, 0]) t
theorem idx6 (t : Fin cfg0.N) : win0_6.index t = ![if t.val < 16 then 4 else (t.val - 16) / 4, 0, 0] := (by decide +kernel : ∀ t : Fin grid0.N, win0_6.index t = ![if t.val < 16 then 4 else (t.val - 16) / 4, 0, 0]) t
theorem idx7 (t : Fin cfg0.N) : win0_7.index t = ![t.val, 0] := (by decide +kernel : ∀ t : Fin grid0.N, win0_7.index t = ![t.val, 0]) t

variable (m : (ℓ : Loc nD τ sig) → Buf (Elt Ideal) ℓ) (c : Dev nD) (t : Fin cfg0.N)

/-- There are 32 grid points. -/
theorem t_lt : t.val < 32 := t.isLt

/-! ## The blocks, read off the operands -/

theorem read0 (r : Fin 512) (q : Fin 1024) : iblk m c 0 t (ix2 r q) = m ((c : Thread nD τ).loc main_arg0) (ix2 ⟨512 * t.val + r.val, by have := t_lt t; omega⟩ q) := by
  blk_ext [iblk, V, idx0 t]

theorem read5 (r : Fin 512) (q : Fin 4) : iblk m c 5 t (ix2 r q) = m ((c : Thread nD τ).loc main_arg2) (ix2 ⟨512 * t.val + r.val, by have := t_lt t; omega⟩ q) := by
  blk_ext [iblk, V, idx5 t]

/-- The modulation's row of a token: the context's of the first 8192 tokens, then each batch's. -/
def row (R : Fin 16384) : Fin 8 := ⟨if R.val < 8192 then 4 else (R.val - 8192) / 2048, by split <;> omega⟩

theorem read6 (r : Fin 512) (q : Fin 1024) : iblk m c 6 t (ix3 0 5 q) = m ((c : Thread nD τ).loc main_arg3) (ix3 (row ⟨512 * t.val + r.val, by have := t_lt t; omega⟩) 5 q) := by
  have ht := t_lt t
  have h : ((cfg0.win 6).blk t).view.emb (ix3 0 5 q) = ix3 ⟨if t.val < 16 then 4 else (t.val - 16) / 4, by split <;> omega⟩ 5 q := by blk_ext [idx6 t]
  refine (congrArg (V m c main_arg3) h).trans ?_
  have e : (⟨if t.val < 16 then 4 else (t.val - 16) / 4, by split <;> omega⟩ : Fin 8) = row ⟨512 * t.val + r.val, by omega⟩ := by
    refine Fin.ext ?_
    show (if t.val < 16 then 4 else (t.val - 16) / 4) = if 512 * t.val + r.val < 8192 then 4 else (512 * t.val + r.val - 8192) / 2048
    split <;> split <;> omega
  rw [e]
  exact congrFun (V_main_arg3 m c) _

/-- The experts' rows laid out as rows of 128, at an entry. -/
theorem rows_flat (y : FVec Ideal S4x16384x1024 .f32) (k : Fin 4) (r : Fin 16384) (q : Fin 1024) (R : Fin 524288)
    (hR : R.val = (16384 * k.val + r.val) * 8 + q.val / 128) :
    shapeCast S524288x128 y shapeCasts_S4x16384x1024_S524288x128 (ix2 R ⟨q.val % 128, Nat.mod_lt _ (by decide)⟩) = y (ix3 k r q) := by
  refine shapeCast_apply (s := S4x16384x1024) _ _ _ (ix3 k r q) ?_
  rw [ix2_eq_valueIdx, ix3_eq_valueIdx, Shape.rowMajor_val_two, Shape.rowMajor_val_three]
  show (k.val * 16384 + r.val) * 1024 + q.val = R.val * 128 + q.val % 128
  omega

theorem v1_apply (k : Fin 4) (r : Fin 16384) (q : Fin 1024) (R : Fin 528384) (hR : R.val = (16384 * k.val + r.val) * 8 + q.val / 128) :
    V m c main_v1 (ix2 R ⟨q.val % 128, Nat.mod_lt _ (by decide)⟩) = m ((c : Thread nD τ).loc main_arg1) (ix3 k r q) := by
  unfold V
  simp only [hostOps0, hostOps0_1, hostOps0_2, List.flatten_cons, List.flatten_nil, List.append_nil, List.cons_append, List.nil_append]
  after_results
  refine (pad_apply_of_inside (s := S524288x128) (t := S528384x128) ![0, 0] ![4096, 0] ![0, 0]
    (shapeCast S524288x128 (m ((c : Thread nD τ).loc main_arg1)) shapeCasts_S4x16384x1024_S524288x128) _ pads_S524288x128_S528384x128_040960_000 h_S_ _
    (ix2 ⟨R.val, by omega⟩ ⟨q.val % 128, Nat.mod_lt _ (by decide)⟩) fun a => ?_).trans ?_
  · match a with
    | ⟨0, _⟩ => show R.val = 0 + R.val * (0 + 1); omega
    | ⟨1, _⟩ => show q.val % 128 = 0 + q.val % 128 * (0 + 1); omega
  · exact rows_flat _ k r q _ hR

theorem read1 (r : Fin 512) (q : Fin 1024) : wide (iblk m c 1 t) r q = m ((c : Thread nD τ).loc main_arg1) (ix3 0 ⟨512 * t.val + r.val, by have := t_lt t; omega⟩ q) := by
  have ht := t_lt t
  have h : ((cfg0.win 1).blk t).view.emb (ix2 ⟨8 * r.val + q.val / 128, by omega⟩ ⟨q.val % 128, Nat.mod_lt _ (by decide)⟩)
      = ix2 ⟨(t.val + 0) * 4096 + 8 * r.val + q.val / 128, by omega⟩ ⟨q.val % 128, Nat.mod_lt _ (by decide)⟩ := by blk_ext [idx1 t]
  refine (congrArg (V m c main_v1) h).trans (v1_apply m c 0 _ q _ ?_)
  show (t.val + 0) * 4096 + 8 * r.val + q.val / 128 = (16384 * 0 + (512 * t.val + r.val)) * 8 + q.val / 128
  omega

theorem read2 (r : Fin 512) (q : Fin 1024) : wide (iblk m c 2 t) r q = m ((c : Thread nD τ).loc main_arg1) (ix3 1 ⟨512 * t.val + r.val, by have := t_lt t; omega⟩ q) := by
  have ht := t_lt t
  have h : ((cfg0.win 2).blk t).view.emb (ix2 ⟨8 * r.val + q.val / 128, by omega⟩ ⟨q.val % 128, Nat.mod_lt _ (by decide)⟩)
      = ix2 ⟨(t.val + 32) * 4096 + 8 * r.val + q.val / 128, by omega⟩ ⟨q.val % 128, Nat.mod_lt _ (by decide)⟩ := by blk_ext [idx2 t]
  refine (congrArg (V m c main_v1) h).trans (v1_apply m c 1 _ q _ ?_)
  show (t.val + 32) * 4096 + 8 * r.val + q.val / 128 = (16384 * 1 + (512 * t.val + r.val)) * 8 + q.val / 128
  omega

theorem read3 (r : Fin 512) (q : Fin 1024) : wide (iblk m c 3 t) r q = m ((c : Thread nD τ).loc main_arg1) (ix3 2 ⟨512 * t.val + r.val, by have := t_lt t; omega⟩ q) := by
  have ht := t_lt t
  have h : ((cfg0.win 3).blk t).view.emb (ix2 ⟨8 * r.val + q.val / 128, by omega⟩ ⟨q.val % 128, Nat.mod_lt _ (by decide)⟩)
      = ix2 ⟨(t.val + 64) * 4096 + 8 * r.val + q.val / 128, by omega⟩ ⟨q.val % 128, Nat.mod_lt _ (by decide)⟩ := by blk_ext [idx3 t]
  refine (congrArg (V m c main_v1) h).trans (v1_apply m c 2 _ q _ ?_)
  show (t.val + 64) * 4096 + 8 * r.val + q.val / 128 = (16384 * 2 + (512 * t.val + r.val)) * 8 + q.val / 128
  omega

theorem read4 (r : Fin 512) (q : Fin 1024) : wide (iblk m c 4 t) r q = m ((c : Thread nD τ).loc main_arg1) (ix3 3 ⟨512 * t.val + r.val, by have := t_lt t; omega⟩ q) := by
  have ht := t_lt t
  have h : ((cfg0.win 4).blk t).view.emb (ix2 ⟨8 * r.val + q.val / 128, by omega⟩ ⟨q.val % 128, Nat.mod_lt _ (by decide)⟩)
      = ix2 ⟨(t.val + 96) * 4096 + 8 * r.val + q.val / 128, by omega⟩ ⟨q.val % 128, Nat.mod_lt _ (by decide)⟩ := by blk_ext [idx4 t]
  refine (congrArg (V m c main_v1) h).trans (v1_apply m c 3 _ q _ ?_)
  show (t.val + 96) * 4096 + 8 * r.val + q.val / 128 = (16384 * 3 + (512 * t.val + r.val)) * 8 + q.val / 128
  omega

/-- The sum of a token's residual row and its experts' rows, from the call's operands. -/
def fused (X : FVec Ideal S16384x1024 .f32) (Y : FVec Ideal S4x16384x1024 .f32) (G : FVec Ideal S16384x4 .f32) (W : FVec Ideal S8x6x1024 .f32)
    (R : Fin 16384) (q : Fin 1024) : EReal :=
  X (ix2 R q) + W (ix3 (row R) 5 q) * (((Y (ix3 0 R q) * G (ix2 R 0) + Y (ix3 1 R q) * G (ix2 R 1)) + Y (ix3 2 R q) * G (ix2 R 2)) + Y (ix3 3 R q) * G (ix2 R 3))

/-- The call's result. -/
def out (X : FVec Ideal S16384x1024 .f32) (Y : FVec Ideal S4x16384x1024 .f32) (G : FVec Ideal S16384x4 .f32) (W : FVec Ideal S8x6x1024 .f32) :
    FVec Ideal S16384x1024 .f32 :=
  fun i => fused X Y G W ⟨(i 0).val, (i 0).isLt⟩ ⟨(i 1).val, (i 1).isLt⟩

theorem mixed_eq (r : Fin 512) (q : Fin 1024) :
    mixed (iblk m c 0 t) (iblk m c 1 t) (iblk m c 2 t) (iblk m c 3 t) (iblk m c 4 t) (iblk m c 5 t) (iblk m c 6 t) r q
      = fused (m ((c : Thread nD τ).loc main_arg0)) (m ((c : Thread nD τ).loc main_arg1)) (m ((c : Thread nD τ).loc main_arg2))
          (m ((c : Thread nD τ).loc main_arg3)) ⟨512 * t.val + r.val, by have := t_lt t; omega⟩ q := by
  unfold mixed fused
  rw [read0, read1, read2, read3, read4, read5, read5, read5, read5, read6 m c t r]

/-- The output array after the last grid point. -/
theorem final : (dats m 0 c).arrAt 7 cfg0.N
    = out (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t hf y => ?_
  have ht := t_lt t
  have h0 : (y 0).val < 512 := (y 0).isLt
  have h1 : (y 1).val < 1024 := (y 1).isLt
  have hy : y = ix2 ⟨(y 0).val, h0⟩ ⟨(y 1).val, h1⟩ := by
    funext a
    match a with
    | ⟨0, _⟩ => rfl
    | ⟨1, _⟩ => rfl
  have he : ((cfg0.win 7).blk t).view.emb (ix2 ⟨(y 0).val, h0⟩ ⟨(y 1).val, h1⟩) = ix2 ⟨512 * t.val + (y 0).val, by omega⟩ ⟨(y 1).val, h1⟩ := by
    blk_ext [idx7 t]
  rw [hy]
  blk_simp
  rw [after0_7]
  refine (congrFun (out_eq _ _ _ _ _ _ _ _ _ _ _ _ _ _ _ _ _ _ _ _ _ _ _ _ _) _).trans ?_
  refine (mixed_eq m c t ⟨(y 0).val, h0⟩ ⟨(y 1).val, h1⟩).trans ?_
  exact (congrArg (out _ _ _ _) he).symm

end Cert.CombineMidIdeal.Mix

end
-- ==== Proof.ReferenceMid.lean ====
module

public import proofs.«01_k».proof.Proof.NormMid
public import proofs.«01_k».proof.Proof.Gen.MidIdeal.Run

@[expose] public section

noncomputable section

/-! # The reference of the combining kernel between layers

The reference's result, entry by entry, is the kernel's. -/

namespace Cert.MidIdeal.Read

open Cert.MidIdeal Cert.MidIdeal.Gen Idealize.ShloMosaic Idealize.ShloMosaic.TcCoe Idealize.SL.Sem

variable (X : FVec Ideal S16384x1024 .f32) (Y : FVec Ideal S4x16384x1024 .f32) (G : FVec Ideal S16384x4 .f32) (W : FVec Ideal S8x6x1024 .f32)

/-- The modulation's gate rows: the context's, then the batches'. -/
def gate : FVec Ideal S16384x1024 .f32 :=
  concatenate S16384x1024 0 [⟨S8192x1024, (broadcastInDim S8192x1024 ![1] bcast_S1024_S8192x1024_1
      (shapeCast _ (extractStridedSlice S1x1x1024 ![4, 5, 0] W slices_S8x6x1024_S1x1x1024_4_5_0) shapeCasts_S1x1x1024_S1024))⟩,
    ⟨S8192x1024, (shapeCast _ (broadcastInDim S4x2048x1024 ![0, 2] bcast_S4x1024_S4x2048x1024_0_2
      (shapeCast _ (extractStridedSlice S4x1x1024 ![0, 5, 0] W slices_S8x6x1024_S4x1x1024_0_5_0) shapeCasts_S4x1x1024_S4x1024))
      shapeCasts_S4x2048x1024_S8192x1024)⟩] concatenates_S8192x1024_S8192x1024_S16384x1024_d0

theorem gate_apply (r : Fin 16384) (q : Fin 1024) : gate W (ix2 r q) = W (ix3 (Cert.CombineMidIdeal.Mix.row r) 5 q) := by
  unfold Cert.CombineMidIdeal.Mix.row
  by_cases h : r.val < 8192
  · pointwise [gate, h]
  · pointwise [gate, h]

/-- The sum of the experts' rows, each by its gate. -/
def weighted : FVec Ideal S16384x1024 .f32 :=
  Host.reduceAdd (mulf Y (broadcastInDim S4x16384x1024 ![0, 1, 2] bcast_S4x16384x1_S4x16384x1024_0_1_2
    (broadcastInDim S4x16384x1 ![0, 1] bcast_S4x16384_S4x16384x1_0_1 (transpose S4x16384 [1, 0] G transposes_S16384x4_S4x16384_1_0))))
    (constant S_ .f32 0x00000000#32) reducesTo_S4x16384x1024_S16384x1024_d0 h_S_

theorem weighted_apply (r : Fin 16384) (q : Fin 1024) : weighted Y G (ix2 r q)
      = ((Y (ix3 0 r q) * G (ix2 r 0) + Y (ix3 1 r q) * G (ix2 r 1)) + Y (ix3 2 r q) * G (ix2 r 2)) + Y (ix3 3 r q) * G (ix2 r 3) := by
  pointwise [weighted]
  exact Fin.sum_univ_four _

/-- The reference's result. -/
def out : FVec Ideal S16384x1024 .f32 := addf X (mulf (gate W) (weighted Y G))

/-- The reference's result is the call's. -/
theorem out_eq : out X Y G W = Cert.CombineMidIdeal.Mix.out X Y G W := by
  funext i
  have h0 : (i 0).val < 16384 := (i 0).isLt
  have h1 : (i 1).val < 1024 := (i 1).isLt
  have hi : i = ix2 ⟨(i 0).val, h0⟩ ⟨(i 1).val, h1⟩ := by
    funext a
    match a with
    | ⟨0, _⟩ => rfl
    | ⟨1, _⟩ => rfl
  rw [hi]
  show _ = Cert.CombineMidIdeal.Mix.fused X Y G W ⟨(i 0).val, h0⟩ ⟨(i 1).val, h1⟩
  unfold Cert.CombineMidIdeal.Mix.fused
  rw [← gate_apply W, ← weighted_apply]
  rfl

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
        = out (m ((c.tc : Thread nD τ).loc main_arg0)) (m ((c.tc : Thread nD τ).loc main_arg1)) (m ((c.tc : Thread nD τ).loc main_arg2))
            (m ((c.tc : Thread nD τ).loc main_arg3)) :=
  (θ_run defs _ _).mono (fun _ h c => (h c).1) (Value.run m ρ)

end Cert.MidIdeal.Read

end
-- ==== Proof.Modulation.lean ====
module

public import proofs.«01_k».proof.Proof.Gen.ModulationIdeal.Value
public import proofs.«01_k».proof.Proof.Gen.ChunksIdeal.Run
public import Idealize.ShloMosaic.Lib.Pipeline.ValueKit
public import Idealize.ShloMosaic.Lib.KernelVsHost
public import Idealize.ShloMosaic.Lib.Pointwise

@[expose] public section

noncomputable section

/-! # The modulation kernel

Four grid points take 1536 columns of the modulation weights each. A point multiplies the gated condition rows by its
columns and adds the bias. The reference does the same in one product, so the two results agree entry by entry. -/

namespace Cert.ModulationIdeal.Mod

open Cert.ModulationIdeal Cert.ModulationIdeal.Gen Cert.ModulationIdeal.Value Idealize.ShloMosaic Idealize.ShloMosaic.TcCoe Idealize.SL.Sem

/-- A number times its logistic value. -/
def gated (u : EReal) : EReal := u * Ideal.div 1 (1 + Ideal.exp (-u))

/-- The condition rows: the batches', the context's, and three of zeros. -/
def conds (A : FVec Ideal S4x1024 .f32) (B : FVec Ideal S1024 .f32) : FVec Ideal S8x1024 .f32 :=
  concatenate S8x1024 0 [⟨S4x1024, A⟩, ⟨S1x1024, broadcastInDim S1x1024 ![1] bcast_S1024_S1x1024_1 B⟩,
    ⟨S3x1024, broadcastInDim S3x1024 ![] bcast_S_S3x1024 (constant S_ .f32 0x00000000#32)⟩] concatenates_S4x1024_S1x1024_S3x1024_S8x1024_d0

/-- An entry of the modulation. -/
def entry (C : FVec Ideal S8x1024 .f32) (W : FVec Ideal S1024x6144 .f32) (b : FVec Ideal S6144 .f32) (r : Fin 8) (q : Fin 6144) : EReal :=
  (∑ k : Fin 1024, gated (C (ix2 r k)) * W (ix2 k q)) + b (ix1 q)

/-- The modulation. -/
def out (C : FVec Ideal S8x1024 .f32) (W : FVec Ideal S1024x6144 .f32) (b : FVec Ideal S6144 .f32) : FVec Ideal S8x6144 .f32 :=
  fun i => entry C W b ⟨(i 0).val, (i 0).isLt⟩ ⟨(i 1).val, (i 1).isLt⟩

/-- What a grid point stores, at an entry. -/
theorem pay_apply (x : Vec Ideal S8x1024 .f32) (w : Vec Ideal S1024x1536 .f32) (b : Vec Ideal S1x1536 .f32) (r : Fin 8) (q : Fin 1536) :
    k0_pay1 x w b (ix2 r q) = (∑ k : Fin 1024, gated (x (ix2 r k)) * w (ix2 k q)) + b (ix2 0 q) := by
  unfold gated
  pointwise [k0_pay1]
  simp only [zero_sub]

variable (m : (ℓ : Loc nD τ sig) → Buf (Elt Ideal) ℓ) (c : Dev nD) (t : Fin cfg0.N)

theorem idx0 (t : Fin cfg0.N) : win0_0.index t = ![0, 0] := (by decide +kernel : ∀ t : Fin grid0.N, win0_0.index t = ![0, 0]) t
theorem idx1 (t : Fin cfg0.N) : win0_1.index t = ![0, t.val] := (by decide +kernel : ∀ t : Fin grid0.N, win0_1.index t = ![0, t.val]) t
theorem idx2 (t : Fin cfg0.N) : win0_2.index t = ![0, t.val] := (by decide +kernel : ∀ t : Fin grid0.N, win0_2.index t = ![0, t.val]) t
theorem idx3 (t : Fin cfg0.N) : win0_3.index t = ![0, t.val] := (by decide +kernel : ∀ t : Fin grid0.N, win0_3.index t = ![0, t.val]) t

/-- There are four grid points. -/
theorem t_lt : t.val < 4 := t.isLt

theorem v2_eq : V m c main_v2 = conds (m ((c : Thread nD τ).loc main_arg0)) (m ((c : Thread nD τ).loc main_arg1)) := by
  unfold V
  simp only [hostOps0, List.flatten_cons, List.flatten_nil, List.append_nil, List.cons_append, List.nil_append]
  after_results
  rfl

theorem v3_apply (q : Fin 6144) : V m c main_v3 (ix2 0 q) = m ((c : Thread nD τ).loc main_arg3) (ix1 q) := by
  unfold V
  simp only [hostOps0, List.flatten_cons, List.flatten_nil, List.append_nil, List.cons_append, List.nil_append]
  after_results
  pointwise

theorem read0 (r : Fin 8) (k : Fin 1024) : iblk m c 0 t (ix2 r k)
    = conds (m ((c : Thread nD τ).loc main_arg0)) (m ((c : Thread nD τ).loc main_arg1)) (ix2 r k) := by
  have h : ((cfg0.win 0).blk t).view.emb (ix2 r k) = ix2 r k := by blk_ext [idx0 t]
  exact (congrArg (V m c main_v2) h).trans (congrFun (v2_eq m c) _)

theorem read1 (k : Fin 1024) (q : Fin 1536) : iblk m c 1 t (ix2 k q)
    = m ((c : Thread nD τ).loc main_arg2) (ix2 k ⟨1536 * t.val + q.val, by have := t_lt t; omega⟩) := by
  blk_ext [iblk, V, idx1 t]

theorem read2 (q : Fin 1536) : iblk m c 2 t (ix2 0 q)
    = m ((c : Thread nD τ).loc main_arg3) (ix1 ⟨1536 * t.val + q.val, by have := t_lt t; omega⟩) := by
  have h : ((cfg0.win 2).blk t).view.emb (ix2 0 q) = ix2 0 ⟨1536 * t.val + q.val, by have := t_lt t; omega⟩ := by blk_ext [idx2 t]
  exact (congrArg (V m c main_v3) h).trans (v3_apply m c _)

/-- The output array after the last grid point. -/
theorem final : (dats m 0 c).arrAt 3 cfg0.N
    = out (conds (m ((c : Thread nD τ).loc main_arg0)) (m ((c : Thread nD τ).loc main_arg1))) (m ((c : Thread nD τ).loc main_arg2))
        (m ((c : Thread nD τ).loc main_arg3)) := by
  refine (dats m 0 c).arrAt_eq_of_covers 3 _ (by decide +kernel) fun t hf y => ?_
  have ht := t_lt t
  have h0 : (y 0).val < 8 := (y 0).isLt
  have h1 : (y 1).val < 1536 := (y 1).isLt
  have hy : y = ix2 ⟨(y 0).val, h0⟩ ⟨(y 1).val, h1⟩ := by
    funext a
    match a with
    | ⟨0, _⟩ => rfl
    | ⟨1, _⟩ => rfl
  have he : ((cfg0.win 3).blk t).view.emb (ix2 ⟨(y 0).val, h0⟩ ⟨(y 1).val, h1⟩) = ix2 ⟨(y 0).val, h0⟩ ⟨1536 * t.val + (y 1).val, by omega⟩ := by
    blk_ext [idx3 t]
  rw [hy]
  blk_simp
  rw [after0_3]
  frame_out
  refine (pay_apply _ _ _ _ _).trans ?_
  simp only [read0, read1, read2]
  exact (congrArg (out _ _ _) he).symm

end Cert.ModulationIdeal.Mod

namespace Cert.ChunksIdeal.Read

open Cert.ChunksIdeal Cert.ChunksIdeal.Gen Idealize.ShloMosaic Idealize.ShloMosaic.TcCoe Idealize.SL.Sem

/-- The reference's result, of the condition rows. -/
def out (C : FVec Ideal S8x1024 .f32) (W : FVec Ideal S1024x6144 .f32) (b : FVec Ideal S6144 .f32) : FVec Ideal S8x6144 .f32 :=
  addf (Host.dotGeneral dot_S8x1024_S1024x6144_S8x6144_1_0_0_1_n_n none (mulf C (Host.divf (broadcastInDim S8x1024 ![] bcast_S_S8x1024 (constant S_ .f32 0x3F800000#32))
      (addf (broadcastInDim S8x1024 ![] bcast_S_S8x1024 (constant S_ .f32 0x3F800000#32)) (Host.exp (Host.negf C))))) W)
    (broadcastInDim S8x6144 ![0, 1] bcast_S1x6144_S8x6144_0_1 (broadcastInDim S1x6144 ![1] bcast_S6144_S1x6144_1 b))

theorem out_apply (C : FVec Ideal S8x1024 .f32) (W : FVec Ideal S1024x6144 .f32) (b : FVec Ideal S6144 .f32) (r : Fin 8) (q : Fin 6144) :
    out C W b (ix2 r q) = Cert.ModulationIdeal.Mod.entry C W b r q := by
  unfold Cert.ModulationIdeal.Mod.entry Cert.ModulationIdeal.Mod.gated
  pointwise [out]

/-- The reference's result is the call's. -/
theorem out_eq (C : FVec Ideal S8x1024 .f32) (W : FVec Ideal S1024x6144 .f32) (b : FVec Ideal S6144 .f32) :
    out C W b = Cert.ModulationIdeal.Mod.out C W b := by
  funext i
  have h0 : (i 0).val < 8 := (i 0).isLt
  have h1 : (i 1).val < 6144 := (i 1).isLt
  have hi : i = ix2 ⟨(i 0).val, h0⟩ ⟨(i 1).val, h1⟩ := by
    funext a
    match a with
    | ⟨0, _⟩ => rfl
    | ⟨1, _⟩ => rfl
  rw [hi, out_apply]
  rfl

/-- The reference's run. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7)
        = out (Cert.ModulationIdeal.Mod.conds (m ((c.tc : Thread nD τ).loc main_arg0)) (m ((c.tc : Thread nD τ).loc main_arg1)))
            (m ((c.tc : Thread nD τ).loc main_arg2)) (m ((c.tc : Thread nD τ).loc main_arg3)) :=
  (θ_run defs _ _).mono (fun _ h c => (h c).1) (Value.run m ρ)

end Cert.ChunksIdeal.Read

end
-- ==== Proof.Same.lean ====
/-
  The two kernel programs have the same text: a run of one is a run of the other.
-/
module

public import proofs.«01_k».proof.Defs
public import proofs.«01_k».proof.Proof.Gen.Kernel
public import proofs.«01_k».proof.Proof.Gen.KernelIdeal
public import Idealize.ShloMosaic.Lib.Claim

@[expose] public section

set_option maxHeartbeats 10000000
set_option maxRecDepth 16384

noncomputable section

namespace Cert.Same

open Idealize.ShloMosaic Idealize.ShloMosaic.TcCoe

variable {F : FTy → Type} [FloatOps F]

/-- The body tables agree. -/
theorem table_eq : @Cert.Kernel.defs₀ F _ Cert.Kernel.Gen.facts = @Cert.KernelIdeal.defs₀ F _ Cert.KernelIdeal.Gen.facts := by
  refine congrArg (Defs.onTc (nD := Cert.KernelIdeal.nD) (τ := Cert.KernelIdeal.τ) (sig := Cert.KernelIdeal.sig) (Λ := Cert.KernelIdeal.Λ₀) (Val := Elt F)) ?_
  funext k x
  match k, x with
  | 0, (t, s) => rfl
  | ⟨_ + 1, h⟩, _ => exact absurd h (Nat.not_lt.2 (Nat.le_add_left _ _))

/-- With the regions added. -/
theorem defs_eq : @Cert.Kernel.defs F _ Cert.Kernel.Gen.facts = @Cert.KernelIdeal.defs F _ Cert.KernelIdeal.Gen.facts :=
  congrArg (Pipeline.defs (Cert.KernelIdeal.pcfgs (F := F))) table_eq

/-- The runs agree. -/
theorem run_eq (m : (ℓ : Loc Cert.Kernel.nD Cert.Kernel.τ Cert.Kernel.sig) → Buf (Elt F) ℓ) (g : Dev Cert.Kernel.nD → PrngReg) :
    θ_run (@Cert.Kernel.defs F _ Cert.Kernel.Gen.facts) (onTc (τ := Cert.Kernel.τ) (@Cert.Kernel.main F _ Cert.Kernel.Gen.facts)) ⟨m, fun _ => 0, g⟩
      = θ_run (@Cert.KernelIdeal.defs F _ Cert.KernelIdeal.Gen.facts) (onTc (τ := Cert.KernelIdeal.τ) (@Cert.KernelIdeal.main F _ Cert.KernelIdeal.Gen.facts)) ⟨m, fun _ => 0, g⟩ :=
  congrArg (fun d => θ_run (nD := Cert.KernelIdeal.nD) (τ := Cert.KernelIdeal.τ) d (onTc (τ := Cert.KernelIdeal.τ) (@Cert.KernelIdeal.main F _ Cert.KernelIdeal.Gen.facts)) ⟨m, fun _ => 0, g⟩) defs_eq

end Cert.Same

end
-- ==== Proof.lean ====
/-
  The proof of the claim: every program runs to the end and leaves its arguments as they were, each reference too, and over
  exact arithmetic each kernel's result is its reference's.
-/
module

public import proofs.«01_k».proof.Defs
public import proofs.«01_k».proof.Proof.Gen.Kernel
public import proofs.«01_k».proof.Proof.Gen.KernelIdeal
public import proofs.«01_k».proof.Proof.Gen.Pre_routed
public import proofs.«01_k».proof.Proof.Gen.ReferenceIdeal
public import proofs.«01_k».proof.Proof.Gen.ReferenceIdeal.Run
public import proofs.«01_k».proof.Proof.Value
public import proofs.«01_k».proof.Proof.ReferenceCtx
public import proofs.«01_k».proof.Proof.ReferenceLat
public import proofs.«01_k».proof.Proof.ReferenceMid
public import proofs.«01_k».proof.Proof.Modulation
public import proofs.«01_k».proof.Proof.Gen.CombineCtx
public import proofs.«01_k».proof.Proof.Gen.CombineCtx.Frame
public import proofs.«01_k».proof.Proof.Gen.CombineLat
public import proofs.«01_k».proof.Proof.Gen.CombineLat.Frame
public import proofs.«01_k».proof.Proof.Gen.CombineCtxIdeal
public import proofs.«01_k».proof.Proof.Gen.CombineLatIdeal
public import proofs.«01_k».proof.Proof.Gen.FinalCtxIdeal
public import proofs.«01_k».proof.Proof.Gen.FinalLatIdeal
public import proofs.«01_k».proof.Proof.Gen.CombineMid
public import proofs.«01_k».proof.Proof.Gen.CombineMid.Frame
public import proofs.«01_k».proof.Proof.Gen.CombineMidIdeal
public import proofs.«01_k».proof.Proof.Gen.CombineMidIdeal.Value
public import proofs.«01_k».proof.Proof.Gen.MidIdeal
public import proofs.«01_k».proof.Proof.Gen.MidIdeal.Run
public import proofs.«01_k».proof.Proof.Gen.Modulation
public import proofs.«01_k».proof.Proof.Gen.Modulation.Frame
public import proofs.«01_k».proof.Proof.Gen.ModulationIdeal
public import proofs.«01_k».proof.Proof.Gen.ModulationIdeal.Value
public import proofs.«01_k».proof.Proof.Gen.ChunksIdeal
public import proofs.«01_k».proof.Proof.Gen.ChunksIdeal.Run
public import proofs.«01_k».proof.Proof.Same

@[expose] public section

noncomputable section

namespace Cert.Proof

open Idealize.ShloMosaic Idealize.ShloMosaic.TcCoe

/-- The kernel at exact arithmetic runs to the end and leaves its arguments. -/
theorem frame_kernelIdeal : Cert.quiescent_KernelIdeal := fun m g h =>
  θ_run_mono (Cert.KernelIdeal.Moe.run_all m g fun c => Cert.Pre_routed.plan_of (h c)) fun _ hr =>
    ⟨fun c => (hr.1 c).2, hr.2⟩

/-- The kernel at float values: the same run. -/
theorem frame_kernel : Cert.quiescent_Kernel := by
  intro m g h
  have hP : ∀ c, Cert.KernelIdeal.Moe.Planned (F := Bits) m c := fun c => Cert.Pre_routed.plan_of (h c)
  rw [Cert.Same.run_eq m g]
  refine (θ_run Cert.KernelIdeal.defs _ _).mono ?_ (Cert.KernelIdeal.Moe.run_all (F := Bits) m g hP)
  intro r hr
  exact ⟨fun c => (hr.1 c).2, hr.2⟩

theorem frame_reference : Cert.quiescent_ReferenceIdeal := fun m g _ =>
  θ_run_mono (Cert.ReferenceIdeal.Value.run m g) fun r hr => ⟨fun c => (hr c).2, sem_eq_zero_of_no_sems (by decide) r.2⟩

theorem frame_reference_routed : Cert.quiescent_ReferenceIdeal_pre_routed := fun m g _ =>
  θ_run_mono (Cert.ReferenceIdeal.Value.run m g) fun r hr => ⟨fun c => (hr c).2, sem_eq_zero_of_no_sems (by decide) r.2⟩

theorem preserves : Cert.preserves_Kernel_KernelIdeal := trivial

/-- From equal arguments both return the same: the chosen experts' networks of the tokens. -/
theorem algebraic : Cert.algebraic_KernelIdeal_ReferenceIdeal := by
  intro m g m' g' h ha
  have hP : ∀ c, Cert.KernelIdeal.Moe.Planned (F := Ideal) m c := fun c => Cert.Pre_routed.plan_of (h c)
  refine ⟨fun c => Cert.KernelIdeal.Moe.last m c (fun c => Cert.KernelIdeal.Moe.env_ok c (hP c)) (Proc.devRef .tc Cert.KernelIdeal.main_v7),
    θ_run_mono (Cert.KernelIdeal.Moe.run_all m g hP) fun r hr => hr.1, ?_⟩
  refine θ_run_mono (θ_run_and (Cert.ReferenceIdeal.Value.run m' g') (Cert.ReferenceIdeal.Read.run m' g')) fun r hr c => ⟨?_, (hr.1 c).2⟩
  obtain ⟨a0, a1, -, -, -, -, -, -, a8, a9, a10, a11, a12, a13⟩ := ha c
  refine (hr.2 c).trans ?_
  rw [a0, a1, a8, a9, a10, a11, a12, a13]
  exact (Cert.KernelIdeal.Moe.Read.last_eq m (fun c => Cert.KernelIdeal.Moe.env_ok c (hP c)) c (hP c)).symm

/-! ## The combining kernel of the first group -/

theorem frame_combineCtx : Cert.quiescent_CombineCtx := fun m g _ => Cert.CombineCtx.Gen.frame m g

theorem frame_combineCtxIdeal : Cert.quiescent_CombineCtxIdeal := fun m g _ => Cert.CombineCtxIdeal.Gen.frame m g

theorem frame_finalCtx : Cert.quiescent_FinalCtxIdeal := fun m g _ =>
  θ_run_mono (Cert.FinalCtxIdeal.Value.run m g) fun r hr => ⟨fun c => (hr c).2, sem_eq_zero_of_no_sems (by decide) r.2⟩

theorem preserves_combineCtx : Cert.preserves_CombineCtx_CombineCtxIdeal := trivial

/-- From equal arguments the combining kernel and its reference return the same rows. -/
theorem algebraic_combineCtx : Cert.algebraic_CombineCtxIdeal_FinalCtxIdeal := by
  intro m g m' g' _ ha
  refine ⟨fun c => (Cert.CombineCtxIdeal.Gen.dats m 0 c).arrAt 8 Cert.CombineCtxIdeal.cfg0.N, Cert.CombineCtxIdeal.Value.run_blocks m g, ?_⟩
  refine θ_run_mono (θ_run_and (Cert.FinalCtxIdeal.Value.run m' g') (Cert.FinalCtxIdeal.Read.run m' g')) fun r hr c => ⟨?_, (hr.1 c).2⟩
  obtain ⟨a0, a1, a2, a3, a4⟩ := ha c
  refine (hr.2 c).trans ?_
  rw [a0, a1, a2, a3, a4]
  exact (Cert.FinalCtxIdeal.Read.out_eq _ _ _ _ _).trans (Cert.CombineCtxIdeal.Mix.final m c).symm

/-! ## The combining kernel of the second group -/

theorem frame_combineLat : Cert.quiescent_CombineLat := fun m g _ => Cert.CombineLat.Gen.frame m g

theorem frame_combineLatIdeal : Cert.quiescent_CombineLatIdeal := fun m g _ => Cert.CombineLatIdeal.Gen.frame m g

theorem frame_finalLat : Cert.quiescent_FinalLatIdeal := fun m g _ =>
  θ_run_mono (Cert.FinalLatIdeal.Value.run m g) fun r hr => ⟨fun c => (hr c).2, sem_eq_zero_of_no_sems (by decide) r.2⟩

theorem preserves_combineLat : Cert.preserves_CombineLat_CombineLatIdeal := trivial

/-- From equal arguments the combining kernel and its reference return the same rows. -/
theorem algebraic_combineLat : Cert.algebraic_CombineLatIdeal_FinalLatIdeal := by
  intro m g m' g' _ ha
  refine ⟨fun c => (Cert.CombineLatIdeal.Gen.dats m 0 c).arrAt 8 Cert.CombineLatIdeal.cfg0.N, Cert.CombineLatIdeal.Value.run_blocks m g, ?_⟩
  refine θ_run_mono (θ_run_and (Cert.FinalLatIdeal.Value.run m' g') (Cert.FinalLatIdeal.Read.run m' g')) fun r hr c => ⟨?_, (hr.1 c).2⟩
  obtain ⟨a0, a1, a2, a3, a4⟩ := ha c
  refine (hr.2 c).trans ?_
  rw [a0, a1, a2, a3, a4]
  exact (Cert.FinalLatIdeal.Read.out_eq _ _ _ _ _).trans (Cert.CombineLatIdeal.Mix.final m c).symm

/-! ## The combining kernel between layers -/

theorem frame_combineMid : Cert.quiescent_CombineMid := fun m g _ => Cert.CombineMid.Gen.frame m g

theorem frame_combineMidIdeal : Cert.quiescent_CombineMidIdeal := fun m g _ => Cert.CombineMidIdeal.Gen.frame m g

theorem frame_mid : Cert.quiescent_MidIdeal := fun m g _ =>
  θ_run_mono (Cert.MidIdeal.Value.run m g) fun r hr => ⟨fun c => (hr c).2, sem_eq_zero_of_no_sems (by decide) r.2⟩

theorem preserves_combineMid : Cert.preserves_CombineMid_CombineMidIdeal := trivial

/-- From equal arguments the combining kernel and its reference return the same rows. -/
theorem algebraic_combineMid : Cert.algebraic_CombineMidIdeal_MidIdeal := by
  intro m g m' g' _ ha
  refine ⟨fun c => (Cert.CombineMidIdeal.Gen.dats m 0 c).arrAt 7 Cert.CombineMidIdeal.cfg0.N, Cert.CombineMidIdeal.Value.run_blocks m g, ?_⟩
  refine θ_run_mono (θ_run_and (Cert.MidIdeal.Value.run m' g') (Cert.MidIdeal.Read.run m' g')) fun r hr c => ⟨?_, (hr.1 c).2⟩
  obtain ⟨a0, a1, a2, a3⟩ := ha c
  refine (hr.2 c).trans ?_
  rw [a0, a1, a2, a3]
  exact (Cert.MidIdeal.Read.out_eq _ _ _ _).trans (Cert.CombineMidIdeal.Mix.final m c).symm

/-! ## The modulation kernel -/

theorem frame_modulation : Cert.quiescent_Modulation := fun m g _ => Cert.Modulation.Gen.frame m g

theorem frame_modulationIdeal : Cert.quiescent_ModulationIdeal := fun m g _ => Cert.ModulationIdeal.Gen.frame m g

theorem frame_chunks : Cert.quiescent_ChunksIdeal := fun m g _ =>
  θ_run_mono (Cert.ChunksIdeal.Value.run m g) fun r hr => ⟨fun c => (hr c).2, sem_eq_zero_of_no_sems (by decide) r.2⟩

theorem preserves_modulation : Cert.preserves_Modulation_ModulationIdeal := trivial

/-- From equal arguments the modulation kernel and its reference return the same vectors. -/
theorem algebraic_modulation : Cert.algebraic_ModulationIdeal_ChunksIdeal := by
  intro m g m' g' _ ha
  refine ⟨fun c => (Cert.ModulationIdeal.Gen.dats m 0 c).arrAt 3 Cert.ModulationIdeal.cfg0.N, Cert.ModulationIdeal.Value.run_blocks m g, ?_⟩
  refine θ_run_mono (θ_run_and (Cert.ChunksIdeal.Value.run m' g') (Cert.ChunksIdeal.Read.run m' g')) fun r hr c => ⟨?_, (hr.1 c).2⟩
  obtain ⟨a0, a1, a2, a3⟩ := ha c
  refine (hr.2 c).trans ?_
  rw [a0, a1, a2, a3]
  exact (Cert.ChunksIdeal.Read.out_eq _ _ _).trans (Cert.ModulationIdeal.Mod.final m c).symm

theorem claim : Cert.Claim :=
  ⟨Cert.Kernel.Gen.facts, Cert.KernelIdeal.Gen.facts, Cert.ReferenceIdeal.Gen.facts, Cert.CombineCtx.Gen.facts, Cert.CombineCtxIdeal.Gen.facts,
    Cert.FinalCtxIdeal.Gen.facts, Cert.CombineLat.Gen.facts, Cert.CombineLatIdeal.Gen.facts, Cert.FinalLatIdeal.Gen.facts,
    Cert.CombineMid.Gen.facts, Cert.CombineMidIdeal.Gen.facts, Cert.MidIdeal.Gen.facts, Cert.Modulation.Gen.facts, Cert.ModulationIdeal.Gen.facts,
    Cert.ChunksIdeal.Gen.facts, Cert.Pre_routed.Gen.facts,
    frame_kernel, frame_kernelIdeal, frame_reference, frame_reference_routed,
    frame_combineCtx, frame_combineCtxIdeal, frame_finalCtx, frame_combineLat, frame_combineLatIdeal, frame_finalLat,
    frame_combineMid, frame_combineMidIdeal, frame_mid, frame_modulation, frame_modulationIdeal, frame_chunks,
    preserves, algebraic, preserves_combineCtx, algebraic_combineCtx, preserves_combineLat, algebraic_combineLat,
    preserves_combineMid, algebraic_combineMid, preserves_modulation, algebraic_modulation⟩

end Cert.Proof
